-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_args [hPre_finite_args : Cert.Pre_finite_args.Facts] (m : (ℓ : Loc Cert.MlaIdeal.nD Cert.MlaIdeal.τ Cert.MlaIdeal.sig) → Buf (Elt Ideal) ℓ) : Prop :=
  ∀ c : Dev Cert.MlaIdeal.nD,
    (Cert.Pre_finite_args.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_args [hPre_finite_args : Cert.Pre_finite_args.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_args.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MlpSample (m : (ℓ : Loc Cert.MlpSample.nD Cert.MlpSample.τ Cert.MlpSample.sig) → Buf (Elt Bits) ℓ) : Prop :=
  True

def Pre_MlpSampleIdeal (m : (ℓ : Loc Cert.MlpSampleIdeal.nD Cert.MlpSampleIdeal.τ Cert.MlpSampleIdeal.sig) → Buf (Elt Ideal) ℓ) : Prop :=
  True

def Pre_MlpSampleRefIdeal (m : (ℓ : Loc Cert.MlpSampleRefIdeal.nD Cert.MlpSampleRefIdeal.τ Cert.MlpSampleRefIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleRefIdeal (m : (ℓ : Loc Cert.MergeSampleRefIdeal.nD Cert.MergeSampleRefIdeal.τ Cert.MergeSampleRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_finite_args [hMlaIdeal : Cert.MlaIdeal.Facts] [hPre_finite_args : Cert.Pre_finite_args.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_args m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaRefIdeal_pre_finite_args [hMlaRefIdeal : Cert.MlaRefIdeal.Facts] [hPre_finite_args : Cert.Pre_finite_args.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_args m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_MlpSample [hMlpSample : Cert.MlpSample.Facts] : Prop :=
  ∀ (m : (ℓ : Loc Cert.MlpSample.nD Cert.MlpSample.τ Cert.MlpSample.sig) → Buf (Elt Bits) ℓ) (g : Dev Cert.MlpSample.nD → PrngReg), Pre_MlpSample m →
    θ_run (Cert.MlpSample.defs (F := Bits)) (onTc (τ := Cert.MlpSample.τ) (Cert.MlpSample.main (F := Bits))) ⟨m, fun _ => 0, g⟩ (fun r => (∀ c : Dev Cert.MlpSample.nD,
      r.2.mem ((c.tc : Thread Cert.MlpSample.nD Cert.MlpSample.τ).loc Cert.MlpSample.main_arg0) = m ((c.tc : Thread Cert.MlpSample.nD Cert.MlpSample.τ).loc Cert.MlpSample.main_arg0)
      ∧ r.2.mem ((c.tc : Thread Cert.MlpSample.nD Cert.MlpSample.τ).loc Cert.MlpSample.main_arg1) = m ((c.tc : Thread Cert.MlpSample.nD Cert.MlpSample.τ).loc Cert.MlpSample.main_arg1)
      ∧ r.2.mem ((c.tc : Thread Cert.MlpSample.nD Cert.MlpSample.τ).loc Cert.MlpSample.main_arg2) = m ((c.tc : Thread Cert.MlpSample.nD Cert.MlpSample.τ).loc Cert.MlpSample.main_arg2)
      ∧ r.2.mem ((c.tc : Thread Cert.MlpSample.nD Cert.MlpSample.τ).loc Cert.MlpSample.main_arg3) = m ((c.tc : Thread Cert.MlpSample.nD Cert.MlpSample.τ).loc Cert.MlpSample.main_arg3)
      ∧ r.2.mem ((c.tc : Thread Cert.MlpSample.nD Cert.MlpSample.τ).loc Cert.MlpSample.main_arg4) = m ((c.tc : Thread Cert.MlpSample.nD Cert.MlpSample.τ).loc Cert.MlpSample.main_arg4)
      ∧ r.2.mem ((c.tc : Thread Cert.MlpSample.nD Cert.MlpSample.τ).loc Cert.MlpSample.main_arg5) = m ((c.tc : Thread Cert.MlpSample.nD Cert.MlpSample.τ).loc Cert.MlpSample.main_arg5)
      ∧ r.2.mem ((c.tc : Thread Cert.MlpSample.nD Cert.MlpSample.τ).loc Cert.MlpSample.main_arg6) = m ((c.tc : Thread Cert.MlpSample.nD Cert.MlpSample.τ).loc Cert.MlpSample.main_arg6)
      ∧ r.2.mem ((c.tc : Thread Cert.MlpSample.nD Cert.MlpSample.τ).loc Cert.MlpSample.main_arg7) = m ((c.tc : Thread Cert.MlpSample.nD Cert.MlpSample.τ).loc Cert.MlpSample.main_arg7))
      ∧ r.2.sem = fun _ => 0)

def quiescent_MlpSampleIdeal [hMlpSampleIdeal : Cert.MlpSampleIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg), Pre_MlpSampleIdeal m →
    θ_run (Cert.MlpSampleIdeal.defs (F := Ideal)) (onTc (τ := Cert.MlpSampleIdeal.τ) (Cert.MlpSampleIdeal.main (F := Ideal))) ⟨m, fun _ => 0, g⟩ (fun r => (∀ c : Dev Cert.MlpSampleIdeal.nD,
      r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
      ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
      ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
      ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
      ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4)
      ∧ r.2.mem ((c.tc : Thread Cert.MlpSampleIdeal.nD Cert.MlpSampleIdeal.τ).loc Cert.MlpSampleIdeal.main_arg5) = m ((c.tc : Thread Cert.MlpSampleIdeal.nD Cert.MlpSampleIdeal.τ).loc Cert.MlpSampleIdeal.main_arg5)
      ∧ r.2.mem ((c.tc : Thread Cert.MlpSampleIdeal.nD Cert.MlpSampleIdeal.τ).loc Cert.MlpSampleIdeal.main_arg6) = m ((c.tc : Thread Cert.MlpSampleIdeal.nD Cert.MlpSampleIdeal.τ).loc Cert.MlpSampleIdeal.main_arg6)
      ∧ r.2.mem ((c.tc : Thread Cert.MlpSampleIdeal.nD Cert.MlpSampleIdeal.τ).loc Cert.MlpSampleIdeal.main_arg7) = m ((c.tc : Thread Cert.MlpSampleIdeal.nD Cert.MlpSampleIdeal.τ).loc Cert.MlpSampleIdeal.main_arg7))
      ∧ r.2.sem = fun _ => 0)

def quiescent_MlpSampleRefIdeal [hMlpSampleRefIdeal : Cert.MlpSampleRefIdeal.Facts] : Prop :=
  ∀ (m : (ℓ : Loc Cert.MlpSampleRefIdeal.nD Cert.MlpSampleRefIdeal.τ Cert.MlpSampleRefIdeal.sig) → Buf (Elt Ideal) ℓ) (g : Dev Cert.MlpSampleRefIdeal.nD → PrngReg), Pre_MlpSampleRefIdeal m →
    θ_run (Cert.MlpSampleRefIdeal.defs (F := Ideal)) (onTc (τ := Cert.MlpSampleRefIdeal.τ) (Cert.MlpSampleRefIdeal.main (F := Ideal))) ⟨m, fun _ => 0, g⟩ (fun r => (∀ c : Dev Cert.MlpSampleRefIdeal.nD,
      r.2.mem ((c.tc : Thread Cert.MlpSampleRefIdeal.nD Cert.MlpSampleRefIdeal.τ).loc Cert.MlpSampleRefIdeal.main_arg0) = m ((c.tc : Thread Cert.MlpSampleRefIdeal.nD Cert.MlpSampleRefIdeal.τ).loc Cert.MlpSampleRefIdeal.main_arg0)
      ∧ r.2.mem ((c.tc : Thread Cert.MlpSampleRefIdeal.nD Cert.MlpSampleRefIdeal.τ).loc Cert.MlpSampleRefIdeal.main_arg1) = m ((c.tc : Thread Cert.MlpSampleRefIdeal.nD Cert.MlpSampleRefIdeal.τ).loc Cert.MlpSampleRefIdeal.main_arg1)
      ∧ r.2.mem ((c.tc : Thread Cert.MlpSampleRefIdeal.nD Cert.MlpSampleRefIdeal.τ).loc Cert.MlpSampleRefIdeal.main_arg2) = m ((c.tc : Thread Cert.MlpSampleRefIdeal.nD Cert.MlpSampleRefIdeal.τ).loc Cert.MlpSampleRefIdeal.main_arg2)
      ∧ r.2.mem ((c.tc : Thread Cert.MlpSampleRefIdeal.nD Cert.MlpSampleRefIdeal.τ).loc Cert.MlpSampleRefIdeal.main_arg3) = m ((c.tc : Thread Cert.MlpSampleRefIdeal.nD Cert.MlpSampleRefIdeal.τ).loc Cert.MlpSampleRefIdeal.main_arg3)
      ∧ r.2.mem ((c.tc : Thread Cert.MlpSampleRefIdeal.nD Cert.MlpSampleRefIdeal.τ).loc Cert.MlpSampleRefIdeal.main_arg4) = m ((c.tc : Thread Cert.MlpSampleRefIdeal.nD Cert.MlpSampleRefIdeal.τ).loc Cert.MlpSampleRefIdeal.main_arg4)
      ∧ r.2.mem ((c.tc : Thread Cert.MlpSampleRefIdeal.nD Cert.MlpSampleRefIdeal.τ).loc Cert.MlpSampleRefIdeal.main_arg5) = m ((c.tc : Thread Cert.MlpSampleRefIdeal.nD Cert.MlpSampleRefIdeal.τ).loc Cert.MlpSampleRefIdeal.main_arg5)
      ∧ r.2.mem ((c.tc : Thread Cert.MlpSampleRefIdeal.nD Cert.MlpSampleRefIdeal.τ).loc Cert.MlpSampleRefIdeal.main_arg6) = m ((c.tc : Thread Cert.MlpSampleRefIdeal.nD Cert.MlpSampleRefIdeal.τ).loc Cert.MlpSampleRefIdeal.main_arg6)
      ∧ r.2.mem ((c.tc : Thread Cert.MlpSampleRefIdeal.nD Cert.MlpSampleRefIdeal.τ).loc Cert.MlpSampleRefIdeal.main_arg7) = m ((c.tc : Thread Cert.MlpSampleRefIdeal.nD Cert.MlpSampleRefIdeal.τ).loc Cert.MlpSampleRefIdeal.main_arg7))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2)
      ∧ r.2.mem ((c.tc : Thread Cert.ProjSample.nD Cert.ProjSample.τ).loc Cert.ProjSample.main_arg3) = m ((c.tc : Thread Cert.ProjSample.nD Cert.ProjSample.τ).loc Cert.ProjSample.main_arg3)
      ∧ r.2.mem ((c.tc : Thread Cert.ProjSample.nD Cert.ProjSample.τ).loc Cert.ProjSample.main_arg4) = m ((c.tc : Thread Cert.ProjSample.nD Cert.ProjSample.τ).loc Cert.ProjSample.main_arg4)
      ∧ r.2.mem ((c.tc : Thread Cert.ProjSample.nD Cert.ProjSample.τ).loc Cert.ProjSample.main_arg5) = m ((c.tc : Thread Cert.ProjSample.nD Cert.ProjSample.τ).loc Cert.ProjSample.main_arg5)
      ∧ r.2.mem ((c.tc : Thread Cert.ProjSample.nD Cert.ProjSample.τ).loc Cert.ProjSample.main_arg6) = m ((c.tc : Thread Cert.ProjSample.nD Cert.ProjSample.τ).loc Cert.ProjSample.main_arg6)
      ∧ r.2.mem ((c.tc : Thread Cert.ProjSample.nD Cert.ProjSample.τ).loc Cert.ProjSample.main_arg7) = m ((c.tc : Thread Cert.ProjSample.nD Cert.ProjSample.τ).loc Cert.ProjSample.main_arg7)
      ∧ r.2.mem ((c.tc : Thread Cert.ProjSample.nD Cert.ProjSample.τ).loc Cert.ProjSample.main_arg8) = m ((c.tc : Thread Cert.ProjSample.nD Cert.ProjSample.τ).loc Cert.ProjSample.main_arg8))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
      ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
      ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5)
      ∧ r.2.mem ((c.tc : Thread Cert.ProjSampleIdeal.nD Cert.ProjSampleIdeal.τ).loc Cert.ProjSampleIdeal.main_arg6) = m ((c.tc : Thread Cert.ProjSampleIdeal.nD Cert.ProjSampleIdeal.τ).loc Cert.ProjSampleIdeal.main_arg6)
      ∧ r.2.mem ((c.tc : Thread Cert.ProjSampleIdeal.nD Cert.ProjSampleIdeal.τ).loc Cert.ProjSampleIdeal.main_arg7) = m ((c.tc : Thread Cert.ProjSampleIdeal.nD Cert.ProjSampleIdeal.τ).loc Cert.ProjSampleIdeal.main_arg7)
      ∧ r.2.mem ((c.tc : Thread Cert.ProjSampleIdeal.nD Cert.ProjSampleIdeal.τ).loc Cert.ProjSampleIdeal.main_arg8) = m ((c.tc : Thread Cert.ProjSampleIdeal.nD Cert.ProjSampleIdeal.τ).loc Cert.ProjSampleIdeal.main_arg8))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2)
      ∧ r.2.mem ((c.tc : Thread Cert.ProjSampleRefIdeal.nD Cert.ProjSampleRefIdeal.τ).loc Cert.ProjSampleRefIdeal.main_arg3) = m ((c.tc : Thread Cert.ProjSampleRefIdeal.nD Cert.ProjSampleRefIdeal.τ).loc Cert.ProjSampleRefIdeal.main_arg3)
      ∧ r.2.mem ((c.tc : Thread Cert.ProjSampleRefIdeal.nD Cert.ProjSampleRefIdeal.τ).loc Cert.ProjSampleRefIdeal.main_arg4) = m ((c.tc : Thread Cert.ProjSampleRefIdeal.nD Cert.ProjSampleRefIdeal.τ).loc Cert.ProjSampleRefIdeal.main_arg4)
      ∧ r.2.mem ((c.tc : Thread Cert.ProjSampleRefIdeal.nD Cert.ProjSampleRefIdeal.τ).loc Cert.ProjSampleRefIdeal.main_arg5) = m ((c.tc : Thread Cert.ProjSampleRefIdeal.nD Cert.ProjSampleRefIdeal.τ).loc Cert.ProjSampleRefIdeal.main_arg5)
      ∧ r.2.mem ((c.tc : Thread Cert.ProjSampleRefIdeal.nD Cert.ProjSampleRefIdeal.τ).loc Cert.ProjSampleRefIdeal.main_arg6) = m ((c.tc : Thread Cert.ProjSampleRefIdeal.nD Cert.ProjSampleRefIdeal.τ).loc Cert.ProjSampleRefIdeal.main_arg6)
      ∧ r.2.mem ((c.tc : Thread Cert.ProjSampleRefIdeal.nD Cert.ProjSampleRefIdeal.τ).loc Cert.ProjSampleRefIdeal.main_arg7) = m ((c.tc : Thread Cert.ProjSampleRefIdeal.nD Cert.ProjSampleRefIdeal.τ).loc Cert.ProjSampleRefIdeal.main_arg7)
      ∧ r.2.mem ((c.tc : Thread Cert.ProjSampleRefIdeal.nD Cert.ProjSampleRefIdeal.τ).loc Cert.ProjSampleRefIdeal.main_arg8) = m ((c.tc : Thread Cert.ProjSampleRefIdeal.nD Cert.ProjSampleRefIdeal.τ).loc Cert.ProjSampleRefIdeal.main_arg8))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7)
      ∧ r.2.mem ((c.tc : Thread Cert.MergeSample.nD Cert.MergeSample.τ).loc Cert.MergeSample.main_arg8) = m ((c.tc : Thread Cert.MergeSample.nD Cert.MergeSample.τ).loc Cert.MergeSample.main_arg8)
      ∧ r.2.mem ((c.tc : Thread Cert.MergeSample.nD Cert.MergeSample.τ).loc Cert.MergeSample.main_arg9) = m ((c.tc : Thread Cert.MergeSample.nD Cert.MergeSample.τ).loc Cert.MergeSample.main_arg9)
      ∧ r.2.mem ((c.tc : Thread Cert.MergeSample.nD Cert.MergeSample.τ).loc Cert.MergeSample.main_arg10) = m ((c.tc : Thread Cert.MergeSample.nD Cert.MergeSample.τ).loc Cert.MergeSample.main_arg10))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
      ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
      ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10))
      ∧ r.2.sem = fun _ => 0)

def quiescent_MergeSampleRefIdeal [hMergeSampleRefIdeal : Cert.MergeSampleRefIdeal.Facts] : Prop :=
  ∀ (m : (ℓ : Loc Cert.MergeSampleRefIdeal.nD Cert.MergeSampleRefIdeal.τ Cert.MergeSampleRefIdeal.sig) → Buf (Elt Ideal) ℓ) (g : Dev Cert.MergeSampleRefIdeal.nD → PrngReg), Pre_MergeSampleRefIdeal m →
    θ_run (Cert.MergeSampleRefIdeal.defs (F := Ideal)) (onTc (τ := Cert.MergeSampleRefIdeal.τ) (Cert.MergeSampleRefIdeal.main (F := Ideal))) ⟨m, fun _ => 0, g⟩ (fun r => (∀ c : Dev Cert.MergeSampleRefIdeal.nD,
      r.2.mem ((c.tc : Thread Cert.MergeSampleRefIdeal.nD Cert.MergeSampleRefIdeal.τ).loc Cert.MergeSampleRefIdeal.main_arg0) = m ((c.tc : Thread Cert.MergeSampleRefIdeal.nD Cert.MergeSampleRefIdeal.τ).loc Cert.MergeSampleRefIdeal.main_arg0)
      ∧ r.2.mem ((c.tc : Thread Cert.MergeSampleRefIdeal.nD Cert.MergeSampleRefIdeal.τ).loc Cert.MergeSampleRefIdeal.main_arg1) = m ((c.tc : Thread Cert.MergeSampleRefIdeal.nD Cert.MergeSampleRefIdeal.τ).loc Cert.MergeSampleRefIdeal.main_arg1)
      ∧ r.2.mem ((c.tc : Thread Cert.MergeSampleRefIdeal.nD Cert.MergeSampleRefIdeal.τ).loc Cert.MergeSampleRefIdeal.main_arg2) = m ((c.tc : Thread Cert.MergeSampleRefIdeal.nD Cert.MergeSampleRefIdeal.τ).loc Cert.MergeSampleRefIdeal.main_arg2)
      ∧ r.2.mem ((c.tc : Thread Cert.MergeSampleRefIdeal.nD Cert.MergeSampleRefIdeal.τ).loc Cert.MergeSampleRefIdeal.main_arg3) = m ((c.tc : Thread Cert.MergeSampleRefIdeal.nD Cert.MergeSampleRefIdeal.τ).loc Cert.MergeSampleRefIdeal.main_arg3)
      ∧ r.2.mem ((c.tc : Thread Cert.MergeSampleRefIdeal.nD Cert.MergeSampleRefIdeal.τ).loc Cert.MergeSampleRefIdeal.main_arg4) = m ((c.tc : Thread Cert.MergeSampleRefIdeal.nD Cert.MergeSampleRefIdeal.τ).loc Cert.MergeSampleRefIdeal.main_arg4)
      ∧ r.2.mem ((c.tc : Thread Cert.MergeSampleRefIdeal.nD Cert.MergeSampleRefIdeal.τ).loc Cert.MergeSampleRefIdeal.main_arg5) = m ((c.tc : Thread Cert.MergeSampleRefIdeal.nD Cert.MergeSampleRefIdeal.τ).loc Cert.MergeSampleRefIdeal.main_arg5)
      ∧ r.2.mem ((c.tc : Thread Cert.MergeSampleRefIdeal.nD Cert.MergeSampleRefIdeal.τ).loc Cert.MergeSampleRefIdeal.main_arg6) = m ((c.tc : Thread Cert.MergeSampleRefIdeal.nD Cert.MergeSampleRefIdeal.τ).loc Cert.MergeSampleRefIdeal.main_arg6)
      ∧ r.2.mem ((c.tc : Thread Cert.MergeSampleRefIdeal.nD Cert.MergeSampleRefIdeal.τ).loc Cert.MergeSampleRefIdeal.main_arg7) = m ((c.tc : Thread Cert.MergeSampleRefIdeal.nD Cert.MergeSampleRefIdeal.τ).loc Cert.MergeSampleRefIdeal.main_arg7)
      ∧ r.2.mem ((c.tc : Thread Cert.MergeSampleRefIdeal.nD Cert.MergeSampleRefIdeal.τ).loc Cert.MergeSampleRefIdeal.main_arg8) = m ((c.tc : Thread Cert.MergeSampleRefIdeal.nD Cert.MergeSampleRefIdeal.τ).loc Cert.MergeSampleRefIdeal.main_arg8)
      ∧ r.2.mem ((c.tc : Thread Cert.MergeSampleRefIdeal.nD Cert.MergeSampleRefIdeal.τ).loc Cert.MergeSampleRefIdeal.main_arg9) = m ((c.tc : Thread Cert.MergeSampleRefIdeal.nD Cert.MergeSampleRefIdeal.τ).loc Cert.MergeSampleRefIdeal.main_arg9)
      ∧ r.2.mem ((c.tc : Thread Cert.MergeSampleRefIdeal.nD Cert.MergeSampleRefIdeal.τ).loc Cert.MergeSampleRefIdeal.main_arg10) = m ((c.tc : Thread Cert.MergeSampleRefIdeal.nD Cert.MergeSampleRefIdeal.τ).loc Cert.MergeSampleRefIdeal.main_arg10))
      ∧ r.2.sem = fun _ => 0)

def preserves_Mla_MlaIdeal : Prop :=
  IdealRules.named_const.Statement Cert.MlaIdeal.κ "mask" .f32 0xF149F2CA#32 ⊥

def algebraic_MlaIdeal_MlaRefIdeal_pre_finite_args [hMlaIdeal : Cert.MlaIdeal.Facts] [hMlaRefIdeal : Cert.MlaRefIdeal.Facts] [hPre_finite_args : Cert.Pre_finite_args.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_args m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v13)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v13) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v28) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v38) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v94_0)) (v1 : (c : Dev Cert.ProjIdeal.nD) → Buf (Elt Ideal) ((c.tc : Thread Cert.ProjIdeal.nD Cert.ProjIdeal.τ).loc Cert.ProjIdeal.main_v94_1)) (v2 : (c : Dev Cert.ProjIdeal.nD) → Buf (Elt Ideal) ((c.tc : Thread Cert.ProjIdeal.nD Cert.ProjIdeal.τ).loc Cert.ProjIdeal.main_v94_2)) (v3 : (c : Dev Cert.ProjIdeal.nD) → Buf (Elt Ideal) ((c.tc : Thread Cert.ProjIdeal.nD Cert.ProjIdeal.τ).loc Cert.ProjIdeal.main_v94_3)) (v4 : (c : Dev Cert.ProjIdeal.nD) → Buf (Elt Ideal) ((c.tc : Thread Cert.ProjIdeal.nD Cert.ProjIdeal.τ).loc Cert.ProjIdeal.main_v94_4)) (v5 : (c : Dev Cert.ProjIdeal.nD) → Buf (Elt Ideal) ((c.tc : Thread Cert.ProjIdeal.nD Cert.ProjIdeal.τ).loc Cert.ProjIdeal.main_v94_5)) (v6 : (c : Dev Cert.ProjIdeal.nD) → Buf (Elt Ideal) ((c.tc : Thread Cert.ProjIdeal.nD Cert.ProjIdeal.τ).loc Cert.ProjIdeal.main_v94_6)) (v7 : (c : Dev Cert.ProjIdeal.nD) → Buf (Elt Ideal) ((c.tc : Thread Cert.ProjIdeal.nD Cert.ProjIdeal.τ).loc Cert.ProjIdeal.main_v94_7)) (v8 : (c : Dev Cert.ProjIdeal.nD) → Buf (Elt Ideal) ((c.tc : Thread Cert.ProjIdeal.nD Cert.ProjIdeal.τ).loc Cert.ProjIdeal.main_v94_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v94_0) = v0 c
          ∧ r.2.mem ((c.tc : Thread Cert.ProjIdeal.nD Cert.ProjIdeal.τ).loc Cert.ProjIdeal.main_v94_1) = v1 c
          ∧ r.2.mem ((c.tc : Thread Cert.ProjIdeal.nD Cert.ProjIdeal.τ).loc Cert.ProjIdeal.main_v94_2) = v2 c
          ∧ r.2.mem ((c.tc : Thread Cert.ProjIdeal.nD Cert.ProjIdeal.τ).loc Cert.ProjIdeal.main_v94_3) = v3 c
          ∧ r.2.mem ((c.tc : Thread Cert.ProjIdeal.nD Cert.ProjIdeal.τ).loc Cert.ProjIdeal.main_v94_4) = v4 c
          ∧ r.2.mem ((c.tc : Thread Cert.ProjIdeal.nD Cert.ProjIdeal.τ).loc Cert.ProjIdeal.main_v94_5) = v5 c
          ∧ r.2.mem ((c.tc : Thread Cert.ProjIdeal.nD Cert.ProjIdeal.τ).loc Cert.ProjIdeal.main_v94_6) = v6 c
          ∧ r.2.mem ((c.tc : Thread Cert.ProjIdeal.nD Cert.ProjIdeal.τ).loc Cert.ProjIdeal.main_v94_7) = v7 c
          ∧ r.2.mem ((c.tc : Thread Cert.ProjIdeal.nD Cert.ProjIdeal.τ).loc Cert.ProjIdeal.main_v94_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v194) = v0 c
          ∧ r.2.mem ((c.tc : Thread Cert.ProjRefIdeal.nD Cert.ProjRefIdeal.τ).loc Cert.ProjRefIdeal.main_v195) = v1 c
          ∧ r.2.mem ((c.tc : Thread Cert.ProjRefIdeal.nD Cert.ProjRefIdeal.τ).loc Cert.ProjRefIdeal.main_v23) = v2 c
          ∧ r.2.mem ((c.tc : Thread Cert.ProjRefIdeal.nD Cert.ProjRefIdeal.τ).loc Cert.ProjRefIdeal.main_v158) = v3 c
          ∧ r.2.mem ((c.tc : Thread Cert.ProjRefIdeal.nD Cert.ProjRefIdeal.τ).loc Cert.ProjRefIdeal.main_v186) = v4 c
          ∧ r.2.mem ((c.tc : Thread Cert.ProjRefIdeal.nD Cert.ProjRefIdeal.τ).loc Cert.ProjRefIdeal.main_v27) = v5 c
          ∧ r.2.mem ((c.tc : Thread Cert.ProjRefIdeal.nD Cert.ProjRefIdeal.τ).loc Cert.ProjRefIdeal.main_v28) = v6 c
          ∧ r.2.mem ((c.tc : Thread Cert.ProjRefIdeal.nD Cert.ProjRefIdeal.τ).loc Cert.ProjRefIdeal.main_v197) = v7 c
          ∧ r.2.mem ((c.tc : Thread Cert.ProjRefIdeal.nD Cert.ProjRefIdeal.τ).loc Cert.ProjRefIdeal.main_v198) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v20)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v20) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v42) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_MlpSample_MlpSampleIdeal : Prop :=
  True

def algebraic_MlpSampleIdeal_MlpSampleRefIdeal [hMlpSampleIdeal : Cert.MlpSampleIdeal.Facts] [hMlpSampleRefIdeal : Cert.MlpSampleRefIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg)
    (m' : (ℓ : Loc Cert.MlpSampleRefIdeal.nD Cert.MlpSampleRefIdeal.τ Cert.MlpSampleRefIdeal.sig) → Buf (Elt Ideal) ℓ) (g' : Dev Cert.MlpSampleRefIdeal.nD → PrngReg), Pre_MlpSampleIdeal m →
    (∀ c : Dev Cert.MlpSampleIdeal.nD,
      m' ((c.tc : Thread Cert.MlpSampleRefIdeal.nD Cert.MlpSampleRefIdeal.τ).loc Cert.MlpSampleRefIdeal.main_arg0) = m ((c.tc : Thread Cert.MlpSampleIdeal.nD Cert.MlpSampleIdeal.τ).loc Cert.MlpSampleIdeal.main_arg0)
      ∧ m' ((c.tc : Thread Cert.MlpSampleRefIdeal.nD Cert.MlpSampleRefIdeal.τ).loc Cert.MlpSampleRefIdeal.main_arg1) = m ((c.tc : Thread Cert.MlpSampleIdeal.nD Cert.MlpSampleIdeal.τ).loc Cert.MlpSampleIdeal.main_arg1)
      ∧ m' ((c.tc : Thread Cert.MlpSampleRefIdeal.nD Cert.MlpSampleRefIdeal.τ).loc Cert.MlpSampleRefIdeal.main_arg2) = m ((c.tc : Thread Cert.MlpSampleIdeal.nD Cert.MlpSampleIdeal.τ).loc Cert.MlpSampleIdeal.main_arg2)
      ∧ m' ((c.tc : Thread Cert.MlpSampleRefIdeal.nD Cert.MlpSampleRefIdeal.τ).loc Cert.MlpSampleRefIdeal.main_arg3) = m ((c.tc : Thread Cert.MlpSampleIdeal.nD Cert.MlpSampleIdeal.τ).loc Cert.MlpSampleIdeal.main_arg3)
      ∧ m' ((c.tc : Thread Cert.MlpSampleRefIdeal.nD Cert.MlpSampleRefIdeal.τ).loc Cert.MlpSampleRefIdeal.main_arg4) = m ((c.tc : Thread Cert.MlpSampleIdeal.nD Cert.MlpSampleIdeal.τ).loc Cert.MlpSampleIdeal.main_arg4)
      ∧ m' ((c.tc : Thread Cert.MlpSampleRefIdeal.nD Cert.MlpSampleRefIdeal.τ).loc Cert.MlpSampleRefIdeal.main_arg5) = m ((c.tc : Thread Cert.MlpSampleIdeal.nD Cert.MlpSampleIdeal.τ).loc Cert.MlpSampleIdeal.main_arg5)
      ∧ m' ((c.tc : Thread Cert.MlpSampleRefIdeal.nD Cert.MlpSampleRefIdeal.τ).loc Cert.MlpSampleRefIdeal.main_arg6) = m ((c.tc : Thread Cert.MlpSampleIdeal.nD Cert.MlpSampleIdeal.τ).loc Cert.MlpSampleIdeal.main_arg6)
      ∧ m' ((c.tc : Thread Cert.MlpSampleRefIdeal.nD Cert.MlpSampleRefIdeal.τ).loc Cert.MlpSampleRefIdeal.main_arg7) = m ((c.tc : Thread Cert.MlpSampleIdeal.nD Cert.MlpSampleIdeal.τ).loc Cert.MlpSampleIdeal.main_arg7)) →
    ∃ (v0 : (c : Dev Cert.MlpSampleIdeal.nD) → Buf (Elt Ideal) ((c.tc : Thread Cert.MlpSampleIdeal.nD Cert.MlpSampleIdeal.τ).loc Cert.MlpSampleIdeal.main_v11)),
      θ_run (Cert.MlpSampleIdeal.defs (F := Ideal)) (onTc (τ := Cert.MlpSampleIdeal.τ) (Cert.MlpSampleIdeal.main (F := Ideal))) ⟨m, fun _ => 0, g⟩ (fun r => ∀ c : Dev Cert.MlpSampleIdeal.nD,
          r.2.mem ((c.tc : Thread Cert.MlpSampleIdeal.nD Cert.MlpSampleIdeal.τ).loc Cert.MlpSampleIdeal.main_v11) = v0 c
          ∧ r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
          ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
          ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
          ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
          ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4)
          ∧ r.2.mem ((c.tc : Thread Cert.MlpSampleIdeal.nD Cert.MlpSampleIdeal.τ).loc Cert.MlpSampleIdeal.main_arg5) = m ((c.tc : Thread Cert.MlpSampleIdeal.nD Cert.MlpSampleIdeal.τ).loc Cert.MlpSampleIdeal.main_arg5)
          ∧ r.2.mem ((c.tc : Thread Cert.MlpSampleIdeal.nD Cert.MlpSampleIdeal.τ).loc Cert.MlpSampleIdeal.main_arg6) = m ((c.tc : Thread Cert.MlpSampleIdeal.nD Cert.MlpSampleIdeal.τ).loc Cert.MlpSampleIdeal.main_arg6)
          ∧ r.2.mem ((c.tc : Thread Cert.MlpSampleIdeal.nD Cert.MlpSampleIdeal.τ).loc Cert.MlpSampleIdeal.main_arg7) = m ((c.tc : Thread Cert.MlpSampleIdeal.nD Cert.MlpSampleIdeal.τ).loc Cert.MlpSampleIdeal.main_arg7))
      ∧ θ_run (Cert.MlpSampleRefIdeal.defs (F := Ideal)) (onTc (τ := Cert.MlpSampleRefIdeal.τ) (Cert.MlpSampleRefIdeal.main (F := Ideal))) ⟨m', fun _ => 0, g'⟩ (fun r => ∀ c : Dev Cert.MlpSampleRefIdeal.nD,
          r.2.mem ((c.tc : Thread Cert.MlpSampleRefIdeal.nD Cert.MlpSampleRefIdeal.τ).loc Cert.MlpSampleRefIdeal.main_v42) = v0 c
          ∧ r.2.mem ((c.tc : Thread Cert.MlpSampleRefIdeal.nD Cert.MlpSampleRefIdeal.τ).loc Cert.MlpSampleRefIdeal.main_arg0) = m' ((c.tc : Thread Cert.MlpSampleRefIdeal.nD Cert.MlpSampleRefIdeal.τ).loc Cert.MlpSampleRefIdeal.main_arg0)
          ∧ r.2.mem ((c.tc : Thread Cert.MlpSampleRefIdeal.nD Cert.MlpSampleRefIdeal.τ).loc Cert.MlpSampleRefIdeal.main_arg1) = m' ((c.tc : Thread Cert.MlpSampleRefIdeal.nD Cert.MlpSampleRefIdeal.τ).loc Cert.MlpSampleRefIdeal.main_arg1)
          ∧ r.2.mem ((c.tc : Thread Cert.MlpSampleRefIdeal.nD Cert.MlpSampleRefIdeal.τ).loc Cert.MlpSampleRefIdeal.main_arg2) = m' ((c.tc : Thread Cert.MlpSampleRefIdeal.nD Cert.MlpSampleRefIdeal.τ).loc Cert.MlpSampleRefIdeal.main_arg2)
          ∧ r.2.mem ((c.tc : Thread Cert.MlpSampleRefIdeal.nD Cert.MlpSampleRefIdeal.τ).loc Cert.MlpSampleRefIdeal.main_arg3) = m' ((c.tc : Thread Cert.MlpSampleRefIdeal.nD Cert.MlpSampleRefIdeal.τ).loc Cert.MlpSampleRefIdeal.main_arg3)
          ∧ r.2.mem ((c.tc : Thread Cert.MlpSampleRefIdeal.nD Cert.MlpSampleRefIdeal.τ).loc Cert.MlpSampleRefIdeal.main_arg4) = m' ((c.tc : Thread Cert.MlpSampleRefIdeal.nD Cert.MlpSampleRefIdeal.τ).loc Cert.MlpSampleRefIdeal.main_arg4)
          ∧ r.2.mem ((c.tc : Thread Cert.MlpSampleRefIdeal.nD Cert.MlpSampleRefIdeal.τ).loc Cert.MlpSampleRefIdeal.main_arg5) = m' ((c.tc : Thread Cert.MlpSampleRefIdeal.nD Cert.MlpSampleRefIdeal.τ).loc Cert.MlpSampleRefIdeal.main_arg5)
          ∧ r.2.mem ((c.tc : Thread Cert.MlpSampleRefIdeal.nD Cert.MlpSampleRefIdeal.τ).loc Cert.MlpSampleRefIdeal.main_arg6) = m' ((c.tc : Thread Cert.MlpSampleRefIdeal.nD Cert.MlpSampleRefIdeal.τ).loc Cert.MlpSampleRefIdeal.main_arg6)
          ∧ r.2.mem ((c.tc : Thread Cert.MlpSampleRefIdeal.nD Cert.MlpSampleRefIdeal.τ).loc Cert.MlpSampleRefIdeal.main_arg7) = m' ((c.tc : Thread Cert.MlpSampleRefIdeal.nD Cert.MlpSampleRefIdeal.τ).loc Cert.MlpSampleRefIdeal.main_arg7))

def preserves_ProjSample_ProjSampleIdeal : Prop :=
  True

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)
      ∧ m' ((c.tc : Thread Cert.ProjSampleRefIdeal.nD Cert.ProjSampleRefIdeal.τ).loc Cert.ProjSampleRefIdeal.main_arg5) = m ((c.tc : Thread Cert.ProjSampleIdeal.nD Cert.ProjSampleIdeal.τ).loc Cert.ProjSampleIdeal.main_arg5)
      ∧ m' ((c.tc : Thread Cert.ProjSampleRefIdeal.nD Cert.ProjSampleRefIdeal.τ).loc Cert.ProjSampleRefIdeal.main_arg6) = m ((c.tc : Thread Cert.ProjSampleIdeal.nD Cert.ProjSampleIdeal.τ).loc Cert.ProjSampleIdeal.main_arg6)
      ∧ m' ((c.tc : Thread Cert.ProjSampleRefIdeal.nD Cert.ProjSampleRefIdeal.τ).loc Cert.ProjSampleRefIdeal.main_arg7) = m ((c.tc : Thread Cert.ProjSampleIdeal.nD Cert.ProjSampleIdeal.τ).loc Cert.ProjSampleIdeal.main_arg7)
      ∧ m' ((c.tc : Thread Cert.ProjSampleRefIdeal.nD Cert.ProjSampleRefIdeal.τ).loc Cert.ProjSampleRefIdeal.main_arg8) = m ((c.tc : Thread Cert.ProjSampleIdeal.nD Cert.ProjSampleIdeal.τ).loc Cert.ProjSampleIdeal.main_arg8)) →
    ∃ (v0 : (c : Dev Cert.ProjSampleIdeal.nD) → Buf (Elt Ideal) ((c.tc : Thread Cert.ProjSampleIdeal.nD Cert.ProjSampleIdeal.τ).loc Cert.ProjSampleIdeal.main_v104_0)) (v1 : (c : Dev Cert.ProjSampleIdeal.nD) → Buf (Elt Ideal) ((c.tc : Thread Cert.ProjSampleIdeal.nD Cert.ProjSampleIdeal.τ).loc Cert.ProjSampleIdeal.main_v104_1)) (v2 : (c : Dev Cert.ProjSampleIdeal.nD) → Buf (Elt Ideal) ((c.tc : Thread Cert.ProjSampleIdeal.nD Cert.ProjSampleIdeal.τ).loc Cert.ProjSampleIdeal.main_v104_2)) (v3 : (c : Dev Cert.ProjSampleIdeal.nD) → Buf (Elt Ideal) ((c.tc : Thread Cert.ProjSampleIdeal.nD Cert.ProjSampleIdeal.τ).loc Cert.ProjSampleIdeal.main_v104_3)) (v4 : (c : Dev Cert.ProjSampleIdeal.nD) → Buf (Elt Ideal) ((c.tc : Thread Cert.ProjSampleIdeal.nD Cert.ProjSampleIdeal.τ).loc Cert.ProjSampleIdeal.main_v104_4)) (v5 : (c : Dev Cert.ProjSampleIdeal.nD) → Buf (Elt Ideal) ((c.tc : Thread Cert.ProjSampleIdeal.nD Cert.ProjSampleIdeal.τ).loc Cert.ProjSampleIdeal.main_v104_5)) (v6 : (c : Dev Cert.ProjSampleIdeal.nD) → Buf (Elt Ideal) ((c.tc : Thread Cert.ProjSampleIdeal.nD Cert.ProjSampleIdeal.τ).loc Cert.ProjSampleIdeal.main_v104_6)) (v7 : (c : Dev Cert.ProjSampleIdeal.nD) → Buf (Elt Ideal) ((c.tc : Thread Cert.ProjSampleIdeal.nD Cert.ProjSampleIdeal.τ).loc Cert.ProjSampleIdeal.main_v104_7)) (v8 : (c : Dev Cert.ProjSampleIdeal.nD) → Buf (Elt Ideal) ((c.tc : Thread Cert.ProjSampleIdeal.nD Cert.ProjSampleIdeal.τ).loc Cert.ProjSampleIdeal.main_v104_8)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v104_0) = v0 c
          ∧ r.2.mem ((c.tc : Thread Cert.ProjSampleIdeal.nD Cert.ProjSampleIdeal.τ).loc Cert.ProjSampleIdeal.main_v104_1) = v1 c
          ∧ r.2.mem ((c.tc : Thread Cert.ProjSampleIdeal.nD Cert.ProjSampleIdeal.τ).loc Cert.ProjSampleIdeal.main_v104_2) = v2 c
          ∧ r.2.mem ((c.tc : Thread Cert.ProjSampleIdeal.nD Cert.ProjSampleIdeal.τ).loc Cert.ProjSampleIdeal.main_v104_3) = v3 c
          ∧ r.2.mem ((c.tc : Thread Cert.ProjSampleIdeal.nD Cert.ProjSampleIdeal.τ).loc Cert.ProjSampleIdeal.main_v104_4) = v4 c
          ∧ r.2.mem ((c.tc : Thread Cert.ProjSampleIdeal.nD Cert.ProjSampleIdeal.τ).loc Cert.ProjSampleIdeal.main_v104_5) = v5 c
          ∧ r.2.mem ((c.tc : Thread Cert.ProjSampleIdeal.nD Cert.ProjSampleIdeal.τ).loc Cert.ProjSampleIdeal.main_v104_6) = v6 c
          ∧ r.2.mem ((c.tc : Thread Cert.ProjSampleIdeal.nD Cert.ProjSampleIdeal.τ).loc Cert.ProjSampleIdeal.main_v104_7) = v7 c
          ∧ r.2.mem ((c.tc : Thread Cert.ProjSampleIdeal.nD Cert.ProjSampleIdeal.τ).loc Cert.ProjSampleIdeal.main_v104_8) = v8 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
          ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
          ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
          ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5)
          ∧ r.2.mem ((c.tc : Thread Cert.ProjSampleIdeal.nD Cert.ProjSampleIdeal.τ).loc Cert.ProjSampleIdeal.main_arg6) = m ((c.tc : Thread Cert.ProjSampleIdeal.nD Cert.ProjSampleIdeal.τ).loc Cert.ProjSampleIdeal.main_arg6)
          ∧ r.2.mem ((c.tc : Thread Cert.ProjSampleIdeal.nD Cert.ProjSampleIdeal.τ).loc Cert.ProjSampleIdeal.main_arg7) = m ((c.tc : Thread Cert.ProjSampleIdeal.nD Cert.ProjSampleIdeal.τ).loc Cert.ProjSampleIdeal.main_arg7)
          ∧ r.2.mem ((c.tc : Thread Cert.ProjSampleIdeal.nD Cert.ProjSampleIdeal.τ).loc Cert.ProjSampleIdeal.main_arg8) = m ((c.tc : Thread Cert.ProjSampleIdeal.nD Cert.ProjSampleIdeal.τ).loc Cert.ProjSampleIdeal.main_arg8))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v218) = v0 c
          ∧ r.2.mem ((c.tc : Thread Cert.ProjSampleRefIdeal.nD Cert.ProjSampleRefIdeal.τ).loc Cert.ProjSampleRefIdeal.main_v219) = v1 c
          ∧ r.2.mem ((c.tc : Thread Cert.ProjSampleRefIdeal.nD Cert.ProjSampleRefIdeal.τ).loc Cert.ProjSampleRefIdeal.main_v220) = v2 c
          ∧ r.2.mem ((c.tc : Thread Cert.ProjSampleRefIdeal.nD Cert.ProjSampleRefIdeal.τ).loc Cert.ProjSampleRefIdeal.main_v221) = v3 c
          ∧ r.2.mem ((c.tc : Thread Cert.ProjSampleRefIdeal.nD Cert.ProjSampleRefIdeal.τ).loc Cert.ProjSampleRefIdeal.main_v222) = v4 c
          ∧ r.2.mem ((c.tc : Thread Cert.ProjSampleRefIdeal.nD Cert.ProjSampleRefIdeal.τ).loc Cert.ProjSampleRefIdeal.main_v223) = v5 c
          ∧ r.2.mem ((c.tc : Thread Cert.ProjSampleRefIdeal.nD Cert.ProjSampleRefIdeal.τ).loc Cert.ProjSampleRefIdeal.main_v224) = v6 c
          ∧ r.2.mem ((c.tc : Thread Cert.ProjSampleRefIdeal.nD Cert.ProjSampleRefIdeal.τ).loc Cert.ProjSampleRefIdeal.main_v227) = v7 c
          ∧ r.2.mem ((c.tc : Thread Cert.ProjSampleRefIdeal.nD Cert.ProjSampleRefIdeal.τ).loc Cert.ProjSampleRefIdeal.main_v229) = v8 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1)
          ∧ r.2.mem ((c.tc : Thread Cert.ProjSampleRefIdeal.nD Cert.ProjSampleRefIdeal.τ).loc Cert.ProjSampleRefIdeal.main_arg2) = m' ((c.tc : Thread Cert.ProjSampleRefIdeal.nD Cert.ProjSampleRefIdeal.τ).loc Cert.ProjSampleRefIdeal.main_arg2)
          ∧ r.2.mem ((c.tc : Thread Cert.ProjSampleRefIdeal.nD Cert.ProjSampleRefIdeal.τ).loc Cert.ProjSampleRefIdeal.main_arg3) = m' ((c.tc : Thread Cert.ProjSampleRefIdeal.nD Cert.ProjSampleRefIdeal.τ).loc Cert.ProjSampleRefIdeal.main_arg3)
          ∧ r.2.mem ((c.tc : Thread Cert.ProjSampleRefIdeal.nD Cert.ProjSampleRefIdeal.τ).loc Cert.ProjSampleRefIdeal.main_arg4) = m' ((c.tc : Thread Cert.ProjSampleRefIdeal.nD Cert.ProjSampleRefIdeal.τ).loc Cert.ProjSampleRefIdeal.main_arg4)
          ∧ r.2.mem ((c.tc : Thread Cert.ProjSampleRefIdeal.nD Cert.ProjSampleRefIdeal.τ).loc Cert.ProjSampleRefIdeal.main_arg5) = m' ((c.tc : Thread Cert.ProjSampleRefIdeal.nD Cert.ProjSampleRefIdeal.τ).loc Cert.ProjSampleRefIdeal.main_arg5)
          ∧ r.2.mem ((c.tc : Thread Cert.ProjSampleRefIdeal.nD Cert.ProjSampleRefIdeal.τ).loc Cert.ProjSampleRefIdeal.main_arg6) = m' ((c.tc : Thread Cert.ProjSampleRefIdeal.nD Cert.ProjSampleRefIdeal.τ).loc Cert.ProjSampleRefIdeal.main_arg6)
          ∧ r.2.mem ((c.tc : Thread Cert.ProjSampleRefIdeal.nD Cert.ProjSampleRefIdeal.τ).loc Cert.ProjSampleRefIdeal.main_arg7) = m' ((c.tc : Thread Cert.ProjSampleRefIdeal.nD Cert.ProjSampleRefIdeal.τ).loc Cert.ProjSampleRefIdeal.main_arg7)
          ∧ r.2.mem ((c.tc : Thread Cert.ProjSampleRefIdeal.nD Cert.ProjSampleRefIdeal.τ).loc Cert.ProjSampleRefIdeal.main_arg8) = m' ((c.tc : Thread Cert.ProjSampleRefIdeal.nD Cert.ProjSampleRefIdeal.τ).loc Cert.ProjSampleRefIdeal.main_arg8))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v6) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_MergeSample_MergeSampleIdeal : Prop :=
  True

def algebraic_MergeSampleIdeal_MergeSampleRefIdeal [hMergeSampleIdeal : Cert.MergeSampleIdeal.Facts] [hMergeSampleRefIdeal : Cert.MergeSampleRefIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleRefIdeal.nD Cert.MergeSampleRefIdeal.τ Cert.MergeSampleRefIdeal.sig) → Buf (Elt Ideal) ℓ) (g' : Dev Cert.MergeSampleRefIdeal.nD → PrngReg), Pre_MergeSampleIdeal m →
    (∀ c : Dev Cert.MergeSampleIdeal.nD,
      m' ((c.tc : Thread Cert.MergeSampleRefIdeal.nD Cert.MergeSampleRefIdeal.τ).loc Cert.MergeSampleRefIdeal.main_arg0) = m ((c.tc : Thread Cert.MergeSampleIdeal.nD Cert.MergeSampleIdeal.τ).loc Cert.MergeSampleIdeal.main_arg0)
      ∧ m' ((c.tc : Thread Cert.MergeSampleRefIdeal.nD Cert.MergeSampleRefIdeal.τ).loc Cert.MergeSampleRefIdeal.main_arg1) = m ((c.tc : Thread Cert.MergeSampleIdeal.nD Cert.MergeSampleIdeal.τ).loc Cert.MergeSampleIdeal.main_arg1)
      ∧ m' ((c.tc : Thread Cert.MergeSampleRefIdeal.nD Cert.MergeSampleRefIdeal.τ).loc Cert.MergeSampleRefIdeal.main_arg2) = m ((c.tc : Thread Cert.MergeSampleIdeal.nD Cert.MergeSampleIdeal.τ).loc Cert.MergeSampleIdeal.main_arg2)
      ∧ m' ((c.tc : Thread Cert.MergeSampleRefIdeal.nD Cert.MergeSampleRefIdeal.τ).loc Cert.MergeSampleRefIdeal.main_arg3) = m ((c.tc : Thread Cert.MergeSampleIdeal.nD Cert.MergeSampleIdeal.τ).loc Cert.MergeSampleIdeal.main_arg3)
      ∧ m' ((c.tc : Thread Cert.MergeSampleRefIdeal.nD Cert.MergeSampleRefIdeal.τ).loc Cert.MergeSampleRefIdeal.main_arg4) = m ((c.tc : Thread Cert.MergeSampleIdeal.nD Cert.MergeSampleIdeal.τ).loc Cert.MergeSampleIdeal.main_arg4)
      ∧ m' ((c.tc : Thread Cert.MergeSampleRefIdeal.nD Cert.MergeSampleRefIdeal.τ).loc Cert.MergeSampleRefIdeal.main_arg5) = m ((c.tc : Thread Cert.MergeSampleIdeal.nD Cert.MergeSampleIdeal.τ).loc Cert.MergeSampleIdeal.main_arg5)
      ∧ m' ((c.tc : Thread Cert.MergeSampleRefIdeal.nD Cert.MergeSampleRefIdeal.τ).loc Cert.MergeSampleRefIdeal.main_arg6) = m ((c.tc : Thread Cert.MergeSampleIdeal.nD Cert.MergeSampleIdeal.τ).loc Cert.MergeSampleIdeal.main_arg6)
      ∧ m' ((c.tc : Thread Cert.MergeSampleRefIdeal.nD Cert.MergeSampleRefIdeal.τ).loc Cert.MergeSampleRefIdeal.main_arg7) = m ((c.tc : Thread Cert.MergeSampleIdeal.nD Cert.MergeSampleIdeal.τ).loc Cert.MergeSampleIdeal.main_arg7)
      ∧ m' ((c.tc : Thread Cert.MergeSampleRefIdeal.nD Cert.MergeSampleRefIdeal.τ).loc Cert.MergeSampleRefIdeal.main_arg8) = m ((c.tc : Thread Cert.MergeSampleIdeal.nD Cert.MergeSampleIdeal.τ).loc Cert.MergeSampleIdeal.main_arg8)
      ∧ m' ((c.tc : Thread Cert.MergeSampleRefIdeal.nD Cert.MergeSampleRefIdeal.τ).loc Cert.MergeSampleRefIdeal.main_arg9) = m ((c.tc : Thread Cert.MergeSampleIdeal.nD Cert.MergeSampleIdeal.τ).loc Cert.MergeSampleIdeal.main_arg9)
      ∧ m' ((c.tc : Thread Cert.MergeSampleRefIdeal.nD Cert.MergeSampleRefIdeal.τ).loc Cert.MergeSampleRefIdeal.main_arg10) = m ((c.tc : Thread Cert.MergeSampleIdeal.nD Cert.MergeSampleIdeal.τ).loc Cert.MergeSampleIdeal.main_arg10)) →
    ∃ (v0 : (c : Dev Cert.MergeSampleIdeal.nD) → Buf (Elt Ideal) ((c.tc : Thread Cert.MergeSampleIdeal.nD Cert.MergeSampleIdeal.τ).loc Cert.MergeSampleIdeal.main_v23)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v23) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
          ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
          ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
          ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10))
      ∧ θ_run (Cert.MergeSampleRefIdeal.defs (F := Ideal)) (onTc (τ := Cert.MergeSampleRefIdeal.τ) (Cert.MergeSampleRefIdeal.main (F := Ideal))) ⟨m', fun _ => 0, g'⟩ (fun r => ∀ c : Dev Cert.MergeSampleRefIdeal.nD,
          r.2.mem ((c.tc : Thread Cert.MergeSampleRefIdeal.nD Cert.MergeSampleRefIdeal.τ).loc Cert.MergeSampleRefIdeal.main_v47) = v0 c
          ∧ r.2.mem ((c.tc : Thread Cert.MergeSampleRefIdeal.nD Cert.MergeSampleRefIdeal.τ).loc Cert.MergeSampleRefIdeal.main_arg0) = m' ((c.tc : Thread Cert.MergeSampleRefIdeal.nD Cert.MergeSampleRefIdeal.τ).loc Cert.MergeSampleRefIdeal.main_arg0)
          ∧ r.2.mem ((c.tc : Thread Cert.MergeSampleRefIdeal.nD Cert.MergeSampleRefIdeal.τ).loc Cert.MergeSampleRefIdeal.main_arg1) = m' ((c.tc : Thread Cert.MergeSampleRefIdeal.nD Cert.MergeSampleRefIdeal.τ).loc Cert.MergeSampleRefIdeal.main_arg1)
          ∧ r.2.mem ((c.tc : Thread Cert.MergeSampleRefIdeal.nD Cert.MergeSampleRefIdeal.τ).loc Cert.MergeSampleRefIdeal.main_arg2) = m' ((c.tc : Thread Cert.MergeSampleRefIdeal.nD Cert.MergeSampleRefIdeal.τ).loc Cert.MergeSampleRefIdeal.main_arg2)
          ∧ r.2.mem ((c.tc : Thread Cert.MergeSampleRefIdeal.nD Cert.MergeSampleRefIdeal.τ).loc Cert.MergeSampleRefIdeal.main_arg3) = m' ((c.tc : Thread Cert.MergeSampleRefIdeal.nD Cert.MergeSampleRefIdeal.τ).loc Cert.MergeSampleRefIdeal.main_arg3)
          ∧ r.2.mem ((c.tc : Thread Cert.MergeSampleRefIdeal.nD Cert.MergeSampleRefIdeal.τ).loc Cert.MergeSampleRefIdeal.main_arg4) = m' ((c.tc : Thread Cert.MergeSampleRefIdeal.nD Cert.MergeSampleRefIdeal.τ).loc Cert.MergeSampleRefIdeal.main_arg4)
          ∧ r.2.mem ((c.tc : Thread Cert.MergeSampleRefIdeal.nD Cert.MergeSampleRefIdeal.τ).loc Cert.MergeSampleRefIdeal.main_arg5) = m' ((c.tc : Thread Cert.MergeSampleRefIdeal.nD Cert.MergeSampleRefIdeal.τ).loc Cert.MergeSampleRefIdeal.main_arg5)
          ∧ r.2.mem ((c.tc : Thread Cert.MergeSampleRefIdeal.nD Cert.MergeSampleRefIdeal.τ).loc Cert.MergeSampleRefIdeal.main_arg6) = m' ((c.tc : Thread Cert.MergeSampleRefIdeal.nD Cert.MergeSampleRefIdeal.τ).loc Cert.MergeSampleRefIdeal.main_arg6)
          ∧ r.2.mem ((c.tc : Thread Cert.MergeSampleRefIdeal.nD Cert.MergeSampleRefIdeal.τ).loc Cert.MergeSampleRefIdeal.main_arg7) = m' ((c.tc : Thread Cert.MergeSampleRefIdeal.nD Cert.MergeSampleRefIdeal.τ).loc Cert.MergeSampleRefIdeal.main_arg7)
          ∧ r.2.mem ((c.tc : Thread Cert.MergeSampleRefIdeal.nD Cert.MergeSampleRefIdeal.τ).loc Cert.MergeSampleRefIdeal.main_arg8) = m' ((c.tc : Thread Cert.MergeSampleRefIdeal.nD Cert.MergeSampleRefIdeal.τ).loc Cert.MergeSampleRefIdeal.main_arg8)
          ∧ r.2.mem ((c.tc : Thread Cert.MergeSampleRefIdeal.nD Cert.MergeSampleRefIdeal.τ).loc Cert.MergeSampleRefIdeal.main_arg9) = m' ((c.tc : Thread Cert.MergeSampleRefIdeal.nD Cert.MergeSampleRefIdeal.τ).loc Cert.MergeSampleRefIdeal.main_arg9)
          ∧ r.2.mem ((c.tc : Thread Cert.MergeSampleRefIdeal.nD Cert.MergeSampleRefIdeal.τ).loc Cert.MergeSampleRefIdeal.main_arg10) = m' ((c.tc : Thread Cert.MergeSampleRefIdeal.nD Cert.MergeSampleRefIdeal.τ).loc Cert.MergeSampleRefIdeal.main_arg10))

def Claim : Prop :=
  ∃ (hMla : Cert.Mla.Facts) (hMlaIdeal : Cert.MlaIdeal.Facts) (hMlaRefIdeal : Cert.MlaRefIdeal.Facts) (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hMlpSample : Cert.MlpSample.Facts) (hMlpSampleIdeal : Cert.MlpSampleIdeal.Facts) (hMlpSampleRefIdeal : Cert.MlpSampleRefIdeal.Facts) (hProjSample : Cert.ProjSample.Facts) (hProjSampleIdeal : Cert.ProjSampleIdeal.Facts) (hProjSampleRefIdeal : Cert.ProjSampleRefIdeal.Facts) (hMod : Cert.Mod.Facts) (hModIdeal : Cert.ModIdeal.Facts) (hModRefIdeal : Cert.ModRefIdeal.Facts) (hMergeSample : Cert.MergeSample.Facts) (hMergeSampleIdeal : Cert.MergeSampleIdeal.Facts) (hMergeSampleRefIdeal : Cert.MergeSampleRefIdeal.Facts) (hPre_finite_args : Cert.Pre_finite_args.Facts),
    quiescent_Mla (hMla := hMla)
    ∧ quiescent_MlaIdeal (hMlaIdeal := hMlaIdeal)
    ∧ quiescent_MlaIdeal_pre_finite_args (hMlaIdeal := hMlaIdeal) (hPre_finite_args := hPre_finite_args)
    ∧ quiescent_MlaRefIdeal (hMlaRefIdeal := hMlaRefIdeal)
    ∧ quiescent_MlaRefIdeal_pre_finite_args (hMlaRefIdeal := hMlaRefIdeal) (hPre_finite_args := hPre_finite_args)
    ∧ quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_MlpSample (hMlpSample := hMlpSample)
    ∧ quiescent_MlpSampleIdeal (hMlpSampleIdeal := hMlpSampleIdeal)
    ∧ quiescent_MlpSampleRefIdeal (hMlpSampleRefIdeal := hMlpSampleRefIdeal)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ quiescent_Mod (hMod := hMod)
    ∧ quiescent_ModIdeal (hModIdeal := hModIdeal)
    ∧ quiescent_ModRefIdeal (hModRefIdeal := hModRefIdeal)
    ∧ quiescent_MergeSample (hMergeSample := hMergeSample)
    ∧ quiescent_MergeSampleIdeal (hMergeSampleIdeal := hMergeSampleIdeal)
    ∧ quiescent_MergeSampleRefIdeal (hMergeSampleRefIdeal := hMergeSampleRefIdeal)
    ∧ preserves_Mla_MlaIdeal
    ∧ algebraic_MlaIdeal_MlaRefIdeal_pre_finite_args (hMlaIdeal := hMlaIdeal) (hMlaRefIdeal := hMlaRefIdeal) (hPre_finite_args := hPre_finite_args)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_MlpSample_MlpSampleIdeal
    ∧ algebraic_MlpSampleIdeal_MlpSampleRefIdeal (hMlpSampleIdeal := hMlpSampleIdeal) (hMlpSampleRefIdeal := hMlpSampleRefIdeal)
    ∧ preserves_ProjSample_ProjSampleIdeal
    ∧ algebraic_ProjSampleIdeal_ProjSampleRefIdeal (hProjSampleIdeal := hProjSampleIdeal) (hProjSampleRefIdeal := hProjSampleRefIdeal)
    ∧ preserves_Mod_ModIdeal
    ∧ algebraic_ModIdeal_ModRefIdeal (hModIdeal := hModIdeal) (hModRefIdeal := hModRefIdeal)
    ∧ preserves_MergeSample_MergeSampleIdeal
    ∧ algebraic_MergeSampleIdeal_MergeSampleRefIdeal (hMergeSampleIdeal := hMergeSampleIdeal) (hMergeSampleRefIdeal := hMergeSampleRefIdeal)
-- ==== Pre_finite_args.lean ====
abbrev S16384x8x128 : Shape := ⟨3, ![16384, 8, 128]⟩
abbrev S16384x8x32 : Shape := ⟨3, ![16384, 8, 32]⟩
abbrev S16384x128 : Shape := ⟨2, ![16384, 128]⟩
abbrev S16384x32 : Shape := ⟨2, ![16384, 32]⟩
abbrev S_ : Shape := ⟨0, ![]⟩

class Facts : Prop where
  bcast_S_S16384x8x128 : S_.BroadcastsInDim S16384x8x128 (![] : Fin 0 → Fin S16384x8x128.rank)
  reducesTo_S16384x8x128_S_d0_1_2 : S16384x8x128.ReducesTo [0, 1, 2] S_
  h_S_ : 0 < S_.numel
  bcast_S_S16384x8x32 : S_.BroadcastsInDim S16384x8x32 (![] : Fin 0 → Fin S16384x8x32.rank)
  reducesTo_S16384x8x32_S_d0_1_2 : S16384x8x32.ReducesTo [0, 1, 2] S_
  bcast_S_S16384x128 : S_.BroadcastsInDim S16384x128 (![] : Fin 0 → Fin S16384x128.rank)
  reducesTo_S16384x128_S_d0_1 : S16384x128.ReducesTo [0, 1] S_
  bcast_S_S16384x32 : S_.BroadcastsInDim S16384x32 (![] : Fin 0 → Fin S16384x32.rank)
  reducesTo_S16384x32_S_d0_1 : S16384x32.ReducesTo [0, 1] S_

variable [Facts]

def fn_part1 {F : FTy → Type} [FloatOps F] (main_v13 : IVec S_ 1) (main_v16 : IVec S16384x32 1) : IVec S_ 1 :=
  let main_c_5 : IVec S_ 1 := constantI S_ 1 1#1
  let main_v17 : IVec S_ 1 := (fun x v => Host.reduce IntOp.andi x v reducesTo_S16384x32_S_d0_1 h_S_) main_v16 main_c_5
  let main_v18 : IVec S_ 1 := andi main_v13 main_v17
  main_v18

def fn {F : FTy → Type} [FloatOps F] (main_arg0 : FVec F S16384x8x128 .f32) (main_arg1 : FVec F S16384x8x32 .f32) (main_arg2 : FVec F S16384x128 .f32) (main_arg3 : FVec F S16384x32 .f32) : IVec S_ 1 :=
  let main_v0 : FVec F S16384x8x128 .f32 := Host.absf main_arg0
  let main_cst : FVec F S_ .f32 := constant S_ .f32 0x7F800000#32
  let main_v1 : FVec F S16384x8x128 .f32 := broadcastInDim S16384x8x128 ![] bcast_S_S16384x8x128 main_cst
  let main_v2 : IVec S16384x8x128 1 := cmpf .olt main_v0 main_v1
  let main_c : IVec S_ 1 := constantI S_ 1 1#1
  let main_v3 : IVec S_ 1 := (fun x v => Host.reduce IntOp.andi x v reducesTo_S16384x8x128_S_d0_1_2 h_S_) main_v2 main_c
  let main_v4 : FVec F S16384x8x32 .f32 := Host.absf main_arg1
  let main_cst_0 : FVec F S_ .f32 := constant S_ .f32 0x7F800000#32
  let main_v5 : FVec F S16384x8x32 .f32 := broadcastInDim S16384x8x32 ![] bcast_S_S16384x8x32 main_cst_0
  let main_v6 : IVec S16384x8x32 1 := cmpf .olt main_v4 main_v5
  let main_c_1 : IVec S_ 1 := constantI S_ 1 1#1
  let main_v7 : IVec S_ 1 := (fun x v => Host.reduce IntOp.andi x v reducesTo_S16384x8x32_S_d0_1_2 h_S_) main_v6 main_c_1
  let main_v8 : IVec S_ 1 := andi main_v3 main_v7
  let main_v9 : FVec F S16384x128 .f32 := Host.absf main_arg2
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  let main_v14 : FVec F S16384x32 .f32 := Host.absf main_arg3
  let main_cst_4 : FVec F S_ .f32 := constant S_ .f32 0x7F800000#32
  let main_v15 : FVec F S16384x32 .f32 := broadcastInDim S16384x32 ![] bcast_S_S16384x32 main_cst_4
  let main_v16 : IVec S16384x32 1 := cmpf .olt main_v14 main_v15
  fn_part1 (F := F) main_v13 main_v16
-- ==== Mla.lean ====
abbrev S16384x8x128 : Shape := ⟨3, ![16384, 8, 128]⟩
abbrev S16384x8x32 : Shape := ⟨3, ![16384, 8, 32]⟩
abbrev S16384x128 : Shape := ⟨2, ![16384, 128]⟩
abbrev S16384x32 : Shape := ⟨2, ![16384, 32]⟩
abbrev S_ : Shape := ⟨0, ![]⟩
abbrev S16384x256 : Shape := ⟨2, ![16384, 256]⟩
abbrev S16384x8x256 : Shape := ⟨3, ![16384, 8, 256]⟩
abbrev S8x16384x256 : Shape := ⟨3, ![8, 16384, 256]⟩
abbrev S16384x1024 : Shape := ⟨2, ![16384, 1024]⟩
abbrev S8x256x256 : Shape := ⟨3, ![8, 256, 256]⟩
abbrev S256x1024 : Shape := ⟨2, ![256, 1024]⟩
abbrev S2048x128 : Shape := ⟨2, ![2048, 128]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩
abbrev S256x128 : Shape := ⟨2, ![256, 128]⟩

abbrev nBuf : Space → Nat
  | .hbm => 27
  | .vmem => 7
  | .smem => 0
  | _ => 0

abbrev bufTy : (tb : Table) → Fin (tcTables nBuf tb) → BufTy
  | .hbm, ⟨0, _⟩ => ⟨S16384x8x128, .f32⟩
  | .hbm, ⟨1, _⟩ => ⟨S16384x8x32, .f32⟩
  | .hbm, ⟨2, _⟩ => ⟨S16384x128, .f32⟩
  | .hbm, ⟨3, _⟩ => ⟨S16384x32, .f32⟩
  | .hbm, ⟨4, _⟩ => ⟨S_, .i32⟩
  | .hbm, ⟨5, _⟩ => ⟨S_, .f32⟩
  | .hbm, ⟨6, _⟩ => ⟨S16384x128, .f32⟩
  | .hbm, ⟨7, _⟩ => ⟨S16384x128, .i32⟩
  | .hbm, ⟨8, _⟩ => ⟨S_, .i32⟩
  | .hbm, ⟨9, _⟩ => ⟨S16384x128, .i32⟩
  | .hbm, ⟨10, _⟩ => ⟨S16384x128, .i1⟩
  | .hbm, ⟨11, _⟩ => ⟨S_, .f32⟩
  | .hbm, ⟨12, _⟩ => ⟨S_, .f32⟩
  | .hbm, ⟨13, _⟩ => ⟨S16384x128, .f32⟩
  | .hbm, ⟨14, _⟩ => ⟨S16384x128, .f32⟩
  | .hbm, ⟨15, _⟩ => ⟨S16384x256, .f32⟩
  | .hbm, ⟨16, _⟩ => ⟨S16384x256, .bf16⟩
  | .hbm, ⟨17, _⟩ => ⟨S_, .i32⟩
  | .hbm, ⟨18, _⟩ => ⟨S_, .f32⟩
  | .hbm, ⟨19, _⟩ => ⟨S16384x8x128, .f32⟩
  | .hbm, ⟨20, _⟩ => ⟨S16384x8x256, .f32⟩
  | .hbm, ⟨21, _⟩ => ⟨S_, .f32⟩
  | .hbm, ⟨22, _⟩ => ⟨S16384x8x256, .f32⟩
  | .hbm, ⟨23, _⟩ => ⟨S16384x8x256, .f32⟩
  | .hbm, ⟨24, _⟩ => ⟨S8x16384x256, .f32⟩
  | .hbm, ⟨25, _⟩ => ⟨S8x16384x256, .bf16⟩
  | .hbm, ⟨26, _⟩ => ⟨S16384x1024, .bf16⟩
  | .local _ .vmem, ⟨0, _⟩ => ⟨S8x256x256, .bf16⟩
  | .local _ .vmem, ⟨1, _⟩ => ⟨S8x256x256, .bf16⟩
  | .local _ .vmem, ⟨2, _⟩ => ⟨S16384x256, .bf16⟩
  | .local _ .vmem, ⟨3, _⟩ => ⟨S256x1024, .bf16⟩
  | .local _ .vmem, ⟨4, _⟩ => ⟨S256x1024, .bf16⟩
  | .local _ .vmem, ⟨5, _⟩ => ⟨S2048x128, .f32⟩
  | .local _ .vmem, ⟨6, _⟩ => ⟨S2048x256, .f32⟩
  | _, _ => ⟨S16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_call1_v0 : Ref sig .tc := ⟨.hbm, 12, rfl⟩
abbrev main_call1_v1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c256_i32 : BitVec 32 := 256#32
  let v11 : BitVec 32 := Scalar.muli arg0 c256_i32
  v11
def k0_off1 (i : grid0.Coords) : Fin 2 → Nat :=
  let arg0 : BitVec 32 := BitVec.ofNat 32 (i 0).val
  let c256_i32 : BitVec 32 := 256#32
  let v11 : BitVec 32 := Scalar.muli arg0 c256_i32
  let v12 : BitVec 32 := v11
  let v13 : Index := Scalar.indexCast v12
  let c0_7 : Index := 0#32
  ![v13.toNat, 0]
@[reducible] def k0_t1_loop (i : grid0.Coords) : Scf.Loop 32 :=
  let c0_i32_20 : BitVec 32 := 0#32
  let arg0 : BitVec 32 := BitVec.ofNat 32 (i 0).val
  let v46 : BitVec 32 := Scalar.subi arg0 c0_i32_20
  let c1_i32 : BitVec 32 := 1#32
  let v48 : BitVec 32 := Scalar.divsi v46 c1_i32
  let v49 : BitVec 32 := Scalar.muli v48 c1_i32
  let v50 : BitVec 32 := Scalar.addi c0_i32_20 v49
  let c1_i32_21 : BitVec 32 := 1#32
  ⟨c0_i32_20, v50, c1_i32_21⟩
def k0_mult2 (i : grid0.Coords) (k0_t1 : Fin (k0_t1_loop i).trips) : BitVec 32 :=
  let c0_i32_20 : BitVec 32 := 0#32
  let c1_i32_21 : BitVec 32 := 1#32
  let arg6 : BitVec 32 := Scf.iv c0_i32_20 c1_i32_21 k0_t1
  let c256_i32_34 : BitVec 32 := 256#32
  let v80 : BitVec 32 := Scalar.muli arg6 c256_i32_34
  v80
def k0_off2 (i : grid0.Coords) (k0_t1 : Fin (k0_t1_loop i).trips) : Fin 2 → Nat :=
  let c0_i32_20 : BitVec 32 := 0#32
  let c1_i32_21 : BitVec 32 := 1#32
  let arg6 : BitVec 32 := Scf.iv c0_i32_20 c1_i32_21 k0_t1
  let c256_i32_34 : BitVec 32 := 256#32
  let v80 : BitVec 32 := Scalar.muli arg6 c256_i32_34
  let v81 : BitVec 32 := v80
  let v82 : Index := Scalar.indexCast v81
  let c0_35 : Index := 0#32
  ![v82.toNat, 0]
@[reducible] def k0_t2_loop (i : grid0.Coords) : Scf.Loop 32 :=
  let c0_i32_20 : BitVec 32 := 0#32
  let arg0 : BitVec 32 := BitVec.ofNat 32 (i 0).val
  let v46 : BitVec 32 := Scalar.subi arg0 c0_i32_20
  let c1_i32 : BitVec 32 := 1#32
  let v48 : BitVec 32 := Scalar.divsi v46 c1_i32
  let v49 : BitVec 32 := Scalar.muli v48 c1_i32
  let v50 : BitVec 32 := Scalar.addi c0_i32_20 v49
  let v47 : BitVec 32 := Scalar.addi c0_i32_20 v46
  let c1_i32_22 : BitVec 32 := 1#32
  ⟨v50, v47, c1_i32_22⟩
def k0_mult3 (i : grid0.Coords) (k0_t2 : Fin (k0_t2_loop i).trips) : BitVec 32 :=
  let c0_i32_20 : BitVec 32 := 0#32
  let arg0 : BitVec 32 := BitVec.ofNat 32 (i 0).val
  let v46 : BitVec 32 := Scalar.subi arg0 c0_i32_20
  let c1_i32 : BitVec 32 := 1#32
  let v48 : BitVec 32 := Scalar.divsi v46 c1_i32
  let v49 : BitVec 32 := Scalar.muli v48 c1_i32
  let v50 : BitVec 32 := Scalar.addi c0_i32_20 v49
  let c1_i32_22 : BitVec 32 := 1#32
  let arg6 : BitVec 32 := Scf.iv v50 c1_i32_22 k0_t2
  let c256_i32_34 : BitVec 32 := 256#32
  let v80 : BitVec 32 := Scalar.muli arg6 c256_i32_34
  v80
def k0_off3 (i : grid0.Coords) (k0_t2 : Fin (k0_t2_loop i).trips) : Fin 2 → Nat :=
  let c0_i32_20 : BitVec 32 := 0#32
  let arg0 : BitVec 32 := BitVec.ofNat 32 (i 0).val
  let v46 : BitVec 32 := Scalar.subi arg0 c0_i32_20
  let c1_i32 : BitVec 32 := 1#32
  let v48 : BitVec 32 := Scalar.divsi v46 c1_i32
  let v49 : BitVec 32 := Scalar.muli v48 c1_i32
  let v50 : BitVec 32 := Scalar.addi c0_i32_20 v49
  let c1_i32_22 : BitVec 32 := 1#32
  let arg6 : BitVec 32 := Scf.iv v50 c1_i32_22 k0_t2
  let c256_i32_34 : BitVec 32 := 256#32
  let v80 : BitVec 32 := Scalar.muli arg6 c256_i32_34
  let v81 : BitVec 32 := v80
  let v82 : Index := Scalar.indexCast v81
  let c0_35 : Index := 0#32
  ![v82.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MlaIdeal.lean ====
variable {F : FTy → Type} [FloatOps F] [Named F]
def κ : String → Option EReal := fun
  | "mask" => some ⊥
  | _ => none
-- ==== MlaRefIdeal.lean ====
abbrev S16384x8x128 : Shape := ⟨3, ![16384, 8, 128]⟩
abbrev S16384x8x32 : Shape := ⟨3, ![16384, 8, 32]⟩
abbrev S16384x128 : Shape := ⟨2, ![16384, 128]⟩
abbrev S16384x32 : Shape := ⟨2, ![16384, 32]⟩
abbrev S16384 : Shape := ⟨1, ![16384]⟩
abbrev S16384x16384x8 : Shape := ⟨3, ![16384, 16384, 8]⟩
abbrev S8x16384x16384 : Shape := ⟨3, ![8, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S128x8x16384 : Shape := ⟨3, ![128, 8, 16384]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x8x128, .f32⟩
  | .hbm, ⟨1, _⟩ => ⟨S16384x8x32, .f32⟩
  | .hbm, ⟨2, _⟩ => ⟨S16384x128, .f32⟩
  | .hbm, ⟨3, _⟩ => ⟨S16384x32, .f32⟩
  | .hbm, ⟨4, _⟩ => ⟨S16384, .i32⟩
  | .hbm, ⟨5, _⟩ => ⟨S16384x16384x8, .f32⟩
  | .hbm, ⟨6, _⟩ => ⟨S8x16384x16384, .f32⟩
  | .hbm, ⟨7, _⟩ => ⟨S16384x16384x8, .f32⟩
  | .hbm, ⟨8, _⟩ => ⟨S8x16384x16384, .f32⟩
  | .hbm, ⟨9, _⟩ => ⟨S8x16384x16384, .f32⟩
  | .hbm, ⟨10, _⟩ => ⟨S_, .f32⟩
  | .hbm, ⟨11, _⟩ => ⟨S8x16384x16384, .f32⟩
  | .hbm, ⟨12, _⟩ => ⟨S8x16384x16384, .f32⟩
  | .hbm, ⟨13, _⟩ => ⟨S1x16384, .i32⟩
  | .hbm, ⟨14, _⟩ => ⟨S16384x1, .i32⟩
  | .hbm, ⟨15, _⟩ => ⟨S16384x16384, .i32⟩
  | .hbm, ⟨16, _⟩ => ⟨S16384x16384, .i32⟩
  | .hbm, ⟨17, _⟩ => ⟨S16384x16384, .i1⟩
  | .hbm, ⟨18, _⟩ => ⟨S_, .f32⟩
  | .hbm, ⟨19, _⟩ => ⟨S_, .f32⟩
  | .hbm, ⟨20, _⟩ => ⟨S8x16384x16384, .i1⟩
  | .hbm, ⟨21, _⟩ => ⟨S8x16384x16384, .f32⟩
  | .hbm, ⟨22, _⟩ => ⟨S8x16384x16384, .f32⟩
  | .hbm, ⟨23, _⟩ => ⟨S_, .f32⟩
  | .hbm, ⟨24, _⟩ => ⟨S8x16384, .f32⟩
  | .hbm, ⟨25, _⟩ => ⟨S_, .f32⟩
  | .hbm, ⟨26, _⟩ => ⟨S8x16384, .f32⟩
  | .hbm, ⟨27, _⟩ => ⟨S8x16384, .f32⟩
  | .hbm, ⟨28, _⟩ => ⟨S8x16384x1, .f32⟩
  | .hbm, ⟨29, _⟩ => ⟨S8x16384x16384, .f32⟩
  | .hbm, ⟨30, _⟩ => ⟨S8x16384x16384, .f32⟩
  | .hbm, ⟨31, _⟩ => ⟨S8x16384x16384, .f32⟩
  | .hbm, ⟨32, _⟩ => ⟨S_, .f32⟩
  | .hbm, ⟨33, _⟩ => ⟨S8x16384, .f32⟩
  | .hbm, ⟨34, _⟩ => ⟨S8x16384x1, .f32⟩
  | .hbm, ⟨35, _⟩ => ⟨S8x16384x16384, .f32⟩
  | .hbm, ⟨36, _⟩ => ⟨S8x16384x16384, .f32⟩
  | .hbm, ⟨37, _⟩ => ⟨S128x8x16384, .f32⟩
  | .hbm, ⟨38, _⟩ => ⟨S16384x8x128, .f32⟩
  | .hbm, ⟨39, _⟩ => ⟨S16384x1024, .f32⟩
  | .hbm, ⟨40, _⟩ => ⟨S16384x1024, .bf16⟩
  | _, _ => ⟨S16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Mlp.lean ====
abbrev S16384x1024 : Shape := ⟨2, ![16384, 1024]⟩
abbrev S1x1024 : Shape := ⟨2, ![1, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S256x1024, .f32⟩
  | .local _ .vmem, ⟨10, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlpRefIdeal.lean ====
abbrev S16384x1024 : Shape := ⟨2, ![16384, 1024]⟩
abbrev S1x1024 : Shape := ⟨2, ![1, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x4096, .f32⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Proj.lean ====
abbrev S16384x1024 : Shape := ⟨2, ![16384, 1024]⟩
abbrev S1x1024 : Shape := ⟨2, ![1, 1024]⟩
abbrev S1024 : Shape := ⟨1, ![1024]⟩
abbrev S1024x4000 : Shape := ⟨2, ![1024, 4000]⟩
abbrev S256 : Shape := ⟨1, ![256]⟩
abbrev S128 : Shape := ⟨1, ![128]⟩
abbrev S256x768 : Shape := ⟨2, ![256, 768]⟩
abbrev S128x8x64 : Shape := ⟨3, ![128, 8, 64]⟩
abbrev S16384 : Shape := ⟨1, ![16384]⟩
abbrev S1024x1920 : Shape := ⟨2, ![1024, 1920]⟩
abbrev S1024x2048 : Shape := ⟨2, ![1024, 2048]⟩
abbrev S1024x32 : Shape := ⟨2, ![1024, 32]⟩
abbrev S_ : Shape := ⟨0, ![]⟩
abbrev S1024x96 : Shape := ⟨2, ![1024, 96]⟩
abbrev S1024x4096 : Shape := ⟨2, ![1024, 4096]⟩
abbrev S256x8x96 : Shape := ⟨3, ![256, 8, 96]⟩
abbrev S256x8x64 : Shape := ⟨3, ![256, 8, 64]⟩
abbrev S256x512 : Shape := ⟨2, ![256, 512]⟩
abbrev S256x8x32 : Shape := ⟨3, ![256, 8, 32]⟩
abbrev S256x8x128 : Shape := ⟨3, ![256, 8, 128]⟩
abbrev S256x1024 : Shape := ⟨2, ![256, 1024]⟩
abbrev S8x8 : Shape := ⟨2, ![8, 8]⟩
abbrev S8x64x128 : Shape := ⟨3, ![8, 64, 128]⟩
abbrev S8x64x1x128 : Shape := ⟨4, ![8, 64, 1, 128]⟩
abbrev S8x1x8x1 : Shape := ⟨4, ![8, 1, 8, 1]⟩
abbrev S8x64x8x128 : Shape := ⟨4, ![8, 64, 8, 128]⟩
abbrev S512x1024 : Shape := ⟨2, ![512, 1024]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S16 : Shape := ⟨1, ![16]⟩
abbrev S1x16 : Shape := ⟨2, ![1, 16]⟩
abbrev S16384x16 : Shape := ⟨2, ![16384, 16]⟩
abbrev S16384x0 : Shape := ⟨2, ![16384, 0]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S1x256 : Shape := ⟨2, ![1, 256]⟩
abbrev S1x128 : Shape := ⟨2, ![1, 128]⟩
abbrev S16384x512 : Shape := ⟨2, ![16384, 512]⟩
abbrev S8x16384x256 : Shape := ⟨3, ![8, 16384, 256]⟩
abbrev S16384x256 : Shape := ⟨2, ![16384, 256]⟩
abbrev S8x16384x128 : Shape := ⟨3, ![8, 16384, 128]⟩
abbrev S64x1x512 : Shape := ⟨3, ![64, 1, 512]⟩
abbrev S256x128 : Shape := ⟨2, ![256, 128]⟩
abbrev S256x32 : Shape := ⟨2, ![256, 32]⟩
abbrev S8x256x256 : Shape := ⟨3, ![8, 256, 256]⟩
abbrev S256x256 : Shape := ⟨2, ![256, 256]⟩
abbrev S8x256x128 : Shape := ⟨3, ![8, 256, 128]⟩
abbrev S1x1x512 : Shape := ⟨3, ![1, 1, 512]⟩
abbrev S256x1 : Shape := ⟨2, ![256, 1]⟩
abbrev S256x4096 : Shape := ⟨2, ![256, 4096]⟩
abbrev S1x256x256 : Shape := ⟨3, ![1, 256, 256]⟩
abbrev S1x256x128 : Shape := ⟨3, ![1, 256, 128]⟩
abbrev S512 : Shape := ⟨1, ![512]⟩
abbrev S1x512 : Shape := ⟨2, ![1, 512]⟩

abbrev nBuf : Space → Nat
  | .hbm => 131
  | .vmem => 47
  | .smem => 0
  | _ => 0

abbrev hbmTy0_0 (i : Nat) : BufTy := match i % 128 with
  | 0 => ⟨S16384x1024, .f32⟩
  | 1 => ⟨S1x1024, .f32⟩
  | 2 => ⟨S1x1024, .f32⟩
  | 3 => ⟨S1024, .f32⟩
  | 4 => ⟨S1024x4000, .f32⟩
  | 5 => ⟨S256, .f32⟩
  | 6 => ⟨S128, .f32⟩
  | 7 => ⟨S256x768, .f32⟩
  | 8 => ⟨S128x8x64, .f32⟩
  | 9 => ⟨S16384, .i32⟩
  | 10 => ⟨S1024x1920, .f32⟩
  | 11 => ⟨S1024x2048, .f32⟩
  | 12 => ⟨S1024x32, .f32⟩
  | 13 => ⟨S_, .f32⟩
  | 14 => ⟨S1024x96, .f32⟩
  | 15 => ⟨S1024x4096, .f32⟩
  | 16 => ⟨S1024x4096, .bf16⟩
  | 17 => ⟨S256x8x96, .f32⟩
  | 18 => ⟨S256x8x64, .f32⟩
  | 19 => ⟨S256x512, .f32⟩
  | 20 => ⟨S256x512, .bf16⟩
  | 21 => ⟨S256x8x32, .f32⟩
  | 22 => ⟨S_, .i32⟩
  | 23 => ⟨S_, .f32⟩
  | 24 => ⟨S256x8x128, .f32⟩
  | 25 => ⟨S256x1024, .f32⟩
  | 26 => ⟨S256x1024, .bf16⟩
  | 27 => ⟨S8x8, .i32⟩
  | 28 => ⟨S8x8, .i32⟩
  | 29 => ⟨S_, .i32⟩
  | 30 => ⟨S8x8, .i32⟩
  | 31 => ⟨S8x8, .i32⟩
  | 32 => ⟨S8x8, .i1⟩
  | 33 => ⟨S8x8, .f32⟩
  | 34 => ⟨S8x64x128, .f32⟩
  | 35 => ⟨S8x64x1x128, .f32⟩
  | 36 => ⟨S8x1x8x1, .f32⟩
  | 37 => ⟨S8x64x8x128, .f32⟩
  | 38 => ⟨S8x64x8x128, .f32⟩
  | 39 => ⟨S8x64x8x128, .f32⟩
  | 40 => ⟨S512x1024, .f32⟩
  | 41 => ⟨S512x1024, .bf16⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S16384, .f32⟩
  | 53 => ⟨S16384x1, .f32⟩
  | 54 => ⟨S1x8, .f32⟩
  | 55 => ⟨S16384x8, .f32⟩
  | 56 => ⟨S16384x8, .f32⟩
  | 57 => ⟨S16384x8, .f32⟩
  | 58 => ⟨S16384x8, .f32⟩
  | 59 => ⟨S16384x8, .f32⟩
  | 60 => ⟨S_, .f32⟩
  | 61 => ⟨S16384x8, .f32⟩
  | 62 => ⟨S_, .f32⟩
  | 63 => ⟨S16384x48, .f32⟩
  | 64 => ⟨S_, .f32⟩
  | 65 => ⟨S16384x48, .f32⟩
  | 66 => ⟨S16384x64, .f32⟩
  | 67 => ⟨S16384x64, .f32⟩
  | 68 => ⟨S16384x8, .f32⟩
  | 69 => ⟨S16384x64, .f32⟩
  | 70 => ⟨S1x16384x1x64, .f32⟩
  | 71 => ⟨S1x16384x2x64, .f32⟩
  | 72 => ⟨S16384x128, .f32⟩
  | 73 => ⟨S1x16384x1x64, .f32⟩
  | 74 => ⟨S1x16384x2x64, .f32⟩
  | 75 => ⟨S16384x128, .f32⟩
  | 76 => ⟨S1x16384x1x64, .f32⟩
  | 77 => ⟨S1x16384x2x64, .f32⟩
  | 78 => ⟨S16384x128, .f32⟩
  | 79 => ⟨S16, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S16384, .f32⟩
  | 90 => ⟨S16384x1, .f32⟩
  | 91 => ⟨S1x16, .f32⟩
  | 92 => ⟨S16384x16, .f32⟩
  | 93 => ⟨S16384x16, .f32⟩
  | 94 => ⟨S16384x16, .f32⟩
  | 95 => ⟨S16384x16, .f32⟩
  | 96 => ⟨S16384x16, .f32⟩
  | 97 => ⟨S_, .f32⟩
  | 98 => ⟨S16384x16, .f32⟩
  | 99 => ⟨S_, .f32⟩
  | 100 => ⟨S16384x0, .f32⟩
  | 101 => ⟨S_, .f32⟩
  | 102 => ⟨S16384x0, .f32⟩
  | 103 => ⟨S16384x32, .f32⟩
  | 104 => ⟨S16384x32, .f32⟩
  | 105 => ⟨S16384x16, .f32⟩
  | 106 => ⟨S16384x32, .f32⟩
  | 107 => ⟨S1x16384x1x32, .f32⟩
  | 108 => ⟨S1x16384x4x32, .f32⟩
  | 109 => ⟨S16384x128, .f32⟩
  | 110 => ⟨S1x16384x1x32, .f32⟩
  | 111 => ⟨S1x16384x4x32, .f32⟩
  | 112 => ⟨S16384x128, .f32⟩
  | 113 => ⟨S1x16384x1x32, .f32⟩
  | 114 => ⟨S1x16384x4x32, .f32⟩
  | 115 => ⟨S16384x128, .f32⟩
  | 116 => ⟨S1x1024, .f32⟩
  | 117 => ⟨S1x256, .f32⟩
  | 118 => ⟨S1x128, .f32⟩
  | 119 => ⟨S16384x512, .f32⟩
  | 120 => ⟨S16384x512, .f32⟩
  | 121 => ⟨S16384x512, .f32⟩
  | 122 => ⟨S16384x128, .f32⟩
  | 123 => ⟨S16384x32, .f32⟩
  | 124 => ⟨S16384x1024, .f32⟩
  | 125 => ⟨S16384x1024, .f32⟩
  | 126 => ⟨S8x16384x256, .bf16⟩
  | 127 => ⟨S16384x256, .bf16⟩
  | _ => ⟨S16384x1024, .f32⟩

abbrev hbmTy0_1 (i : Nat) : BufTy := match i % 128 with
  | 0 => ⟨S8x16384x128, .bf16⟩
  | 1 => ⟨S8x16384x128, .bf16⟩
  | 2 => ⟨S64x1x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x4096, .bf16⟩
  | .local _ .vmem, ⟨6, _⟩ => ⟨S1x256, .f32⟩
  | .local _ .vmem, ⟨7, _⟩ => ⟨S1x128, .f32⟩
  | .local _ .vmem, ⟨8, _⟩ => ⟨S256x512, .bf16⟩
  | .local _ .vmem, ⟨9, _⟩ => ⟨S256x1024, .bf16⟩
  | .local _ .vmem, ⟨10, _⟩ => ⟨S512x1024, .bf16⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x128, .f32⟩
  | .local _ .vmem, ⟨30, _⟩ => ⟨S256x128, .f32⟩
  | .local _ .vmem, ⟨31, _⟩ => ⟨S256x32, .f32⟩
  | .local _ .vmem, ⟨32, _⟩ => ⟨S256x32, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S8x256x256, .bf16⟩
  | .local _ .vmem, ⟨38, _⟩ => ⟨S8x256x256, .bf16⟩
  | .local _ .vmem, ⟨39, _⟩ => ⟨S256x256, .bf16⟩
  | .local _ .vmem, ⟨40, _⟩ => ⟨S256x256, .bf16⟩
  | .local _ .vmem, ⟨41, _⟩ => ⟨S8x256x128, .bf16⟩
  | .local _ .vmem, ⟨42, _⟩ => ⟨S8x256x128, .bf16⟩
  | .local _ .vmem, ⟨43, _⟩ => ⟨S8x256x128, .bf16⟩
  | .local _ .vmem, ⟨44, _⟩ => ⟨S8x256x128, .bf16⟩
  | .local _ .vmem, ⟨45, _⟩ => ⟨S1x1x512, .f32⟩
  | .local _ .vmem, ⟨46, _⟩ => ⟨S1x1x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_10 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94_0 : Ref sig .tc := ⟨.hbm, 119, rfl⟩
abbrev main_v94_1 : Ref sig .tc := ⟨.hbm, 120, rfl⟩
abbrev main_v94_2 : Ref sig .tc := ⟨.hbm, 121, rfl⟩
abbrev main_v94_3 : Ref sig .tc := ⟨.hbm, 122, rfl⟩
abbrev main_v94_4 : Ref sig .tc := ⟨.hbm, 123, rfl⟩
abbrev main_v94_5 : Ref sig .tc := ⟨.hbm, 124, rfl⟩
abbrev main_v94_6 : Ref sig .tc := ⟨.hbm, 125, rfl⟩
abbrev main_v94_7 : Ref sig .tc := ⟨.hbm, 126, rfl⟩
abbrev main_v94_8 : Ref sig .tc := ⟨.hbm, 127, rfl⟩
abbrev main_v94_9 : Ref sig .tc := ⟨.hbm, 128, rfl⟩
abbrev main_v94_10 : Ref sig .tc := ⟨.hbm, 129, rfl⟩
abbrev main_v94_11 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_stg25_0 : Ref sig .tc := ⟨.vmem, 41, rfl⟩
abbrev cc0_stg25_1 : Ref sig .tc := ⟨.vmem, 42, rfl⟩
abbrev cc0_stg26_0 : Ref sig .tc := ⟨.vmem, 43, rfl⟩
abbrev cc0_stg26_1 : Ref sig .tc := ⟨.vmem, 44, rfl⟩
abbrev cc0_stg27_0 : Ref sig .tc := ⟨.vmem, 45, rfl⟩
abbrev cc0_stg27_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40
abbrev cc0_sem25_0 : DmaSem sig := 41
abbrev cc0_sem25_1 : DmaSem sig := 42
abbrev cc0_sem26_0 : DmaSem sig := 43
abbrev cc0_sem26_1 : DmaSem sig := 44
abbrev cc0_sem27_0 : DmaSem sig := 45
abbrev cc0_sem27_1 : DmaSem sig := 46

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x32 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x256x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S8x256x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S8x256x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== ProjRefIdeal.lean ====
abbrev S16384x1024 : Shape := ⟨2, ![16384, 1024]⟩
abbrev S1x1024 : Shape := ⟨2, ![1, 1024]⟩
abbrev S1024 : Shape := ⟨1, ![1024]⟩
abbrev S1024x4000 : Shape := ⟨2, ![1024, 4000]⟩
abbrev S256 : Shape := ⟨1, ![256]⟩
abbrev S128 : Shape := ⟨1, ![128]⟩
abbrev S256x768 : Shape := ⟨2, ![256, 768]⟩
abbrev S128x8x64 : Shape := ⟨3, ![128, 8, 64]⟩
abbrev S16384 : Shape := ⟨1, ![16384]⟩
abbrev S_ : Shape := ⟨0, ![]⟩
abbrev S16384x1 : Shape := ⟨2, ![16384, 1]⟩
abbrev S16384x4000 : Shape := ⟨2, ![16384, 4000]⟩
abbrev S16384x512 : Shape := ⟨2, ![16384, 512]⟩
abbrev S16384x256 : Shape := ⟨2, ![16384, 256]⟩
abbrev S16384x128 : Shape := ⟨2, ![16384, 128]⟩
abbrev S16384x32 : Shape := ⟨2, ![16384, 32]⟩
abbrev S16384x8x64 : Shape := ⟨3, ![16384, 8, 64]⟩
abbrev S16384x8x16 : Shape := ⟨3, ![16384, 8, 16]⟩
abbrev S8 : Shape := ⟨1, ![8]⟩
abbrev S1x8 : Shape := ⟨2, ![1, 8]⟩
abbrev S16384x8 : Shape := ⟨2, ![16384, 8]⟩
abbrev S16384x1x8 : Shape := ⟨3, ![16384, 1, 8]⟩
abbrev S16384x8x8 : Shape := ⟨3, ![16384, 8, 8]⟩
abbrev S16384x8x48 : Shape := ⟨3, ![16384, 8, 48]⟩
abbrev S1x256 : Shape := ⟨2, ![1, 256]⟩
abbrev S16384x768 : Shape := ⟨2, ![16384, 768]⟩
abbrev S16384x8x96 : Shape := ⟨3, ![16384, 8, 96]⟩
abbrev S16384x8x32 : Shape := ⟨3, ![16384, 8, 32]⟩
abbrev S16 : Shape := ⟨1, ![16]⟩
abbrev S1x16 : Shape := ⟨2, ![1, 16]⟩
abbrev S16384x16 : Shape := ⟨2, ![16384, 16]⟩
abbrev S16384x1x16 : Shape := ⟨3, ![16384, 1, 16]⟩
abbrev S8x128x16384 : Shape := ⟨3, ![8, 128, 16384]⟩
abbrev S16384x8x128 : Shape := ⟨3, ![16384, 8, 128]⟩
abbrev S1x128 : Shape := ⟨2, ![1, 128]⟩
abbrev S16384x1x32 : Shape := ⟨3, ![16384, 1, 32]⟩
abbrev S16384x8x256 : Shape := ⟨3, ![16384, 8, 256]⟩
abbrev S16384x95 : Shape := ⟨2, ![16384, 95]⟩
abbrev S8x16384x256 : Shape := ⟨3, ![8, 16384, 256]⟩

abbrev nBuf : Space → Nat
  | .hbm => 234
  | .vmem => 0
  | .smem => 0
  | _ => 0

abbrev hbmTy0_0 (i : Nat) : BufTy := match i % 128 with
  | 0 => ⟨S16384x1024, .f32⟩
  | 1 => ⟨S1x1024, .f32⟩
  | 2 => ⟨S1x1024, .f32⟩
  | 3 => ⟨S1024, .f32⟩
  | 4 => ⟨S1024x4000, .f32⟩
  | 5 => ⟨S256, .f32⟩
  | 6 => ⟨S128, .f32⟩
  | 7 => ⟨S256x768, .f32⟩
  | 8 => ⟨S128x8x64, .f32⟩
  | 9 => ⟨S16384, .i32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x1, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | 26 => ⟨S_, .f32⟩
  | 27 => ⟨S1x1024, .f32⟩
  | 28 => ⟨S1x1024, .f32⟩
  | 29 => ⟨S16384x1024, .f32⟩
  | 30 => ⟨S16384x1024, .f32⟩
  | 31 => ⟨S16384x1024, .f32⟩
  | 32 => ⟨S16384x1024, .f32⟩
  | 33 => ⟨S16384x4000, .f32⟩
  | 34 => ⟨S16384x512, .f32⟩
  | 35 => ⟨S16384x512, .f32⟩
  | 36 => ⟨S16384x512, .f32⟩
  | 37 => ⟨S16384x256, .f32⟩
  | 38 => ⟨S16384x128, .f32⟩
  | 39 => ⟨S16384x32, .f32⟩
  | 40 => ⟨S16384x1024, .f32⟩
  | 41 => ⟨S16384x1024, .f32⟩
  | 42 => ⟨S16384x8x64, .f32⟩
  | 43 => ⟨S16384x8x16, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S16384, .f32⟩
  | 55 => ⟨S16384x1, .f32⟩
  | 56 => ⟨S1x8, .f32⟩
  | 57 => ⟨S16384x8, .f32⟩
  | 58 => ⟨S16384x8, .f32⟩
  | 59 => ⟨S16384x8, .f32⟩
  | 60 => ⟨S16384x8, .f32⟩
  | 61 => ⟨S16384x1x8, .f32⟩
  | 62 => ⟨S16384x8, .f32⟩
  | 63 => ⟨S16384x1x8, .f32⟩
  | 64 => ⟨S16384x8x8, .f32⟩
  | 65 => ⟨S16384x8x8, .f32⟩
  | 66 => ⟨S16384x8x8, .f32⟩
  | 67 => ⟨S16384x8x8, .f32⟩
  | 68 => ⟨S16384x8x8, .f32⟩
  | 69 => ⟨S16384x8x8, .f32⟩
  | 70 => ⟨S16384x8x8, .f32⟩
  | 71 => ⟨S16384x8x8, .f32⟩
  | 72 => ⟨S16384x8x8, .f32⟩
  | 73 => ⟨S16384x8x8, .f32⟩
  | 74 => ⟨S16384x8x8, .f32⟩
  | 75 => ⟨S16384x8x8, .f32⟩
  | 76 => ⟨S16384x8x16, .f32⟩
  | 77 => ⟨S16384x8x48, .f32⟩
  | 78 => ⟨S16384x8x64, .f32⟩
  | 79 => ⟨S16384x8x64, .f32⟩
  | 80 => ⟨S16384x8x16, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S_, .f32⟩
  | 89 => ⟨S8, .f32⟩
  | 90 => ⟨S8, .f32⟩
  | 91 => ⟨S16384, .f32⟩
  | 92 => ⟨S16384x1, .f32⟩
  | 93 => ⟨S1x8, .f32⟩
  | 94 => ⟨S16384x8, .f32⟩
  | 95 => ⟨S16384x8, .f32⟩
  | 96 => ⟨S16384x8, .f32⟩
  | 97 => ⟨S16384x8, .f32⟩
  | 98 => ⟨S16384x1x8, .f32⟩
  | 99 => ⟨S16384x8, .f32⟩
  | 100 => ⟨S16384x1x8, .f32⟩
  | 101 => ⟨S16384x8x8, .f32⟩
  | 102 => ⟨S16384x8x8, .f32⟩
  | 103 => ⟨S16384x8x8, .f32⟩
  | 104 => ⟨S16384x8x8, .f32⟩
  | 105 => ⟨S16384x8x8, .f32⟩
  | 106 => ⟨S16384x8x8, .f32⟩
  | 107 => ⟨S16384x8x8, .f32⟩
  | 108 => ⟨S16384x8x8, .f32⟩
  | 109 => ⟨S16384x8x8, .f32⟩
  | 110 => ⟨S16384x8x8, .f32⟩
  | 111 => ⟨S16384x8x8, .f32⟩
  | 112 => ⟨S16384x8x8, .f32⟩
  | 113 => ⟨S16384x8x16, .f32⟩
  | 114 => ⟨S16384x8x48, .f32⟩
  | 115 => ⟨S16384x8x64, .f32⟩
  | 116 => ⟨S16384x256, .f32⟩
  | 117 => ⟨S_, .f32⟩
  | 118 => ⟨S16384, .f32⟩
  | 119 => ⟨S16384x1, .f32⟩
  | 120 => ⟨S_, .f32⟩
  | 121 => ⟨S16384x1, .f32⟩
  | 122 => ⟨S16384x1, .f32⟩
  | 123 => ⟨S_, .f32⟩
  | 124 => ⟨S16384x1, .f32⟩
  | 125 => ⟨S16384x1, .f32⟩
  | 126 => ⟨S16384x1, .f32⟩
  | 127 => ⟨S16384x256, .f32⟩
  | _ => ⟨S16384x1024, .f32⟩

abbrev hbmTy0_1 (i : Nat) : BufTy := match i % 128 with
  | 0 => ⟨S16384x256, .f32⟩
  | 1 => ⟨S1x256, .f32⟩
  | 2 => ⟨S16384x256, .f32⟩
  | 3 => ⟨S16384x256, .f32⟩
  | 4 => ⟨S16384x768, .f32⟩
  | 5 => ⟨S16384x8x96, .f32⟩
  | 6 => ⟨S16384x8x32, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16384, .f32⟩
  | 18 => ⟨S16384x1, .f32⟩
  | 19 => ⟨S1x16, .f32⟩
  | 20 => ⟨S16384x16, .f32⟩
  | 21 => ⟨S16384x16, .f32⟩
  | 22 => ⟨S16384x16, .f32⟩
  | 23 => ⟨S16384x16, .f32⟩
  | 24 => ⟨S16384x1x16, .f32⟩
  | 25 => ⟨S16384x16, .f32⟩
  | 26 => ⟨S16384x1x16, .f32⟩
  | 27 => ⟨S16384x8x16, .f32⟩
  | 28 => ⟨S16384x8x16, .f32⟩
  | 29 => ⟨S16384x8x16, .f32⟩
  | 30 => ⟨S16384x8x16, .f32⟩
  | 31 => ⟨S16384x8x16, .f32⟩
  | 32 => ⟨S16384x8x16, .f32⟩
  | 33 => ⟨S16384x8x16, .f32⟩
  | 34 => ⟨S16384x8x16, .f32⟩
  | 35 => ⟨S16384x8x16, .f32⟩
  | 36 => ⟨S16384x8x16, .f32⟩
  | 37 => ⟨S16384x8x16, .f32⟩
  | 38 => ⟨S16384x8x16, .f32⟩
  | 39 => ⟨S16384x8x32, .f32⟩
  | 40 => ⟨S16384x8x64, .f32⟩
  | 41 => ⟨S8x128x16384, .f32⟩
  | 42 => ⟨S16384x8x128, .f32⟩
  | 43 => ⟨S16384x128, .f32⟩
  | 44 => ⟨S_, .f32⟩
  | 45 => ⟨S16384, .f32⟩
  | 46 => ⟨S16384x1, .f32⟩
  | 47 => ⟨S_, .f32⟩
  | 48 => ⟨S16384x1, .f32⟩
  | 49 => ⟨S16384x1, .f32⟩
  | 50 => ⟨S_, .f32⟩
  | 51 => ⟨S16384x1, .f32⟩
  | 52 => ⟨S16384x1, .f32⟩
  | 53 => ⟨S16384x1, .f32⟩
  | 54 => ⟨S16384x128, .f32⟩
  | 55 => ⟨S16384x128, .f32⟩
  | 56 => ⟨S1x128, .f32⟩
  | 57 => ⟨S16384x128, .f32⟩
  | 58 => ⟨S16384x128, .f32⟩
  | 59 => ⟨S16384x1x32, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S_, .f32⟩
  | 68 => ⟨S16, .f32⟩
  | 69 => ⟨S16, .f32⟩
  | 70 => ⟨S16384, .f32⟩
  | 71 => ⟨S16384x1, .f32⟩
  | 72 => ⟨S1x16, .f32⟩
  | 73 => ⟨S16384x16, .f32⟩
  | 74 => ⟨S16384x16, .f32⟩
  | 75 => ⟨S16384x16, .f32⟩
  | 76 => ⟨S16384x16, .f32⟩
  | 77 => ⟨S16384x1x16, .f32⟩
  | 78 => ⟨S16384x16, .f32⟩
  | 79 => ⟨S16384x1x16, .f32⟩
  | 80 => ⟨S16384x1x16, .f32⟩
  | 81 => ⟨S16384x1x16, .f32⟩
  | 82 => ⟨S16384x1x16, .f32⟩
  | 83 => ⟨S16384x1x16, .f32⟩
  | 84 => ⟨S16384x1x16, .f32⟩
  | 85 => ⟨S16384x1x16, .f32⟩
  | 86 => ⟨S16384x1x16, .f32⟩
  | 87 => ⟨S16384x1x16, .f32⟩
  | 88 => ⟨S16384x1x32, .f32⟩
  | 89 => ⟨S16384x32, .f32⟩
  | 90 => ⟨S_, .f32⟩
  | 91 => ⟨S16384x8x96, .f32⟩
  | 92 => ⟨S16384x8x256, .f32⟩
  | 93 => ⟨S_, .f32⟩
  | 94 => ⟨S16384x8x256, .f32⟩
  | 95 => ⟨S16384x8x256, .f32⟩
  | 96 => ⟨S_, .f32⟩
  | 97 => ⟨S16384x1, .f32⟩
  | 98 => ⟨S_, .f32⟩
  | 99 => ⟨S16384x95, .f32⟩
  | 100 => ⟨S16384x256, .f32⟩
  | 101 => ⟨S16384x512, .f32⟩
  | 102 => ⟨S16384x512, .f32⟩
  | 103 => ⟨S8x16384x256, .f32⟩
  | 104 => ⟨S8x16384x256, .bf16⟩
  | 105 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_6 : Ref sig .tc := ⟨.hbm, 82, rfl⟩
abbrev main_v66 : Ref sig .tc := ⟨.hbm, 83, rfl⟩
abbrev main_v67 : Ref sig .tc := ⟨.hbm, 84, rfl⟩
abbrev main_cst_7 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_cst_9 : Ref sig .tc := ⟨.hbm, 117, rfl⟩
abbrev main_v98 : Ref sig .tc := ⟨.hbm, 118, rfl⟩
abbrev main_v99 : Ref sig .tc := ⟨.hbm, 119, rfl⟩
abbrev main_cst_10 : Ref sig .tc := ⟨.hbm, 120, rfl⟩
abbrev main_v100 : Ref sig .tc := ⟨.hbm, 121, rfl⟩
abbrev main_v101 : Ref sig .tc := ⟨.hbm, 122, rfl⟩
abbrev main_cst_11 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_12 : Ref sig .tc := ⟨.hbm, 136, rfl⟩
abbrev main_v114 : Ref sig .tc := ⟨.hbm, 137, rfl⟩
abbrev main_v115 : Ref sig .tc := ⟨.hbm, 138, rfl⟩
abbrev main_cst_13 : Ref sig .tc := ⟨.hbm, 139, rfl⟩
abbrev main_v116 : Ref sig .tc := ⟨.hbm, 140, rfl⟩
abbrev main_v117 : Ref sig .tc := ⟨.hbm, 141, rfl⟩
abbrev main_cst_14 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_cst_15 : Ref sig .tc := ⟨.hbm, 172, rfl⟩
abbrev main_v147 : Ref sig .tc := ⟨.hbm, 173, rfl⟩
abbrev main_v148 : Ref sig .tc := ⟨.hbm, 174, rfl⟩
abbrev main_cst_16 : Ref sig .tc := ⟨.hbm, 175, rfl⟩
abbrev main_v149 : Ref sig .tc := ⟨.hbm, 176, rfl⟩
abbrev main_v150 : Ref sig .tc := ⟨.hbm, 177, rfl⟩
abbrev main_cst_17 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_cst_18 : Ref sig .tc := ⟨.hbm, 189, rfl⟩
abbrev main_v161 : Ref sig .tc := ⟨.hbm, 190, rfl⟩
abbrev main_v162 : Ref sig .tc := ⟨.hbm, 191, rfl⟩
abbrev main_cst_19 : Ref sig .tc := ⟨.hbm, 192, rfl⟩
abbrev main_v163 : Ref sig .tc := ⟨.hbm, 193, rfl⟩
abbrev main_v164 : Ref sig .tc := ⟨.hbm, 194, rfl⟩
abbrev main_cst_20 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_cst_21 : Ref sig .tc := ⟨.hbm, 218, rfl⟩
abbrev main_v187 : Ref sig .tc := ⟨.hbm, 219, rfl⟩
abbrev main_v188 : Ref sig .tc := ⟨.hbm, 220, rfl⟩
abbrev main_cst_22 : Ref sig .tc := ⟨.hbm, 221, rfl⟩
abbrev main_v189 : Ref sig .tc := ⟨.hbm, 222, rfl⟩
abbrev main_v190 : Ref sig .tc := ⟨.hbm, 223, rfl⟩
abbrev main_cst_23 : Ref sig .tc := ⟨.hbm, 224, rfl⟩
abbrev main_v191 : Ref sig .tc := ⟨.hbm, 225, rfl⟩
abbrev main_cst_24 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩

abbrev nD : Nat := 1
abbrev τ : Topo := Topo.v7x

variable {F : FTy → Type} [FloatOps F]
-- ==== Merge.lean ====
abbrev S8x16384x128 : Shape := ⟨3, ![8, 16384, 128]⟩
abbrev S16384x1024 : Shape := ⟨2, ![16384, 1024]⟩
abbrev S1x1024 : Shape := ⟨2, ![1, 1024]⟩
abbrev S1024 : Shape := ⟨1, ![1024]⟩
abbrev S128x8x64 : Shape := ⟨3, ![128, 8, 64]⟩
abbrev S512x1024 : Shape := ⟨2, ![512, 1024]⟩
abbrev S1024x1024 : Shape := ⟨2, ![1024, 1024]⟩
abbrev S8x8 : Shape := ⟨2, ![8, 8]⟩
abbrev S_ : Shape := ⟨0, ![]⟩
abbrev S8x128x64 : Shape := ⟨3, ![8, 128, 64]⟩
abbrev S8x128x1x64 : Shape := ⟨4, ![8, 128, 1, 64]⟩
abbrev S8x1x8x1 : Shape := ⟨4, ![8, 1, 8, 1]⟩
abbrev S8x128x8x64 : Shape := ⟨4, ![8, 128, 8, 64]⟩
abbrev S1024x512 : Shape := ⟨2, ![1024, 512]⟩
abbrev S8x64x1024 : Shape := ⟨3, ![8, 64, 1024]⟩
abbrev S8x128x1024 : Shape := ⟨3, ![8, 128, 1024]⟩
abbrev S8x256x128 : Shape := ⟨3, ![8, 256, 128]⟩
abbrev S256x1024 : Shape := ⟨2, ![256, 1024]⟩
abbrev S1x256x128 : Shape := ⟨3, ![1, 256, 128]⟩
abbrev S256x128 : Shape := ⟨2, ![256, 128]⟩
abbrev S1x128x1024 : Shape := ⟨3, ![1, 128, 1024]⟩
abbrev S128x1024 : Shape := ⟨2, ![128, 1024]⟩
abbrev S256x512 : Shape := ⟨2, ![256, 512]⟩
abbrev S256 : Shape := ⟨1, ![256]⟩
abbrev S256x1 : Shape := ⟨2, ![256, 1]⟩

abbrev nBuf : Space → Nat
  | .hbm => 35
  | .vmem => 18
  | .smem => 0
  | _ => 0

abbrev bufTy : (tb : Table) → Fin (tcTables nBuf tb) → BufTy
  | .hbm, ⟨0, _⟩ => ⟨S8x16384x128, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S1024, .f32⟩
  | .hbm, ⟨7, _⟩ => ⟨S128x8x64, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S8x128x64, .f32⟩
  | .hbm, ⟨19, _⟩ => ⟨S8x128x1x64, .f32⟩
  | .hbm, ⟨20, _⟩ => ⟨S8x1x8x1, .f32⟩
  | .hbm, ⟨21, _⟩ => ⟨S8x128x8x64, .f32⟩
  | .hbm, ⟨22, _⟩ => ⟨S8x128x8x64, .f32⟩
  | .hbm, ⟨23, _⟩ => ⟨S8x128x8x64, .f32⟩
  | .hbm, ⟨24, _⟩ => ⟨S1024x512, .f32⟩
  | .hbm, ⟨25, _⟩ => ⟨S1024x512, .bf16⟩
  | .hbm, ⟨26, _⟩ => ⟨S8x64x1024, .f32⟩
  | .hbm, ⟨27, _⟩ => ⟨S_, .i32⟩
  | .hbm, ⟨28, _⟩ => ⟨S_, .f32⟩
  | .hbm, ⟨29, _⟩ => ⟨S8x128x1024, .f32⟩
  | .hbm, ⟨30, _⟩ => ⟨S1x1024, .f32⟩
  | .hbm, ⟨31, _⟩ => ⟨S8x128x1024, .bf16⟩
  | .hbm, ⟨32, _⟩ => ⟨S512x1024, .bf16⟩
  | .hbm, ⟨33, _⟩ => ⟨S1024x1024, .bf16⟩
  | .hbm, ⟨34, _⟩ => ⟨S16384x1024, .f32⟩
  | .local _ .vmem, ⟨0, _⟩ => ⟨S8x256x128, .bf16⟩
  | .local _ .vmem, ⟨1, _⟩ => ⟨S8x256x128, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S8x128x1024, .bf16⟩
  | .local _ .vmem, ⟨13, _⟩ => ⟨S1024x512, .bf16⟩
  | .local _ .vmem, ⟨14, _⟩ => ⟨S512x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | _, _ => ⟨S8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S8x16384x128 : Shape := ⟨3, ![8, 16384, 128]⟩
abbrev S16384x1024 : Shape := ⟨2, ![16384, 1024]⟩
abbrev S1x1024 : Shape := ⟨2, ![1, 1024]⟩
abbrev S1024 : Shape := ⟨1, ![1024]⟩
abbrev S128x8x64 : Shape := ⟨3, ![128, 8, 64]⟩
abbrev S512x1024 : Shape := ⟨2, ![512, 1024]⟩
abbrev S1024x1024 : Shape := ⟨2, ![1024, 1024]⟩
abbrev S8x16384x64 : Shape := ⟨3, ![8, 16384, 64]⟩
abbrev S16384x8x64 : Shape := ⟨3, ![16384, 8, 64]⟩
abbrev S16384x8x128 : Shape := ⟨3, ![16384, 8, 128]⟩
abbrev S16384x512 : Shape := ⟨2, ![16384, 512]⟩
abbrev S8x64x16384 : Shape := ⟨3, ![8, 64, 16384]⟩
abbrev S_ : Shape := ⟨0, ![]⟩
abbrev S16384 : Shape := ⟨1, ![16384]⟩
abbrev S16384x1 : Shape := ⟨2, ![16384, 1]⟩

abbrev nBuf : Space → Nat
  | .hbm => 61
  | .vmem => 0
  | .smem => 0
  | _ => 0

abbrev bufTy : (tb : Table) → Fin (tcTables nBuf tb) → BufTy
  | .hbm, ⟨0, _⟩ => ⟨S8x16384x128, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S1024, .f32⟩
  | .hbm, ⟨7, _⟩ => ⟨S128x8x64, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S8x16384x64, .bf16⟩
  | .hbm, ⟨12, _⟩ => ⟨S16384x8x64, .bf16⟩
  | .hbm, ⟨13, _⟩ => ⟨S16384x8x64, .f32⟩
  | .hbm, ⟨14, _⟩ => ⟨S16384x8x128, .bf16⟩
  | .hbm, ⟨15, _⟩ => ⟨S16384x8x128, .f32⟩
  | .hbm, ⟨16, _⟩ => ⟨S16384x512, .f32⟩
  | .hbm, ⟨17, _⟩ => ⟨S16384x1024, .f32⟩
  | .hbm, ⟨18, _⟩ => ⟨S8x64x16384, .f32⟩
  | .hbm, ⟨19, _⟩ => ⟨S16384x8x64, .f32⟩
  | .hbm, ⟨20, _⟩ => ⟨S16384x512, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | _, _ => ⟨S8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== MlpSample.lean ====
abbrev S128x4x1024 : Shape := ⟨3, ![128, 4, 1024]⟩
abbrev S128x1024 : Shape := ⟨2, ![128, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩

abbrev nBuf : Space → Nat
  | .hbm => 20
  | .vmem => 14
  | .smem => 0
  | _ => 0

abbrev bufTy : (tb : Table) → Fin (tcTables nBuf tb) → BufTy
  | .hbm, ⟨0, _⟩ => ⟨S128x4x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S512x1024, .f32⟩
  | .hbm, ⟨9, _⟩ => ⟨S128x4x1024, .f32⟩
  | .hbm, ⟨10, _⟩ => ⟨S512x1024, .f32⟩
  | .hbm, ⟨11, _⟩ => ⟨S128x4x1024, .f32⟩
  | .hbm, ⟨12, _⟩ => ⟨S512x1024, .f32⟩
  | .hbm, ⟨13, _⟩ => ⟨S128x4x1024, .f32⟩
  | .hbm, ⟨14, _⟩ => ⟨S512x1024, .f32⟩
  | .hbm, ⟨15, _⟩ => ⟨S1x1024, .f32⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S256x1024, .f32⟩
  | .local _ .vmem, ⟨13, _⟩ => ⟨S256x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlpSampleRefIdeal.lean ====
abbrev S128x4x1024 : Shape := ⟨3, ![128, 4, 1024]⟩
abbrev S128x1024 : Shape := ⟨2, ![128, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x1x1024 : Shape := ⟨3, ![128, 1, 1024]⟩
abbrev S128x4x4096 : Shape := ⟨3, ![128, 4, 4096]⟩
abbrev S512x1024 : Shape := ⟨2, ![512, 1024]⟩

abbrev nBuf : Space → Nat
  | .hbm => 60
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S128x4x1024, .f32⟩
  | .hbm, ⟨9, _⟩ => ⟨S_, .f32⟩
  | .hbm, ⟨10, _⟩ => ⟨S128x4, .f32⟩
  | .hbm, ⟨11, _⟩ => ⟨S128x4x1, .f32⟩
  | .hbm, ⟨12, _⟩ => ⟨S_, .f32⟩
  | .hbm, ⟨13, _⟩ => ⟨S128x4x1, .f32⟩
  | .hbm, ⟨14, _⟩ => ⟨S128x4x1, .f32⟩
  | .hbm, ⟨15, _⟩ => ⟨S_, .f32⟩
  | .hbm, ⟨16, _⟩ => ⟨S128x4x1, .f32⟩
  | .hbm, ⟨17, _⟩ => ⟨S128x4x1, .f32⟩
  | .hbm, ⟨18, _⟩ => ⟨S128x4x1, .f32⟩
  | .hbm, ⟨19, _⟩ => ⟨S128x4x1024, .f32⟩
  | .hbm, ⟨20, _⟩ => ⟨S128x4x1024, .f32⟩
  | .hbm, ⟨21, _⟩ => ⟨S1x1x1024, .f32⟩
  | .hbm, ⟨22, _⟩ => ⟨S128x4x1024, .f32⟩
  | .hbm, ⟨23, _⟩ => ⟨S128x4x1024, .f32⟩
  | .hbm, ⟨24, _⟩ => ⟨S128x1x1024, .f32⟩
  | .hbm, ⟨25, _⟩ => ⟨S_, .f32⟩
  | .hbm, ⟨26, _⟩ => ⟨S128x1x1024, .f32⟩
  | .hbm, ⟨27, _⟩ => ⟨S128x1x1024, .f32⟩
  | .hbm, ⟨28, _⟩ => ⟨S128x4x1024, .f32⟩
  | .hbm, ⟨29, _⟩ => ⟨S128x4x1024, .f32⟩
  | .hbm, ⟨30, _⟩ => ⟨S128x1x1024, .f32⟩
  | .hbm, ⟨31, _⟩ => ⟨S128x4x1024, .f32⟩
  | .hbm, ⟨32, _⟩ => ⟨S128x4x1024, .f32⟩
  | .hbm, ⟨33, _⟩ => ⟨S128x4x4096, .f32⟩
  | .hbm, ⟨34, _⟩ => ⟨S_, .f32⟩
  | .hbm, ⟨35, _⟩ => ⟨S128x4x4096, .f32⟩
  | .hbm, ⟨36, _⟩ => ⟨S128x4x4096, .f32⟩
  | .hbm, ⟨37, _⟩ => ⟨S128x1x1024, .f32⟩
  | .hbm, ⟨38, _⟩ => ⟨S128x4x4096, .f32⟩
  | .hbm, ⟨39, _⟩ => ⟨S128x4x1024, .f32⟩
  | .hbm, ⟨40, _⟩ => ⟨S128x4x1024, .f32⟩
  | .hbm, ⟨41, _⟩ => ⟨S_, .f32⟩
  | .hbm, ⟨42, _⟩ => ⟨S128x4, .f32⟩
  | .hbm, ⟨43, _⟩ => ⟨S128x4x1, .f32⟩
  | .hbm, ⟨44, _⟩ => ⟨S_, .f32⟩
  | .hbm, ⟨45, _⟩ => ⟨S128x4x1, .f32⟩
  | .hbm, ⟨46, _⟩ => ⟨S128x4x1, .f32⟩
  | .hbm, ⟨47, _⟩ => ⟨S_, .f32⟩
  | .hbm, ⟨48, _⟩ => ⟨S128x4x1, .f32⟩
  | .hbm, ⟨49, _⟩ => ⟨S128x4x1, .f32⟩
  | .hbm, ⟨50, _⟩ => ⟨S128x4x1, .f32⟩
  | .hbm, ⟨51, _⟩ => ⟨S128x4x1024, .f32⟩
  | .hbm, ⟨52, _⟩ => ⟨S128x4x1024, .f32⟩
  | .hbm, ⟨53, _⟩ => ⟨S1x1x1024, .f32⟩
  | .hbm, ⟨54, _⟩ => ⟨S128x4x1024, .f32⟩
  | .hbm, ⟨55, _⟩ => ⟨S128x4x1024, .f32⟩
  | .hbm, ⟨56, _⟩ => ⟨S128x4x1024, .f32⟩
  | .hbm, ⟨57, _⟩ => ⟨S128x4x1024, .f32⟩
  | .hbm, ⟨58, _⟩ => ⟨S128x4x1024, .f32⟩
  | .hbm, ⟨59, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== ProjSample.lean ====
abbrev S128x4x1024 : Shape := ⟨3, ![128, 4, 1024]⟩
abbrev S128x1024 : Shape := ⟨2, ![128, 1024]⟩
abbrev S1024 : Shape := ⟨1, ![1024]⟩
abbrev S1024x4000 : Shape := ⟨2, ![1024, 4000]⟩
abbrev S256 : Shape := ⟨1, ![256]⟩
abbrev S128 : Shape := ⟨1, ![128]⟩
abbrev S256x768 : Shape := ⟨2, ![256, 768]⟩
abbrev S128x8x64 : Shape := ⟨3, ![128, 8, 64]⟩
abbrev S4 : Shape := ⟨1, ![4]⟩
abbrev S1x4 : Shape := ⟨2, ![1, 4]⟩
abbrev S128x4 : Shape := ⟨2, ![128, 4]⟩
abbrev S512 : Shape := ⟨1, ![512]⟩
abbrev S_ : Shape := ⟨0, ![]⟩
abbrev S1024x1920 : Shape := ⟨2, ![1024, 1920]⟩
abbrev S1024x2048 : Shape := ⟨2, ![1024, 2048]⟩
abbrev S1024x32 : Shape := ⟨2, ![1024, 32]⟩
abbrev S1024x96 : Shape := ⟨2, ![1024, 96]⟩
abbrev S1024x4096 : Shape := ⟨2, ![1024, 4096]⟩
abbrev S256x8x96 : Shape := ⟨3, ![256, 8, 96]⟩
abbrev S256x8x64 : Shape := ⟨3, ![256, 8, 64]⟩
abbrev S256x512 : Shape := ⟨2, ![256, 512]⟩
abbrev S256x8x32 : Shape := ⟨3, ![256, 8, 32]⟩
abbrev S256x8x128 : Shape := ⟨3, ![256, 8, 128]⟩
abbrev S256x1024 : Shape := ⟨2, ![256, 1024]⟩
abbrev S8x8 : Shape := ⟨2, ![8, 8]⟩
abbrev S8x64x128 : Shape := ⟨3, ![8, 64, 128]⟩
abbrev S8x64x1x128 : Shape := ⟨4, ![8, 64, 1, 128]⟩
abbrev S8x1x8x1 : Shape := ⟨4, ![8, 1, 8, 1]⟩
abbrev S8x64x8x128 : Shape := ⟨4, ![8, 64, 8, 128]⟩
abbrev S512x1024 : Shape := ⟨2, ![512, 1024]⟩
abbrev S8 : Shape := ⟨1, ![8]⟩
abbrev S512x1 : Shape := ⟨2, ![512, 1]⟩
abbrev S1x8 : Shape := ⟨2, ![1, 8]⟩
abbrev S512x8 : Shape := ⟨2, ![512, 8]⟩
abbrev S512x48 : Shape := ⟨2, ![512, 48]⟩
abbrev S512x64 : Shape := ⟨2, ![512, 64]⟩
abbrev S1x512x1x64 : Shape := ⟨4, ![1, 512, 1, 64]⟩
abbrev S1x512x2x64 : Shape := ⟨4, ![1, 512, 2, 64]⟩
abbrev S512x128 : Shape := ⟨2, ![512, 128]⟩
abbrev S16 : Shape := ⟨1, ![16]⟩
abbrev S1x16 : Shape := ⟨2, ![1, 16]⟩
abbrev S512x16 : Shape := ⟨2, ![512, 16]⟩
abbrev S512x0 : Shape := ⟨2, ![512, 0]⟩
abbrev S512x32 : Shape := ⟨2, ![512, 32]⟩
abbrev S1x512x1x32 : Shape := ⟨4, ![1, 512, 1, 32]⟩
abbrev S1x512x4x32 : Shape := ⟨4, ![1, 512, 4, 32]⟩
abbrev S1x1024 : Shape := ⟨2, ![1, 1024]⟩
abbrev S1x256 : Shape := ⟨2, ![1, 256]⟩
abbrev S1x128 : Shape := ⟨2, ![1, 128]⟩
abbrev S512x512 : Shape := ⟨2, ![512, 512]⟩
abbrev S8x512x256 : Shape := ⟨3, ![8, 512, 256]⟩
abbrev S512x256 : Shape := ⟨2, ![512, 256]⟩
abbrev S256x128 : Shape := ⟨2, ![256, 128]⟩
abbrev S256x32 : Shape := ⟨2, ![256, 32]⟩
abbrev S8x256x256 : Shape := ⟨3, ![8, 256, 256]⟩
abbrev S256x256 : Shape := ⟨2, ![256, 256]⟩
abbrev S256x1 : Shape := ⟨2, ![256, 1]⟩
abbrev S256x4096 : Shape := ⟨2, ![256, 4096]⟩
abbrev S1x256x256 : Shape := ⟨3, ![1, 256, 256]⟩

abbrev nBuf : Space → Nat
  | .hbm => 139
  | .vmem => 43
  | .smem => 0
  | _ => 0

abbrev hbmTy0_0 (i : Nat) : BufTy := match i % 128 with
  | 0 => ⟨S128x4x1024, .f32⟩
  | 1 => ⟨S128x1024, .f32⟩
  | 2 => ⟨S128x1024, .f32⟩
  | 3 => ⟨S1024, .f32⟩
  | 4 => ⟨S1024x4000, .f32⟩
  | 5 => ⟨S256, .f32⟩
  | 6 => ⟨S128, .f32⟩
  | 7 => ⟨S256x768, .f32⟩
  | 8 => ⟨S128x8x64, .f32⟩
  | 9 => ⟨S4, .i32⟩
  | 10 => ⟨S1x4, .i32⟩
  | 11 => ⟨S128x4, .i32⟩
  | 12 => ⟨S512, .i32⟩
  | 13 => ⟨S_, .i32⟩
  | 14 => ⟨S512, .i32⟩
  | 15 => ⟨S512, .i32⟩
  | 16 => ⟨S1024x1920, .f32⟩
  | 17 => ⟨S1024x2048, .f32⟩
  | 18 => ⟨S1024x32, .f32⟩
  | 19 => ⟨S_, .f32⟩
  | 20 => ⟨S1024x96, .f32⟩
  | 21 => ⟨S1024x4096, .f32⟩
  | 22 => ⟨S1024x4096, .bf16⟩
  | 23 => ⟨S256x8x96, .f32⟩
  | 24 => ⟨S256x8x64, .f32⟩
  | 25 => ⟨S256x512, .f32⟩
  | 26 => ⟨S256x512, .bf16⟩
  | 27 => ⟨S256x8x32, .f32⟩
  | 28 => ⟨S_, .i32⟩
  | 29 => ⟨S_, .f32⟩
  | 30 => ⟨S256x8x128, .f32⟩
  | 31 => ⟨S256x1024, .f32⟩
  | 32 => ⟨S256x1024, .bf16⟩
  | 33 => ⟨S8x8, .i32⟩
  | 34 => ⟨S8x8, .i32⟩
  | 35 => ⟨S_, .i32⟩
  | 36 => ⟨S8x8, .i32⟩
  | 37 => ⟨S8x8, .i32⟩
  | 38 => ⟨S8x8, .i1⟩
  | 39 => ⟨S8x8, .f32⟩
  | 40 => ⟨S8x64x128, .f32⟩
  | 41 => ⟨S8x64x1x128, .f32⟩
  | 42 => ⟨S8x1x8x1, .f32⟩
  | 43 => ⟨S8x64x8x128, .f32⟩
  | 44 => ⟨S8x64x8x128, .f32⟩
  | 45 => ⟨S8x64x8x128, .f32⟩
  | 46 => ⟨S512x1024, .f32⟩
  | 47 => ⟨S512x1024, .bf16⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S512, .f32⟩
  | 59 => ⟨S512x1, .f32⟩
  | 60 => ⟨S1x8, .f32⟩
  | 61 => ⟨S512x8, .f32⟩
  | 62 => ⟨S512x8, .f32⟩
  | 63 => ⟨S512x8, .f32⟩
  | 64 => ⟨S512x8, .f32⟩
  | 65 => ⟨S512x8, .f32⟩
  | 66 => ⟨S_, .f32⟩
  | 67 => ⟨S512x8, .f32⟩
  | 68 => ⟨S_, .f32⟩
  | 69 => ⟨S512x48, .f32⟩
  | 70 => ⟨S_, .f32⟩
  | 71 => ⟨S512x48, .f32⟩
  | 72 => ⟨S512x64, .f32⟩
  | 73 => ⟨S512x64, .f32⟩
  | 74 => ⟨S512x8, .f32⟩
  | 75 => ⟨S512x64, .f32⟩
  | 76 => ⟨S1x512x1x64, .f32⟩
  | 77 => ⟨S1x512x2x64, .f32⟩
  | 78 => ⟨S512x128, .f32⟩
  | 79 => ⟨S1x512x1x64, .f32⟩
  | 80 => ⟨S1x512x2x64, .f32⟩
  | 81 => ⟨S512x128, .f32⟩
  | 82 => ⟨S1x512x1x64, .f32⟩
  | 83 => ⟨S1x512x2x64, .f32⟩
  | 84 => ⟨S512x128, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S_, .f32⟩
  | 93 => ⟨S16, .f32⟩
  | 94 => ⟨S16, .f32⟩
  | 95 => ⟨S512, .f32⟩
  | 96 => ⟨S512x1, .f32⟩
  | 97 => ⟨S1x16, .f32⟩
  | 98 => ⟨S512x16, .f32⟩
  | 99 => ⟨S512x16, .f32⟩
  | 100 => ⟨S512x16, .f32⟩
  | 101 => ⟨S512x16, .f32⟩
  | 102 => ⟨S512x16, .f32⟩
  | 103 => ⟨S_, .f32⟩
  | 104 => ⟨S512x16, .f32⟩
  | 105 => ⟨S_, .f32⟩
  | 106 => ⟨S512x0, .f32⟩
  | 107 => ⟨S_, .f32⟩
  | 108 => ⟨S512x0, .f32⟩
  | 109 => ⟨S512x32, .f32⟩
  | 110 => ⟨S512x32, .f32⟩
  | 111 => ⟨S512x16, .f32⟩
  | 112 => ⟨S512x32, .f32⟩
  | 113 => ⟨S1x512x1x32, .f32⟩
  | 114 => ⟨S1x512x4x32, .f32⟩
  | 115 => ⟨S512x128, .f32⟩
  | 116 => ⟨S1x512x1x32, .f32⟩
  | 117 => ⟨S1x512x4x32, .f32⟩
  | 118 => ⟨S512x128, .f32⟩
  | 119 => ⟨S1x512x1x32, .f32⟩
  | 120 => ⟨S1x512x4x32, .f32⟩
  | 121 => ⟨S512x128, .f32⟩
  | 122 => ⟨S512x1024, .f32⟩
  | 123 => ⟨S128x4x1024, .f32⟩
  | 124 => ⟨S512x1024, .f32⟩
  | 125 => ⟨S128x4x1024, .f32⟩
  | 126 => ⟨S512x1024, .f32⟩
  | 127 => ⟨S1x1024, .f32⟩
  | _ => ⟨S128x4x1024, .f32⟩

abbrev hbmTy0_1 (i : Nat) : BufTy := match i % 128 with
  | 0 => ⟨S1x256, .f32⟩
  | 1 => ⟨S1x128, .f32⟩
  | 2 => ⟨S512x512, .f32⟩
  | 3 => ⟨S512x512, .f32⟩
  | 4 => ⟨S512x512, .f32⟩
  | 5 => ⟨S512x128, .f32⟩
  | 6 => ⟨S512x32, .f32⟩
  | 7 => ⟨S512x1024, .f32⟩
  | 8 => ⟨S512x1024, .f32⟩
  | 9 => ⟨S8x512x256, .bf16⟩
  | 10 => ⟨S512x256, .bf16⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x4096, .bf16⟩
  | .local _ .vmem, ⟨8, _⟩ => ⟨S1x256, .f32⟩
  | .local _ .vmem, ⟨9, _⟩ => ⟨S1x128, .f32⟩
  | .local _ .vmem, ⟨10, _⟩ => ⟨S256x512, .bf16⟩
  | .local _ .vmem, ⟨11, _⟩ => ⟨S256x1024, .bf16⟩
  | .local _ .vmem, ⟨12, _⟩ => ⟨S512x1024, .bf16⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x128, .f32⟩
  | .local _ .vmem, ⟨32, _⟩ => ⟨S256x128, .f32⟩
  | .local _ .vmem, ⟨33, _⟩ => ⟨S256x32, .f32⟩
  | .local _ .vmem, ⟨34, _⟩ => ⟨S256x32, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S8x256x256, .bf16⟩
  | .local _ .vmem, ⟨40, _⟩ => ⟨S8x256x256, .bf16⟩
  | .local _ .vmem, ⟨41, _⟩ => ⟨S256x256, .bf16⟩
  | .local _ .vmem, ⟨42, _⟩ => ⟨S256x256, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_11 : Ref sig .tc := ⟨.hbm, 103, rfl⟩
abbrev main_v80 : Ref sig .tc := ⟨.hbm, 104, rfl⟩
abbrev main_cst_12 : Ref sig .tc := ⟨.hbm, 105, rfl⟩
abbrev main_v81 : Ref sig .tc := ⟨.hbm, 106, rfl⟩
abbrev main_cst_13 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104_0 : Ref sig .tc := ⟨.hbm, 130, rfl⟩
abbrev main_v104_1 : Ref sig .tc := ⟨.hbm, 131, rfl⟩
abbrev main_v104_2 : Ref sig .tc := ⟨.hbm, 132, rfl⟩
abbrev main_v104_3 : Ref sig .tc := ⟨.hbm, 133, rfl⟩
abbrev main_v104_4 : Ref sig .tc := ⟨.hbm, 134, rfl⟩
abbrev main_v104_5 : Ref sig .tc := ⟨.hbm, 135, rfl⟩
abbrev main_v104_6 : Ref sig .tc := ⟨.hbm, 136, rfl⟩
abbrev main_v104_7 : Ref sig .tc := ⟨.hbm, 137, rfl⟩
abbrev main_v104_8 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x32 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x256x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== ProjSampleRefIdeal.lean ====
abbrev S128x4x1024 : Shape := ⟨3, ![128, 4, 1024]⟩
abbrev S128x1024 : Shape := ⟨2, ![128, 1024]⟩
abbrev S1024 : Shape := ⟨1, ![1024]⟩
abbrev S1024x4000 : Shape := ⟨2, ![1024, 4000]⟩
abbrev S256 : Shape := ⟨1, ![256]⟩
abbrev S128 : Shape := ⟨1, ![128]⟩
abbrev S256x768 : Shape := ⟨2, ![256, 768]⟩
abbrev S128x8x64 : Shape := ⟨3, ![128, 8, 64]⟩
abbrev S4 : Shape := ⟨1, ![4]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x1x1024 : Shape := ⟨3, ![128, 1, 1024]⟩
abbrev S128x4x4000 : Shape := ⟨3, ![128, 4, 4000]⟩
abbrev S128x4x512 : Shape := ⟨3, ![128, 4, 512]⟩
abbrev S128x4x256 : Shape := ⟨3, ![128, 4, 256]⟩
abbrev S128x4x128 : Shape := ⟨3, ![128, 4, 128]⟩
abbrev S128x4x32 : Shape := ⟨3, ![128, 4, 32]⟩
abbrev S128x4x8x64 : Shape := ⟨4, ![128, 4, 8, 64]⟩
abbrev S128x4x8x16 : Shape := ⟨4, ![128, 4, 8, 16]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S4x1x8 : Shape := ⟨3, ![4, 1, 8]⟩
abbrev S128x4x8x8 : Shape := ⟨4, ![128, 4, 8, 8]⟩
abbrev S1x4x1x8 : Shape := ⟨4, ![1, 4, 1, 8]⟩
abbrev S128x4x8x48 : Shape := ⟨4, ![128, 4, 8, 48]⟩
abbrev S1x1x256 : Shape := ⟨3, ![1, 1, 256]⟩
abbrev S128x4x768 : Shape := ⟨3, ![128, 4, 768]⟩
abbrev S128x4x8x96 : Shape := ⟨4, ![128, 4, 8, 96]⟩
abbrev S128x4x8x32 : Shape := ⟨4, ![128, 4, 8, 32]⟩
abbrev S16 : Shape := ⟨1, ![16]⟩
abbrev S1x16 : Shape := ⟨2, ![1, 16]⟩
abbrev S4x16 : Shape := ⟨2, ![4, 16]⟩
abbrev S4x1x16 : Shape := ⟨3, ![4, 1, 16]⟩
abbrev S1x4x1x16 : Shape := ⟨4, ![1, 4, 1, 16]⟩
abbrev S8x128x128x4 : Shape := ⟨4, ![8, 128, 128, 4]⟩
abbrev S128x4x8x128 : Shape := ⟨4, ![128, 4, 8, 128]⟩
abbrev S1x1x128 : Shape := ⟨3, ![1, 1, 128]⟩
abbrev S128x4x1x32 : Shape := ⟨4, ![128, 4, 1, 32]⟩
abbrev S128x4x1x16 : Shape := ⟨4, ![128, 4, 1, 16]⟩
abbrev S128x4x8x256 : Shape := ⟨4, ![128, 4, 8, 256]⟩
abbrev S128x4x95 : Shape := ⟨3, ![128, 4, 95]⟩
abbrev S512x512 : Shape := ⟨2, ![512, 512]⟩
abbrev S512x128 : Shape := ⟨2, ![512, 128]⟩
abbrev S512x32 : Shape := ⟨2, ![512, 32]⟩
abbrev S512x1024 : Shape := ⟨2, ![512, 1024]⟩
abbrev S512x8x256 : Shape := ⟨3, ![512, 8, 256]⟩
abbrev S8x512x256 : Shape := ⟨3, ![8, 512, 256]⟩
abbrev S512x256 : Shape := ⟨2, ![512, 256]⟩

abbrev nBuf : Space → Nat
  | .hbm => 266
  | .vmem => 0
  | .smem => 0
  | _ => 0

abbrev hbmTy0_0 (i : Nat) : BufTy := match i % 128 with
  | 0 => ⟨S128x4x1024, .f32⟩
  | 1 => ⟨S128x1024, .f32⟩
  | 2 => ⟨S128x1024, .f32⟩
  | 3 => ⟨S1024, .f32⟩
  | 4 => ⟨S1024x4000, .f32⟩
  | 5 => ⟨S256, .f32⟩
  | 6 => ⟨S128, .f32⟩
  | 7 => ⟨S256x768, .f32⟩
  | 8 => ⟨S128x8x64, .f32⟩
  | 9 => ⟨S4, .i32⟩
  | 10 => ⟨S_, .i32⟩
  | 11 => ⟨S4, .i32⟩
  | 12 => ⟨S4, .i32⟩
  | 13 => ⟨S128x4x1024, .f32⟩
  | 14 => ⟨S_, .f32⟩
  | 15 => ⟨S128x4, .f32⟩
  | 16 => ⟨S128x4x1, .f32⟩
  | 17 => ⟨S_, .f32⟩
  | 18 => ⟨S128x4x1, .f32⟩
  | 19 => ⟨S128x4x1, .f32⟩
  | 20 => ⟨S_, .f32⟩
  | 21 => ⟨S128x4x1, .f32⟩
  | 22 => ⟨S128x4x1, .f32⟩
  | 23 => ⟨S128x4x1, .f32⟩
  | 24 => ⟨S128x4x1024, .f32⟩
  | 25 => ⟨S128x4x1024, .f32⟩
  | 26 => ⟨S1x1x1024, .f32⟩
  | 27 => ⟨S128x4x1024, .f32⟩
  | 28 => ⟨S128x4x1024, .f32⟩
  | 29 => ⟨S128x1x1024, .f32⟩
  | 30 => ⟨S_, .f32⟩
  | 31 => ⟨S128x1x1024, .f32⟩
  | 32 => ⟨S128x1x1024, .f32⟩
  | 33 => ⟨S128x4x1024, .f32⟩
  | 34 => ⟨S128x4x1024, .f32⟩
  | 35 => ⟨S128x1x1024, .f32⟩
  | 36 => ⟨S128x4x1024, .f32⟩
  | 37 => ⟨S128x4x1024, .f32⟩
  | 38 => ⟨S128x4x4000, .f32⟩
  | 39 => ⟨S128x4x512, .f32⟩
  | 40 => ⟨S128x4x512, .f32⟩
  | 41 => ⟨S128x4x512, .f32⟩
  | 42 => ⟨S128x4x256, .f32⟩
  | 43 => ⟨S128x4x128, .f32⟩
  | 44 => ⟨S128x4x32, .f32⟩
  | 45 => ⟨S128x4x1024, .f32⟩
  | 46 => ⟨S128x4x1024, .f32⟩
  | 47 => ⟨S128x4x8x64, .f32⟩
  | 48 => ⟨S128x4x8x16, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S4, .f32⟩
  | 60 => ⟨S4x1, .f32⟩
  | 61 => ⟨S1x8, .f32⟩
  | 62 => ⟨S4x8, .f32⟩
  | 63 => ⟨S4x8, .f32⟩
  | 64 => ⟨S4x8, .f32⟩
  | 65 => ⟨S4x8, .f32⟩
  | 66 => ⟨S4x1x8, .f32⟩
  | 67 => ⟨S4x8, .f32⟩
  | 68 => ⟨S4x1x8, .f32⟩
  | 69 => ⟨S128x4x8x8, .f32⟩
  | 70 => ⟨S128x4x8x8, .f32⟩
  | 71 => ⟨S1x4x1x8, .f32⟩
  | 72 => ⟨S128x4x8x8, .f32⟩
  | 73 => ⟨S128x4x8x8, .f32⟩
  | 74 => ⟨S1x4x1x8, .f32⟩
  | 75 => ⟨S128x4x8x8, .f32⟩
  | 76 => ⟨S128x4x8x8, .f32⟩
  | 77 => ⟨S128x4x8x8, .f32⟩
  | 78 => ⟨S1x4x1x8, .f32⟩
  | 79 => ⟨S128x4x8x8, .f32⟩
  | 80 => ⟨S128x4x8x8, .f32⟩
  | 81 => ⟨S1x4x1x8, .f32⟩
  | 82 => ⟨S128x4x8x8, .f32⟩
  | 83 => ⟨S128x4x8x8, .f32⟩
  | 84 => ⟨S128x4x8x8, .f32⟩
  | 85 => ⟨S128x4x8x16, .f32⟩
  | 86 => ⟨S128x4x8x48, .f32⟩
  | 87 => ⟨S128x4x8x64, .f32⟩
  | 88 => ⟨S128x4x8x64, .f32⟩
  | 89 => ⟨S128x4x8x16, .f32⟩
  | 90 => ⟨S8, .f32⟩
  | 91 => ⟨S_, .f32⟩
  | 92 => ⟨S8, .f32⟩
  | 93 => ⟨S8, .f32⟩
  | 94 => ⟨S_, .f32⟩
  | 95 => ⟨S8, .f32⟩
  | 96 => ⟨S8, .f32⟩
  | 97 => ⟨S_, .f32⟩
  | 98 => ⟨S8, .f32⟩
  | 99 => ⟨S8, .f32⟩
  | 100 => ⟨S4, .f32⟩
  | 101 => ⟨S4x1, .f32⟩
  | 102 => ⟨S1x8, .f32⟩
  | 103 => ⟨S4x8, .f32⟩
  | 104 => ⟨S4x8, .f32⟩
  | 105 => ⟨S4x8, .f32⟩
  | 106 => ⟨S4x8, .f32⟩
  | 107 => ⟨S4x1x8, .f32⟩
  | 108 => ⟨S4x8, .f32⟩
  | 109 => ⟨S4x1x8, .f32⟩
  | 110 => ⟨S128x4x8x8, .f32⟩
  | 111 => ⟨S128x4x8x8, .f32⟩
  | 112 => ⟨S1x4x1x8, .f32⟩
  | 113 => ⟨S128x4x8x8, .f32⟩
  | 114 => ⟨S128x4x8x8, .f32⟩
  | 115 => ⟨S1x4x1x8, .f32⟩
  | 116 => ⟨S128x4x8x8, .f32⟩
  | 117 => ⟨S128x4x8x8, .f32⟩
  | 118 => ⟨S128x4x8x8, .f32⟩
  | 119 => ⟨S1x4x1x8, .f32⟩
  | 120 => ⟨S128x4x8x8, .f32⟩
  | 121 => ⟨S128x4x8x8, .f32⟩
  | 122 => ⟨S1x4x1x8, .f32⟩
  | 123 => ⟨S128x4x8x8, .f32⟩
  | 124 => ⟨S128x4x8x8, .f32⟩
  | 125 => ⟨S128x4x8x8, .f32⟩
  | 126 => ⟨S128x4x8x16, .f32⟩
  | 127 => ⟨S128x4x8x48, .f32⟩
  | _ => ⟨S128x4x1024, .f32⟩

abbrev hbmTy0_1 (i : Nat) : BufTy := match i % 128 with
  | 0 => ⟨S128x4x8x64, .f32⟩
  | 1 => ⟨S128x4x256, .f32⟩
  | 2 => ⟨S_, .f32⟩
  | 3 => ⟨S128x4, .f32⟩
  | 4 => ⟨S128x4x1, .f32⟩
  | 5 => ⟨S_, .f32⟩
  | 6 => ⟨S128x4x1, .f32⟩
  | 7 => ⟨S128x4x1, .f32⟩
  | 8 => ⟨S_, .f32⟩
  | 9 => ⟨S128x4x1, .f32⟩
  | 10 => ⟨S128x4x1, .f32⟩
  | 11 => ⟨S128x4x1, .f32⟩
  | 12 => ⟨S128x4x256, .f32⟩
  | 13 => ⟨S128x4x256, .f32⟩
  | 14 => ⟨S1x1x256, .f32⟩
  | 15 => ⟨S128x4x256, .f32⟩
  | 16 => ⟨S128x4x256, .f32⟩
  | 17 => ⟨S128x4x768, .f32⟩
  | 18 => ⟨S128x4x8x96, .f32⟩
  | 19 => ⟨S128x4x8x32, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S4, .f32⟩
  | 31 => ⟨S4x1, .f32⟩
  | 32 => ⟨S1x16, .f32⟩
  | 33 => ⟨S4x16, .f32⟩
  | 34 => ⟨S4x16, .f32⟩
  | 35 => ⟨S4x16, .f32⟩
  | 36 => ⟨S4x16, .f32⟩
  | 37 => ⟨S4x1x16, .f32⟩
  | 38 => ⟨S4x16, .f32⟩
  | 39 => ⟨S4x1x16, .f32⟩
  | 40 => ⟨S128x4x8x16, .f32⟩
  | 41 => ⟨S128x4x8x16, .f32⟩
  | 42 => ⟨S1x4x1x16, .f32⟩
  | 43 => ⟨S128x4x8x16, .f32⟩
  | 44 => ⟨S128x4x8x16, .f32⟩
  | 45 => ⟨S1x4x1x16, .f32⟩
  | 46 => ⟨S128x4x8x16, .f32⟩
  | 47 => ⟨S128x4x8x16, .f32⟩
  | 48 => ⟨S128x4x8x16, .f32⟩
  | 49 => ⟨S1x4x1x16, .f32⟩
  | 50 => ⟨S128x4x8x16, .f32⟩
  | 51 => ⟨S128x4x8x16, .f32⟩
  | 52 => ⟨S1x4x1x16, .f32⟩
  | 53 => ⟨S128x4x8x16, .f32⟩
  | 54 => ⟨S128x4x8x16, .f32⟩
  | 55 => ⟨S128x4x8x16, .f32⟩
  | 56 => ⟨S128x4x8x32, .f32⟩
  | 57 => ⟨S128x4x8x64, .f32⟩
  | 58 => ⟨S8x128x128x4, .f32⟩
  | 59 => ⟨S128x4x8x128, .f32⟩
  | 60 => ⟨S128x4x128, .f32⟩
  | 61 => ⟨S_, .f32⟩
  | 62 => ⟨S128x4, .f32⟩
  | 63 => ⟨S128x4x1, .f32⟩
  | 64 => ⟨S_, .f32⟩
  | 65 => ⟨S128x4x1, .f32⟩
  | 66 => ⟨S128x4x1, .f32⟩
  | 67 => ⟨S_, .f32⟩
  | 68 => ⟨S128x4x1, .f32⟩
  | 69 => ⟨S128x4x1, .f32⟩
  | 70 => ⟨S128x4x1, .f32⟩
  | 71 => ⟨S128x4x128, .f32⟩
  | 72 => ⟨S128x4x128, .f32⟩
  | 73 => ⟨S1x1x128, .f32⟩
  | 74 => ⟨S128x4x128, .f32⟩
  | 75 => ⟨S128x4x128, .f32⟩
  | 76 => ⟨S128x4x1x32, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S4, .f32⟩
  | 88 => ⟨S4x1, .f32⟩
  | 89 => ⟨S1x16, .f32⟩
  | 90 => ⟨S4x16, .f32⟩
  | 91 => ⟨S4x16, .f32⟩
  | 92 => ⟨S4x16, .f32⟩
  | 93 => ⟨S4x16, .f32⟩
  | 94 => ⟨S4x1x16, .f32⟩
  | 95 => ⟨S4x16, .f32⟩
  | 96 => ⟨S4x1x16, .f32⟩
  | 97 => ⟨S128x4x1x16, .f32⟩
  | 98 => ⟨S128x4x1x16, .f32⟩
  | 99 => ⟨S1x4x1x16, .f32⟩
  | 100 => ⟨S128x4x1x16, .f32⟩
  | 101 => ⟨S128x4x1x16, .f32⟩
  | 102 => ⟨S1x4x1x16, .f32⟩
  | 103 => ⟨S128x4x1x16, .f32⟩
  | 104 => ⟨S128x4x1x16, .f32⟩
  | 105 => ⟨S128x4x1x16, .f32⟩
  | 106 => ⟨S1x4x1x16, .f32⟩
  | 107 => ⟨S128x4x1x16, .f32⟩
  | 108 => ⟨S128x4x1x16, .f32⟩
  | 109 => ⟨S1x4x1x16, .f32⟩
  | 110 => ⟨S128x4x1x16, .f32⟩
  | 111 => ⟨S128x4x1x16, .f32⟩
  | 112 => ⟨S128x4x1x16, .f32⟩
  | 113 => ⟨S128x4x1x32, .f32⟩
  | 114 => ⟨S128x4x32, .f32⟩
  | 115 => ⟨S_, .f32⟩
  | 116 => ⟨S128x4x8x96, .f32⟩
  | 117 => ⟨S128x4x8x256, .f32⟩
  | 118 => ⟨S_, .f32⟩
  | 119 => ⟨S128x4x8x256, .f32⟩
  | 120 => ⟨S128x4x8x256, .f32⟩
  | 121 => ⟨S_, .f32⟩
  | 122 => ⟨S128x4x1, .f32⟩
  | 123 => ⟨S_, .f32⟩
  | 124 => ⟨S128x4x95, .f32⟩
  | 125 => ⟨S128x4x256, .f32⟩
  | 126 => ⟨S512x512, .f32⟩
  | 127 => ⟨S512x512, .f32⟩
  | _ => ⟨S128x4x1024, .f32⟩

abbrev hbmTy0_2 (i : Nat) : BufTy := match i % 128 with
  | 0 => ⟨S512x512, .f32⟩
  | 1 => ⟨S512x128, .f32⟩
  | 2 => ⟨S512x32, .f32⟩
  | 3 => ⟨S512x1024, .f32⟩
  | 4 => ⟨S512x1024, .f32⟩
  | 5 => ⟨S512x8x256, .f32⟩
  | 6 => ⟨S8x512x256, .f32⟩
  | 7 => ⟨S8x512x256, .bf16⟩
  | 8 => ⟨S512x256, .f32⟩
  | 9 => ⟨S512x256, .bf16⟩
  | _ => ⟨S128x4x1024, .f32⟩

abbrev hbmTy (i : Nat) : BufTy := match i / 128 with
  | 0 => hbmTy0_0 i
  | 1 => hbmTy0_1 i
  | 2 => hbmTy0_2 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_6 : Ref sig .tc := ⟨.hbm, 91, rfl⟩
abbrev main_v74 : Ref sig .tc := ⟨.hbm, 92, rfl⟩
abbrev main_v75 : Ref sig .tc := ⟨.hbm, 93, rfl⟩
abbrev main_cst_7 : Ref sig .tc := ⟨.hbm, 94, rfl⟩
abbrev main_v76 : Ref sig .tc := ⟨.hbm, 95, rfl⟩
abbrev main_v77 : Ref sig .tc := ⟨.hbm, 96, rfl⟩
abbrev main_cst_8 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_cst_9 : Ref sig .tc := ⟨.hbm, 130, rfl⟩
abbrev main_v110 : Ref sig .tc := ⟨.hbm, 131, rfl⟩
abbrev main_v111 : Ref sig .tc := ⟨.hbm, 132, rfl⟩
abbrev main_cst_10 : Ref sig .tc := ⟨.hbm, 133, rfl⟩
abbrev main_v112 : Ref sig .tc := ⟨.hbm, 134, rfl⟩
abbrev main_v113 : Ref sig .tc := ⟨.hbm, 135, rfl⟩
abbrev main_cst_11 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_cst_12 : Ref sig .tc := ⟨.hbm, 149, rfl⟩
abbrev main_v126 : Ref sig .tc := ⟨.hbm, 150, rfl⟩
abbrev main_v127 : Ref sig .tc := ⟨.hbm, 151, rfl⟩
abbrev main_cst_13 : Ref sig .tc := ⟨.hbm, 152, rfl⟩
abbrev main_v128 : Ref sig .tc := ⟨.hbm, 153, rfl⟩
abbrev main_v129 : Ref sig .tc := ⟨.hbm, 154, rfl⟩
abbrev main_cst_14 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_cst_15 : Ref sig .tc := ⟨.hbm, 189, rfl⟩
abbrev main_v163 : Ref sig .tc := ⟨.hbm, 190, rfl⟩
abbrev main_v164 : Ref sig .tc := ⟨.hbm, 191, rfl⟩
abbrev main_cst_16 : Ref sig .tc := ⟨.hbm, 192, rfl⟩
abbrev main_v165 : Ref sig .tc := ⟨.hbm, 193, rfl⟩
abbrev main_v166 : Ref sig .tc := ⟨.hbm, 194, rfl⟩
abbrev main_cst_17 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_cst_18 : Ref sig .tc := ⟨.hbm, 206, rfl⟩
abbrev main_v177 : Ref sig .tc := ⟨.hbm, 207, rfl⟩
abbrev main_v178 : Ref sig .tc := ⟨.hbm, 208, rfl⟩
abbrev main_cst_19 : Ref sig .tc := ⟨.hbm, 209, rfl⟩
abbrev main_v179 : Ref sig .tc := ⟨.hbm, 210, rfl⟩
abbrev main_v180 : Ref sig .tc := ⟨.hbm, 211, rfl⟩
abbrev main_cst_20 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_cst_21 : Ref sig .tc := ⟨.hbm, 243, rfl⟩
abbrev main_v211 : Ref sig .tc := ⟨.hbm, 244, rfl⟩
abbrev main_v212 : Ref sig .tc := ⟨.hbm, 245, rfl⟩
abbrev main_cst_22 : Ref sig .tc := ⟨.hbm, 246, rfl⟩
abbrev main_v213 : Ref sig .tc := ⟨.hbm, 247, rfl⟩
abbrev main_v214 : Ref sig .tc := ⟨.hbm, 248, rfl⟩
abbrev main_cst_23 : Ref sig .tc := ⟨.hbm, 249, rfl⟩
abbrev main_v215 : Ref sig .tc := ⟨.hbm, 250, rfl⟩
abbrev main_cst_24 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩

abbrev nD : Nat := 1
abbrev τ : Topo := Topo.v7x

variable {F : FTy → Type} [FloatOps F]
-- ==== Mod.lean ====
abbrev S1x1024 : Shape := ⟨2, ![1, 1024]⟩
abbrev S128x1024 : Shape := ⟨2, ![128, 1024]⟩
abbrev S1024x6144 : Shape := ⟨2, ![1024, 6144]⟩
abbrev S6144 : Shape := ⟨1, ![6144]⟩
abbrev S129x1024 : Shape := ⟨2, ![129, 1024]⟩
abbrev S_ : Shape := ⟨0, ![]⟩
abbrev S136x1024 : Shape := ⟨2, ![136, 1024]⟩
abbrev S1x6144 : Shape := ⟨2, ![1, 6144]⟩
abbrev S136x6144 : Shape := ⟨2, ![136, 6144]⟩
abbrev S1024x768 : Shape := ⟨2, ![1024, 768]⟩
abbrev S1x768 : Shape := ⟨2, ![1, 768]⟩
abbrev S136x768 : Shape := ⟨2, ![136, 768]⟩

abbrev nBuf : Space → Nat
  | .hbm => 10
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S128x1024, .f32⟩
  | .hbm, ⟨2, _⟩ => ⟨S1024x6144, .f32⟩
  | .hbm, ⟨3, _⟩ => ⟨S6144, .f32⟩
  | .hbm, ⟨4, _⟩ => ⟨S129x1024, .f32⟩
  | .hbm, ⟨5, _⟩ => ⟨S_, .i32⟩
  | .hbm, ⟨6, _⟩ => ⟨S_, .f32⟩
  | .hbm, ⟨7, _⟩ => ⟨S136x1024, .f32⟩
  | .hbm, ⟨8, _⟩ => ⟨S1x6144, .f32⟩
  | .hbm, ⟨9, _⟩ => ⟨S136x6144, .f32⟩
  | .local _ .vmem, ⟨0, _⟩ => ⟨S136x1024, .f32⟩
  | .local _ .vmem, ⟨1, _⟩ => ⟨S1024x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S136x768, .f32⟩
  | .local _ .vmem, ⟨6, _⟩ => ⟨S136x768, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S1x1024 : Shape := ⟨2, ![1, 1024]⟩
abbrev S128x1024 : Shape := ⟨2, ![128, 1024]⟩
abbrev S1024x6144 : Shape := ⟨2, ![1024, 6144]⟩
abbrev S6144 : Shape := ⟨1, ![6144]⟩
abbrev S_ : Shape := ⟨0, ![]⟩
abbrev S7x1024 : Shape := ⟨2, ![7, 1024]⟩
abbrev S136x1024 : Shape := ⟨2, ![136, 1024]⟩
abbrev S136x6144 : Shape := ⟨2, ![136, 6144]⟩
abbrev S1x6144 : Shape := ⟨2, ![1, 6144]⟩

abbrev nBuf : Space → Nat
  | .hbm => 20
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S128x1024, .f32⟩
  | .hbm, ⟨2, _⟩ => ⟨S1024x6144, .f32⟩
  | .hbm, ⟨3, _⟩ => ⟨S6144, .f32⟩
  | .hbm, ⟨4, _⟩ => ⟨S_, .f32⟩
  | .hbm, ⟨5, _⟩ => ⟨S7x1024, .f32⟩
  | .hbm, ⟨6, _⟩ => ⟨S136x1024, .f32⟩
  | .hbm, ⟨7, _⟩ => ⟨S136x1024, .f32⟩
  | .hbm, ⟨8, _⟩ => ⟨S136x1024, .f32⟩
  | .hbm, ⟨9, _⟩ => ⟨S_, .f32⟩
  | .hbm, ⟨10, _⟩ => ⟨S136x1024, .f32⟩
  | .hbm, ⟨11, _⟩ => ⟨S136x1024, .f32⟩
  | .hbm, ⟨12, _⟩ => ⟨S_, .f32⟩
  | .hbm, ⟨13, _⟩ => ⟨S136x1024, .f32⟩
  | .hbm, ⟨14, _⟩ => ⟨S136x1024, .f32⟩
  | .hbm, ⟨15, _⟩ => ⟨S136x1024, .f32⟩
  | .hbm, ⟨16, _⟩ => ⟨S136x6144, .f32⟩
  | .hbm, ⟨17, _⟩ => ⟨S1x6144, .f32⟩
  | .hbm, ⟨18, _⟩ => ⟨S136x6144, .f32⟩
  | .hbm, ⟨19, _⟩ => ⟨S136x6144, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== MergeSample.lean ====
abbrev S8x512x128 : Shape := ⟨3, ![8, 512, 128]⟩
abbrev S512x1024 : Shape := ⟨2, ![512, 1024]⟩
abbrev S128x4x1024 : Shape := ⟨3, ![128, 4, 1024]⟩
abbrev S128x1024 : Shape := ⟨2, ![128, 1024]⟩
abbrev S1024 : Shape := ⟨1, ![1024]⟩
abbrev S128x8x64 : Shape := ⟨3, ![128, 8, 64]⟩
abbrev S1024x1024 : Shape := ⟨2, ![1024, 1024]⟩
abbrev S8x8 : Shape := ⟨2, ![8, 8]⟩
abbrev S_ : Shape := ⟨0, ![]⟩
abbrev S8x128x64 : Shape := ⟨3, ![8, 128, 64]⟩
abbrev S8x128x1x64 : Shape := ⟨4, ![8, 128, 1, 64]⟩
abbrev S8x1x8x1 : Shape := ⟨4, ![8, 1, 8, 1]⟩
abbrev S8x128x8x64 : Shape := ⟨4, ![8, 128, 8, 64]⟩
abbrev S1024x512 : Shape := ⟨2, ![1024, 512]⟩
abbrev S8x64x1024 : Shape := ⟨3, ![8, 64, 1024]⟩
abbrev S8x128x1024 : Shape := ⟨3, ![8, 128, 1024]⟩
abbrev S1x1024 : Shape := ⟨2, ![1, 1024]⟩
abbrev S8x256x128 : Shape := ⟨3, ![8, 256, 128]⟩
abbrev S256x1024 : Shape := ⟨2, ![256, 1024]⟩
abbrev S1x256x128 : Shape := ⟨3, ![1, 256, 128]⟩
abbrev S256x128 : Shape := ⟨2, ![256, 128]⟩
abbrev S1x128x1024 : Shape := ⟨3, ![1, 128, 1024]⟩
abbrev S256x512 : Shape := ⟨2, ![256, 512]⟩
abbrev S256 : Shape := ⟨1, ![256]⟩
abbrev S256x1 : Shape := ⟨2, ![256, 1]⟩

abbrev nBuf : Space → Nat
  | .hbm => 38
  | .vmem => 19
  | .smem => 0
  | _ => 0

abbrev bufTy : (tb : Table) → Fin (tcTables nBuf tb) → BufTy
  | .hbm, ⟨0, _⟩ => ⟨S8x512x128, .bf16⟩
  | .hbm, ⟨1, _⟩ => ⟨S512x1024, .bf16⟩
  | .hbm, ⟨2, _⟩ => ⟨S512x1024, .f32⟩
  | .hbm, ⟨3, _⟩ => ⟨S512x1024, .f32⟩
  | .hbm, ⟨4, _⟩ => ⟨S128x4x1024, .f32⟩
  | .hbm, ⟨5, _⟩ => ⟨S128x1024, .f32⟩
  | .hbm, ⟨6, _⟩ => ⟨S1024, .f32⟩
  | .hbm, ⟨7, _⟩ => ⟨S128x8x64, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S8x128x64, .f32⟩
  | .hbm, ⟨19, _⟩ => ⟨S8x128x1x64, .f32⟩
  | .hbm, ⟨20, _⟩ => ⟨S8x1x8x1, .f32⟩
  | .hbm, ⟨21, _⟩ => ⟨S8x128x8x64, .f32⟩
  | .hbm, ⟨22, _⟩ => ⟨S8x128x8x64, .f32⟩
  | .hbm, ⟨23, _⟩ => ⟨S8x128x8x64, .f32⟩
  | .hbm, ⟨24, _⟩ => ⟨S1024x512, .f32⟩
  | .hbm, ⟨25, _⟩ => ⟨S1024x512, .bf16⟩
  | .hbm, ⟨26, _⟩ => ⟨S8x64x1024, .f32⟩
  | .hbm, ⟨27, _⟩ => ⟨S_, .i32⟩
  | .hbm, ⟨28, _⟩ => ⟨S_, .f32⟩
  | .hbm, ⟨29, _⟩ => ⟨S8x128x1024, .f32⟩
  | .hbm, ⟨30, _⟩ => ⟨S512x1024, .f32⟩
  | .hbm, ⟨31, _⟩ => ⟨S128x4x1024, .f32⟩
  | .hbm, ⟨32, _⟩ => ⟨S512x1024, .f32⟩
  | .hbm, ⟨33, _⟩ => ⟨S1x1024, .f32⟩
  | .hbm, ⟨34, _⟩ => ⟨S8x128x1024, .bf16⟩
  | .hbm, ⟨35, _⟩ => ⟨S512x1024, .bf16⟩
  | .hbm, ⟨36, _⟩ => ⟨S1024x1024, .bf16⟩
  | .hbm, ⟨37, _⟩ => ⟨S512x1024, .f32⟩
  | .local _ .vmem, ⟨0, _⟩ => ⟨S8x256x128, .bf16⟩
  | .local _ .vmem, ⟨1, _⟩ => ⟨S8x256x128, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S8x128x1024, .bf16⟩
  | .local _ .vmem, ⟨14, _⟩ => ⟨S1024x512, .bf16⟩
  | .local _ .vmem, ⟨15, _⟩ => ⟨S512x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeSampleRefIdeal.lean ====
abbrev S8x512x128 : Shape := ⟨3, ![8, 512, 128]⟩
abbrev S512x1024 : Shape := ⟨2, ![512, 1024]⟩
abbrev S128x4x1024 : Shape := ⟨3, ![128, 4, 1024]⟩
abbrev S128x1024 : Shape := ⟨2, ![128, 1024]⟩
abbrev S1024 : Shape := ⟨1, ![1024]⟩
abbrev S128x8x64 : Shape := ⟨3, ![128, 8, 64]⟩
abbrev S1024x1024 : Shape := ⟨2, ![1024, 1024]⟩
abbrev S8x512x64 : Shape := ⟨3, ![8, 512, 64]⟩
abbrev S512x8x64 : Shape := ⟨3, ![512, 8, 64]⟩
abbrev S128x4x8x64 : Shape := ⟨4, ![128, 4, 8, 64]⟩
abbrev S128x4x8x128 : Shape := ⟨4, ![128, 4, 8, 128]⟩
abbrev S128x4x512 : Shape := ⟨3, ![128, 4, 512]⟩
abbrev S8x64x128x4 : Shape := ⟨4, ![8, 64, 128, 4]⟩
abbrev S_ : Shape := ⟨0, ![]⟩
abbrev S128x1x1024 : Shape := ⟨3, ![128, 1, 1024]⟩
abbrev S128x4 : Shape := ⟨2, ![128, 4]⟩
abbrev S128x4x1 : Shape := ⟨3, ![128, 4, 1]⟩
abbrev S1x1x1024 : Shape := ⟨3, ![1, 1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x1024, .bf16⟩
  | .hbm, ⟨2, _⟩ => ⟨S512x1024, .f32⟩
  | .hbm, ⟨3, _⟩ => ⟨S512x1024, .f32⟩
  | .hbm, ⟨4, _⟩ => ⟨S128x4x1024, .f32⟩
  | .hbm, ⟨5, _⟩ => ⟨S128x1024, .f32⟩
  | .hbm, ⟨6, _⟩ => ⟨S1024, .f32⟩
  | .hbm, ⟨7, _⟩ => ⟨S128x8x64, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S8x512x64, .bf16⟩
  | .hbm, ⟨12, _⟩ => ⟨S512x8x64, .bf16⟩
  | .hbm, ⟨13, _⟩ => ⟨S128x4x8x64, .bf16⟩
  | .hbm, ⟨14, _⟩ => ⟨S128x4x8x64, .f32⟩
  | .hbm, ⟨15, _⟩ => ⟨S128x4x8x128, .bf16⟩
  | .hbm, ⟨16, _⟩ => ⟨S128x4x8x128, .f32⟩
  | .hbm, ⟨17, _⟩ => ⟨S128x4x1024, .f32⟩
  | .hbm, ⟨18, _⟩ => ⟨S128x4x1024, .f32⟩
  | .hbm, ⟨19, _⟩ => ⟨S128x4x512, .f32⟩
  | .hbm, ⟨20, _⟩ => ⟨S128x4x1024, .f32⟩
  | .hbm, ⟨21, _⟩ => ⟨S8x64x128x4, .f32⟩
  | .hbm, ⟨22, _⟩ => ⟨S128x4x8x64, .f32⟩
  | .hbm, ⟨23, _⟩ => ⟨S128x4x512, .f32⟩
  | .hbm, ⟨24, _⟩ => ⟨S128x4x1024, .f32⟩
  | .hbm, ⟨25, _⟩ => ⟨S128x4x1024, .f32⟩
  | .hbm, ⟨26, _⟩ => ⟨S128x4x1024, .f32⟩
  | .hbm, ⟨27, _⟩ => ⟨S_, .f32⟩
  | .hbm, ⟨28, _⟩ => ⟨S128x4x1024, .f32⟩
  | .hbm, ⟨29, _⟩ => ⟨S128x4x1024, .f32⟩
  | .hbm, ⟨30, _⟩ => ⟨S_, .f32⟩
  | .hbm, ⟨31, _⟩ => ⟨S128x4x1024, .f32⟩
  | .hbm, ⟨32, _⟩ => ⟨S128x4x1024, .f32⟩
  | .hbm, ⟨33, _⟩ => ⟨S128x4x1024, .f32⟩
  | .hbm, ⟨34, _⟩ => ⟨S128x4x1024, .f32⟩
  | .hbm, ⟨35, _⟩ => ⟨S128x4x1024, .f32⟩
  | .hbm, ⟨36, _⟩ => ⟨S_, .f32⟩
  | .hbm, ⟨37, _⟩ => ⟨S128x4x1024, .f32⟩
  | .hbm, ⟨38, _⟩ => ⟨S128x4x1024, .f32⟩
  | .hbm, ⟨39, _⟩ => ⟨S_, .f32⟩
  | .hbm, ⟨40, _⟩ => ⟨S128x4x1024, .f32⟩
  | .hbm, ⟨41, _⟩ => ⟨S128x4x1024, .f32⟩
  | .hbm, ⟨42, _⟩ => ⟨S128x4x1024, .f32⟩
  | .hbm, ⟨43, _⟩ => ⟨S128x4x1024, .f32⟩
  | .hbm, ⟨44, _⟩ => ⟨S128x1x1024, .f32⟩
  | .hbm, ⟨45, _⟩ => ⟨S128x4x1024, .f32⟩
  | .hbm, ⟨46, _⟩ => ⟨S128x4x1024, .f32⟩
  | .hbm, ⟨47, _⟩ => ⟨S_, .f32⟩
  | .hbm, ⟨48, _⟩ => ⟨S128x4, .f32⟩
  | .hbm, ⟨49, _⟩ => ⟨S128x4x1, .f32⟩
  | .hbm, ⟨50, _⟩ => ⟨S_, .f32⟩
  | .hbm, ⟨51, _⟩ => ⟨S128x4x1, .f32⟩
  | .hbm, ⟨52, _⟩ => ⟨S128x4x1, .f32⟩
  | .hbm, ⟨53, _⟩ => ⟨S_, .f32⟩
  | .hbm, ⟨54, _⟩ => ⟨S128x4x1, .f32⟩
  | .hbm, ⟨55, _⟩ => ⟨S128x4x1, .f32⟩
  | .hbm, ⟨56, _⟩ => ⟨S128x4x1, .f32⟩
  | .hbm, ⟨57, _⟩ => ⟨S128x4x1024, .f32⟩
  | .hbm, ⟨58, _⟩ => ⟨S128x4x1024, .f32⟩
  | .hbm, ⟨59, _⟩ => ⟨S1x1x1024, .f32⟩
  | .hbm, ⟨60, _⟩ => ⟨S128x4x1024, .f32⟩
  | .hbm, ⟨61, _⟩ => ⟨S128x4x1024, .f32⟩
  | .hbm, ⟨62, _⟩ => ⟨S128x4x1024, .f32⟩
  | .hbm, ⟨63, _⟩ => ⟨S128x4x1024, .f32⟩
  | .hbm, ⟨64, _⟩ => ⟨S128x4x1024, .f32⟩
  | .hbm, ⟨65, _⟩ => ⟨S512x1024, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Proof.Finite.lean ====
/- What the precondition says: every entry of every argument is a real number. -/
module

public import proofs.«01_k».proof.Pre_finite_args
public import Idealize.ShloMosaic.PureOps.Ideal
public import Idealize.ShloMosaic.Lib.ReduceAll
public import Idealize.ShloMosaic.Lib.Affine

@[expose] public section

noncomputable section

namespace Cert.Finite

open Idealize.ShloMosaic

/-- A value whose magnitude is below infinity is real. -/
theorem real_of_lt (x : EReal) (h : Ideal.cmp .olt (max x (-x)) (Ideal.ofBits .f32 0x7F800000#32) = 1#1) : ∃ a : ℝ, x = ↑a := by
  have e : Ideal.ofBits .f32 0x7F800000#32 = ⊤ := by simp [Ideal.ofBits, Ideal.ieee]
  rw [e] at h
  induction x using EReal.rec with
  | bot => exact absurd h (by simp [Ideal.cmp])
  | coe a => exact ⟨a, rfl⟩
  | top => exact absurd h (by simp [Ideal.cmp])

/-- An array all of whose magnitudes are below infinity holds real numbers. -/
theorem all_real {s t u : Shape} [Subsingleton t.Idx] {axes : List (Fin s.rank)} (x : FVec Ideal s .f32) (p : s.Idx → BitVec 1) (init : u.Idx → BitVec 1)
    (h : s.ReducesTo axes t) (hu : 0 < u.numel) (j : t.Idx)
    (e : Host.reduce IntOp.andi p init h hu j = 1#1)
    (hp : ∀ i, p i = Ideal.cmp .olt (max (x i) (-(x i))) (Ideal.ofBits .f32 0x7F800000#32)) (i : s.Idx) : ∃ a : ℝ, x i = ↑a :=
  real_of_lt _ ((hp i).symm.trans (Host.reduce_andi_all p init h hu j e i))

end Cert.Finite

namespace Cert.Pre_finite_args

open Idealize.ShloMosaic Cert.Finite

/-- The side conditions of the precondition's operations. -/
theorem facts : Facts where
  bcast_S_S16384x8x128 := by decide
  reducesTo_S16384x8x128_S_d0_1_2 := by decide
  h_S_ := by decide
  bcast_S_S16384x8x32 := by decide
  reducesTo_S16384x8x32_S_d0_1_2 := by decide
  bcast_S_S16384x128 := by decide
  reducesTo_S16384x128_S_d0_1 := by decide
  bcast_S_S16384x32 := by decide
  reducesTo_S16384x32_S_d0_1 := by decide

instance : Subsingleton S_.Idx := ⟨fun a b => funext fun i => i.elim0⟩

/-- The precondition, read: every entry of the four arguments is real. -/
theorem real [Facts] (a0 : FVec Ideal S16384x8x128 .f32) (a1 : FVec Ideal S16384x8x32 .f32) (a2 : FVec Ideal S16384x128 .f32) (a3 : FVec Ideal S16384x32 .f32)
    (j : S_.Idx) (h : fn a0 a1 a2 a3 j = 1#1) :
    (∀ i, ∃ a : ℝ, a0 i = ↑a) ∧ (∀ i, ∃ a : ℝ, a1 i = ↑a) ∧ (∀ i, ∃ a : ℝ, a2 i = ↑a) ∧ (∀ i, ∃ a : ℝ, a3 i = ↑a) := by
  obtain ⟨h012, h3⟩ := IntOp.andi_eq_one.1 h
  obtain ⟨h01, h2⟩ := IntOp.andi_eq_one.1 h012
  obtain ⟨h0, h1⟩ := IntOp.andi_eq_one.1 h01
  exact ⟨all_real a0 _ _ _ _ j h0 fun _ => rfl, all_real a1 _ _ _ _ j h1 fun _ => rfl,
    all_real a2 _ _ _ _ j h2 fun _ => rfl, all_real a3 _ _ _ _ j h3 fun _ => rfl⟩

end Cert.Pre_finite_args

end
-- ==== Proof.MlaRun.lean ====
/- One grid point of the prompt attention, as a recursion on values: the diagonal tile of keys first, then the tiles
   before it in order, each replacing the running maximum and the running weighted sums; at the end the quotient of
   the sums by the lane that adds up the weights, head by head. -/
module

public import proofs.«01_k».proof.Proof.Gen.MlaIdeal.Value
public import Idealize.ShloMosaic.Lib.VecWindow
public import Idealize.ShloMosaic.Lib.Pointwise
public import Idealize.ShloMosaic.Lib.Pipeline.ValueKit

@[expose] public section

set_option maxRecDepth 16384

noncomputable section

namespace Cert.MlaRun

open Cert.MlaIdeal Cert.MlaIdeal.Gen Idealize.ShloMosaic Idealize.ShloMosaic.TcCoe Idealize.SL.Sem Idealize.ShloMosaic.Tactic

variable {F : FTy → Type} [FloatOps F] [Named F]

/-- The tile of 256 keys at rows `256 J` onwards. -/
def tile (x1 : Vec F S16384x256 .bf16) (J : ℕ) : Vec F S256x256 .bf16 :=
  fun y => x1 (ix2 ⟨(256 * J + (y 0).val) % 16384, Nat.mod_lt _ (by decide)⟩ (y 1))

/-- The running maximum and weighted sums after the diagonal tile `k`, from queries `q`. -/
def first (q : Vec F S8x256x256 .bf16) (k : Vec F S256x256 .bf16) : Vec F S2048x128 .f32 × Vec F S2048x256 .f32 :=
  (k0_pay13 (k0_pay9 q k k0_pay5), k0_pay12 (k0_pay7 k) (k0_pay10 q k k0_pay5 k0_pay6) (k0_pay11 q k k0_pay5)
    (constant S2048x256 .f32 0x00000000#32))

/-- One further tile `k` of keys. -/
def next (q : FVec F S2048x256 .bf16) (k : Vec F S256x256 .bf16) (s : Vec F S2048x128 .f32 × Vec F S2048x256 .f32) :
    Vec F S2048x128 .f32 × Vec F S2048x256 .f32 :=
  (k0_pay18 q k s.1, k0_pay17 q k s.1 s.2)

/-- The running values of query block `i` after the tiles before `J`. -/
def state (x0 : Vec F S8x256x256 .bf16) (x1 : Vec F S16384x256 .bf16) (i : ℕ) : ℕ → Vec F S2048x128 .f32 × Vec F S2048x256 .f32
  | 0 => first x0 (tile x1 i)
  | J + 1 => next (k0_pay4 x0) (tile x1 J) (state x0 x1 i J)

/-- A load of 256 rows from row `256 J` of the keys is the tile. -/
theorem ld_tile (x1 : Vec F S16384x256 .bf16) (J : ℕ) (off : Fin 2 → ℕ) (hoff : off = ![256 * J, 0])
    (inb : ∀ a, off a + S256x256.size a ≤ S16384x256.size a) :
    View.ld x1 (Rect.unit (s := S16384x256) off S256x256.size inb) = tile x1 J := by
  subst hoff
  have h : 256 * J + 256 ≤ 16384 := inb 0
  funext y
  refine congrArg x1 (funext fun a => Fin.ext ?_)
  have hy : (y 0).val < 256 := (y 0).isLt
  match a with
  | ⟨0, _⟩ => show 256 * J + 1 * (y 0).val = (256 * J + (y 0).val) % 16384; omega
  | ⟨1, _⟩ => show 0 + 1 * (y 1).val = (y 1).val; omega

/-- The full-range loop takes as many trips as the block has tiles before it. -/
theorem trips1 : ∀ i : grid0.Coords, (k0_t1_loop i).trips = (i 0).val := by decide +kernel

section
variable (c : Dev nD) (i : grid0.Coords) (arg1 : Memref sig .tc .vmem S8x256x256 .bf16) (harg1 : arg1.IsWhole) (arg2 : Memref sig .tc .vmem S16384x256 .bf16) (harg2 : arg2.IsWhole)
    (arg3 : Memref sig .tc .vmem S256x1024 .bf16) (harg3 : arg3.IsWhole) (arg4 : Memref sig .tc .vmem S2048x128 .f32) (harg4 : arg4.IsWhole)
    (arg5 : Memref sig .tc .vmem S2048x256 .f32) (harg5 : arg5.IsWhole)
variable (arg0 : BitVec 32) (v2 : FVec F S2048x256 .bf16) (v15 : FVec F S256x256 .bf16) (v28 : FVec F S2048x128 .f32)
    (v36 : FVec F S2048x256 .f32) (v37 : FVec F S2048x256 .bf16) (cst_15 : FVec F S2048x256 .f32)

/-- One trip of the loop: what it stores, from the contents it finds. -/
theorem trip_eq (X : BufTy.Contents (Elt F) arg2.view.ty) (k : Fin (k0_t1_loop i).trips) (f4 : BufTy.Contents (Elt F) arg4.view.ty) (f5 : BufTy.Contents (Elt F) arg5.view.ty) :
    tripL_k0_t1 (F := F) Variants.none c none i arg1 harg1 arg2 harg2 arg3 harg3 arg4 harg4 arg5 harg5 arg0 v2 v15 v28 v36 v37 cst_15 X k f4 f5
      = ([⟨Rect.unit ![0, 0] S2048x128.size inb_S2048x128_S2048x128_0_0, (next v2 (tile (arg2.view.read (Elt F) X) k.val) (arg4.view.read (Elt F) f4, arg5.view.read (Elt F) f5)).1⟩],
         [⟨Rect.unit ![0, 0] S2048x256.size inb_S2048x256_S2048x256_0_0, (next v2 (tile (arg2.view.read (Elt F) X) k.val) (arg4.view.read (Elt F) f4, arg5.view.read (Elt F) f5)).2⟩]) := by
  unfold tripL_k0_t1 trip_k0_t1
  dsimp only
  have hz : (![0, 0] : Fin 2 → Nat) = fun _ => 0 := funext fun a => by fin_cases a <;> rfl
  have e2 : View.readAt (Elt F) arg2.view (Rect.unit (s := S16384x256) (k0_off2 i k) S256x256.size (k0_off2_inb i k)).toLoadRect X = tile (arg2.view.read (Elt F) X) k.val := by
    rw [View.readAt_eq_ld]; exact ld_tile _ _ _ (k0_off2_eq i k) _
  have e4 : View.readAt (Elt F) arg4.view (Rect.unit ![0, 0] S2048x128.size inb_S2048x128_S2048x128_0_0).toLoadRect f4 = arg4.view.read (Elt F) f4 := by
    rw [View.readAt_eq_ld]; exact View.ld_unit_zero hz _ _
  have e5 : View.readAt (Elt F) arg5.view (Rect.unit ![0, 0] S2048x256.size inb_S2048x256_S2048x256_0_0).toLoadRect f5 = arg5.view.read (Elt F) f5 := by
    rw [View.readAt_eq_ld]; exact View.ld_unit_zero hz _ _
  simp only [next]
  erw [e2, e4, e5]

/-- The trips in order are the recursion, whatever the scratch held before them. -/
theorem loop_eq (x0 : Vec F S8x256x256 .bf16) (x1 : Vec F S16384x256 .bf16) (hv2 : v2 = k0_pay4 x0)
    (G4 : BufTy.Contents (Elt F) arg4.view.ty) (G5 : BufTy.Contents (Elt F) arg5.view.ty)
    (h4 : arg4.view.read (Elt F) G4 = (first x0 (tile x1 (i 0).val)).1) (h5 : arg5.view.read (Elt F) G5 = (first x0 (tile x1 (i 0).val)).2) :
    ∀ J : ℕ, J ≤ (k0_t1_loop i).trips →
      arg4.view.read (Elt F) (arg4.view.writes (Elt F) G4 (pb_k0_t1 (F := F) Variants.none c none i arg1 harg1 arg2 harg2 arg3 harg3 arg4 harg4 arg5 harg5 arg0 v2 v15 v28 v36 v37 cst_15 (harg2.unread x1) G4 G5 J).1) = (state x0 x1 (i 0).val J).1
      ∧ arg5.view.read (Elt F) (arg5.view.writes (Elt F) G5 (pb_k0_t1 (F := F) Variants.none c none i arg1 harg1 arg2 harg2 arg3 harg3 arg4 harg4 arg5 harg5 arg0 v2 v15 v28 v36 v37 cst_15 (harg2.unread x1) G4 G5 J).2) = (state x0 x1 (i 0).val J).2
  | 0, _ => ⟨h4, h5⟩
  | J + 1, hJ => by
    obtain ⟨i4, i5⟩ := loop_eq x0 x1 hv2 G4 G5 h4 h5 J (Nat.le_of_succ_le hJ)
    have e := pb_k0_t1_succ (F := F) Variants.none c none i arg1 harg1 arg2 harg2 arg3 harg3 arg4 harg4 arg5 harg5 arg0 v2 v15 v28 v36 v37 cst_15 (harg2.unread x1) G4 G5 ⟨J, hJ⟩
    rw [trip_eq] at e
    rw [show J + 1 = (⟨J, hJ⟩ : Fin (k0_t1_loop i).trips).val + 1 from rfl, e, i4, i5, harg2.read_unread, hv2]
    exact ⟨View.read_writes_full _ _ _ _ _, View.read_writes_full _ _ _ _ _⟩
end

/-- What the block divides at its end: the weighted sums after all tiles. -/
theorem v51_eq (c : Dev nD) (i : grid0.Coords) (arg1 : Memref sig .tc .vmem S8x256x256 .bf16) (harg1 : arg1.IsWhole) (arg2 : Memref sig .tc .vmem S16384x256 .bf16) (harg2 : arg2.IsWhole)
    (arg3 : Memref sig .tc .vmem S256x1024 .bf16) (harg3 : arg3.IsWhole) (arg4 : Memref sig .tc .vmem S2048x128 .f32) (harg4 : arg4.IsWhole)
    (arg5 : Memref sig .tc .vmem S2048x256 .f32) (harg5 : arg5.IsWhole)
    (x0 : Vec F S8x256x256 .bf16) (x1 : Vec F S16384x256 .bf16) :
    kernelRun0_A.sl.v51 c i arg1 harg1 arg2 harg2 arg3 harg3 arg4 harg4 arg5 harg5 x0 x1 = (state x0 x1 (i 0).val (i 0).val).2 := by
  have hz : (![0, 0] : Fin 2 → Nat) = fun _ => 0 := funext fun a => by fin_cases a <;> rfl
  have hz3 : (![0, 0, 0] : Fin 3 → Nat) = fun _ => 0 := funext fun a => by fin_cases a <;> rfl
  have e0 : View.readAt (Elt F) arg1.view (Rect.unit ![0, 0, 0] S8x256x256.size inb_S8x256x256_S8x256x256_0_0_0).toLoadRect (harg1.unread x0) = x0 := by
    rw [View.readAt_eq_ld, harg1.read_unread]; exact View.ld_unit_zero hz3 _ _
  have e1 : View.readAt (Elt F) arg2.view (Rect.unit (s := S16384x256) (k0_off1 i) S256x256.size (k0_off1_inb i)).toLoadRect (harg2.unread x1) = tile x1 (i 0).val := by
    rw [View.readAt_eq_ld, harg2.read_unread]; exact ld_tile _ _ _ (k0_off1_eq i) _
  have t2 : Scf.trips (k0_t2_loop i).lb (k0_t2_loop i).ub (k0_t2_loop i).st = 0 := Nat.le_zero.mp (k0_t2_abs i).2.1
  have t1 : Scf.trips (k0_t1_loop i).lb (k0_t1_loop i).ub (k0_t1_loop i).st = (i 0).val := trips1 i
  have e4 : arg4.view.readCov [(⟨Rect.unit ![0, 0] S2048x128.size inb_S2048x128_S2048x128_0_0, k0_pay5⟩ : View.Piece (Elt F) S2048x128 .f32)] (Rect.unit ![0, 0] S2048x128.size inb_S2048x128_S2048x128_0_0).toLoadRect = k0_pay5 :=
    View.readCov_full _ _ _ _ _
  have e5 : arg5.view.readCov [(⟨Rect.unit ![0, 0] S2048x256.size inb_S2048x256_S2048x256_0_0, k0_pay6⟩ : View.Piece (Elt F) S2048x256 .f32)] (Rect.unit ![0, 0] S2048x256.size inb_S2048x256_S2048x256_0_0).toLoadRect = k0_pay6 :=
    View.readCov_full _ _ _ _ _
  unfold kernelRun0_A.sl.v51
  rw [t2, t1]
  have hr : kernelRun0_A.sl.r c arg1 harg1 x0 = k0_pay4 x0 := by
    sl_unfold_words
    exact congrArg k0_pay4 e0
  have hh4 : arg4.view.read (Elt F) (arg4.view.writes (Elt F) arg4.view.junk (kernelRun0_A.sl.HS0_2 c i arg1 harg1 arg2 harg2 arg4 x0 x1)) = (first x0 (tile x1 (i 0).val)).1 := by
    sl_unfold_words
    rw [View.read_writes_full]
    erw [e0, e1, e4]
    rfl
  have hh5 : arg5.view.read (Elt F) (arg5.view.writes (Elt F) arg5.view.junk (kernelRun0_A.sl.HS1_2 c i arg1 harg1 arg2 harg2 arg4 arg5 x0 x1)) = (first x0 (tile x1 (i 0).val)).2 := by
    sl_unfold_words
    rw [View.read_writes_full]
    erw [e0, e1, e4, e5]
    rfl
  show View.readAt _ _ _ (arg5.view.writes (Elt F) arg5.view.junk ([] ++ (_ ++ _))) = _
  rw [List.nil_append, View.writes_append, View.readAt_eq_ld]
  rw [(loop_eq c i arg1 harg1 arg2 harg2 arg3 harg3 arg4 harg4 arg5 harg5 _ _ _ _ _ _ _ x0 x1 hr _ _ hh4 hh5 (i 0).val (trips1 i).ge).2]
  exact View.ld_unit_zero hz _ _

/-- The block a point writes, from the weighted sums `a`: the quotients, head `h`'s 256 rows in columns `128 h` onwards. -/
def outBlk (a : Vec F S2048x256 .f32) : Vec F S256x1024 .bf16 := fun y =>
  truncf .bf16 (k0_pay24 a) bitsLt_bf16_f32
    (ix2 ⟨(256 * ((y 1).val / 128) + (y 0).val) % 2048, Nat.mod_lt _ (by decide)⟩ ⟨(y 1).val % 128, Nat.mod_lt _ (by decide)⟩)

/-- Head `h`'s slice of the quotients is the block's columns from `128 h` on. -/
theorem head_eq (a : Vec F S2048x256 .f32) (h : ℕ) (hh : h < 8) (inb : ∀ d, (![0, 128 * h] : Fin 2 → ℕ) d + S256x128.size d ≤ S256x1024.size d)
    (sl : S2048x128.Slices ![256 * h, 0] S256x128) (x : S256x128.Idx) :
    truncf .bf16 (extractStridedSlice S256x128 ![256 * h, 0] (k0_pay24 a) sl) bitsLt_bf16_f32 x
      = outBlk a ((Rect.unit (s := S256x1024) ![0, 128 * h] S256x128.size inb).emb x) := by
  have h0 : (x 0).val < 256 := (x 0).isLt
  have h1 : (x 1).val < 128 := (x 1).isLt
  unfold outBlk
  refine congrArg (truncf .bf16 (k0_pay24 a) bitsLt_bf16_f32) (funext fun d => Fin.ext ?_)
  match d with
  | ⟨0, _⟩ =>
    show 256 * h + (x 0).val = (256 * ((128 * h + 1 * (x 1).val) / 128) + (0 + 1 * (x 0).val)) % 2048
    omega
  | ⟨1, _⟩ => show 0 + (x 1).val = (128 * h + 1 * (x 1).val) % 128; omega

/-- What a grid point writes back, from the queries' block and all the keys. -/
theorem out_eq (c : Dev nD) (i : grid0.Coords) (arg1 : Memref sig .tc .vmem S8x256x256 .bf16) (harg1 : arg1.IsWhole) (arg2 : Memref sig .tc .vmem S16384x256 .bf16) (harg2 : arg2.IsWhole)
    (arg3 : Memref sig .tc .vmem S256x1024 .bf16) (harg3 : arg3.IsWhole) (arg4 : Memref sig .tc .vmem S2048x128 .f32) (harg4 : arg4.IsWhole)
    (arg5 : Memref sig .tc .vmem S2048x256 .f32) (harg5 : arg5.IsWhole)
    (x0 : Vec F S8x256x256 .bf16) (x1 : Vec F S16384x256 .bf16) :
    out0_A_2 c i arg1 harg1 arg2 harg2 arg3 harg3 arg4 harg4 arg5 harg5 x0 x1 = outBlk (state x0 x1 (i 0).val (i 0).val).2 := by
  unfold out0_A_2
  rw [View.read_writes_eq_canon _ _ _ (cover0_A_2 c i arg1 harg1 arg2 harg2 arg3 harg3 arg4 harg4 arg5 harg5 x0 x1)]
  have hc := cover0_A_2 c i arg1 harg1 arg2 harg2 arg3 harg3 arg4 harg4 arg5 harg5 x0 x1
  revert hc
  unfold kernelRun0_A
  dsimp only
  unfold kernelRun0_A.sl.r_5 kernelRun0_A.sl.r_6
  simp only [v51_eq]
  intro hc
  funext y
  refine View.canon_apply_of_pieces (outBlk _) _ ?_ y (hc y)
  intro p hp x
  simp only [List.mem_cons, List.mem_nil_iff, or_false] at hp
  rcases hp with rfl | rfl | rfl | rfl | rfl | rfl | rfl | rfl
  · exact head_eq _ 7 (by decide) inb_S256x1024_S256x128_0_896 slices_S2048x128_o1792_0_S256x128 x
  · exact head_eq _ 6 (by decide) inb_S256x1024_S256x128_0_768 slices_S2048x128_o1536_0_S256x128 x
  · exact head_eq _ 5 (by decide) inb_S256x1024_S256x128_0_640 slices_S2048x128_o1280_0_S256x128 x
  · exact head_eq _ 4 (by decide) inb_S256x1024_S256x128_0_512 slices_S2048x128_o1024_0_S256x128 x
  · exact head_eq _ 3 (by decide) inb_S256x1024_S256x128_0_384 slices_S2048x128_o768_0_S256x128 x
  · exact head_eq _ 2 (by decide) inb_S256x1024_S256x128_0_256 slices_S2048x128_o512_0_S256x128 x
  · exact head_eq _ 1 (by decide) inb_S256x1024_S256x128_0_128 slices_S2048x128_o256_0_S256x128 x
  · exact head_eq _ 0 (by decide) inb_S256x1024_S256x128_0_0 slices_S2048x128_o0_0_S256x128 x

end Cert.MlaRun

end
-- ==== Proof.MlaHost.lean ====
/- The arrays the prompt attention is called with: the host's concatenation of the absorbed and the rotary part of a
   query, scaled, and of a key's latent, its rotary part and a lane of ones, each read at an index. -/
module

public import proofs.«01_k».proof.Proof.Gen.MlaIdeal.Frame.Runs
public import Idealize.ShloMosaic.Lib.Pointwise
public import Idealize.ShloMosaic.Lib.WordCmp

@[expose] public section

set_option maxRecDepth 16384

noncomputable section

namespace Cert.MlaHost

open Cert.MlaIdeal Cert.MlaIdeal.Gen
open Idealize.ShloMosaic Idealize.ShloMosaic.TcCoe Idealize.SL.Sem Idealize.ShloMosaic.Tactic Idealize.ShloMosaic.StableHlo

section
variable {F : FTy → Type} [FloatOps F]

/-- The keys' slab: latent, rotary part, ones in lane 160, noughts after. -/
def keys (a2 : FVec F S16384x128 .f32) (a3 : FVec F S16384x32 .f32) : FVec F S16384x256 .bf16 :=
  truncf .bf16 (concatenate S16384x256 1 [⟨S16384x128, a2⟩, ⟨S16384x128,
    select (cmpi .eq (iotaInDim S16384x128 32 1) (broadcastInDim S16384x128 ![] bcast_S_S16384x128 (constantI S_ 32 32#32)))
      (broadcastInDim S16384x128 ![] bcast_S_S16384x128 (constant S_ .f32 0x3F800000#32))
      (pad S16384x128 ![0, 0] ![0, 96] ![0, 0] a3 (sitofp .f32 (constantI S_ 32 0#32)) pads_S16384x32_S16384x128_000_0960 h_S_)⟩]
    concatenates_S16384x128_S16384x128_S16384x256_d1) bitsLt_bf16_f32

/-- The queries' slab: absorbed and rotary part, noughts after, scaled. -/
def queries (a0 : FVec F S16384x8x128 .f32) (a1 : FVec F S16384x8x32 .f32) : FVec F S8x16384x256 .bf16 :=
  truncf .bf16 (transpose S8x16384x256 [1, 0, 2] (mulf (concatenate S16384x8x256 2 [⟨S16384x8x128, a0⟩, ⟨S16384x8x128,
      pad S16384x8x128 ![0, 0, 0] ![0, 0, 96] ![0, 0, 0] a1 (sitofp .f32 (constantI S_ 32 0#32)) pads_S16384x8x32_S16384x8x128_000_000_0960 h_S_⟩]
      concatenates_S16384x8x128_S16384x8x128_S16384x8x256_d2)
    (broadcastInDim S16384x8x256 ![] bcast_S_S16384x8x256 (constant S_ .f32 0x3DD105EC#32))) transposes_S16384x8x256_S8x16384x256_1_0_2) bitsLt_bf16_f32
end

section
variable {F : FTy → Type} [FloatOps F] [Named F]
variable (m : (ℓ : Loc nD τ sig) → Buf (Elt F) ℓ) (c : Dev nD)

/-- The keys the call is given. -/
theorem V_keys : V m c main_v6 = keys (m ((c.tc : Thread nD τ).loc main_arg2)) (m ((c.tc : Thread nD τ).loc main_arg3)) := by
  unfold V
  simp only [hostOps0, hostOps0_1, hostOps0_2, hostOps0_3, hostOps0_4, hostOps0_5, hostOps0_6, List.flatten_cons, List.flatten_nil, List.append_nil, List.cons_append,
      List.nil_append, TRef.ternary, TRef.unary, TRef.binary, TRef.toBuf, TRef.ofBuf, cast_eq]
  after_results_simp <;> rfl

/-- The queries the call is given. -/
theorem V_queries : V m c main_v12 = queries (m ((c.tc : Thread nD τ).loc main_arg0)) (m ((c.tc : Thread nD τ).loc main_arg1)) := by
  unfold V
  simp only [hostOps0, hostOps0_1, hostOps0_2, hostOps0_3, hostOps0_4, hostOps0_5, hostOps0_6, List.flatten_cons, List.flatten_nil, List.append_nil, List.cons_append,
      List.nil_append, TRef.ternary, TRef.unary, TRef.binary, TRef.toBuf, TRef.ofBuf, cast_eq]
  after_results_simp <;> rfl
end

/-- Nought as a word is nought as a number. -/
theorem sitofp_zero : FloatOps.sitofp (F := Ideal) .f32 0#32 = 0 := by
  show (((0#32 : BitVec 32).toInt : ℝ) : EReal) = 0
  simp

/-- A key at a lane: the latent, then one in lane 160, then the rotary part, then nought. -/
theorem keys_apply (a2 : FVec Ideal S16384x128 .f32) (a3 : FVec Ideal S16384x32 .f32) (k : Fin 16384) (d : Fin 256) :
    keys a2 a3 (ix2 k d) = if h : d.val < 128 then a2 (ix2 k ⟨d.val, h⟩) else if d.val = 160 then 1
      else if h1 : d.val - 128 < 32 then a3 (ix2 k ⟨d.val - 128, h1⟩) else 0 := by
  pointwise [keys]
  by_cases h : d.val < 128
  · rw [dif_pos h, dif_pos h]
  · rw [dif_neg h, dif_neg h]
    have hd : d.val - 128 < 128 := by omega
    refine (if_congr ((WordCmp.cmpi_eq_ofNat_eq_one_iff (a := d.val - 128) (b := 32) (by omega) (by omega)).trans (by omega)) rfl ?_)
    split
    · rfl
    · exact sitofp_zero

/-- A query at a lane: the absorbed part, then the rotary part, then nought, times the scale. -/
theorem queries_apply (a0 : FVec Ideal S16384x8x128 .f32) (a1 : FVec Ideal S16384x8x32 .f32) (h : Fin 8) (r : Fin 16384) (d : Fin 256) :
    queries a0 a1 (ix3 h r d) = (if h0 : d.val < 128 then a0 (ix3 r h ⟨d.val, h0⟩)
      else if h1 : d.val - 128 < 32 then a1 (ix3 r h ⟨d.val - 128, h1⟩) else 0) * Ideal.ofBits .f32 0x3DD105EC#32 := by
  pointwise [queries]
  rw [sitofp_zero]

end Cert.MlaHost

end
-- ==== Proof.MlaArray.lean ====
/- The array the attention call leaves, at an index: the block of queries of a grid point, run through the blocks of keys. -/
module

public import proofs.«01_k».proof.Proof.Gen.MlaIdeal.Value
public import proofs.«01_k».proof.Proof.MlaRun
public import proofs.«01_k».proof.Proof.MlaHost
public import Idealize.ShloMosaic.Lib.Pipeline.ValueKit

@[expose] public section

set_option maxRecDepth 16384

noncomputable section

namespace Cert.MlaArray

open Cert.MlaIdeal Cert.MlaIdeal.Gen Cert.MlaRun Cert.MlaHost
open Idealize.ShloMosaic Idealize.ShloMosaic.TcCoe Idealize.SL.Sem Idealize.ShloMosaic.Tactic

variable {F : FTy → Type} [FloatOps F] [Named F]
variable (m : (ℓ : Loc nD τ sig) → Buf (Elt F) ℓ) (c : Dev nD)

/-- Where each window's block lies, and the grid's coordinate. -/
theorem idx : ∀ t : Fin cfg0.N, win0_0.index t = ![0, t.val, 0] ∧ win0_1.index t = ![0, 0] ∧ win0_2.index t = ![t.val, 0]
    ∧ (grid0.coords t 0).val = t.val :=
  (by decide +kernel : ∀ t : Fin grid0.N, _)

/-- Grid point `i`. -/
def pt (i : Fin 64) : Fin cfg0.N := ⟨i.val, by have := N_0; have := i.isLt; show i.val < grid0.N; omega⟩

/-- The block of queries of a grid point. -/
theorem iblk0_apply (i : Fin 64) (h : Fin 8) (r d : Fin 256) :
    iblk m c 0 (pt i) (ix3 h r d) = queries (m ((c.tc : Thread nD τ).loc main_arg0)) (m ((c.tc : Thread nD τ).loc main_arg1))
      (ix3 h ⟨256 * i.val + r.val, by omega⟩ d) := by
  rw [← V_queries m c]
  show V m c main_v12 (((cfg0.win 0).blk (pt i)).view.emb (ix3 h r d)) = V m c main_v12 _
  congr 1
  obtain ⟨e, -, -, -⟩ := idx (pt i)
  have hp : (pt i).val = i.val := rfl
  blk_ext [e, hp]

/-- The block of keys of a grid point is all the keys. -/
theorem iblk1_apply (i : Fin 64) (k : Fin 16384) (d : Fin 256) :
    iblk m c 1 (pt i) (ix2 k d) = keys (m ((c.tc : Thread nD τ).loc main_arg2)) (m ((c.tc : Thread nD τ).loc main_arg3)) (ix2 k d) := by
  rw [← V_keys m c]
  show V m c main_v6 (((cfg0.win 1).blk (pt i)).view.emb (ix2 k d)) = V m c main_v6 _
  congr 1
  obtain ⟨-, e, -, -⟩ := idx (pt i)
  blk_ext [e]

/-- The result array at an index: the block its row lies in. -/
theorem arrAt_apply (i : Fin 64) (r : Fin 256) (l : Fin 1024) :
    (dats m 0 c).arrAt 2 cfg0.N (ix2 ⟨256 * i.val + r.val, by omega⟩ l)
      = outBlk (state (iblk m c 0 (pt i)) (iblk m c 1 (pt i)) i.val i.val).2 (ix2 r l) := by
  have b := congrFun (Value.blocks2 m c (pt i) (flush0_2 _)) (ix2 r l)
  rw [Value.flushed2_A, out_eq] at b
  obtain ⟨-, -, e, e'⟩ := idx (pt i)
  refine Eq.trans ?_ (b.trans ?_)
  · show _ = (dats m 0 c).arrAt 2 cfg0.N (((cfg0.win 2).blk (pt i)).view.emb (ix2 r l))
    congr 1
    have hp : (pt i).val = i.val := rfl
    blk_ext [e, hp]
  · rw [e']
    rfl

end Cert.MlaArray

end
-- ==== Proof.Softmax.lean ====
/- The arithmetic of an online softmax over the extended reals, with no program in sight: sums of finite values
   stay finite, a running maximum of logits that are finite or −∞ is finite as soon as one of them is, and the
   quotient of the two exponential sums does not depend on which finite number is taken off the logits. -/
module

public import Idealize.ShloMosaic.PureOps.Ideal
public import Idealize.ShloMosaic.PureOps.Ideal.Laws

@[expose] public section

set_option maxRecDepth 65536

noncomputable section

namespace Cert.Softmax

open Idealize.ShloMosaic
open scoped BigOperators

/-- A sum of real numbers is the same number read among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The exponential of a real number is a real number. -/
theorem exp_coe (x : ℝ) : Ideal.exp (x : EReal) = (Real.exp x : EReal) := rfl

/-- The exponential of −∞ is nought. -/
theorem exp_bot : Ideal.exp ⊥ = 0 := rfl

/-- The division of real numbers by a divisor other than nought. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A value that is a real number or −∞. -/
def Low (x : EReal) : Prop := x ≠ ⊤

/-- The maximum of finitely many values other than +∞, one of them a real number, is a real number. -/
theorem fold_max_real {ι : Type*} (s : Finset ι) (a : EReal) (g : ι → EReal) (ha : Low a) (hg : ∀ i ∈ s, Low (g i))
    (h : a ≠ ⊥ ∨ ∃ i ∈ s, g i ≠ ⊥) : ∃ M : ℝ, s.fold max a g = (M : EReal) := by
  classical
  have htop : s.fold max a g ≠ ⊤ := by
    have : s.fold max a g < ⊤ := by
      rw [Finset.fold_max_lt]
      exact ⟨lt_top_iff_ne_top.mpr ha, fun i hi => lt_top_iff_ne_top.mpr (hg i hi)⟩
    exact this.ne
  have hbot : s.fold max a g ≠ ⊥ := by
    have : ⊥ < s.fold max a g := by
      rw [Finset.lt_fold_max]
      rcases h with h | ⟨i, hi, h⟩
      · exact Or.inl (bot_lt_iff_ne_bot.mpr h)
      · exact Or.inr ⟨i, hi, bot_lt_iff_ne_bot.mpr h⟩
    exact this.ne'
  exact ⟨(s.fold max a g).toReal, (EReal.coe_toReal htop hbot).symm⟩

/-- The quotient of the two exponential sums of a softmax, whatever finite number is taken off the logits. -/
theorem quotient_shift {ι : Type*} (s : Finset ι) (l v : ι → ℝ) (M N : ℝ) :
    (∑ i ∈ s, Real.exp (l i - M) * v i) / (∑ i ∈ s, Real.exp (l i - M))
      = (∑ i ∈ s, Real.exp (l i - N) * v i) / (∑ i ∈ s, Real.exp (l i - N)) := by
  have e : ∀ i, Real.exp (l i - M) = Real.exp (N - M) * Real.exp (l i - N) := fun i => by
    rw [← Real.exp_add]; congr 1; ring
  have h0 : Real.exp (N - M) ≠ 0 := (Real.exp_pos _).ne'
  simp only [e, mul_assoc]
  rw [← Finset.mul_sum, ← Finset.mul_sum, mul_div_mul_left _ _ h0]

/-- A sum over 256 places taken half by half. -/
theorem sum_halves (f : Fin 256 → EReal) :
    ∑ x : Fin 128, f ⟨x.val, by omega⟩ + ∑ x : Fin 128, f ⟨128 + x.val, by omega⟩ = ∑ x : Fin 256, f x :=
  (Fin.sum_univ_add (a := 128) (b := 128) f).symm

/-! ## Tiles of 256 keys -/

/-- The keys query row `r` of query block `i` has attended to after its diagonal tile and the tiles before `J`. -/
def seen (i r J : ℕ) : Finset (Fin 16384) :=
  Finset.univ.filter fun k => (k.val / 256 = i ∧ k.val % 256 ≤ r) ∨ k.val / 256 < J

/-- A sum over the keys whose tile is `J` is the sum over the 256 places of that tile. -/
theorem sum_tile (J : ℕ) (hJ : J < 64) (f : Fin 16384 → ℝ) :
    ∑ k ∈ Finset.univ.filter (fun k : Fin 16384 => k.val / 256 = J), f k
      = ∑ c : Fin 256, f ⟨256 * J + c.val, by omega⟩ := by
  refine Finset.sum_bij' (fun k _ => (⟨k.val % 256, by omega⟩ : Fin 256)) (fun c _ => ⟨256 * J + c.val, by omega⟩) ?_ ?_ ?_ ?_ ?_
  · intro a _; exact Finset.mem_univ _
  · intro c _; simp only [Finset.mem_filter, Finset.mem_univ, true_and]; omega
  · intro a ha; simp only [Finset.mem_filter, Finset.mem_univ, true_and] at ha; ext; simp only; omega
  · intro c _; ext; simp only; omega
  · intro a ha; simp only [Finset.mem_filter, Finset.mem_univ, true_and] at ha
    congr 1; ext; simp only; omega

/-- The diagonal tile alone. -/
theorem sum_seen_zero (i r : ℕ) (hi : i < 64) (f : Fin 16384 → ℝ) :
    ∑ k ∈ seen i r 0, f k = ∑ c : Fin 256, (if c.val ≤ r then f ⟨256 * i + c.val, by omega⟩ else 0) := by
  rw [← show _ = _ from (sum_tile i hi fun k => if k.val % 256 ≤ r then f k else 0).trans (Finset.sum_congr rfl fun c _ => by
    have h : (256 * i + c.val) % 256 = c.val := by omega
    simp only [h])]
  rw [← Finset.sum_filter, Finset.filter_filter]
  refine Finset.sum_congr ?_ fun _ _ => rfl
  ext k
  simp [seen]

/-- One more tile. -/
theorem sum_seen_succ (i r J : ℕ) (hJ : J < i) (hi : i < 64) (f : Fin 16384 → ℝ) :
    ∑ k ∈ seen i r (J + 1), f k = ∑ k ∈ seen i r J, f k + ∑ c : Fin 256, f ⟨256 * J + c.val, by omega⟩ := by
  rw [← sum_tile J (by omega) f, ← Finset.sum_union]
  · refine Finset.sum_congr ?_ fun _ _ => rfl
    ext k
    simp only [seen, Finset.mem_union, Finset.mem_filter, Finset.mem_univ, true_and]
    omega
  · unfold seen; rw [Finset.disjoint_filter]
    intro k _ h
    omega

/-- All tiles before the diagonal one: the keys up to the query's own place. -/
theorem seen_last (i r : ℕ) (hr : r < 256) :
    seen i r i = Finset.univ.filter fun k : Fin 16384 => k.val ≤ 256 * i + r := by
  ext k
  simp only [seen, Finset.mem_filter, Finset.mem_univ, true_and]
  omega

/-! ## The recursion on a row, over finite queries and keys -/

/-- The first tile: with its masked logits `s` (−∞ above the diagonal) the new maximum is finite and the sums are those of
the diagonal tile's keys. -/
theorem first_row (i r : ℕ) (hi : i < 64) (l v : Fin 16384 → ℝ) (s : Fin 256 → EReal) (w : Fin 256 → EReal)
    (hs : ∀ c : Fin 256, s c = if c.val ≤ r then (l ⟨256 * i + c.val, by omega⟩ : EReal) else ⊥)
    (hw : ∀ c : Fin 256, w c = (v ⟨256 * i + c.val, by omega⟩ : EReal)) (M : ℝ) :
    ∑ c, Ideal.exp (s c - (M : EReal)) * w c = ((∑ k ∈ seen i r 0, Real.exp (l k - M) * v k : ℝ) : EReal) := by
  rw [sum_seen_zero i r hi, ← coe_sum]
  refine Finset.sum_congr rfl fun c _ => ?_
  rw [hs, hw]
  split
  · rw [← EReal.coe_sub, exp_coe, ← EReal.coe_mul]
  · rw [EReal.bot_sub, exp_bot, zero_mul, EReal.coe_zero]

/-- A further tile: the sums so far are rescaled to the new maximum and the tile's own are added. -/
theorem next_row (i r J : ℕ) (hJ : J < i) (hi : i < 64) (l v : Fin 16384 → ℝ) (s : Fin 256 → EReal) (w : Fin 256 → EReal)
    (hs : ∀ c : Fin 256, s c = (l ⟨256 * J + c.val, by omega⟩ : EReal))
    (hw : ∀ c : Fin 256, w c = (v ⟨256 * J + c.val, by omega⟩ : EReal)) (M N : ℝ) :
    ((∑ k ∈ seen i r J, Real.exp (l k - M) * v k : ℝ) : EReal) * Ideal.exp ((M : EReal) - (N : EReal))
      + ∑ c, Ideal.exp (s c - (N : EReal)) * w c = ((∑ k ∈ seen i r (J + 1), Real.exp (l k - N) * v k : ℝ) : EReal) := by
  rw [sum_seen_succ i r J hJ hi, ← EReal.coe_sub, exp_coe, ← EReal.coe_mul, EReal.coe_add, Finset.sum_mul, ← coe_sum]
  congr 1
  · rw [← coe_sum]
    refine Finset.sum_congr rfl fun k _ => ?_
    rw [EReal.coe_eq_coe_iff, mul_right_comm, ← Real.exp_add]
    congr 2; ring
  · rw [← coe_sum]
    refine Finset.sum_congr rfl fun c _ => ?_
    rw [hs, hw, ← EReal.coe_sub, exp_coe, ← EReal.coe_mul]

/-! ## The softmax the reference writes -/

/-- A masked softmax followed by the weighted sum of the values is the quotient of the two exponential sums over the keys kept,
taken at any finite number. -/
theorem masked_softmax {ι : Type*} [Fintype ι] (p : ι → Prop) [DecidablePred p] (l v : ι → ℝ) (s w : ι → EReal)
    (hs : ∀ k, s k = if p k then (l k : EReal) else ⊥) (hw : ∀ k, w k = (v k : EReal)) (hp : ∃ k, p k) (M N : ℝ) :
    ∑ k, w k * Ideal.div (Ideal.exp (s k - (M : EReal))) (0 + ∑ k', Ideal.exp (s k' - (M : EReal)))
      = (((∑ k ∈ Finset.univ.filter p, Real.exp (l k - N) * v k) / ∑ k ∈ Finset.univ.filter p, Real.exp (l k - N) : ℝ) : EReal) := by
  have e : ∀ k, Ideal.exp (s k - (M : EReal)) = ((if p k then Real.exp (l k - M) else 0 : ℝ) : EReal) := fun k => by
    rw [hs]
    split
    · rw [← EReal.coe_sub, exp_coe]
    · rw [EReal.bot_sub, exp_bot, EReal.coe_zero]
  have hpos : 0 < ∑ k ∈ Finset.univ.filter p, Real.exp (l k - M) := by
    obtain ⟨k, hk⟩ := hp
    exact Finset.sum_pos (fun _ _ => Real.exp_pos _) ⟨k, by simp [hk]⟩
  simp only [e, coe_sum, zero_add, hw]
  rw [← Finset.sum_filter]
  simp only [div_coe _ _ hpos.ne', ← EReal.coe_mul, coe_sum]
  rw [EReal.coe_eq_coe_iff, quotient_shift _ l v N M, Finset.sum_div]
  rw [Finset.sum_filter p fun k => Real.exp (l k - M) * v k / ∑ k ∈ Finset.univ.filter p, Real.exp (l k - M)]
  refine Finset.sum_congr rfl fun k _ => ?_
  split
  · ring
  · simp

end Cert.Softmax

end
-- ==== Proof.MlaPayload.lean ====
/- The values one grid point of the prompt attention computes, each read at an index over the extended reals: the
   tile's logits, the running maximum, the weighted sums and the quotient. -/
module

public import proofs.«01_k».proof.Proof.MlaRun
public import proofs.«01_k».proof.Proof.Softmax
public import Idealize.ShloMosaic.Lib.Pointwise

@[expose] public section

set_option maxRecDepth 16384

noncomputable section

namespace Cert.MlaBlock

open Cert.MlaIdeal Cert.MlaIdeal.Gen Cert.MlaRun Cert.Softmax
open Idealize.ShloMosaic Idealize.ShloMosaic.TcCoe Idealize.SL.Sem Idealize.ShloMosaic.Tactic

/-- The pattern of −∞ denotes −∞. -/
theorem ofBits_neg_inf : Ideal.ofBits .f32 0xFF800000#32 = ⊥ := by
  simp [Ideal.ofBits, Ideal.ieee]

/-- The named mask value is −∞. -/
theorem mask_eq : (Named.named κ "mask" 0xF149F2CA#32 : Ideal .f32) = ⊥ := rfl

/-! ## The payloads at an index -/

theorem tile_apply (x1 : Vec Ideal S16384x256 .bf16) (J : ℕ) (hJ : J < 64) (r d : Fin 256) :
    tile x1 J (ix2 r d) = x1 (ix2 ⟨256 * J + r.val, by omega⟩ d) := by
  refine congrArg x1 (funext fun a => Fin.ext ?_)
  match a with
  | ⟨0, _⟩ => show (256 * J + r.val) % 16384 = 256 * J + r.val; omega
  | ⟨1, _⟩ => rfl

theorem pay4_apply (x0 : Vec Ideal S8x256x256 .bf16) (ρ : Fin 2048) (d : Fin 256) :
    k0_pay4 x0 (ix2 ρ d) = x0 (ix3 ⟨ρ.val / 256, by omega⟩ ⟨ρ.val % 256, by omega⟩ d) := by
  pointwise [k0_pay4]

theorem pay8_apply (x0 : Vec Ideal S8x256x256 .bf16) (k : Vec Ideal S256x256 .bf16) (ρ : Fin 2048) (d : Fin 256) :
    k0_pay8 x0 k (ix2 ρ d)
      = if d.val ≤ ρ.val % 256 then ∑ x, x0 (ix3 ⟨ρ.val / 256, by omega⟩ ⟨ρ.val % 256, by omega⟩ x) * k (ix2 d x) else ⊥ := by
  pointwise [k0_pay8, k0_pay4, k0_pay7]
  rw [mask_eq]
  exact if_congr (WordCmp.cmpi_sle_ofNat_eq_one_iff (by omega) (by omega)) rfl rfl

theorem pay9_apply (x0 : Vec Ideal S8x256x256 .bf16) (k : Vec Ideal S256x256 .bf16) (m : Vec Ideal S2048x128 .f32) (ρ : Fin 2048) (l : Fin 128) :
    k0_pay9 x0 k m (ix2 ρ l) = max (m (ix2 ρ l)) (Finset.univ.fold max ⊥ fun x => k0_pay8 x0 k (ix2 ρ x)) := by
  pointwise [k0_pay9]
  rw [ofBits_neg_inf]

theorem pay16_apply (q : FVec Ideal S2048x256 .bf16) (k : Vec Ideal S256x256 .bf16) (m : Vec Ideal S2048x128 .f32) (ρ : Fin 2048) (l : Fin 128) :
    k0_pay16 q k m (ix2 ρ l) = max (m (ix2 ρ l)) (Finset.univ.fold max ⊥ fun x => k0_pay15 q k (ix2 ρ x)) := by
  pointwise [k0_pay16]
  rw [ofBits_neg_inf]

theorem pay15_apply (q : FVec Ideal S2048x256 .bf16) (k : Vec Ideal S256x256 .bf16) (ρ : Fin 2048) (c : Fin 256) :
    k0_pay15 q k (ix2 ρ c) = ∑ x, q (ix2 ρ x) * k (ix2 c x) := by
  pointwise [k0_pay15, k0_pay14]

theorem pay18_apply (q : FVec Ideal S2048x256 .bf16) (k : Vec Ideal S256x256 .bf16) (m : Vec Ideal S2048x128 .f32) (ρ : Fin 2048) (l : Fin 128) :
    k0_pay18 q k m (ix2 ρ l) = k0_pay16 q k m (ix2 ρ l) := by
  pointwise [k0_pay18]

theorem pay13_apply (m : FVec Ideal S2048x128 .f32) (ρ : Fin 2048) (l : Fin 128) : k0_pay13 m (ix2 ρ l) = m (ix2 ρ l) := by
  pointwise [k0_pay13]

/-- A tile's new sums, when the old and the new maximum of the row are the numbers `M` and `N` in every lane. -/
theorem pay17_apply (q : FVec Ideal S2048x256 .bf16) (k : Vec Ideal S256x256 .bf16) (m : Vec Ideal S2048x128 .f32) (a : Vec Ideal S2048x256 .f32)
    (ρ : Fin 2048) (d : Fin 256) (M N : EReal) (hM : ∀ l, m (ix2 ρ l) = M) (hN : ∀ l, k0_pay16 q k m (ix2 ρ l) = N) :
    k0_pay17 q k m a (ix2 ρ d)
      = a (ix2 ρ d) * Ideal.exp (M - N) + ∑ c, Ideal.exp (k0_pay15 q k (ix2 ρ c) - N) * k (ix2 c d) := by
  have h14 : ∀ c d, k0_pay14 k (ix2 c d) = k (ix2 c d) := fun c d => by pointwise [k0_pay14]
  pointwise [k0_pay17]
  simp only [hM, hN, h14, dite_eq_ite, ite_self]
  rw [sum_halves fun c => Ideal.exp (k0_pay15 q k (ix2 ρ c) - N) * k (ix2 c d)]

/-- The first tile's sums, when the row's maximum is the number `N` in every lane. -/
theorem first_apply (x0 : Vec Ideal S8x256x256 .bf16) (k : Vec Ideal S256x256 .bf16)
    (ρ : Fin 2048) (d : Fin 256) (N : EReal) (hN : ∀ l, k0_pay9 x0 k (k0_pay5 (F := Ideal)) (ix2 ρ l) = N) :
    (first x0 k).2 (ix2 ρ d) = ∑ c, Ideal.exp (k0_pay8 x0 k (ix2 ρ c) - N) * k (ix2 c d) := by
  have h7 : ∀ c d, k0_pay7 k (ix2 c d) = k (ix2 c d) := fun c d => by pointwise [k0_pay7]
  have h6 : k0_pay6 (F := Ideal) (ix2 ρ d) = 0 := by pointwise [k0_pay6]
  have h10 : k0_pay10 (F := Ideal) x0 k (k0_pay5 (F := Ideal)) (k0_pay6 (F := Ideal)) (ix2 ρ d) = 0 := by
    pointwise [k0_pay10]
    rw [h6, zero_mul]
  have h11 : ∀ c, k0_pay11 (F := Ideal) x0 k (k0_pay5 (F := Ideal)) (ix2 ρ c) = Ideal.exp (k0_pay8 x0 k (ix2 ρ c) - N) := fun c => by
    pointwise [k0_pay11]
    simp only [hN, dite_eq_ite, ite_self]
  show k0_pay12 _ _ _ _ _ = _
  pointwise [k0_pay12]
  simp only [h10, h11, h7, zero_add]

theorem pay24_apply (a : Vec Ideal S2048x256 .f32) (ρ : Fin 2048) (d : Fin 128) :
    k0_pay24 a (ix2 ρ d) = Ideal.div (a (ix2 ρ ⟨d.val, by omega⟩)) (a (ix2 ρ ⟨160, by decide⟩)) := by
  pointwise [k0_pay24]

end Cert.MlaBlock

end
-- ==== Proof.MlaBlock.lean ====
/- The block a grid point of the prompt attention writes, over the extended reals: with finite queries and keys the
   recursion's running maximum is a real number and its weighted sums are the exponential sums over the keys seen so
   far, so the block holds the quotient of two exponential sums over the keys up to the query's own place. -/
module

public import proofs.«01_k».proof.Proof.MlaPayload
public import proofs.«01_k».proof.Proof.Softmax
public import Idealize.ShloMosaic.Lib.Pointwise

@[expose] public section

set_option maxRecDepth 16384

noncomputable section

namespace Cert.MlaBlock

open Cert.MlaIdeal Cert.MlaIdeal.Gen Cert.MlaRun Cert.Softmax
open Idealize.ShloMosaic Idealize.ShloMosaic.TcCoe Idealize.SL.Sem Idealize.ShloMosaic.Tactic

/-! ## The recursion over finite queries and keys -/

/-- A query row's logit at a key. -/
def logit (q : Fin 256 → ℝ) (K : Fin 16384 → Fin 256 → ℝ) (k : Fin 16384) : ℝ := ∑ x, q x * K k x

/-- The sum of products of real numbers, as the logit. -/
theorem logit_coe (q : Fin 256 → ℝ) (K : Fin 16384 → Fin 256 → ℝ) (k : Fin 16384) :
    ∑ x, (q x : EReal) * (K k x : EReal) = (logit q K k : EReal) := by
  unfold logit
  rw [← coe_sum]
  exact Finset.sum_congr rfl fun x _ => (EReal.coe_mul _ _).symm

/-- The recursion's values in row `ρ` of block `i` once the tiles before `J` are in: some finite number stands in for the
maximum, and the sums are the exponential sums over the keys seen. -/
def Holds (i : ℕ) (q : Fin 256 → ℝ) (K : Fin 16384 → Fin 256 → ℝ) (ρ : Fin 2048) (J : ℕ)
    (s : Vec Ideal S2048x128 .f32 × Vec Ideal S2048x256 .f32) : Prop :=
  ∃ M : ℝ, (∀ l, s.1 (ix2 ρ l) = (M : EReal))
    ∧ ∀ d, s.2 (ix2 ρ d) = ((∑ k ∈ seen i (ρ.val % 256) J, Real.exp (logit q K k - M) * K k d : ℝ) : EReal)

section
variable (x0 : Vec Ideal S8x256x256 .bf16) (x1 : Vec Ideal S16384x256 .bf16) (i : ℕ) (hi : i < 64) (q : Fin 256 → ℝ) (K : Fin 16384 → Fin 256 → ℝ) (ρ : Fin 2048)
  (hq : ∀ d, x0 (ix3 ⟨ρ.val / 256, by omega⟩ ⟨ρ.val % 256, by omega⟩ d) = (q d : EReal)) (hK : ∀ k d, x1 (ix2 k d) = (K k d : EReal))
include hi hq hK

/-- It holds after the diagonal tile. -/
theorem holds_first : Holds i q K ρ 0 (first x0 (tile x1 i)) := by
  have h8 : ∀ c : Fin 256, k0_pay8 x0 (tile x1 i) (ix2 ρ c) = if c.val ≤ ρ.val % 256 then (logit q K ⟨256 * i + c.val, by omega⟩ : EReal) else ⊥ := fun c => by
    rw [pay8_apply]
    refine if_congr Iff.rfl ?_ rfl
    rw [← logit_coe]
    exact Finset.sum_congr rfl fun x _ => by rw [hq, tile_apply x1 i hi, hK]
  have h5 : ∀ l : Fin 128, k0_pay5 (F := Ideal) (ix2 ρ l) = ⊥ := fun l => by pointwise [k0_pay5]; exact ofBits_neg_inf
  obtain ⟨M, hM⟩ := fold_max_real Finset.univ ⊥ (fun c => k0_pay8 x0 (tile x1 i) (ix2 ρ c)) bot_ne_top
    (fun c _ => by
      show k0_pay8 x0 (tile x1 i) (ix2 ρ c) ≠ ⊤
      rw [h8]; split
      · exact EReal.coe_ne_top _
      · exact bot_ne_top)
    (Or.inr ⟨⟨0, by decide⟩, Finset.mem_univ _, by
      rw [h8, if_pos (Nat.zero_le _)]; exact EReal.coe_ne_bot _⟩)
  have h9 : ∀ l : Fin 128, k0_pay9 x0 (tile x1 i) (k0_pay5 (F := Ideal)) (ix2 ρ l) = (M : EReal) := fun l => by
    rw [pay9_apply, hM, h5, max_eq_right bot_le]
  refine ⟨M, fun l => ?_, fun d => ?_⟩
  · rw [show (first x0 (tile x1 i)).1 = k0_pay13 (k0_pay9 x0 (tile x1 i) (k0_pay5 (F := Ideal))) from rfl, pay13_apply]; exact h9 l
  · rw [first_apply x0 (tile x1 i) ρ d M h9]
    exact first_row i (ρ.val % 256) hi (logit q K) (fun k => K k d) _ _ h8 (fun c => by rw [tile_apply x1 i hi, hK]) M

/-- A further tile keeps it. -/
theorem holds_next (J : ℕ) (hJ : J < i) (s : Vec Ideal S2048x128 .f32 × Vec Ideal S2048x256 .f32) (h : Holds i q K ρ J s) :
    Holds i q K ρ (J + 1) (next (k0_pay4 x0) (tile x1 J) s) := by
  obtain ⟨M, h1, h2⟩ := h
  have h15 : ∀ c : Fin 256, k0_pay15 (k0_pay4 x0) (tile x1 J) (ix2 ρ c) = (logit q K ⟨256 * J + c.val, by omega⟩ : EReal) := fun c => by
    rw [pay15_apply, ← logit_coe]
    exact Finset.sum_congr rfl fun x _ => by rw [pay4_apply, hq, tile_apply x1 J (by omega), hK]
  obtain ⟨T, hT⟩ := fold_max_real Finset.univ ⊥ (fun c => k0_pay15 (k0_pay4 x0) (tile x1 J) (ix2 ρ c)) bot_ne_top
    (fun c _ => by
      show k0_pay15 (k0_pay4 x0) (tile x1 J) (ix2 ρ c) ≠ ⊤
      rw [h15]; exact EReal.coe_ne_top _)
    (Or.inr ⟨0, Finset.mem_univ _, by rw [h15]; exact EReal.coe_ne_bot _⟩)
  have h16 : ∀ l : Fin 128, k0_pay16 (k0_pay4 x0) (tile x1 J) s.1 (ix2 ρ l) = ((max M T : ℝ) : EReal) := fun l => by
    rw [pay16_apply, hT, h1]
    exact (EReal.coe_strictMono.monotone.map_max).symm
  refine ⟨max M T, fun l => ?_, fun d => ?_⟩
  · exact (pay18_apply _ _ _ ρ l).trans (h16 l)
  · show k0_pay17 _ _ _ _ _ = _
    rw [pay17_apply _ _ _ _ ρ d M (max M T : ℝ) h1 h16, h2]
    exact next_row i (ρ.val % 256) J hJ hi (logit q K) (fun k => K k d) _ _ h15 (fun c => by rw [tile_apply x1 J (by omega), hK]) M (max M T)

/-- So it holds after all the tiles. -/
theorem holds_state : ∀ J : ℕ, J ≤ i → Holds i q K ρ J (state x0 x1 i J)
  | 0, _ => holds_first x0 x1 i hi q K ρ hq hK
  | J + 1, hJ => holds_next x0 x1 i hi q K ρ hq hK J hJ _ (holds_state J (Nat.le_of_succ_le hJ))
end

/-- What the block holds at row `r`, head `h`, lane `l`: the quotient of the exponential sums over the keys up to the query's
own place, the keys' lane 160 holding ones. -/
theorem outBlk_apply (x0 : Vec Ideal S8x256x256 .bf16) (x1 : Vec Ideal S16384x256 .bf16) (i : ℕ) (hi : i < 64) (q : Fin 256 → ℝ) (K : Fin 16384 → Fin 256 → ℝ)
    (h : Fin 8) (r : Fin 256) (l : Fin 128)
    (hq : ∀ d, x0 (ix3 h r d) = (q d : EReal)) (hK : ∀ k d, x1 (ix2 k d) = (K k d : EReal)) (hone : ∀ k, K k ⟨160, by decide⟩ = 1) (N : ℝ) :
    outBlk (state x0 x1 i i).2 (ix2 r ⟨128 * h.val + l.val, by omega⟩)
      = (((∑ k ∈ Finset.univ.filter (fun k : Fin 16384 => k.val ≤ 256 * i + r.val), Real.exp (logit q K k - N) * K k ⟨l.val, by omega⟩)
          / ∑ k ∈ Finset.univ.filter (fun k : Fin 16384 => k.val ≤ 256 * i + r.val), Real.exp (logit q K k - N) : ℝ) : EReal) := by
  have hd : (256 * h.val + r.val) / 256 = h.val := by omega
  have hm : (256 * h.val + r.val) % 256 = r.val := by omega
  obtain ⟨M, -, h2⟩ := holds_state x0 x1 i hi q K ⟨256 * h.val + r.val, by omega⟩
    (fun d => by
      rw [← hq d]
      exact congrArg x0 (by congr 1 <;> exact Fin.ext (by assumption))) hK i le_rfl
  have e : outBlk (state x0 x1 i i).2 (ix2 r ⟨128 * h.val + l.val, by omega⟩) = k0_pay24 (state x0 x1 i i).2 (ix2 ⟨256 * h.val + r.val, by omega⟩ l) := by
    refine congrArg (k0_pay24 (F := Ideal) (state x0 x1 i i).2) (funext fun a => Fin.ext ?_)
    match a with
    | ⟨0, _⟩ => show (256 * ((128 * h.val + l.val) / 128) + r.val) % 2048 = 256 * h.val + r.val; omega
    | ⟨1, _⟩ => show (128 * h.val + l.val) % 128 = l.val; omega
  rw [e, pay24_apply, h2, h2]
  simp only [hm, hone, mul_one, seen_last i r.val r.isLt]
  have hpos : 0 < ∑ k ∈ Finset.univ.filter (fun k : Fin 16384 => k.val ≤ 256 * i + r.val), Real.exp (logit q K k - M) :=
    Finset.sum_pos (fun _ _ => Real.exp_pos _) ⟨⟨0, by omega⟩, by simp⟩
  rw [div_coe _ _ hpos.ne', quotient_shift _ _ _ M N]

end Cert.MlaBlock

end
-- ==== Proof.MlaReference.lean ====
/- The attention the reference writes, step by step, each step read at an index over the extended reals. -/
module

public import proofs.«01_k».proof.Proof.Gen.MlaRefIdeal.Run
public import proofs.«01_k».proof.Proof.Softmax
public import Idealize.ShloMosaic.Lib.Pointwise
public import Idealize.ShloMosaic.Lib.WordCmp

@[expose] public section

set_option maxRecDepth 16384

noncomputable section

namespace Cert.MlaReference

open Cert.MlaRefIdeal Cert.MlaRefIdeal.Gen
open Idealize.ShloMosaic Idealize.ShloMosaic.TcCoe Idealize.SL.Sem Idealize.ShloMosaic.Tactic Idealize.ShloMosaic.StableHlo

variable {F : FTy → Type} [FloatOps F]
variable (a0 : FVec F S16384x8x128 .f32) (a1 : FVec F S16384x8x32 .f32) (a2 : FVec F S16384x128 .f32) (a3 : FVec F S16384x32 .f32)

/-- The masked logits. -/
def logits : FVec F S8x16384x16384 .f32 :=
  select (broadcastInDim S8x16384x16384 ![1, 2] bcast_S16384x16384_S8x16384x16384_1_2 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0)))))
    (mulf (addf (transpose S8x16384x16384 [2, 1, 0] (Host.dotGeneral dot_S16384x128_S16384x8x128_S16384x16384x8_1_2_0_01_n_n none a2 a0) transposes_S16384x16384x8_S8x16384x16384_2_1_0)
        (transpose S8x16384x16384 [2, 1, 0] (Host.dotGeneral dot_S16384x32_S16384x8x32_S16384x16384x8_1_2_0_01_n_n none a3 a1) transposes_S16384x16384x8_S8x16384x16384_2_1_0))
      (broadcastInDim S8x16384x16384 ![] bcast_S_S8x16384x16384 (constant S_ .f32 0x3DD105EC#32)))
    (broadcastInDim S8x16384x16384 ![] bcast_S_S8x16384x16384 (id (constant S_ .f32 0xFF800000#32)))

/-- The row maxima of logits `s`. -/
def rowMax (s : FVec F S8x16384x16384 .f32) : FVec F S8x16384 .f32 :=
  maximumf (broadcastInDim S8x16384 ![] bcast_S_S8x16384 (constant S_ .f32 0xFF800000#32))
    (Host.reduce FloatOps.maximumf s (constant S_ .f32 0xFF800000#32) reducesTo_S8x16384x16384_S8x16384_d2 h_S_)

/-- The exponentials of the logits less their row's maximum `x`. -/
def expo (s : FVec F S8x16384x16384 .f32) (x : FVec F S8x16384 .f32) : FVec F S8x16384x16384 .f32 :=
  Host.exp (subf s (broadcastInDim S8x16384x16384 ![0, 1, 2] bcast_S8x16384x1_S8x16384x16384_0_1_2 (broadcastInDim S8x16384x1 ![0, 1] bcast_S8x16384_S8x16384x1_0_1 x)))

/-- The exponentials `e` over their row's sum. -/
def weights (e : FVec F S8x16384x16384 .f32) : FVec F S8x16384x16384 .f32 :=
  Host.divf e (broadcastInDim S8x16384x16384 ![0, 1, 2] bcast_S8x16384x1_S8x16384x16384_0_1_2 (broadcastInDim S8x16384x1 ![0, 1] bcast_S8x16384_S8x16384x1_0_1
    (Host.reduceAdd e (constant S_ .f32 0x00000000#32) reducesTo_S8x16384x16384_S8x16384_d2 h_S_)))

/-- The weighted sums of the latents, heads side by side. -/
def mixed (w : FVec F S8x16384x16384 .f32) : FVec F S16384x1024 .bf16 :=
  truncf .bf16 (shapeCast S16384x1024 (transpose S16384x8x128 [2, 1, 0] (Host.dotGeneral dot_S16384x128_S8x16384x16384_S128x8x16384_0_2_1_01_n_n none a2 w) transposes_S128x8x16384_S16384x8x128_2_1_0) shapeCasts_S16384x8x128_S16384x1024) bitsLt_bf16_f32

/-- The reference's result, step by step. -/
theorem res_eq (m : (ℓ : Loc nD τ sig) → Buf (Elt F) ℓ) (c : Dev nD) :
    Value.res_out0 m c
      = mixed (m ((c.tc : Thread nD τ).loc main_arg2)) (weights (expo
          (logits (m ((c.tc : Thread nD τ).loc main_arg0)) (m ((c.tc : Thread nD τ).loc main_arg1)) (m ((c.tc : Thread nD τ).loc main_arg2)) (m ((c.tc : Thread nD τ).loc main_arg3)))
          (rowMax (logits (m ((c.tc : Thread nD τ).loc main_arg0)) (m ((c.tc : Thread nD τ).loc main_arg1)) (m ((c.tc : Thread nD τ).loc main_arg2)) (m ((c.tc : Thread nD τ).loc main_arg3)))))) := rfl

end Cert.MlaReference

namespace Cert.MlaReference

open Cert.MlaRefIdeal Cert.MlaRefIdeal.Gen
open Idealize.ShloMosaic Idealize.ShloMosaic.TcCoe Idealize.SL.Sem Idealize.ShloMosaic.Tactic Idealize.ShloMosaic.StableHlo

variable (a0 : FVec Ideal S16384x8x128 .f32) (a1 : FVec Ideal S16384x8x32 .f32) (a2 : FVec Ideal S16384x128 .f32) (a3 : FVec Ideal S16384x32 .f32)

/-- The pattern of −∞ denotes −∞. -/
theorem ofBits_neg_inf : Ideal.ofBits .f32 0xFF800000#32 = ⊥ := by
  simp [Ideal.ofBits, Ideal.ieee]

theorem logits_apply (h : Fin 8) (q k : Fin 16384) :
    logits a0 a1 a2 a3 (ix3 h q k)
      = if k.val ≤ q.val then (∑ x, a2 (ix2 k x) * a0 (ix3 q h x) + ∑ x, a3 (ix2 k x) * a1 (ix3 q h x)) * Ideal.ofBits .f32 0x3DD105EC#32 else ⊥ := by
  pointwise [logits]
  exact if_congr (WordCmp.cmpi_sle_ofNat_eq_one_iff (by omega) (by omega)) rfl ofBits_neg_inf

/-- The maximum with −∞ is the value itself. -/
theorem max_bot_apply (b : FVec Ideal S8x16384 .f32) (h : Fin 8) (q : Fin 16384) :
    maximumf (broadcastInDim S8x16384 ![] bcast_S_S8x16384 (constant S_ .f32 0xFF800000#32)) b (ix2 h q) = b (ix2 h q) := by
  refine Eq.trans (b := max (Ideal.ofBits .f32 0xFF800000#32) (b (ix2 h q))) rfl ?_
  rw [ofBits_neg_inf, max_eq_right bot_le]

/-- Dropping the key's coordinate. -/
theorem drop_apply (h : Fin 8) (q k : Fin 16384) : reducesTo_S8x16384x16384_S8x16384_d2.drop (ix3 h q k) = ix2 h q := by
  funext a
  match a with
  | ⟨0, _⟩ => rfl
  | ⟨1, _⟩ => rfl

/-- A row's maximum is a real number, if the row has one and no entry is +∞. -/
theorem rowMax_real (s : FVec Ideal S8x16384x16384 .f32) (hs : ∀ j, s j ≠ ⊤) (h : Fin 8) (q k : Fin 16384) (hk : s (ix3 h q k) ≠ ⊥) :
    ∃ M : ℝ, rowMax s (ix2 h q) = (M : EReal) := by
  unfold rowMax
  rw [max_bot_apply, Host.reduce_eq_fold]
  refine Cert.Softmax.fold_max_real _ _ _ ?_ (fun j _ => hs j) (Or.inr ⟨ix3 h q k, Finset.mem_filter.mpr ⟨Finset.mem_univ _, drop_apply h q k⟩, hk⟩)
  show Ideal.ofBits .f32 0xFF800000#32 ≠ ⊤
  rw [ofBits_neg_inf]; exact bot_ne_top

theorem expo_apply (s : FVec Ideal S8x16384x16384 .f32) (x : FVec Ideal S8x16384 .f32) (h : Fin 8) (q k : Fin 16384) :
    expo s x (ix3 h q k) = Ideal.exp (s (ix3 h q k) - x (ix2 h q)) := by
  pointwise [expo]

theorem weights_apply (s : FVec Ideal S8x16384x16384 .f32) (h : Fin 8) (q k : Fin 16384) :
    weights s (ix3 h q k) = Ideal.div (s (ix3 h q k)) (∑ x, s (ix3 h q x)) := by
  pointwise [weights]

theorem mixed_apply (s : FVec Ideal S8x16384x16384 .f32) (q : Fin 16384) (h : Fin 8) (l : Fin 128) :
    mixed a2 s (ix2 q ⟨128 * h.val + l.val, by omega⟩) = ∑ x, a2 (ix2 x l) * s (ix3 h q x) := by
  have e1 : (128 * h.val + l.val) % 128 = l.val := by omega
  have e2 : (128 * h.val + l.val) / 128 = h.val := by omega
  pointwise [mixed]

end Cert.MlaReference

end
-- ==== Proof.MlaEquation.lean ====
/- The attention, kernel against reference: of arguments holding real numbers both results are, at every index, the same
   quotient of sums over the keys up to the query's own. -/
module

public import proofs.«01_k».proof.Proof.MlaArray
public import proofs.«01_k».proof.Proof.MlaBlock
public import proofs.«01_k».proof.Proof.MlaReference
public import proofs.«01_k».proof.Proof.Softmax

@[expose] public section

set_option maxRecDepth 65536

noncomputable section

namespace Cert.MlaEquation

open Idealize.ShloMosaic Idealize.ShloMosaic.TcCoe Idealize.SL.Sem Idealize.ShloMosaic.Tactic

/-- The scale of the logits is a real number. -/
theorem scale_real : ∃ x : ℝ, Ideal.ofBits .f32 0x3DD105EC#32 = ↑x :=
  ⟨_, (EReal.coe_toReal (by simp [Ideal.ofBits, Ideal.ieee, -EReal.coe_mul]) (by simp [Ideal.ofBits, Ideal.ieee, -EReal.coe_mul])).symm⟩

section
variable (A0 : Fin 16384 → Fin 8 → Fin 128 → ℝ) (A1 : Fin 16384 → Fin 8 → Fin 32 → ℝ) (A2 : Fin 16384 → Fin 128 → ℝ) (A3 : Fin 16384 → Fin 32 → ℝ) (σ : ℝ)

/-- A query's lanes, as real numbers. -/
def query (q : Fin 16384) (h : Fin 8) (d : Fin 256) : ℝ :=
  (if h0 : d.val < 128 then A0 q h ⟨d.val, h0⟩ else if h1 : d.val - 128 < 32 then A1 q h ⟨d.val - 128, h1⟩ else 0) * σ

/-- A key's lanes, as real numbers. -/
def key (k : Fin 16384) (d : Fin 256) : ℝ :=
  if h : d.val < 128 then A2 k ⟨d.val, h⟩ else if d.val = 160 then 1 else if h1 : d.val - 128 < 32 then A3 k ⟨d.val - 128, h1⟩ else 0

/-- A logit: the latent product and the rotary product, scaled. -/
def logit (q : Fin 16384) (h : Fin 8) (k : Fin 16384) : ℝ := (∑ x, A2 k x * A0 q h x + ∑ x, A3 k x * A1 q h x) * σ

/-- The product of a query's lanes with a key's is the logit. -/
theorem lanes (q : Fin 16384) (h : Fin 8) (k : Fin 16384) :
    Cert.MlaBlock.logit (query A0 A1 σ q h) (key A2 A3) k = logit A0 A1 A2 A3 σ q h k := by
  unfold Cert.MlaBlock.logit logit
  rw [Fin.sum_univ_add (a := 128) (b := 128), Fin.sum_univ_add (a := 32) (b := 96) fun x => query A0 A1 σ q h (Fin.natAdd 128 x) * key A2 A3 k (Fin.natAdd 128 x), add_mul, Finset.sum_mul, Finset.sum_mul]
  have z : ∑ x : Fin 96, query A0 A1 σ q h (Fin.natAdd 128 (Fin.natAdd 32 x)) * key A2 A3 k (Fin.natAdd 128 (Fin.natAdd 32 x)) = 0 :=
    Finset.sum_eq_zero fun x _ => by
      simp [query]
  rw [z, add_zero]
  congr 1
  · refine Finset.sum_congr rfl fun x _ => ?_
    simp [query, key]
    ring
  · refine Finset.sum_congr rfl fun x _ => ?_
    have hx : ¬ (x.val = 32) := by omega
    simp [query, key, hx]
    ring
end

/-- The results agree at every index. -/
theorem equal (m : (ℓ : Loc Cert.MlaIdeal.nD Cert.MlaIdeal.τ Cert.MlaIdeal.sig) → Buf (Elt Ideal) ℓ) (c : Dev Cert.MlaIdeal.nD)
    (a0 : FVec Ideal Cert.MlaIdeal.S16384x8x128 .f32) (a1 : FVec Ideal Cert.MlaIdeal.S16384x8x32 .f32)
    (a2 : FVec Ideal Cert.MlaIdeal.S16384x128 .f32) (a3 : FVec Ideal Cert.MlaIdeal.S16384x32 .f32)
    (e0 : m ((c.tc : Thread _ _).loc Cert.MlaIdeal.main_arg0) = a0) (e1 : m ((c.tc : Thread _ _).loc Cert.MlaIdeal.main_arg1) = a1)
    (e2 : m ((c.tc : Thread _ _).loc Cert.MlaIdeal.main_arg2) = a2) (e3 : m ((c.tc : Thread _ _).loc Cert.MlaIdeal.main_arg3) = a3)
    (r0 : ∀ i, ∃ x : ℝ, a0 i = ↑x) (r1 : ∀ i, ∃ x : ℝ, a1 i = ↑x) (r2 : ∀ i, ∃ x : ℝ, a2 i = ↑x) (r3 : ∀ i, ∃ x : ℝ, a3 i = ↑x) :
    (Cert.MlaIdeal.Gen.dats m 0 c).arrAt 2 Cert.MlaIdeal.cfg0.N
      = Cert.MlaReference.mixed a2 (Cert.MlaReference.weights (Cert.MlaReference.expo (Cert.MlaReference.logits a0 a1 a2 a3)
          (Cert.MlaReference.rowMax (Cert.MlaReference.logits a0 a1 a2 a3)))) := by
  choose A0 h0 using r0
  choose A1 h1 using r1
  choose A2 h2 using r2
  choose A3 h3 using r3
  obtain ⟨σ, hσ⟩ := scale_real
  set L := logit (fun q h d => A0 (ix3 q h d)) (fun q h d => A1 (ix3 q h d)) (fun k d => A2 (ix2 k d)) (fun k d => A3 (ix2 k d)) σ with hL
  -- the reference's logits
  have hlog : ∀ h q k, Cert.MlaReference.logits a0 a1 a2 a3 (ix3 h q k) = if k.val ≤ q.val then ((L q h k : ℝ) : EReal) else ⊥ := by
    intro h q k
    rw [Cert.MlaReference.logits_apply, hσ]
    refine if_congr Iff.rfl ?_ rfl
    simp only [h0, h1, h2, h3, hL, logit, ← EReal.coe_mul, ← EReal.coe_add, Cert.Softmax.coe_sum]
  have hne : ∀ j, Cert.MlaReference.logits a0 a1 a2 a3 j ≠ ⊤ := by
    intro j
    obtain ⟨h, q, k, rfl⟩ : ∃ h q k, j = ix3 h q k := ⟨j 0, j 1, j 2, by funext a; match a with | ⟨0, _⟩ => rfl | ⟨1, _⟩ => rfl | ⟨2, _⟩ => rfl⟩
    rw [hlog]
    split
    · exact EReal.coe_ne_top _
    · exact bot_ne_top
  funext j
  obtain ⟨q, n, rfl⟩ : ∃ (q : Fin 16384) (n : Fin 1024), j = ix2 q n := ⟨j 0, j 1, by funext a; match a with | ⟨0, _⟩ => rfl | ⟨1, _⟩ => rfl⟩
  obtain ⟨i, r, rfl⟩ : ∃ (i : Fin 64) (r : Fin 256), q = ⟨256 * i.val + r.val, by omega⟩ :=
    ⟨⟨q.val / 256, by omega⟩, ⟨q.val % 256, by omega⟩, Fin.ext (by show q.val = 256 * (q.val / 256) + q.val % 256; omega)⟩
  obtain ⟨h, l, rfl⟩ : ∃ (h : Fin 8) (l : Fin 128), n = ⟨128 * h.val + l.val, by omega⟩ :=
    ⟨⟨n.val / 128, by omega⟩, ⟨n.val % 128, by omega⟩, Fin.ext (by show n.val = 128 * (n.val / 128) + n.val % 128; omega)⟩
  set q : Fin 16384 := ⟨256 * i.val + r.val, by omega⟩ with hq
  obtain ⟨M, hM⟩ := Cert.MlaReference.rowMax_real _ hne h q q (by rw [hlog, if_pos le_rfl]; exact EReal.coe_ne_bot _)
  refine (Cert.MlaArray.arrAt_apply m c i r _).trans ?_
  rw [Cert.MlaBlock.outBlk_apply _ _ i.val i.isLt (query (fun q h d => A0 (ix3 q h d)) (fun q h d => A1 (ix3 q h d)) σ q h)
    (key (fun k d => A2 (ix2 k d)) (fun k d => A3 (ix2 k d))) h r l ?_ ?_ ?_ 0]
  · rw [Cert.MlaReference.mixed_apply]
    simp only [Cert.MlaReference.weights_apply, Cert.MlaReference.expo_apply, hM]
    have s := Cert.Softmax.masked_softmax (fun k : Fin 16384 => k.val ≤ q.val) (fun k => L q h k) (fun k => A2 (ix2 k l))
      (fun k => Cert.MlaReference.logits a0 a1 a2 a3 (ix3 h q k)) (fun k => a2 (ix2 k l)) (fun k => hlog h q k) (fun k => h2 _) ⟨q, le_rfl⟩ M 0
    rw [zero_add] at s
    refine Eq.trans ?_ s.symm
    have hl : ∀ k, Cert.MlaBlock.logit (query (fun q h d => A0 (ix3 q h d)) (fun q h d => A1 (ix3 q h d)) σ q h)
        (key (fun k d => A2 (ix2 k d)) (fun k d => A3 (ix2 k d))) k = L q h k := fun k => lanes _ _ _ _ _ q h k
    simp only [hl]
    have hk : ∀ k, key (fun k d => A2 (ix2 k d)) (fun k d => A3 (ix2 k d)) k ⟨l.val, by omega⟩ = A2 (ix2 k l) := fun k => by
      simp [key]
    simp only [hk]
    rfl
  · intro d
    rw [Cert.MlaArray.iblk0_apply, e0, e1, Cert.MlaHost.queries_apply, hσ]
    unfold query
    split
    · rw [h0, EReal.coe_mul]
    · split
      · rw [h1, EReal.coe_mul]
      · rw [EReal.coe_mul, EReal.coe_zero]
  · intro k d
    rw [Cert.MlaArray.iblk1_apply, e2, e3, Cert.MlaHost.keys_apply]
    unfold key
    split
    · exact h2 _
    · split
      · exact EReal.coe_one.symm
      · split
        · exact h3 _
        · exact EReal.coe_zero.symm
  · intro k
    simp [key]

end Cert.MlaEquation

end
-- ==== Proof.MlaClaims.lean ====
/- The claims about the prompt attention. -/
module

public import proofs.«01_k».proof.Defs
public import proofs.«01_k».proof.Proof.Gen.Mla.Frame
public import proofs.«01_k».proof.Proof.Gen.MlaIdeal.Frame
public import proofs.«01_k».proof.Proof.Gen.MlaIdeal.Value
public import proofs.«01_k».proof.Proof.Gen.MlaRefIdeal.Run
public import proofs.«01_k».proof.Proof.Finite
public import proofs.«01_k».proof.Proof.MlaEquation
public import Idealize.ShloMosaic.Lib.Quiescent

@[expose] public section

noncomputable section

namespace Cert.MlaClaims

open Idealize.ShloMosaic Idealize.ShloMosaic.TcCoe Idealize.SL.Sem

/-- The precondition's side conditions hold. -/
instance finiteFacts : Cert.Pre_finite_args.Facts := Cert.Pre_finite_args.facts

/-- The kernel runs on the machine's numbers, leaving its arguments and every semaphore at rest. -/
theorem frame : Cert.quiescent_Mla := fun m ρ _ => Cert.Mla.Gen.frame m ρ

/-- So does the kernel over the extended reals. -/
theorem frameIdeal : Cert.quiescent_MlaIdeal := fun m ρ _ => Cert.MlaIdeal.Gen.frame m ρ

/-- So it does under the precondition. -/
theorem frameIdealPre : Cert.quiescent_MlaIdeal_pre_finite_args := fun m ρ _ => Cert.MlaIdeal.Gen.frame m ρ

/-- The reference runs over the extended reals, leaving its arguments. -/
theorem frameRef : Cert.quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)

/-- So it does under the precondition. -/
theorem frameRefPre : Cert.quiescent_MlaRefIdeal_pre_finite_args := fun m ρ _ =>
  (θ_run Cert.MlaRefIdeal.defs _ _).mono (fun r h => ⟨fun c => (h c).2, sem_eq_zero_of_no_sems (by decide) r.2⟩)
    (Cert.MlaRefIdeal.Value.run (F := Ideal) m ρ)

/-- The one constant named is the value its name is given: minus infinity. -/
theorem preserves : Cert.preserves_Mla_MlaIdeal :=
  IdealRules.named_const.statement Cert.MlaIdeal.κ "mask" .f32 0xF149F2CA#32 ⊥ rfl

/-- Of real arguments the kernel's result is the reference's. -/
theorem algebraic : Cert.algebraic_MlaIdeal_MlaRefIdeal_pre_finite_args := by
  intro m ρ m' ρ' hpre hagree
  refine ⟨_, Cert.MlaIdeal.Value.run_blocks (F := Ideal) m ρ, ?_⟩
  refine (θ_run Cert.MlaRefIdeal.defs _ _).mono (fun _ h c => ⟨(h c).1.trans ?_, (h c).2⟩)
    (Cert.MlaRefIdeal.Value.run (F := Ideal) m' ρ')
  obtain ⟨e0, e1, e2, e3⟩ := hagree c
  obtain ⟨r0, r1, r2, r3⟩ := Cert.Pre_finite_args.real _ _ _ _ (fun i => i.elim0) (congrFun (hpre c) _)
  refine (Cert.MlaReference.res_eq m' c).trans ?_
  rw [e0, e1, e2, e3]
  exact (Cert.MlaEquation.equal m c _ _ _ _ rfl rfl rfl rfl r0 r1 r2 r3).symm

end Cert.MlaClaims

end
-- ==== Proof.Rows.lean ====
/- What the layer's position-wise parts compute of one row of numbers: a row's root-mean-square normalisation, its
   modulation by a scale and a shift, the squared-ReLU MLP with its gated residual, and the merge of two heads' results. -/
module

public import Idealize.ShloMosaic.Lib.Pointwise

@[expose] public section

noncomputable section

namespace Cert.Rows

open Idealize.ShloMosaic

/-- A row `x` over the root of its mean square (its length `N`, the small constant added), times the gain `g`. -/
def norm {n : ℕ} (N : EReal) (x g : Fin n → EReal) (l : Fin n) : EReal :=
  x l * Ideal.rsqrt (Ideal.div (∑ j, x j * x j) N + Ideal.ofBits .f32 0x358637BD#32) * g l

/-- The length of a row of the model, as it is written. -/
abbrev model : EReal := Ideal.ofBits .f32 0x44800000#32

/-- A normalised row, scaled and shifted. -/
def modulated (x g sc sh : Fin 1024 → EReal) (l : Fin 1024) : EReal := norm model x g l * (1 + sc l) + sh l

/-- A row's hidden units: the positive part of its products with `w`. -/
def hidden (u : Fin 1024 → EReal) (w : Fin 1024 → Fin 4096 → EReal) (j : Fin 4096) : EReal := max (∑ i, u i * w i j) 0

/-- The MLP of a row: normalise, modulate, expand, square the positive parts, contract, normalise, gate, and add the row. -/
def mlp (x sc sh gt g g' : Fin 1024 → EReal) (w : Fin 1024 → Fin 4096 → EReal) (w' : Fin 4096 → Fin 1024 → EReal) (l : Fin 1024) : EReal :=
  x l + gt l * norm model
    (fun k => ∑ j, hidden (modulated x g sc sh) w j * hidden (modulated x g sc sh) w j * w' j k) g' l

/-- The first branch's projection: the heads' results side by side times the weights. -/
def projA (o : Fin 8 → Fin 64 → EReal) (w : Fin 512 → Fin 1024 → EReal) (l : Fin 1024) : EReal :=
  ∑ k : Fin 512, o ⟨k.val / 64, by omega⟩ ⟨k.val % 64, by omega⟩ * w k l

/-- The second branch's heads, each head's weighted latent taken to its values. -/
def values (o : Fin 1024 → EReal) (u : Fin 128 → Fin 8 → Fin 64 → EReal) (k : Fin 512) : EReal :=
  ∑ c : Fin 128, u c ⟨k.val / 64, by omega⟩ ⟨k.val % 64, by omega⟩ * o ⟨128 * (k.val / 64) + c.val, by omega⟩

/-- The second branch's projection. -/
def projB (o : Fin 1024 → EReal) (u : Fin 128 → Fin 8 → Fin 64 → EReal) (w : Fin 512 → Fin 1024 → EReal) (l : Fin 1024) : EReal :=
  ∑ k : Fin 512, values o u k * w k l

/-- The two branches gated and added, projected, normalised, gated, and added to the row. -/
def merge (x ya yb ga gb gt g : Fin 1024 → EReal) (w : Fin 1024 → Fin 1024 → EReal) (l : Fin 1024) : EReal :=
  x l + gt l * norm model (fun k => ∑ j, (Ideal.logistic (ga j) * ya j + Ideal.logistic (gb j) * yb j) * w j k) g l

/-! ## Sums by blocks -/

/-- A sum over `a * b` places, by blocks of `b`. -/
theorem sum_blocks {N : ℕ} (a b : ℕ) (hN : N = a * b) (f : Fin N → EReal) :
    ∑ x, f x = ∑ h : Fin a, ∑ c : Fin b, f ⟨b * h.val + c.val, by
      have h1 : b * h.val + b ≤ a * b := by have := Nat.mul_le_mul_left b h.isLt; rw [Nat.mul_succ] at this; rwa [Nat.mul_comm a b]
      omega⟩ := by
  subst hN
  rw [← Fintype.sum_prod_type' fun (h : Fin a) (c : Fin b) => f ⟨b * h.val + c.val, _⟩, ← finProdFinEquiv.sum_comp]
  refine Finset.sum_congr rfl fun p _ => congrArg f (Fin.ext ?_)
  show p.2.val + b * p.1.val = b * p.1.val + p.2.val
  omega

/-- A head's 128 lanes against weights that are nought past the 64th: the first 64 lanes. -/
theorem sum_padded (o : Fin 128 → EReal) (w : Fin 64 → EReal) :
    ∑ d : Fin 128, o d * (if h : d.val < 64 then w ⟨d.val, h⟩ else 0) = ∑ d : Fin 64, o ⟨d.val, by omega⟩ * w d := by
  rw [sum_blocks 2 64 rfl, Fin.sum_univ_two]
  refine (congrArg₂ (· + ·) (Finset.sum_congr rfl fun d _ => ?_) (Finset.sum_eq_zero fun d _ => ?_)).trans (add_zero _)
  · have e : (⟨64 * (0 : Fin 2).val + d.val, by have := d.isLt; show 64 * 0 + d.val < 128; omega⟩ : Fin 128) = ⟨d.val, by omega⟩ := Fin.ext (by show 64 * 0 + d.val = d.val; omega)
    rw [e, dif_pos d.isLt]
  · rw [dif_neg (by show ¬ (64 * 1 + d.val < 64); omega), mul_zero]

/-- A sum over blocks of which all but one are multiplied by nought. -/
theorem sum_diag {a : ℕ} (k : Fin a) (f : Fin a → EReal) : ∑ h : Fin a, f h * (if h = k then 1 else 0) = f k := by
  rw [Finset.sum_eq_single k (fun h _ hk => by rw [if_neg hk, mul_zero]) (fun h => absurd (Finset.mem_univ k) h), if_pos rfl, mul_one]

/-! ## Noughts and ones as the machine writes them -/

/-- Nought as a word is nought as a number. -/
theorem sitofp_zero : FloatOps.sitofp (F := Ideal) .f32 0#32 = 0 := by
  show (((0#32 : BitVec 32).toInt : ℝ) : EReal) = 0
  simp

/-- The identity matrix of order eight, as it is compared and converted. -/
theorem eye (h g : Fin 8) :
    FloatOps.uitofp (F := Ideal) .f32 (IntOp.cmpi CmpIPredicate.eq (IntOp.addi (BitVec.ofNat 32 h.val) 0#32) (BitVec.ofNat 32 g.val)) = if h = g then 1 else 0 := by
  have e : IntOp.cmpi CmpIPredicate.eq (IntOp.addi (BitVec.ofNat 32 h.val) 0#32) (BitVec.ofNat 32 g.val) = if h = g then 1#1 else 0#1 := by
    revert h g; decide
  rw [e]
  split
  · show (((1#1 : BitVec 1).toNat : ℝ) : EReal) = 1
    simp
  · show (((0#1 : BitVec 1).toNat : ℝ) : EReal) = 0
    simp

end Cert.Rows

end
-- ==== Proof.MlpArray.lean ====
/- The array the MLP call leaves, read at an index over the extended reals: each grid point takes 256 rows, and the
   weights whole. -/
module

public import proofs.«01_k».proof.Proof.Gen.MlpIdeal.Value
public import proofs.«01_k».proof.Proof.Rows
public import Idealize.ShloMosaic.Lib.Pipeline.ValueKit

@[expose] public section

set_option maxRecDepth 16384

noncomputable section

namespace Cert.MlpArray

open Cert.MlpIdeal Cert.MlpIdeal.Gen
open Idealize.ShloMosaic Idealize.ShloMosaic.TcCoe Idealize.SL.Sem Idealize.ShloMosaic.Tactic Idealize.ShloMosaic.StableHlo

/-! ## The block one grid point computes -/

theorem pay1_apply (x y : Vec Ideal S256x1024 .f32) (gt g : Vec Ideal S1x1024 .f32) (r : Fin 256) (l : Fin 1024) :
    k0_pay1 x y gt g (ix2 r l)
      = x (ix2 r l) + gt (ix2 0 l) * Rows.norm Rows.model (fun l => y (ix2 r l)) (fun l => g (ix2 0 l)) l := by
  pointwise [k0_pay1]
  rfl

theorem pay2_apply (x : Vec Ideal S256x1024 .f32) (g sc sh : Vec Ideal S1x1024 .f32) (w : Vec Ideal S1024x4096 .bf16) (w' : Vec Ideal S4096x1024 .bf16)
    (r : Fin 256) (l : Fin 1024) :
    k0_pay2 x g sc sh w w' (ix2 r l)
      = ∑ j, Rows.hidden (Rows.modulated (fun l => x (ix2 r l)) (fun l => g (ix2 0 l)) (fun l => sc (ix2 0 l)) (fun l => sh (ix2 0 l))) (fun i j => w (ix2 i j)) j
          * Rows.hidden (Rows.modulated (fun l => x (ix2 r l)) (fun l => g (ix2 0 l)) (fun l => sc (ix2 0 l)) (fun l => sh (ix2 0 l))) (fun i j => w (ix2 i j)) j
          * w' (ix2 j l) := by
  pointwise [k0_pay2]
  rfl

/-- The block a grid point computes, at an index: the MLP of its row. -/
theorem out_apply (x : Vec Ideal S256x1024 .f32) (sc sh gt g g' : Vec Ideal S1x1024 .f32) (w : Vec Ideal S1024x4096 .bf16) (w' : Vec Ideal S4096x1024 .bf16)
    (r : Fin 256) (l : Fin 1024) :
    out0_8 x sc sh gt g g' w w' (ix2 r l) = Rows.mlp (fun l => x (ix2 r l)) (fun l => sc (ix2 0 l)) (fun l => sh (ix2 0 l)) (fun l => gt (ix2 0 l))
      (fun l => g (ix2 0 l)) (fun l => g' (ix2 0 l)) (fun i j => w (ix2 i j)) (fun j l => w' (ix2 j l)) l := by
  have e : out0_8 x sc sh gt g g' w w' = k0_pay1 x (k0_pay2 x g sc sh w w') gt g' := by
    unfold out0_8
    frame_out
  rw [e, pay1_apply]
  simp only [pay2_apply]
  rfl

/-! ## The arrays the call is given -/

variable (m : (ℓ : Loc nD τ sig) → Buf (Elt Ideal) ℓ) (c : Dev nD)

theorem V_gain : V m c main_v0 = shapeCast S1x1024 (m ((c.tc : Thread nD τ).loc main_arg4) : FVec Ideal S1024 .f32) shapeCasts_S1024_S1x1024 := by
  unfold V
  simp only [hostOps0]
  after_results_simp <;> rfl

theorem V_gain' : V m c main_v1 = shapeCast S1x1024 (m ((c.tc : Thread nD τ).loc main_arg5) : FVec Ideal S1024 .f32) shapeCasts_S1024_S1x1024 := by
  unfold V
  simp only [hostOps0]
  after_results_simp <;> rfl

theorem V_up : V m c main_v2 = (truncf .bf16 (m ((c.tc : Thread nD τ).loc main_arg6) : FVec Ideal S1024x4096 .f32) bitsLt_bf16_f32 : FVec Ideal S1024x4096 .bf16) := by
  unfold V
  simp only [hostOps0]
  after_results_simp <;> rfl

theorem V_down : V m c main_v3 = (truncf .bf16 (m ((c.tc : Thread nD τ).loc main_arg7) : FVec Ideal S4096x1024 .f32) bitsLt_bf16_f32 : FVec Ideal S4096x1024 .bf16) := by
  unfold V
  simp only [hostOps0]
  after_results_simp <;> rfl

/-- A gain laid out as a row. -/
theorem row_apply (g : FVec Ideal S1024 .f32) (l : Fin 1024) : shapeCast S1x1024 g shapeCasts_S1024_S1x1024 (ix2 0 l) = g (ix1 l) := by
  pointwise []

/-! ## Where the blocks lie -/

/-- Where each window's block lies. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val, 0] :=
  (by decide +kernel : ∀ t : Fin grid0.N, _)

/-- Grid point `i`. -/
def pt (i : Fin 64) : Fin cfg0.N := ⟨i.val, by have := N_0; have := i.isLt; show i.val < grid0.N; omega⟩

theorem blk0 (i : Fin 64) (r : Fin 256) (l : Fin 1024) : iblk m c 0 (pt i) (ix2 r l) = m ((c.tc : Thread nD τ).loc main_arg0) (ix2 ⟨256 * i.val + r.val, by omega⟩ l) := by
  rw [← V_main_arg0 m c]
  show V m c main_arg0 (((cfg0.win 0).blk (pt i)).view.emb (ix2 r l)) = V m c main_arg0 _
  congr 1
  have e := (idx (pt i)).1
  have hp : (pt i).val = i.val := rfl
  blk_ext [e, hp]

theorem blk1 (i : Fin 64) (l : Fin 1024) : iblk m c 1 (pt i) (ix2 0 l) = m ((c.tc : Thread nD τ).loc main_arg1) (ix2 0 l) := by
  rw [← V_main_arg1 m c]
  show V m c main_arg1 (((cfg0.win 1).blk (pt i)).view.emb (ix2 0 l)) = V m c main_arg1 _
  congr 1
  have e := (idx (pt i)).2.1
  blk_ext [e]

theorem blk2 (i : Fin 64) (l : Fin 1024) : iblk m c 2 (pt i) (ix2 0 l) = m ((c.tc : Thread nD τ).loc main_arg2) (ix2 0 l) := by
  rw [← V_main_arg2 m c]
  show V m c main_arg2 (((cfg0.win 2).blk (pt i)).view.emb (ix2 0 l)) = V m c main_arg2 _
  congr 1
  have e := (idx (pt i)).2.2.1
  blk_ext [e]

theorem blk3 (i : Fin 64) (l : Fin 1024) : iblk m c 3 (pt i) (ix2 0 l) = m ((c.tc : Thread nD τ).loc main_arg3) (ix2 0 l) := by
  rw [← V_main_arg3 m c]
  show V m c main_arg3 (((cfg0.win 3).blk (pt i)).view.emb (ix2 0 l)) = V m c main_arg3 _
  congr 1
  have e := (idx (pt i)).2.2.2.1
  blk_ext [e]

theorem blk4 (i : Fin 64) (l : Fin 1024) : iblk m c 4 (pt i) (ix2 0 l) = m ((c.tc : Thread nD τ).loc main_arg4) (ix1 l) := by
  refine Eq.trans ?_ (row_apply (m ((c.tc : Thread nD τ).loc main_arg4)) l)
  rw [← V_gain m c]
  show V m c main_v0 (((cfg0.win 4).blk (pt i)).view.emb (ix2 0 l)) = V m c main_v0 _
  congr 1
  have e := (idx (pt i)).2.2.2.2.1
  blk_ext [e]

theorem blk5 (i : Fin 64) (l : Fin 1024) : iblk m c 5 (pt i) (ix2 0 l) = m ((c.tc : Thread nD τ).loc main_arg5) (ix1 l) := by
  refine Eq.trans ?_ (row_apply (m ((c.tc : Thread nD τ).loc main_arg5)) l)
  rw [← V_gain' m c]
  show V m c main_v1 (((cfg0.win 5).blk (pt i)).view.emb (ix2 0 l)) = V m c main_v1 _
  congr 1
  have e := (idx (pt i)).2.2.2.2.2.1
  blk_ext [e]

theorem blk6 (i : Fin 64) (a : Fin 1024) (b : Fin 4096) : iblk m c 6 (pt i) (ix2 a b) = m ((c.tc : Thread nD τ).loc main_arg6) (ix2 a b) := by
  refine Eq.trans ?_ (congrFun (V_up m c) (ix2 a b))
  show V m c main_v2 (((cfg0.win 6).blk (pt i)).view.emb (ix2 a b)) = V m c main_v2 _
  congr 1
  have e := (idx (pt i)).2.2.2.2.2.2.1
  blk_ext [e]

theorem blk7 (i : Fin 64) (a : Fin 4096) (b : Fin 1024) : iblk m c 7 (pt i) (ix2 a b) = m ((c.tc : Thread nD τ).loc main_arg7) (ix2 a b) := by
  refine Eq.trans ?_ (congrFun (V_down m c) (ix2 a b))
  show V m c main_v3 (((cfg0.win 7).blk (pt i)).view.emb (ix2 a b)) = V m c main_v3 _
  congr 1
  have e := (idx (pt i)).2.2.2.2.2.2.2.1
  blk_ext [e]

/-- The result array at an index is the MLP of its row. -/
theorem arrAt_apply (r : Fin 16384) (l : Fin 1024) :
    (dats m 0 c).arrAt 8 cfg0.N (ix2 r l) = Rows.mlp (fun l => m ((c.tc : Thread nD τ).loc main_arg0) (ix2 r l)) (fun l => m ((c.tc : Thread nD τ).loc main_arg1) (ix2 0 l))
      (fun l => m ((c.tc : Thread nD τ).loc main_arg2) (ix2 0 l)) (fun l => m ((c.tc : Thread nD τ).loc main_arg3) (ix2 0 l))
      (fun l => m ((c.tc : Thread nD τ).loc main_arg4) (ix1 l)) (fun l => m ((c.tc : Thread nD τ).loc main_arg5) (ix1 l))
      (fun i j => m ((c.tc : Thread nD τ).loc main_arg6) (ix2 i j)) (fun j l => m ((c.tc : Thread nD τ).loc main_arg7) (ix2 j l)) l := by
  obtain ⟨i, s, rfl⟩ : ∃ (i : Fin 64) (s : Fin 256), r = ⟨256 * i.val + s.val, by omega⟩ :=
    ⟨⟨r.val / 256, by omega⟩, ⟨r.val % 256, by omega⟩, Fin.ext (by show r.val = 256 * (r.val / 256) + r.val % 256; omega)⟩
  have b := congrFun (Value.blocks8 m c (pt i) (flush0_8 _)) (ix2 s l)
  rw [Value.flushed8] at b
  refine Eq.trans ?_ (b.trans ?_)
  · show _ = (dats m 0 c).arrAt 8 cfg0.N (((cfg0.win 8).blk (pt i)).view.emb (ix2 s l))
    congr 1
    have e := (idx (pt i)).2.2.2.2.2.2.2.2
    have hp : (pt i).val = i.val := rfl
    blk_ext [e, hp]
  · refine (out_apply _ _ _ _ _ _ _ _ s l).trans ?_
    simp only [blk0 m c i, blk1 m c i, blk2 m c i, blk3 m c i, blk4 m c i, blk5 m c i, blk6 m c i, blk7 m c i]

end Cert.MlpArray

end
-- ==== Proof.MlpReference.lean ====
/- The MLP the reference writes, step by step, each step read at an index over the extended reals. -/
module

public import proofs.«01_k».proof.Proof.Gen.MlpRefIdeal.Run
public import proofs.«01_k».proof.Proof.Rows

@[expose] public section

set_option maxRecDepth 16384

noncomputable section

namespace Cert.MlpReference

open Cert.MlpRefIdeal Cert.MlpRefIdeal.Gen
open Idealize.ShloMosaic Idealize.ShloMosaic.TcCoe Idealize.SL.Sem Idealize.ShloMosaic.Tactic Idealize.ShloMosaic.StableHlo

section
variable {F : FTy → Type} [FloatOps F]

/-- The rows' root-mean-square normalisation. -/
def norm (x : FVec F S16384x1024 .f32) (g : FVec F S1024 .f32) : FVec F S16384x1024 .f32 :=
  mulf (mulf x (broadcastInDim S16384x1024 ![0, 1] bcast_S16384x1_S16384x1024_0_1 (Host.rsqrt (addf (Host.divf
      (broadcastInDim S16384x1 ![0] bcast_S16384_S16384x1_0 (Host.reduceAdd (mulf x x) (constant S_ .f32 0x00000000#32) reducesTo_S16384x1024_S16384_d1 h_S_))
      (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The rows scaled and shifted. -/
def modulated (x : FVec F S16384x1024 .f32) (sc sh : FVec F S1x1024 .f32) : FVec F S16384x1024 .f32 :=
  addf (mulf x (broadcastInDim S16384x1024 ![0, 1] bcast_S1x1024_S16384x1024_0_1 (addf (broadcastInDim S1x1024 ![] bcast_S_S1x1024 (constant S_ .f32 0x3F800000#32)) sc)))
    (broadcastInDim S16384x1024 ![0, 1] bcast_S1x1024_S16384x1024_0_1 sh)

/-- The hidden units. -/
def hidden (u : FVec F S16384x1024 .f32) (w : FVec F S1024x4096 .f32) : FVec F S16384x4096 .f32 :=
  maximumf (Host.dotGeneral dot_S16384x1024_S1024x4096_S16384x4096_1_0_0_1_n_n none u w) (broadcastInDim S16384x4096 ![] bcast_S_S16384x4096 (constant S_ .f32 0x00000000#32))

/-- The contraction of the squared hidden units. -/
def contracted (p : FVec F S16384x4096 .f32) (w : FVec F S4096x1024 .f32) : FVec F S16384x1024 .f32 :=
  Host.dotGeneral dot_S16384x4096_S4096x1024_S16384x1024_1_0_0_1_n_n none (mulf p p) w

/-- The gated residual. -/
def residual (x y : FVec F S16384x1024 .f32) (gt : FVec F S1x1024 .f32) : FVec F S16384x1024 .f32 :=
  addf x (mulf (broadcastInDim S16384x1024 ![0, 1] bcast_S1x1024_S16384x1024_0_1 gt) y)

/-- All of it, of the arguments. -/
def all (a0 : FVec F S16384x1024 .f32) (a1 a2 a3 : FVec F S1x1024 .f32) (a4 a5 : FVec F S1024 .f32) (a6 : FVec F S1024x4096 .f32) (a7 : FVec F S4096x1024 .f32) :
    FVec F S16384x1024 .f32 :=
  residual a0 (norm (contracted (hidden (modulated (norm a0 a4) a1 a2) a6) a7) a5) a3

/-- The reference's result, step by step. -/
theorem res_eq (m : (ℓ : Loc nD τ sig) → Buf (Elt F) ℓ) (c : Dev nD) :
    Value.res_out0 m c = all (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl
end

theorem norm_apply (x : FVec Ideal S16384x1024 .f32) (g : FVec Ideal S1024 .f32) (r : Fin 16384) (l : Fin 1024) :
    norm x g (ix2 r l) = Rows.norm Rows.model (fun l => x (ix2 r l)) (fun l => g (ix1 l)) l := by
  pointwise [norm]
  rfl

theorem modulated_apply (x : FVec Ideal S16384x1024 .f32) (sc sh : FVec Ideal S1x1024 .f32) (r : Fin 16384) (l : Fin 1024) :
    modulated x sc sh (ix2 r l) = x (ix2 r l) * (1 + sc (ix2 0 l)) + sh (ix2 0 l) := by
  pointwise [modulated]

theorem hidden_apply (u : FVec Ideal S16384x1024 .f32) (w : FVec Ideal S1024x4096 .f32) (r : Fin 16384) (j : Fin 4096) :
    hidden u w (ix2 r j) = max (∑ x, u (ix2 r x) * w (ix2 x j)) 0 := by
  pointwise [hidden]

theorem contracted_apply (p : FVec Ideal S16384x4096 .f32) (w : FVec Ideal S4096x1024 .f32) (r : Fin 16384) (l : Fin 1024) :
    contracted p w (ix2 r l) = ∑ x, p (ix2 r x) * p (ix2 r x) * w (ix2 x l) := by
  pointwise [contracted]

theorem residual_apply (x y : FVec Ideal S16384x1024 .f32) (gt : FVec Ideal S1x1024 .f32) (r : Fin 16384) (l : Fin 1024) :
    residual x y gt (ix2 r l) = x (ix2 r l) + gt (ix2 0 l) * y (ix2 r l) := by
  pointwise [residual]

/-- The reference's result at an index is the row's MLP. -/
theorem all_apply (a0 : FVec Ideal S16384x1024 .f32) (a1 a2 a3 : FVec Ideal S1x1024 .f32) (a4 a5 : FVec Ideal S1024 .f32) (a6 : FVec Ideal S1024x4096 .f32)
    (a7 : FVec Ideal S4096x1024 .f32) (r : Fin 16384) (l : Fin 1024) :
    all a0 a1 a2 a3 a4 a5 a6 a7 (ix2 r l) = Rows.mlp (fun l => a0 (ix2 r l)) (fun l => a1 (ix2 0 l)) (fun l => a2 (ix2 0 l)) (fun l => a3 (ix2 0 l))
      (fun l => a4 (ix1 l)) (fun l => a5 (ix1 l)) (fun i j => a6 (ix2 i j)) (fun j l => a7 (ix2 j l)) l := by
  unfold all
  simp only [residual_apply, norm_apply, contracted_apply, hidden_apply, modulated_apply]
  rfl

end Cert.MlpReference

end
-- ==== Proof.MlpClaims.lean ====
/- The claims about the MLP call. -/
module

public import proofs.«01_k».proof.Defs
public import proofs.«01_k».proof.Proof.Gen.Mlp.Frame
public import proofs.«01_k».proof.Proof.Gen.MlpIdeal.Frame
public import proofs.«01_k».proof.Proof.Gen.MlpIdeal.Value
public import proofs.«01_k».proof.Proof.Gen.MlpRefIdeal.Run
public import proofs.«01_k».proof.Proof.MlpArray
public import proofs.«01_k».proof.Proof.MlpReference
public import Idealize.ShloMosaic.Lib.Quiescent

@[expose] public section

noncomputable section

namespace Cert.MlpClaims

open Idealize.ShloMosaic Idealize.ShloMosaic.TcCoe Idealize.SL.Sem

/-- The kernel runs on the machine's numbers, leaving its arguments and every semaphore at rest. -/
theorem frame : Cert.quiescent_Mlp := fun m ρ _ => Cert.Mlp.Gen.frame m ρ

/-- So does the kernel over the extended reals. -/
theorem frameIdeal : Cert.quiescent_MlpIdeal := fun m ρ _ => Cert.MlpIdeal.Gen.frame m ρ

/-- The reference runs over the extended reals, leaving its arguments. -/
theorem frameRef : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

/-- Nothing is rewritten. -/
theorem preserves : Cert.preserves_Mlp_MlpIdeal := trivial

/-- The kernel's result is the reference's, of all arguments. -/
theorem algebraic : Cert.algebraic_MlpIdeal_MlpRefIdeal := by
  intro m ρ m' ρ' hpre hagree
  refine ⟨_, Cert.MlpIdeal.Value.run_blocks (F := Ideal) m ρ, ?_⟩
  refine (θ_run Cert.MlpRefIdeal.defs _ _).mono (fun _ h c => ⟨(h c).1.trans ?_, (h c).2⟩)
    (Cert.MlpRefIdeal.Value.run (F := Ideal) m' ρ')
  obtain ⟨e0, e1, e2, e3, e4, e5, e6, e7⟩ := hagree c
  refine (Cert.MlpReference.res_eq m' c).trans ?_
  rw [e0, e1, e2, e3, e4, e5, e6, e7]
  funext j
  obtain ⟨r, l, rfl⟩ : ∃ (r : Fin 16384) (l : Fin 1024), j = ix2 r l := ⟨j 0, j 1, by
    funext a
    match a with
    | ⟨0, _⟩ => rfl
    | ⟨1, _⟩ => rfl⟩
  exact (Cert.MlpReference.all_apply _ _ _ _ _ _ _ _ r l).trans (Cert.MlpArray.arrAt_apply m c r l).symm

end Cert.MlpClaims

end
-- ==== Proof.ProjBody.lean ====
/- The body of the projection's call over the extended reals: what each output's buffer holds after it, its triple, and the run of the pipeline with it. -/
module

public import proofs.«01_k».proof.Proof.Gen.ProjIdeal.Frame
public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.ProjBody

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body loads and stores: whole buffers, and one head of a buffer by heads -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1024x4096 := Rect.unit (s := S1024x4096) ![0, 0] S1024x4096.size inb_S1024x4096_S1024x4096_0_0
abbrev r0_3 : Rect S256x128 := Rect.unit (s := S256x128) ![0, 0] S256x128.size inb_S256x128_S256x128_0_0
abbrev r0_4 : Rect S256x512 := Rect.unit (s := S256x512) ![0, 0] S256x512.size inb_S256x512_S256x512_0_0
abbrev r0_5 : Rect S1x128 := Rect.unit (s := S1x128) ![0, 0] S1x128.size inb_S1x128_S1x128_0_0
abbrev r0_6 : Rect S256x32 := Rect.unit (s := S256x32) ![0, 0] S256x32.size inb_S256x32_S256x32_0_0
abbrev r0_7 : Rect S256x256 := Rect.unit (s := S256x256) ![0, 0] S256x256.size inb_S256x256_S256x256_0_0
abbrev r0_8 : Rect S1x256 := Rect.unit (s := S1x256) ![0, 0] S1x256.size inb_S1x256_S1x256_0_0
abbrev r0_9 : Rect S512x1024 := Rect.unit (s := S512x1024) ![0, 0] S512x1024.size inb_S512x1024_S512x1024_0_0
abbrev r0_10 : Rect S8x256x256 := Rect.unit (s := S8x256x256) ![0, 0, 0] S1x256x256.size inb_S8x256x256_S1x256x256_0_0_0
abbrev r0_11 : Rect S8x256x256 := Rect.unit (s := S8x256x256) ![1, 0, 0] S1x256x256.size inb_S8x256x256_S1x256x256_1_0_0
abbrev r0_12 : Rect S8x256x256 := Rect.unit (s := S8x256x256) ![2, 0, 0] S1x256x256.size inb_S8x256x256_S1x256x256_2_0_0
abbrev r0_13 : Rect S8x256x256 := Rect.unit (s := S8x256x256) ![3, 0, 0] S1x256x256.size inb_S8x256x256_S1x256x256_3_0_0
abbrev r0_14 : Rect S8x256x256 := Rect.unit (s := S8x256x256) ![4, 0, 0] S1x256x256.size inb_S8x256x256_S1x256x256_4_0_0
abbrev r0_15 : Rect S8x256x256 := Rect.unit (s := S8x256x256) ![5, 0, 0] S1x256x256.size inb_S8x256x256_S1x256x256_5_0_0
abbrev r0_16 : Rect S8x256x256 := Rect.unit (s := S8x256x256) ![6, 0, 0] S1x256x256.size inb_S8x256x256_S1x256x256_6_0_0
abbrev r0_17 : Rect S8x256x256 := Rect.unit (s := S8x256x256) ![7, 0, 0] S1x256x256.size inb_S8x256x256_S1x256x256_7_0_0
abbrev r0_18 : Rect S8x256x128 := Rect.unit (s := S8x256x128) ![0, 0, 0] S1x256x128.size inb_S8x256x128_S1x256x128_0_0_0
abbrev r0_19 : Rect S8x256x128 := Rect.unit (s := S8x256x128) ![1, 0, 0] S1x256x128.size inb_S8x256x128_S1x256x128_1_0_0
abbrev r0_20 : Rect S8x256x128 := Rect.unit (s := S8x256x128) ![2, 0, 0] S1x256x128.size inb_S8x256x128_S1x256x128_2_0_0
abbrev r0_21 : Rect S8x256x128 := Rect.unit (s := S8x256x128) ![3, 0, 0] S1x256x128.size inb_S8x256x128_S1x256x128_3_0_0
abbrev r0_22 : Rect S8x256x128 := Rect.unit (s := S8x256x128) ![4, 0, 0] S1x256x128.size inb_S8x256x128_S1x256x128_4_0_0
abbrev r0_23 : Rect S8x256x128 := Rect.unit (s := S8x256x128) ![5, 0, 0] S1x256x128.size inb_S8x256x128_S1x256x128_5_0_0
abbrev r0_24 : Rect S8x256x128 := Rect.unit (s := S8x256x128) ![6, 0, 0] S1x256x128.size inb_S8x256x128_S1x256x128_6_0_0
abbrev r0_25 : Rect S8x256x128 := Rect.unit (s := S8x256x128) ![7, 0, 0] S1x256x128.size inb_S8x256x128_S1x256x128_7_0_0
abbrev r0_26 : Rect S1x1x512 := Rect.unit (s := S1x1x512) ![0, 0, 0] S1x1x512.size inb_S1x1x512_S1x1x512_0_0_0

/-! ## A point's input blocks and the values computed from them -/

/-- The sixteen blocks one grid point reads. -/
structure Ins (F : FTy → Type) where
  x : Vec F S256x1024 .f32
  sc : Vec F S1x1024 .f32
  sh : Vec F S1x1024 .f32
  gpre : Vec F S1x1024 .f32
  win : Vec F S1024x4096 .bf16
  gqr : Vec F S1x256 .f32
  gkvr : Vec F S1x128 .f32
  wuqn : Vec F S256x512 .bf16
  wuqr : Vec F S256x1024 .bf16
  wuk : Vec F S512x1024 .bf16
  tca : Vec F S256x128 .f32
  tsau : Vec F S256x128 .f32
  tsad : Vec F S256x128 .f32
  tcb : Vec F S256x128 .f32
  tsbu : Vec F S256x128 .f32
  tsbd : Vec F S256x128 .f32

/-- The lane of each place of a slab. -/
abbrev lane : IVec S256x128 32 := iota .tc S256x128 32 [1] iota_S256x128_d1_w32 -- `v141`
/-- The query norm's epsilon. -/
def qEps : FVec F S256x1 .f32 := k0_pay28 (F := F) -- `v157`
/-- The tile's combined projection. -/
def p (b : Ins F) : FVec F S256x4096 .f32 :=
  k0_pay4 (View.ld b.x r0_0) (View.ld b.gpre r0_1) (View.ld b.sc r0_1) (View.ld b.sh r0_1) (View.ld b.win r0_2) -- `v26`
/-- The first branch's table of cosines. -/
def ca (b : Ins F) : FVec F S256x128 .f32 :=
  k0_pay5 (View.ld b.tca r0_3) -- `v28`
/-- The first branch's table for the lanes rotated up. -/
def sau (b : Ins F) : FVec F S256x128 .f32 :=
  k0_pay6 (View.ld b.tsau r0_3) -- `v30`
/-- The first branch's table for the lanes rotated down. -/
def sad (b : Ins F) : FVec F S256x128 .f32 :=
  k0_pay7 (View.ld b.tsad r0_3) -- `v32`
/-- The second branch's table of cosines. -/
def cb (b : Ins F) : FVec F S256x128 .f32 :=
  k0_pay8 (View.ld b.tcb r0_3) -- `v34`
/-- The second branch's table for the lanes rotated up. -/
def sbu (b : Ins F) : FVec F S256x128 .f32 :=
  k0_pay9 (View.ld b.tsbu r0_3) -- `v36`
/-- The second branch's table for the lanes rotated down. -/
def sbd (b : Ins F) : FVec F S256x128 .f32 :=
  k0_pay10 (View.ld b.tsbd r0_3) -- `v38`
/-- The first branch's keys, not yet rotated. -/
def kSlice (b : Ins F) : FVec F S256x512 .f32 :=
  k0_pay12 (p b) -- `v73`
/-- The first slab of the rotated keys. -/
def kFirst (b : Ins F) : FVec F S256x128 .f32 :=
  k0_pay13 (p b) (ca b) (sau b) (sad b) -- `v81`
/-- The first branch's keys, rotated. -/
def ka (b : Ins F) : FVec F S256x512 .f32 :=
  k0_pay14 (ca b) (sau b) (sad b) (kSlice b) (kFirst b) -- `v106`
/-- The first branch's values. -/
def va (b : Ins F) : FVec F S256x512 .f32 :=
  k0_pay15 (p b) -- `v107`
/-- The latent before its norm. -/
def kvLat (b : Ins F) : FVec F S256x128 .f32 :=
  k0_pay18 (p b) -- `v115`
/-- The latent norm's gain. -/
def gkv (b : Ins F) : FVec F S1x128 .f32 :=
  k0_pay19 (View.ld b.gkvr r0_5) -- `v117`
/-- The latent's squares. -/
def kvSquares (b : Ins F) : FVec F S256x128 .f32 :=
  k0_pay20 (p b) -- `v118`
/-- The query latent before its norm. -/
def qLat (b : Ins F) : FVec F S256x256 .f32 :=
  k0_pay25 (p b) -- `v149`
/-- The query norm's gain. -/
def gq (b : Ins F) : FVec F S1x256 .f32 :=
  k0_pay26 (View.ld b.gqr r0_8) -- `v151`
/-- The query latent's mean square. -/
def qMean (b : Ins F) : FVec F S256x1 .f32 :=
  k0_pay27 (p b) -- `v156`
/-- The queries' rotary part, a slab a head, not yet rotated. -/
def qRope (b : Ins F) : FVec F S256x1024 .f32 :=
  k0_pay30 (qLat b) (gq b) (qMean b) (qEps (F := F)) (View.ld b.wuqr r0_0) -- `v170`
/-- The queries absorbed into the latent, a slab a head. -/
def qAbs (b : Ins F) : FVec F S256x1024 .f32 :=
  k0_pay31 (qLat b) (gq b) (qMean b) (qEps (F := F)) (View.ld b.wuqn r0_4) (View.ld b.wuk r0_9) -- `v174`
/-- One in the lane that stands for the point's block. -/
def oneHot (i : grid0.Coords) : FVec F S256x128 .f32 := k0_pay45 (F := F) (BitVec.ofNat 32 (i 0).val) lane -- `v308`
/-- One in the values' lane of ones. -/
def onesColumn : FVec F S256x128 .f32 := k0_pay46 (F := F) lane -- `v313`

/-! ## What the body leaves in each output's buffer -/

/-- Output window 16 after the body. -/
def qa (b : Ins F) : Vec F S256x512 .f32 :=
  View.canon [⟨r0_4, k0_pay11 (p b) (ca b) (sau b) (sad b)⟩]

/-- Output window 17 after the body. -/
def key (b : Ins F) : Vec F S256x512 .f32 :=
  View.canon [⟨r0_4, k0_pay14 (ca b) (sau b) (sad b) (kSlice b) (kFirst b)⟩]

/-- Output window 18 after the body. -/
def value (b : Ins F) : Vec F S256x512 .f32 :=
  View.canon [⟨r0_4, k0_pay15 (p b)⟩]

/-- Output window 19 after the body. -/
def latent (b : Ins F) : Vec F S256x128 .f32 :=
  View.canon [⟨r0_3, k0_pay21 (kvLat b) (gkv b) (kvSquares b)⟩]

/-- Output window 20 after the body. -/
def keyRope (b : Ins F) : Vec F S256x32 .f32 :=
  View.canon [⟨r0_6, k0_pay23 (p b) (cb b) (sbu b) (sbd b)⟩]

/-- Output window 21 after the body. -/
def gateA (b : Ins F) : Vec F S256x1024 .f32 :=
  View.canon [⟨r0_0, k0_pay16 (p b)⟩]

/-- Output window 22 after the body. -/
def gateB (b : Ins F) : Vec F S256x1024 .f32 :=
  View.canon [⟨r0_0, k0_pay17 (p b)⟩]

/-- Output window 23 after the body. -/
def queries (b : Ins F) : Vec F S8x256x256 .bf16 :=
  View.canon [⟨r0_17, k0_pay44 (cb b) (sbu b) (sbd b) (qRope b) (qAbs b)⟩,
    ⟨r0_16, k0_pay43 (k0_pay42 (cb b) (sbu b) (sbd b) (qRope b) (qAbs b))⟩,
    ⟨r0_15, k0_pay41 (cb b) (sbu b) (sbd b) (qRope b) (qAbs b)⟩,
    ⟨r0_14, k0_pay40 (sbu b) (sbd b) (qAbs b) (k0_pay38 (qRope b)) (k0_pay39 (cb b) (qRope b))⟩,
    ⟨r0_13, k0_pay37 (cb b) (sbu b) (sbd b) (qRope b) (qAbs b)⟩,
    ⟨r0_12, k0_pay36 (cb b) (sbu b) (sbd b) (qRope b) (qAbs b)⟩,
    ⟨r0_11, k0_pay35 (k0_pay33 (cb b) (sbu b) (sbd b) (qLat b) (gq b) (qMean b) (qEps (F := F)) (View.ld b.wuqr r0_0)) (k0_pay34 (qLat b) (gq b) (qMean b) (qEps (F := F)) (View.ld b.wuqn r0_4) (View.ld b.wuk r0_9))⟩,
    ⟨r0_10, k0_pay32 (cb b) (sbu b) (sbd b) (qLat b) (gq b) (qMean b) (qEps (F := F)) (View.ld b.wuqn r0_4) (View.ld b.wuqr r0_0) (View.ld b.wuk r0_9)⟩]

/-- Output window 24 after the body. -/
def keys (b : Ins F) : Vec F S256x256 .bf16 :=
  View.canon [⟨r0_7, k0_pay24 (p b) (cb b) (sbu b) (sbd b) (kvLat b) (gkv b) (kvSquares b)⟩]

/-- Output window 25 after the body. -/
def keysAug (i : grid0.Coords) (b : Ins F) : Vec F S8x256x128 .bf16 :=
  View.canon [⟨r0_25, k0_pay1 (ka b) lane (oneHot (F := F) i)⟩,
    ⟨r0_24, k0_pay63 (ka b) lane (oneHot (F := F) i)⟩,
    ⟨r0_23, k0_pay61 (ka b) lane (oneHot (F := F) i)⟩,
    ⟨r0_22, k0_pay58 (ka b) lane (oneHot (F := F) i)⟩,
    ⟨r0_21, k0_pay56 (ka b) lane (oneHot (F := F) i)⟩,
    ⟨r0_20, k0_pay53 (ka b) lane (oneHot (F := F) i)⟩,
    ⟨r0_19, k0_pay50 (ka b) lane (oneHot (F := F) i)⟩,
    ⟨r0_18, k0_pay48 (BitVec.ofNat 32 (i 0).val) (ka b) lane⟩]

/-- Output window 26 after the body. -/
def valuesAug (b : Ins F) : Vec F S8x256x128 .bf16 :=
  View.canon [⟨r0_25, k0_pay2 (va b) lane (onesColumn (F := F))⟩,
    ⟨r0_24, k0_pay64 (va b) lane (onesColumn (F := F))⟩,
    ⟨r0_23, k0_pay62 (va b) lane (onesColumn (F := F))⟩,
    ⟨r0_22, k0_pay60 (k0_pay59 (va b) lane (onesColumn (F := F)))⟩,
    ⟨r0_21, k0_pay57 (va b) lane (onesColumn (F := F))⟩,
    ⟨r0_20, k0_pay55 (onesColumn (F := F)) (k0_pay52 (va b)) (k0_pay54 lane)⟩,
    ⟨r0_19, k0_pay51 (va b) lane (onesColumn (F := F))⟩,
    ⟨r0_18, k0_pay49 lane (onesColumn (F := F)) (k0_pay47 (va b))⟩]

/-- Output window 27 after the body. -/
def keyMean (b : Ins F) : Vec F S1x1x512 .f32 :=
  View.canon [⟨r0_26, k0_pay3 (ka b)⟩]

theorem cover16 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

theorem cover19 (p0 : Vec F S256x128 .f32) (y : S256x128.Idx) :
    ∃ pc ∈ ([⟨r0_3, p0⟩] : List (View.Piece (Elt F) S256x128 .f32)), y ∈ pc.1.set :=
  View.cover_of_tiled [⟨r0_3, p0⟩] S256x128.size (by rfl) y

theorem cover20 (p0 : Vec F S256x32 .f32) (y : S256x32.Idx) :
    ∃ pc ∈ ([⟨r0_6, p0⟩] : List (View.Piece (Elt F) S256x32 .f32)), y ∈ pc.1.set :=
  View.cover_of_tiled [⟨r0_6, p0⟩] S256x32.size (by rfl) y

theorem cover21 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

theorem cover23 (p0 p1 p2 p3 p4 p5 p6 p7 : Vec F S1x256x256 .bf16) (y : S8x256x256.Idx) :
    ∃ pc ∈ ([⟨r0_17, p0⟩, ⟨r0_16, p1⟩, ⟨r0_15, p2⟩, ⟨r0_14, p3⟩, ⟨r0_13, p4⟩, ⟨r0_12, p5⟩, ⟨r0_11, p6⟩, ⟨r0_10, p7⟩] : List (View.Piece (Elt F) S8x256x256 .bf16)), y ∈ pc.1.set :=
  View.cover_of_tiled [⟨r0_17, p0⟩, ⟨r0_16, p1⟩, ⟨r0_15, p2⟩, ⟨r0_14, p3⟩, ⟨r0_13, p4⟩, ⟨r0_12, p5⟩, ⟨r0_11, p6⟩, ⟨r0_10, p7⟩] S1x256x256.size (by rfl) y

theorem cover24 (p0 : Vec F S256x256 .bf16) (y : S256x256.Idx) :
    ∃ pc ∈ ([⟨r0_7, p0⟩] : List (View.Piece (Elt F) S256x256 .bf16)), y ∈ pc.1.set :=
  View.cover_of_tiled [⟨r0_7, p0⟩] S256x256.size (by rfl) y

theorem cover25 (p0 p1 p2 p3 p4 p5 p6 p7 : Vec F S1x256x128 .bf16) (y : S8x256x128.Idx) :
    ∃ pc ∈ ([⟨r0_25, p0⟩, ⟨r0_24, p1⟩, ⟨r0_23, p2⟩, ⟨r0_22, p3⟩, ⟨r0_21, p4⟩, ⟨r0_20, p5⟩, ⟨r0_19, p6⟩, ⟨r0_18, p7⟩] : List (View.Piece (Elt F) S8x256x128 .bf16)), y ∈ pc.1.set :=
  View.cover_of_tiled [⟨r0_25, p0⟩, ⟨r0_24, p1⟩, ⟨r0_23, p2⟩, ⟨r0_22, p3⟩, ⟨r0_21, p4⟩, ⟨r0_20, p5⟩, ⟨r0_19, p6⟩, ⟨r0_18, p7⟩] S1x256x128.size (by rfl) y

theorem cover27 (p0 : Vec F S1x1x512 .f32) (y : S1x1x512.Idx) :
    ∃ pc ∈ ([⟨r0_26, p0⟩] : List (View.Piece (Elt F) S1x1x512 .f32)), y ∈ pc.1.set :=
  View.cover_of_tiled [⟨r0_26, p0⟩] S1x1x512.size (by rfl) y

/-! ## The body's triple -/

set_option maxHeartbeats 6000000 in
/-- The body, run on buffers that hold a point's input blocks, leaves them as they were and each output's buffer at the value above. -/
theorem triple (c : Dev nD) (E : Set ℕ) (i : grid0.Coords) (a0 : Memref sig .tc .vmem S256x1024 .f32) (h0 : a0.IsWhole) (a1 : Memref sig .tc .vmem S1x1024 .f32) (h1 : a1.IsWhole) (a2 : Memref sig .tc .vmem S1x1024 .f32) (h2 : a2.IsWhole) (a3 : Memref sig .tc .vmem S1x1024 .f32) (h3 : a3.IsWhole) (a4 : Memref sig .tc .vmem S1024x4096 .bf16) (h4 : a4.IsWhole) (a5 : Memref sig .tc .vmem S1x256 .f32) (h5 : a5.IsWhole) (a6 : Memref sig .tc .vmem S1x128 .f32) (h6 : a6.IsWhole) (a7 : Memref sig .tc .vmem S256x512 .bf16) (h7 : a7.IsWhole) (a8 : Memref sig .tc .vmem S256x1024 .bf16) (h8 : a8.IsWhole) (a9 : Memref sig .tc .vmem S512x1024 .bf16) (h9 : a9.IsWhole) (a10 : Memref sig .tc .vmem S256x128 .f32) (h10 : a10.IsWhole) (a11 : Memref sig .tc .vmem S256x128 .f32) (h11 : a11.IsWhole) (a12 : Memref sig .tc .vmem S256x128 .f32) (h12 : a12.IsWhole) (a13 : Memref sig .tc .vmem S256x128 .f32) (h13 : a13.IsWhole) (a14 : Memref sig .tc .vmem S256x128 .f32) (h14 : a14.IsWhole) (a15 : Memref sig .tc .vmem S256x128 .f32) (h15 : a15.IsWhole) (a16 : Memref sig .tc .vmem S256x512 .f32) (h16 : a16.IsWhole) (a17 : Memref sig .tc .vmem S256x512 .f32) (h17 : a17.IsWhole) (a18 : Memref sig .tc .vmem S256x512 .f32) (h18 : a18.IsWhole) (a19 : Memref sig .tc .vmem S256x128 .f32) (h19 : a19.IsWhole) (a20 : Memref sig .tc .vmem S256x32 .f32) (h20 : a20.IsWhole) (a21 : Memref sig .tc .vmem S256x1024 .f32) (h21 : a21.IsWhole) (a22 : Memref sig .tc .vmem S256x1024 .f32) (h22 : a22.IsWhole) (a23 : Memref sig .tc .vmem S8x256x256 .bf16) (h23 : a23.IsWhole) (a24 : Memref sig .tc .vmem S256x256 .bf16) (h24 : a24.IsWhole) (a25 : Memref sig .tc .vmem S8x256x128 .bf16) (h25 : a25.IsWhole) (a26 : Memref sig .tc .vmem S8x256x128 .bf16) (h26 : a26.IsWhole) (a27 : Memref sig .tc .vmem S1x1x512 .f32) (h27 : a27.IsWhole)
    (b : Ins F) (K : PUnit → sProp 𝕄) :
    iprop(owns (c : Thread nD τ) a0 fullShare b.x ∗ owns (c : Thread nD τ) a1 fullShare b.sc ∗ owns (c : Thread nD τ) a2 fullShare b.sh ∗ owns (c : Thread nD τ) a3 fullShare b.gpre ∗ owns (c : Thread nD τ) a4 fullShare b.win ∗ owns (c : Thread nD τ) a5 fullShare b.gqr ∗ owns (c : Thread nD τ) a6 fullShare b.gkvr ∗ owns (c : Thread nD τ) a7 fullShare b.wuqn ∗ owns (c : Thread nD τ) a8 fullShare b.wuqr ∗ owns (c : Thread nD τ) a9 fullShare b.wuk ∗ owns (c : Thread nD τ) a10 fullShare b.tca ∗ owns (c : Thread nD τ) a11 fullShare b.tsau ∗ owns (c : Thread nD τ) a12 fullShare b.tsad ∗ owns (c : Thread nD τ) a13 fullShare b.tcb ∗ owns (c : Thread nD τ) a14 fullShare b.tsbu ∗ owns (c : Thread nD τ) a15 fullShare b.tsbd ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d) ∗ (∃ d, owns (c : Thread nD τ) a26 fullShare d) ∗ (∃ d, owns (c : Thread nD τ) a27 fullShare d)
        ∗ (iprop(owns (c : Thread nD τ) a0 fullShare b.x ∗ owns (c : Thread nD τ) a1 fullShare b.sc ∗ owns (c : Thread nD τ) a2 fullShare b.sh ∗ owns (c : Thread nD τ) a3 fullShare b.gpre ∗ owns (c : Thread nD τ) a4 fullShare b.win ∗ owns (c : Thread nD τ) a5 fullShare b.gqr ∗ owns (c : Thread nD τ) a6 fullShare b.gkvr ∗ owns (c : Thread nD τ) a7 fullShare b.wuqn ∗ owns (c : Thread nD τ) a8 fullShare b.wuqr ∗ owns (c : Thread nD τ) a9 fullShare b.wuk ∗ owns (c : Thread nD τ) a10 fullShare b.tca ∗ owns (c : Thread nD τ) a11 fullShare b.tsau ∗ owns (c : Thread nD τ) a12 fullShare b.tsad ∗ owns (c : Thread nD τ) a13 fullShare b.tcb ∗ owns (c : Thread nD τ) a14 fullShare b.tsbu ∗ owns (c : Thread nD τ) a15 fullShare b.tsbd ∗ owns (c : Thread nD τ) a16 fullShare (qa b) ∗ owns (c : Thread nD τ) a17 fullShare (key b) ∗ owns (c : Thread nD τ) a18 fullShare (value b) ∗ owns (c : Thread nD τ) a19 fullShare (latent b) ∗ owns (c : Thread nD τ) a20 fullShare (keyRope b) ∗ owns (c : Thread nD τ) a21 fullShare (gateA b) ∗ owns (c : Thread nD τ) a22 fullShare (gateB b) ∗ owns (c : Thread nD τ) a23 fullShare (queries b) ∗ owns (c : Thread nD τ) a24 fullShare (keys b) ∗ owns (c : Thread nD τ) a25 fullShare (keysAug i b) ∗ owns (c : Thread nD τ) a26 fullShare (valuesAug b) ∗ owns (c : Thread nD τ) a27 fullShare (keyMean b)) -∗ K ⟨⟩))
      ⊢ wp frame (wpE (defs₀ (F := F)) Variants.none c none) E (cc0_proj_in_prompt i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27) K := by
  obtain ⟨x0, x1, x2, x3, x4, x5, x6, x7, x8, x9, x10, x11, x12, x13, x14, x15⟩ := b
  simp only [cc0_proj_in_prompt_eq_skeleton]; unfold cc0_proj_in_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover16 _)).trans ?_
    rfl
  isplitl [H17]
  · iexists _; isplitr
    swap; · iexact H17
    ipureintro
    refine (View.read_writes_eq_canon _ _ _ (cover16 _)).trans ?_
    rfl
  isplitl [H18]
  · iexists _; isplitr
    swap; · iexact H18
    ipureintro
    refine (View.read_writes_eq_canon _ _ _ (cover16 _)).trans ?_
    rfl
  isplitl [H19]
  · iexists _; isplitr
    swap; · iexact H19
    ipureintro
    refine (View.read_writes_eq_canon _ _ _ (cover19 _)).trans ?_
    rfl
  isplitl [H20]
  · iexists _; isplitr
    swap; · iexact H20
    ipureintro
    refine (View.read_writes_eq_canon _ _ _ (cover20 _)).trans ?_
    rfl
  isplitl [H21]
  · iexists _; isplitr
    swap; · iexact H21
    ipureintro
    refine (View.read_writes_eq_canon _ _ _ (cover21 _)).trans ?_
    rfl
  isplitl [H22]
  · iexists _; isplitr
    swap; · iexact H22
    ipureintro
    refine (View.read_writes_eq_canon _ _ _ (cover21 _)).trans ?_
    rfl
  isplitl [H23]
  · iexists _; isplitr
    swap; · iexact H23
    ipureintro
    refine (View.read_writes_eq_canon _ _ _ (cover23 _ _ _ _ _ _ _ _)).trans ?_
    rfl
  isplitl [H24]
  · iexists _; isplitr
    swap; · iexact H24
    ipureintro
    refine (View.read_writes_eq_canon _ _ _ (cover24 _)).trans ?_
    rfl
  isplitl [H25]
  · iexists _; isplitr
    swap; · iexact H25
    ipureintro
    refine (View.read_writes_eq_canon _ _ _ (cover25 _ _ _ _ _ _ _ _)).trans ?_
    rfl
  isplitl [H26]
  · iexists _; isplitr
    swap; · iexact H26
    ipureintro
    refine (View.read_writes_eq_canon _ _ _ (cover25 _ _ _ _ _ _ _ _)).trans ?_
    rfl
  iexists _; isplitr
  swap; · iexact H27
  ipureintro
  refine (View.read_writes_eq_canon _ _ _ (cover27 _)).trans ?_
  rfl

/-! ## The pipeline's data -/

/-- The blocks grid point `t` reads. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t⟩

/-- The pipeline's data on a core: its arrays as the region finds them, an input's buffer at its block after the body, and an output's buffer at the
    body's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => qa (ins m c t)
    | ⟨17, _⟩ => key (ins m c t)
    | ⟨18, _⟩ => value (ins m c t)
    | ⟨19, _⟩ => latent (ins m c t)
    | ⟨20, _⟩ => keyRope (ins m c t)
    | ⟨21, _⟩ => gateA (ins m c t)
    | ⟨22, _⟩ => gateB (ins m c t)
    | ⟨23, _⟩ => queries (ins m c t)
    | ⟨24, _⟩ => keys (ins m c t)
    | ⟨25, _⟩ => keysAug (grid0.coords t) (ins m c t)
    | ⟨26, _⟩ => valuesAug (ins m c t)
    | ⟨27, _⟩ => keyMean (ins m c t)
    | ⟨_ + 28, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = qa (ins m c t) := by dsimp only [dats]
theorem after17 (c : Dev nD) (t : Fin cfg0.N) : (dats m 0 c).after 17 t = key (ins m c t) := by dsimp only [dats]
theorem after18 (c : Dev nD) (t : Fin cfg0.N) : (dats m 0 c).after 18 t = value (ins m c t) := by dsimp only [dats]
theorem after19 (c : Dev nD) (t : Fin cfg0.N) : (dats m 0 c).after 19 t = latent (ins m c t) := by dsimp only [dats]
theorem after20 (c : Dev nD) (t : Fin cfg0.N) : (dats m 0 c).after 20 t = keyRope (ins m c t) := by dsimp only [dats]
theorem after21 (c : Dev nD) (t : Fin cfg0.N) : (dats m 0 c).after 21 t = gateA (ins m c t) := by dsimp only [dats]
theorem after22 (c : Dev nD) (t : Fin cfg0.N) : (dats m 0 c).after 22 t = gateB (ins m c t) := by dsimp only [dats]
theorem after23 (c : Dev nD) (t : Fin cfg0.N) : (dats m 0 c).after 23 t = queries (ins m c t) := by dsimp only [dats]
theorem after24 (c : Dev nD) (t : Fin cfg0.N) : (dats m 0 c).after 24 t = keys (ins m c t) := by dsimp only [dats]
theorem after25 (c : Dev nD) (t : Fin cfg0.N) : (dats m 0 c).after 25 t = keysAug (grid0.coords t) (ins m c t) := by dsimp only [dats]
theorem after26 (c : Dev nD) (t : Fin cfg0.N) : (dats m 0 c).after 26 t = valuesAug (ins m c t) := by dsimp only [dats]
theorem after27 (c : Dev nD) (t : Fin cfg0.N) : (dats m 0 c).after 27 t = keyMean (ins m c t) := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d
theorem before11 (c : Dev nD) (t : Fin cfg0.N) (d) : (dats m 0 c).before 11 t d = iblk m c 11 t := before0_11_of m (dats m 0 c) (A_eq m c 11) (after11 m c) t d
theorem before12 (c : Dev nD) (t : Fin cfg0.N) (d) : (dats m 0 c).before 12 t d = iblk m c 12 t := before0_12_of m (dats m 0 c) (A_eq m c 12) (after12 m c) t d
theorem before13 (c : Dev nD) (t : Fin cfg0.N) (d) : (dats m 0 c).before 13 t d = iblk m c 13 t := before0_13_of m (dats m 0 c) (A_eq m c 13) (after13 m c) t d
theorem before14 (c : Dev nD) (t : Fin cfg0.N) (d) : (dats m 0 c).before 14 t d = iblk m c 14 t := before0_14_of m (dats m 0 c) (A_eq m c 14) (after14 m c) t d
theorem before15 (c : Dev nD) (t : Fin cfg0.N) (d) : (dats m 0 c).before 15 t d = iblk m c 15 t := before0_15_of m (dats m 0 c) (A_eq m c 15) (after15 m c) t d

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- What it leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 4000000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (triple c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (ins m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

theorem defs₀_row (t : Fin cfg0.N) : defs₀ (F := F) .tc cfg0.body (cfg0.bodyArgs t (cfg0.slots t)) = bodyAt0 t := by
  unfold defs₀; rw [Defs.onTc_tc]

/-- The body's obligation to the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every run ends with each array of the pipeline at what the data computes, the other buffers as the region found them, and the counters at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: every run ends, the arguments are unchanged, and the counters are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

end Cert.ProjBody

end
-- ==== Proof.ProjRows.lean ====
/- The projection into the mixer, of one row of numbers: its columns, the rotation of a head's lanes by the row's angles,
   the queries absorbed into the latent, and the keys' and queries' lanes side by side. -/
module

public import proofs.«01_k».proof.Proof.Rows

@[expose] public section

noncomputable section

namespace Cert.ProjRows

open Idealize.ShloMosaic

/-! ## Angles and rotations -/

/-- Row `r`'s angle at frequency `j`: its place over a power of the base. -/
def angle (base half : EReal) (r j : ℕ) : EReal :=
  FloatOps.sitofp (F := Ideal) .f32 (BitVec.ofNat 32 r) * Ideal.div 1 (Ideal.pow base (Ideal.div (FloatOps.sitofp (F := Ideal) .f32 (BitVec.ofNat 32 j)) half))

/-- The first branch's angles, eight frequencies. -/
def angleA : ℕ → ℕ → EReal := angle (Ideal.ofBits .f32 0x48F42400#32) (Ideal.ofBits .f32 0x41000000#32)

/-- The second branch's angles, sixteen frequencies. -/
def angleB : ℕ → ℕ → EReal := angle (Ideal.ofBits .f32 0x461C4000#32) (Ideal.ofBits .f32 0x41800000#32)

/-- A head of the first branch by the row's angles: eight pairs of lanes rotated, the other 48 lanes as they are. -/
def turnA (t : ℕ → EReal) (y : Fin 64 → EReal) (d : Fin 64) : EReal :=
  if h : d.val < 8 then y d * Ideal.cos (t d.val) - y ⟨d.val + 8, by omega⟩ * Ideal.sin (t d.val)
  else if h : d.val < 16 then y d * Ideal.cos (t (d.val - 8)) + y ⟨d.val - 8, by omega⟩ * Ideal.sin (t (d.val - 8))
  else y d

/-- A head's rotary lanes of the second branch: sixteen pairs. -/
def turnB (t : ℕ → EReal) (y : Fin 32 → EReal) (d : Fin 32) : EReal :=
  if h : d.val < 16 then y d * Ideal.cos (t d.val) - y ⟨d.val + 16, by omega⟩ * Ideal.sin (t d.val)
  else y d * Ideal.cos (t (d.val - 16)) + y ⟨d.val - 16, by omega⟩ * Ideal.sin (t (d.val - 16))

/-- A slab of 128 lanes times a table, and its rotations up by eight and down by eight times theirs. -/
def slabA (y c u d : Fin 128 → EReal) (l : Fin 128) : EReal :=
  y l * c l + y ⟨(l.val + 128 - 8) % 128, Nat.mod_lt _ (by decide)⟩ * u l + y ⟨(l.val + 128 - 120) % 128, Nat.mod_lt _ (by decide)⟩ * d l

/-- The same by sixteen. -/
def slabB (y c u d : Fin 128 → EReal) (l : Fin 128) : EReal :=
  y l * c l + y ⟨(l.val + 128 - 16) % 128, Nat.mod_lt _ (by decide)⟩ * u l + y ⟨(l.val + 128 - 112) % 128, Nat.mod_lt _ (by decide)⟩ * d l

/-- The first branch's tables in a slab, a row's: cosines, sines for the lanes rotated up, sines with a sign for the lanes rotated down. -/
def cosTableA (t : ℕ → EReal) (l : Fin 128) : EReal := if l.val % 64 < 8 then Ideal.cos (t (l.val % 64)) else if l.val % 64 < 16 then Ideal.cos (t (l.val % 64 - 8)) else 1
def upTableA (t : ℕ → EReal) (l : Fin 128) : EReal := if l.val % 64 < 8 then 0 else if l.val % 64 < 16 then Ideal.sin (t (l.val % 64 - 8)) else 0
def downTableA (t : ℕ → EReal) (l : Fin 128) : EReal := if l.val % 64 < 8 then -Ideal.sin (t (l.val % 64)) else 0

/-- The second branch's. -/
def cosTableB (t : ℕ → EReal) (l : Fin 128) : EReal := if l.val % 32 < 16 then Ideal.cos (t (l.val % 32)) else Ideal.cos (t (l.val % 32 - 16))
def upTableB (t : ℕ → EReal) (l : Fin 128) : EReal := if l.val % 32 < 16 then 0 else Ideal.sin (t (l.val % 32 - 16))
def downTableB (t : ℕ → EReal) (l : Fin 128) : EReal := if l.val % 32 < 16 then -Ideal.sin (t (l.val % 32)) else 0

/-- A slab of two heads with the first branch's tables is each head rotated: where a rotation brings in a lane of
    another pair, the table has a nought. -/
theorem slabA_eq (t : ℕ → EReal) (y : Fin 128 → EReal) (l : Fin 128) :
    slabA y (cosTableA t) (upTableA t) (downTableA t) l = turnA t (fun e => y ⟨64 * (l.val / 64) + e.val, by omega⟩) ⟨l.val % 64, by omega⟩ := by
  have hl : (⟨64 * (l.val / 64) + l.val % 64, by omega⟩ : Fin 128) = l := Fin.ext (by show 64 * (l.val / 64) + l.val % 64 = l.val; omega)
  unfold slabA cosTableA upTableA downTableA turnA
  by_cases h : l.val % 64 < 8
  · have e : (⟨(l.val + 128 - 120) % 128, Nat.mod_lt _ (by decide)⟩ : Fin 128) = ⟨64 * (l.val / 64) + (l.val % 64 + 8), by omega⟩ :=
      Fin.ext (by show (l.val + 128 - 120) % 128 = 64 * (l.val / 64) + (l.val % 64 + 8); omega)
    simp only [h, dif_pos, if_true, mul_zero, add_zero, e, hl, mul_neg, sub_eq_add_neg]
  · by_cases h' : l.val % 64 < 16
    · have e : (⟨(l.val + 128 - 8) % 128, Nat.mod_lt _ (by decide)⟩ : Fin 128) = ⟨64 * (l.val / 64) + (l.val % 64 - 8), by omega⟩ :=
        Fin.ext (by show (l.val + 128 - 8) % 128 = 64 * (l.val / 64) + (l.val % 64 - 8); omega)
      simp only [h, h', dif_pos, dif_neg, not_false_eq_true, if_true, if_false, mul_zero, add_zero, e, hl]
    · simp only [h, h', dif_neg, not_false_eq_true, if_false, mul_zero, add_zero, mul_one, hl]

/-- A slab of four groups with the second branch's tables is each group rotated. -/
theorem slabB_eq (t : ℕ → EReal) (y : Fin 128 → EReal) (l : Fin 128) :
    slabB y (cosTableB t) (upTableB t) (downTableB t) l = turnB t (fun e => y ⟨32 * (l.val / 32) + e.val, by omega⟩) ⟨l.val % 32, by omega⟩ := by
  have hl : (⟨32 * (l.val / 32) + l.val % 32, by omega⟩ : Fin 128) = l := Fin.ext (by show 32 * (l.val / 32) + l.val % 32 = l.val; omega)
  unfold slabB cosTableB upTableB downTableB turnB
  by_cases h : l.val % 32 < 16
  · have e : (⟨(l.val + 128 - 112) % 128, Nat.mod_lt _ (by decide)⟩ : Fin 128) = ⟨32 * (l.val / 32) + (l.val % 32 + 16), by omega⟩ :=
      Fin.ext (by show (l.val + 128 - 112) % 128 = 32 * (l.val / 32) + (l.val % 32 + 16); omega)
    simp only [h, dif_pos, if_true, mul_zero, add_zero, e, hl, mul_neg, sub_eq_add_neg]
  · have e : (⟨(l.val + 128 - 16) % 128, Nat.mod_lt _ (by decide)⟩ : Fin 128) = ⟨32 * (l.val / 32) + (l.val % 32 - 16), by omega⟩ :=
      Fin.ext (by show (l.val + 128 - 16) % 128 = 32 * (l.val / 32) + (l.val % 32 - 16); omega)
    simp only [h, dif_neg, not_false_eq_true, if_false, mul_zero, add_zero, e, hl]

/-- Noughts rotated are noughts. -/
theorem turnB_zero (t : ℕ → EReal) (d : Fin 32) : turnB t (fun _ => 0) d = 0 := by
  unfold turnB
  split <;> simp

/-! ## The projection's columns -/

/-- Column `k` of a row's projection. -/
def entry (x g sc sh : Fin 1024 → EReal) (w : Fin 1024 → Fin 4000 → EReal) (k : Fin 4000) : EReal := ∑ i, Rows.modulated x g sc sh i * w i k

/-- The lengths of the two latents, as they are written. -/
abbrev queryRank : EReal := Ideal.ofBits .f32 0x43800000#32
abbrev latentRank : EReal := Ideal.ofBits .f32 0x43000000#32

/-- A row's rotated heads, from the columns that begin at `o`. -/
def headsA (o : ℕ) (ho : o + 512 ≤ 4000) (t : ℕ → EReal) (P : Fin 4000 → EReal) (l : Fin 512) : EReal :=
  turnA t (fun e => P ⟨o + (64 * (l.val / 64) + e.val), by omega⟩) ⟨l.val % 64, by omega⟩

/-- A row's latent, normalised. -/
def latent (g : Fin 128 → EReal) (P : Fin 4000 → EReal) (c : Fin 128) : EReal := Rows.norm latentRank (fun k => P ⟨1792 + k.val, by omega⟩) g c

/-- A row's rotary key. -/
def keyRope (t : ℕ → EReal) (P : Fin 4000 → EReal) (d : Fin 32) : EReal := turnB t (fun e => P ⟨1920 + e.val, by omega⟩) d

/-- A row's key as the attention takes it: the latent, the rotary part, a one, noughts. -/
def key (t : ℕ → EReal) (g : Fin 128 → EReal) (P : Fin 4000 → EReal) (l : Fin 256) : EReal :=
  if h : l.val < 128 then latent g P ⟨l.val, h⟩ else if h : l.val < 160 then keyRope t P ⟨l.val - 128, by omega⟩ else if l.val = 160 then 1 else 0

/-- A row's query latent, normalised. -/
def queryLatent (g : Fin 256 → EReal) (P : Fin 4000 → EReal) (j : Fin 256) : EReal := Rows.norm queryRank (fun k => P ⟨1536 + k.val, by omega⟩) g j

/-- Lane `k` of head `h`'s query. -/
def head (u : Fin 256 → EReal) (w : Fin 256 → Fin 768 → EReal) (h : Fin 8) (k : Fin 96) : EReal := ∑ j, u j * w j ⟨96 * h.val + k.val, by omega⟩

/-- Head `h`'s query absorbed into the latent. -/
def absorbed (u : Fin 256 → EReal) (w : Fin 256 → Fin 768 → EReal) (v : Fin 128 → Fin 8 → Fin 64 → EReal) (h : Fin 8) (c : Fin 128) : EReal :=
  ∑ n : Fin 64, v c h n * head u w h ⟨n.val, by omega⟩

/-- Head `h`'s query as the attention takes it: the absorbed part, the rotary part, noughts, scaled. -/
def query (t : ℕ → EReal) (u : Fin 256 → EReal) (w : Fin 256 → Fin 768 → EReal) (v : Fin 128 → Fin 8 → Fin 64 → EReal) (h : Fin 8) (l : Fin 256) : EReal :=
  (if hl : l.val < 128 then absorbed u w v h ⟨l.val, hl⟩ else if hl : l.val < 160 then turnB t (fun e => head u w h ⟨64 + e.val, by omega⟩) ⟨l.val - 128, by omega⟩ else 0)
    * Ideal.ofBits .f32 0x3DD105EC#32

end Cert.ProjRows

end
-- ==== Proof.ProjBlock.lean ====
/- What one grid point of the projection's call computes, read at an index over the extended reals. -/
module

public import proofs.«01_k».proof.Proof.ProjBody
public import proofs.«01_k».proof.Proof.ProjRows
public import Idealize.ShloMosaic.Lib.Pipeline.ValueKit

@[expose] public section

set_option maxRecDepth 16384

noncomputable section

namespace Cert.ProjBlock

open Cert.ProjIdeal Cert.ProjIdeal.Gen Cert.ProjBody
open Idealize.ShloMosaic Idealize.ShloMosaic.TcCoe Idealize.SL.Sem Idealize.ShloMosaic.Tactic Idealize.ShloMosaic.StableHlo

/-! ## Four slabs of the first branch side by side -/

/-- The four slabs of a row, each with the tables. -/
def slabs (Y : Fin 512 → EReal) (c u d : Fin 128 → EReal) (l : Fin 512) : EReal :=
  ProjRows.slabA (fun x => Y ⟨128 * (l.val / 128) + x.val, by omega⟩) c u d ⟨l.val % 128, by omega⟩

theorem slab_at (Y : Fin 512 → EReal) (c u d : Fin 128 → EReal) (l : Fin 512) (o a : ℕ) (ha : a < 128) (hb : o + 128 ≤ 512) (ho : o = 128 * (l.val / 128)) (he : a = l.val % 128) :
    ProjRows.slabA (fun x => Y ⟨o + x.val, by omega⟩) c u d ⟨a, ha⟩ = slabs Y c u d l := by
  subst ho he
  rfl

/-- With the row's tables the slabs are the heads rotated. -/
theorem slabs_eq (t : ℕ → EReal) (Y : Fin 512 → EReal) (l : Fin 512) :
    slabs Y (ProjRows.cosTableA t) (ProjRows.upTableA t) (ProjRows.downTableA t) l = ProjRows.turnA t (fun e => Y ⟨64 * (l.val / 64) + e.val, by omega⟩) ⟨l.val % 64, by omega⟩ := by
  unfold slabs
  refine (ProjRows.slabA_eq t _ _).trans (congrArg₂ (fun y d => ProjRows.turnA t y d) (funext fun e => congrArg Y (Fin.ext ?_)) (Fin.ext ?_))
  · show 128 * (l.val / 128) + (64 * (l.val % 128 / 64) + e.val) = 64 * (l.val / 64) + e.val
    omega
  · show l.val % 128 % 64 = l.val % 64
    omega

theorem pay11_apply (P : FVec Ideal S256x4096 .f32) (c u d : FVec Ideal S256x128 .f32) (r : Fin 256) (l : Fin 512) :
    k0_pay11 P c u d (ix2 r l) = slabs (fun k => P (ix2 r ⟨k.val, by omega⟩)) (fun x => c (ix2 r x)) (fun x => u (ix2 r x)) (fun x => d (ix2 r x)) l := by
  pointwise [k0_pay11]
  by_cases h1 : l.val < 128
  · simp only [dif_pos h1]
    refine Eq.trans ?_ (slab_at (fun k => P (ix2 r ⟨k.val, by omega⟩)) (fun x => c (ix2 r x)) (fun x => u (ix2 r x)) (fun x => d (ix2 r x)) l 0 l.val h1 (by omega) (by omega) (by omega))
    simp only [Nat.zero_add]
    rfl
  · simp only [dif_neg h1]
    by_cases h2 : l.val - 128 < 128
    · simp only [dif_pos h2]
      exact slab_at (fun k => P (ix2 r ⟨k.val, by omega⟩)) (fun x => c (ix2 r x)) (fun x => u (ix2 r x)) (fun x => d (ix2 r x)) l 128 (l.val - 128) h2 (by omega) (by omega) (by omega)
    · simp only [dif_neg h2]
      by_cases h3 : l.val - 128 - 128 < 128
      · simp only [dif_pos h3]
        exact slab_at (fun k => P (ix2 r ⟨k.val, by omega⟩)) (fun x => c (ix2 r x)) (fun x => u (ix2 r x)) (fun x => d (ix2 r x)) l 256 (l.val - 128 - 128) h3 (by omega) (by omega) (by omega)
      · simp only [dif_neg h3]
        exact slab_at (fun k => P (ix2 r ⟨k.val, by omega⟩)) (fun x => c (ix2 r x)) (fun x => u (ix2 r x)) (fun x => d (ix2 r x)) l 384 (l.val - 128 - 128 - 128) (by omega) (by omega) (by omega) (by omega)

theorem pay12_apply (P : FVec Ideal S256x4096 .f32) (r : Fin 256) (k : Fin 512) : k0_pay12 P (ix2 r k) = P (ix2 r ⟨512 + k.val, by omega⟩) := by
  pointwise [k0_pay12]

theorem pay13_apply (P : FVec Ideal S256x4096 .f32) (c u d : FVec Ideal S256x128 .f32) (r : Fin 256) (l : Fin 128) :
    k0_pay13 P c u d (ix2 r l) = ProjRows.slabA (fun x => k0_pay12 P (ix2 r ⟨x.val, by omega⟩)) (fun x => c (ix2 r x)) (fun x => u (ix2 r x)) (fun x => d (ix2 r x)) l := by
  pointwise [k0_pay13]
  rfl

theorem pay14_apply (P : FVec Ideal S256x4096 .f32) (c u d : FVec Ideal S256x128 .f32) (r : Fin 256) (l : Fin 512) :
    k0_pay14 c u d (k0_pay12 P) (k0_pay13 P c u d) (ix2 r l)
      = slabs (fun k => k0_pay12 P (ix2 r k)) (fun x => c (ix2 r x)) (fun x => u (ix2 r x)) (fun x => d (ix2 r x)) l := by
  pointwise [k0_pay14]
  by_cases h1 : l.val < 128
  · simp only [dif_pos h1]
    refine (pay13_apply P c u d r ⟨l.val, h1⟩).trans ((?_ : _ = _).trans (slab_at (fun k => k0_pay12 P (ix2 r k)) (fun x => c (ix2 r x)) (fun x => u (ix2 r x)) (fun x => d (ix2 r x)) l 0 l.val h1 (by omega) (by omega) (by omega)))
    simp only [Nat.zero_add]
  · simp only [dif_neg h1]
    by_cases h2 : l.val - 128 < 128
    · simp only [dif_pos h2]
      exact slab_at (fun k => k0_pay12 P (ix2 r k)) (fun x => c (ix2 r x)) (fun x => u (ix2 r x)) (fun x => d (ix2 r x)) l 128 (l.val - 128) h2 (by omega) (by omega) (by omega)
    · simp only [dif_neg h2]
      by_cases h3 : l.val - 128 - 128 < 128
      · simp only [dif_pos h3]
        exact slab_at (fun k => k0_pay12 P (ix2 r k)) (fun x => c (ix2 r x)) (fun x => u (ix2 r x)) (fun x => d (ix2 r x)) l 256 (l.val - 128 - 128) h3 (by omega) (by omega) (by omega)
      · simp only [dif_neg h3]
        exact slab_at (fun k => k0_pay12 P (ix2 r k)) (fun x => c (ix2 r x)) (fun x => u (ix2 r x)) (fun x => d (ix2 r x)) l 384 (l.val - 128 - 128 - 128) (by omega) (by omega) (by omega) (by omega)

/-! ## The columns, the norms, and the keys -/

theorem pay4_apply (x : Vec Ideal S256x1024 .f32) (g sc sh : Vec Ideal S1x1024 .f32) (w : Vec Ideal S1024x4096 .bf16) (r : Fin 256) (k : Fin 4096) :
    k0_pay4 x g sc sh w (ix2 r k) = ∑ i, Rows.modulated (fun i => x (ix2 r i)) (fun i => g (ix2 0 i)) (fun i => sc (ix2 0 i)) (fun i => sh (ix2 0 i)) i * w (ix2 i k) := by
  pointwise [k0_pay4]
  rfl

theorem pay15_apply (P : FVec Ideal S256x4096 .f32) (r : Fin 256) (l : Fin 512) : k0_pay15 P (ix2 r l) = P (ix2 r ⟨1024 + l.val, by omega⟩) := by
  pointwise [k0_pay15]

theorem pay16_apply (P : FVec Ideal S256x4096 .f32) (r : Fin 256) (l : Fin 1024) : k0_pay16 P (ix2 r l) = P (ix2 r ⟨1920 + l.val, by omega⟩) := by
  pointwise [k0_pay16]

theorem pay17_apply (P : FVec Ideal S256x4096 .f32) (r : Fin 256) (l : Fin 1024) : k0_pay17 P (ix2 r l) = P (ix2 r ⟨2944 + l.val, by omega⟩) := by
  pointwise [k0_pay17]

theorem pay21_apply (P : FVec Ideal S256x4096 .f32) (g : Vec Ideal S1x128 .f32) (r : Fin 256) (l : Fin 128) :
    k0_pay21 (k0_pay18 P) (k0_pay19 g) (k0_pay20 P) (ix2 r l) = Rows.norm ProjRows.latentRank (fun k => P (ix2 r ⟨1792 + k.val, by omega⟩)) (fun k => g (ix2 0 k)) l := by
  pointwise [k0_pay21, k0_pay18, k0_pay19, k0_pay20]
  rfl

theorem pay22_apply (P : FVec Ideal S256x4096 .f32) (c u d : FVec Ideal S256x128 .f32) (r : Fin 256) (l : Fin 128) :
    k0_pay22 P c u d (ix2 r l) = ProjRows.slabB (fun x => P (ix2 r ⟨3968 + x.val, by omega⟩)) (fun x => c (ix2 r x)) (fun x => u (ix2 r x)) (fun x => d (ix2 r x)) l := by
  pointwise [k0_pay22]
  rfl

theorem pay23_apply (P : FVec Ideal S256x4096 .f32) (c u d : FVec Ideal S256x128 .f32) (r : Fin 256) (l : Fin 32) : k0_pay23 P c u d (ix2 r l) = k0_pay22 P c u d (ix2 r ⟨l.val, by omega⟩) := by
  pointwise [k0_pay23]

theorem pay24_apply (P : FVec Ideal S256x4096 .f32) (c u d : FVec Ideal S256x128 .f32) (x : FVec Ideal S256x128 .f32) (y : FVec Ideal S1x128 .f32) (z : FVec Ideal S256x128 .f32) (r : Fin 256) (l : Fin 256) :
    k0_pay24 P c u d x y z (ix2 r l)
      = if h : l.val < 128 then k0_pay21 x y z (ix2 r ⟨l.val, h⟩) else if l.val = 160 then 1 else k0_pay22 P c u d (ix2 r ⟨l.val - 128, by omega⟩) := by
  pointwise [k0_pay24]
  by_cases h : l.val < 128
  · simp only [dif_pos h]
  · simp only [dif_neg h]
    show (if IntOp.cmpi CmpIPredicate.eq (BitVec.ofNat 32 (l.val - 128)) 32#32 = 1#1 then _ else _) = _
    refine if_congr ?_ rfl rfl
    rw [WordCmp.cmpi_eq_ofNat_eq_one_iff (a := l.val - 128) (b := 32) (by omega) (by omega)]
    omega

/-! ## The queries -/

theorem pay29_apply (P : FVec Ideal S256x4096 .f32) (g : Vec Ideal S1x256 .f32) (r : Fin 256) (j : Fin 256) :
    k0_pay29 (k0_pay25 P) (k0_pay26 g) (k0_pay27 P) k0_pay28 (ix2 r j) = Rows.norm ProjRows.queryRank (fun k => P (ix2 r ⟨1536 + k.val, by omega⟩)) (fun k => g (ix2 0 k)) j := by
  pointwise [k0_pay29, k0_pay25, k0_pay26, k0_pay27, k0_pay28]
  rfl

theorem pay30_apply (a : FVec Ideal S256x256 .f32) (g : FVec Ideal S1x256 .f32) (s e : FVec Ideal S256x1 .f32) (w : Vec Ideal S256x1024 .bf16) (r : Fin 256) (l : Fin 1024) :
    k0_pay30 a g s e w (ix2 r l) = ∑ j, k0_pay29 a g s e (ix2 r j) * w (ix2 j l) := by
  pointwise [k0_pay30]

theorem pay31_apply (a : FVec Ideal S256x256 .f32) (g : FVec Ideal S1x256 .f32) (s e : FVec Ideal S256x1 .f32) (w : Vec Ideal S256x512 .bf16) (v : Vec Ideal S512x1024 .bf16) (r : Fin 256) (l : Fin 1024) :
    k0_pay31 a g s e w v (ix2 r l) = ∑ k, (∑ j, k0_pay29 a g s e (ix2 r j) * w (ix2 j k)) * v (ix2 k l) := by
  pointwise [k0_pay31]

/-- A head's lanes: 128 of the absorbed part from place `o` on, and the slab of the rotary part from there on with the tables, all scaled. -/
def lanes (o : ℕ) (ho : o + 128 ≤ 1024) (R A : Fin 1024 → EReal) (c u d : Fin 128 → EReal) (l : Fin 256) : EReal :=
  (if h : l.val < 128 then A ⟨o + l.val, by omega⟩ else ProjRows.slabB (fun x => R ⟨o + x.val, by omega⟩) c u d ⟨l.val - 128, by omega⟩) * Ideal.ofBits .f32 0x3DD105EC#32

section
variable (c u d : FVec Ideal S256x128 .f32) (R A : FVec Ideal S256x1024 .f32) (r : Fin 256) (l : Fin 256)

theorem head0 (a : FVec Ideal S256x256 .f32) (g : FVec Ideal S1x256 .f32) (s e : FVec Ideal S256x1 .f32) (w : Vec Ideal S256x512 .bf16) (w' : Vec Ideal S256x1024 .bf16) (v : Vec Ideal S512x1024 .bf16) :
    k0_pay32 c u d a g s e w w' v (ix3 0 r l)
      = lanes 0 (by decide) (fun x => k0_pay30 a g s e w' (ix2 r x)) (fun x => k0_pay31 a g s e w v (ix2 r x)) (fun x => c (ix2 r x)) (fun x => u (ix2 r x)) (fun x => d (ix2 r x)) l := by
  pointwise [k0_pay32]
  unfold lanes
  simp only [Nat.zero_add]
  rfl

theorem head1 (a : FVec Ideal S256x256 .f32) (g : FVec Ideal S1x256 .f32) (s e : FVec Ideal S256x1 .f32) (w : Vec Ideal S256x512 .bf16) (w' : Vec Ideal S256x1024 .bf16) (v : Vec Ideal S512x1024 .bf16) :
    k0_pay35 (k0_pay33 c u d a g s e w') (k0_pay34 a g s e w v) (ix3 0 r l)
      = lanes 128 (by decide) (fun x => k0_pay30 a g s e w' (ix2 r x)) (fun x => k0_pay31 a g s e w v (ix2 r x)) (fun x => c (ix2 r x)) (fun x => u (ix2 r x)) (fun x => d (ix2 r x)) l := by
  pointwise [k0_pay35, k0_pay33, k0_pay34]
  rfl

theorem head2 : k0_pay36 c u d R A (ix3 0 r l) = lanes 256 (by decide) (fun x => R (ix2 r x)) (fun x => A (ix2 r x)) (fun x => c (ix2 r x)) (fun x => u (ix2 r x)) (fun x => d (ix2 r x)) l := by
  pointwise [k0_pay36]
  rfl

theorem head3 : k0_pay37 c u d R A (ix3 0 r l) = lanes 384 (by decide) (fun x => R (ix2 r x)) (fun x => A (ix2 r x)) (fun x => c (ix2 r x)) (fun x => u (ix2 r x)) (fun x => d (ix2 r x)) l := by
  pointwise [k0_pay37]
  rfl

theorem head4 : k0_pay40 u d A (k0_pay38 R) (k0_pay39 c R) (ix3 0 r l) = lanes 512 (by decide) (fun x => R (ix2 r x)) (fun x => A (ix2 r x)) (fun x => c (ix2 r x)) (fun x => u (ix2 r x)) (fun x => d (ix2 r x)) l := by
  pointwise [k0_pay40, k0_pay39, k0_pay38]
  rfl

theorem head5 : k0_pay41 c u d R A (ix3 0 r l) = lanes 640 (by decide) (fun x => R (ix2 r x)) (fun x => A (ix2 r x)) (fun x => c (ix2 r x)) (fun x => u (ix2 r x)) (fun x => d (ix2 r x)) l := by
  pointwise [k0_pay41]
  rfl

theorem head6 : k0_pay43 (k0_pay42 c u d R A) (ix3 0 r l) = lanes 768 (by decide) (fun x => R (ix2 r x)) (fun x => A (ix2 r x)) (fun x => c (ix2 r x)) (fun x => u (ix2 r x)) (fun x => d (ix2 r x)) l := by
  pointwise [k0_pay43, k0_pay42]
  rfl

theorem head7 : k0_pay44 c u d R A (ix3 0 r l) = lanes 896 (by decide) (fun x => R (ix2 r x)) (fun x => A (ix2 r x)) (fun x => c (ix2 r x)) (fun x => u (ix2 r x)) (fun x => d (ix2 r x)) l := by
  pointwise [k0_pay44]
  rfl
end

/-- Places counted the same are the same lanes. -/
theorem lanes_congr {o o' : ℕ} (ho : o + 128 ≤ 1024) (ho' : o' + 128 ≤ 1024) (e : o = o') (R A : Fin 1024 → EReal) (c u d : Fin 128 → EReal) (l : Fin 256) :
    lanes o ho R A c u d l = lanes o' ho' R A c u d l := by
  subst e; rfl

/-! ## What the body leaves, at an index -/

section
variable (b : Ins Ideal) (r : Fin 256)

theorem p_eq : p b = k0_pay4 b.x b.gpre b.sc b.sh b.win := by unfold p; frame_out
theorem ca_eq : ca b = b.tca := by unfold ca; unfold k0_pay5; rw [shapeCast_self]; frame_out
theorem sau_eq : sau b = b.tsau := by unfold sau; unfold k0_pay6; rw [shapeCast_self]; frame_out
theorem sad_eq : sad b = b.tsad := by unfold sad; unfold k0_pay7; rw [shapeCast_self]; frame_out
theorem cb_eq : cb b = b.tcb := by unfold cb; unfold k0_pay8; rw [shapeCast_self]; frame_out
theorem sbu_eq : sbu b = b.tsbu := by unfold sbu; unfold k0_pay9; rw [shapeCast_self]; frame_out
theorem sbd_eq : sbd b = b.tsbd := by unfold sbd; unfold k0_pay10; rw [shapeCast_self]; frame_out
theorem gkv_eq : gkv b = k0_pay19 b.gkvr := by unfold gkv; frame_out
theorem gq_eq : gq b = k0_pay26 b.gqr := by unfold gq; frame_out

theorem p_apply (k : Fin 4096) : p b (ix2 r k)
    = ∑ i, Rows.modulated (fun i => b.x (ix2 r i)) (fun i => b.gpre (ix2 0 i)) (fun i => b.sc (ix2 0 i)) (fun i => b.sh (ix2 0 i)) i * b.win (ix2 i k) := by
  rw [p_eq, pay4_apply]

theorem qa_eq : qa b = k0_pay11 (p b) (ca b) (sau b) (sad b) := by unfold qa; frame_out
theorem key_eq : key b = ka b := by unfold key ka; frame_out
theorem value_eq : value b = k0_pay15 (p b) := by unfold value; frame_out
theorem latent_eq : latent b = k0_pay21 (kvLat b) (gkv b) (kvSquares b) := by unfold latent; frame_out
theorem keyRope_eq : keyRope b = k0_pay23 (p b) (cb b) (sbu b) (sbd b) := by unfold keyRope; frame_out
theorem gateA_eq : gateA b = k0_pay16 (p b) := by unfold gateA; frame_out
theorem gateB_eq : gateB b = k0_pay17 (p b) := by unfold gateB; frame_out
theorem keys_eq : keys b = k0_pay24 (p b) (cb b) (sbu b) (sbd b) (kvLat b) (gkv b) (kvSquares b) := by unfold keys; frame_out

/-- One head's piece of the queries' block. -/
theorem tile (k : ℕ) (w : S1x256x256.Idx → EReal) (h : Fin 8) (l : Fin 256) (v : EReal) (e : h.val = k → w (ix3 0 r l) = v) :
    View.TileAt (Val := Elt Ideal) (S := S8x256x256) (e := .bf16) (ix3 h r l) ![k, 0, 0] S1x256x256.size w v := by
  intro x hx
  have h0 : h.val = k + (x 0).val := hx 0
  have h1 : r.val = 0 + (x 1).val := hx 1
  have h2 : l.val = 0 + (x 2).val := hx 2
  have hx0 : (x 0).val < 1 := (x 0).isLt
  have ex : x = ix3 0 r l := by
    funext a
    match a with
    | ⟨0, _⟩ => exact Fin.ext (by show (x 0).val = 0; omega)
    | ⟨1, _⟩ => exact Fin.ext (by show (x 1).val = r.val; omega)
    | ⟨2, _⟩ => exact Fin.ext (by show (x 2).val = l.val; omega)
  rw [ex]
  exact e (by omega)

/-- The queries' block at an index: head `h`'s lanes. -/
theorem queries_apply (h : Fin 8) (l : Fin 256) : queries b (ix3 h r l)
    = lanes (128 * h.val) (by omega) (fun x => qRope b (ix2 r x)) (fun x => qAbs b (ix2 r x)) (fun x => b.tcb (ix2 r x)) (fun x => b.tsbu (ix2 r x)) (fun x => b.tsbd (ix2 r x)) l := by
  rw [← cb_eq b, ← sbu_eq b, ← sbd_eq b]
  unfold queries
  refine View.canon_eq_of_allAt _ _ _ (cover23 _ _ _ _ _ _ _ _ _) ?_
  refine View.allAt_cons_unit _ _ _ _ _ (tile r 7 _ h l _ fun e => (head7 _ _ _ _ _ r l).trans (lanes_congr _ _ (by omega) _ _ _ _ _ l)) ?_
  refine View.allAt_cons_unit _ _ _ _ _ (tile r 6 _ h l _ fun e => (head6 _ _ _ _ _ r l).trans (lanes_congr _ _ (by omega) _ _ _ _ _ l)) ?_
  refine View.allAt_cons_unit _ _ _ _ _ (tile r 5 _ h l _ fun e => (head5 _ _ _ _ _ r l).trans (lanes_congr _ _ (by omega) _ _ _ _ _ l)) ?_
  refine View.allAt_cons_unit _ _ _ _ _ (tile r 4 _ h l _ fun e => (head4 _ _ _ _ _ r l).trans (lanes_congr _ _ (by omega) _ _ _ _ _ l)) ?_
  refine View.allAt_cons_unit _ _ _ _ _ (tile r 3 _ h l _ fun e => (head3 _ _ _ _ _ r l).trans (lanes_congr _ _ (by omega) _ _ _ _ _ l)) ?_
  refine View.allAt_cons_unit _ _ _ _ _ (tile r 2 _ h l _ fun e => (head2 _ _ _ _ _ r l).trans (lanes_congr _ _ (by omega) _ _ _ _ _ l)) ?_
  refine View.allAt_cons_unit _ _ _ _ _ (tile r 1 _ h l _ fun e => (head1 _ _ _ r l _ _ _ _ _ _ _).trans (lanes_congr _ _ (by omega) _ _ _ _ _ l)) ?_
  refine View.allAt_cons_unit _ _ _ _ _ (tile r 0 _ h l _ fun e => (head0 _ _ _ r l _ _ _ _ _ _ _).trans (lanes_congr _ _ (by omega) _ _ _ _ _ l)) ?_
  exact View.allAt_nil _ _

theorem qRope_apply (l : Fin 1024) : qRope b (ix2 r l)
    = ∑ j, Rows.norm ProjRows.queryRank (fun k => p b (ix2 r ⟨1536 + k.val, by omega⟩)) (fun k => b.gqr (ix2 0 k)) j * b.wuqr (ix2 j l) := by
  have e : qRope b = k0_pay30 (qLat b) (gq b) (qMean b) (qEps (F := Ideal)) b.wuqr := by unfold qRope; frame_out
  rw [e, gq_eq, pay30_apply]
  exact Finset.sum_congr rfl fun j _ => congrArg₂ (· * ·) (pay29_apply (p b) b.gqr r j) rfl

theorem qAbs_apply (l : Fin 1024) : qAbs b (ix2 r l)
    = ∑ k, (∑ j, Rows.norm ProjRows.queryRank (fun k => p b (ix2 r ⟨1536 + k.val, by omega⟩)) (fun k => b.gqr (ix2 0 k)) j * b.wuqn (ix2 j k)) * b.wuk (ix2 k l) := by
  have e : qAbs b = k0_pay31 (qLat b) (gq b) (qMean b) (qEps (F := Ideal)) b.wuqn b.wuk := by unfold qAbs; frame_out
  rw [e, gq_eq, pay31_apply]
  exact Finset.sum_congr rfl fun k _ => congrArg₂ (· * ·) (Finset.sum_congr rfl fun j _ => congrArg₂ (· * ·) (pay29_apply (p b) b.gqr r j) rfl) rfl
end

end Cert.ProjBlock

end
-- ==== Proof.ProjHost.lean ====
/- The arrays the projection's call is given: its weights with their columns laid out anew and blocks on a diagonal, and the
   tables of the angles, each read at an index. -/
module

public import proofs.«01_k».proof.Proof.Gen.ProjIdeal.Frame
public import proofs.«01_k».proof.Proof.ProjRows
public import Idealize.ShloMosaic.Lib.Pipeline.ValueKit

@[expose] public section

set_option maxRecDepth 16384

noncomputable section

namespace Cert.ProjHost

open Cert.ProjIdeal Cert.ProjIdeal.Gen
open Idealize.ShloMosaic Idealize.ShloMosaic.TcCoe Idealize.SL.Sem Idealize.ShloMosaic.Tactic Idealize.ShloMosaic.StableHlo

section
variable {F : FTy → Type} [FloatOps F]

/-- The projection's weights with the rotary key's columns moved to the end and 96 columns of noughts after them. -/
def columns (w : FVec F S1024x4000 .f32) : FVec F S1024x4096 .bf16 :=
  truncf .bf16 (concatenate S1024x4096 1 [⟨S1024x1920, extractStridedSlice S1024x1920 ![0, 0] w slices_S1024x4000_S1024x1920_0_0⟩,
    ⟨S1024x2048, extractStridedSlice S1024x2048 ![0, 1952] w slices_S1024x4000_S1024x2048_0_1952⟩,
    ⟨S1024x32, extractStridedSlice S1024x32 ![0, 1920] w slices_S1024x4000_S1024x32_0_1920⟩,
    ⟨S1024x96, broadcastInDim S1024x96 ![] bcast_S_S1024x96 (constant S_ .f32 0x00000000#32)⟩] concatenates_S1024x1920_S1024x2048_S1024x32_S1024x96_S1024x4096_d1) bitsLt_bf16_f32

/-- The query weights by heads. -/
def heads (w : FVec F S256x768 .f32) : FVec F S256x8x96 .f32 := shapeCast S256x8x96 w shapeCasts_S256x768_S256x8x96

/-- The query weights' first 64 columns of each head. -/
def plain (w : FVec F S256x768 .f32) : FVec F S256x512 .bf16 :=
  truncf .bf16 (shapeCast S256x512 (extractStridedSlice S256x8x64 ![0, 0, 0] (heads w) slices_S256x8x96_S256x8x64_0_0_0) shapeCasts_S256x8x64_S256x512) bitsLt_bf16_f32

/-- The query weights' last 32 columns of each head, filled up to 128 with noughts. -/
def rotary (w : FVec F S256x768 .f32) : FVec F S256x1024 .bf16 :=
  truncf .bf16 (shapeCast S256x1024 (pad S256x8x128 ![0, 0, 0] ![0, 0, 96] ![0, 0, 0] (extractStridedSlice S256x8x32 ![0, 0, 64] (heads w) slices_S256x8x96_S256x8x32_0_0_64)
    (sitofp .f32 (constantI S_ 32 0#32)) pads_S256x8x32_S256x8x128_000_000_0960 h_S_) shapeCasts_S256x8x128_S256x1024) bitsLt_bf16_f32

/-- The keys' weights as a matrix of blocks, one for each head, on the diagonal. -/
def diagonal (u : FVec F S128x8x64 .f32) : FVec F S512x1024 .bf16 :=
  truncf .bf16 (shapeCast S512x1024 (mulf
      (broadcastInDim S8x64x8x128 ![0, 1, 2, 3] bcast_S8x64x1x128_S8x64x8x128_0_1_2_3 (broadcastInDim S8x64x1x128 ![0, 1, 3] bcast_S8x64x128_S8x64x1x128_0_1_3
        (transpose S8x64x128 [1, 2, 0] u transposes_S128x8x64_S8x64x128_1_2_0)))
      (broadcastInDim S8x64x8x128 ![0, 1, 2, 3] bcast_S8x1x8x1_S8x64x8x128_0_1_2_3 (broadcastInDim S8x1x8x1 ![0, 2] bcast_S8x8_S8x1x8x1_0_2
        (uitofp .f32 (cmpi .eq (addi (iotaInDim S8x8 32 0) (broadcastInDim S8x8 ![] bcast_S_S8x8 (constantI S_ 32 0#32))) (iotaInDim S8x8 32 1))))))
    shapeCasts_S8x64x8x128_S512x1024) bitsLt_bf16_f32

/-- The first branch's angles: a row's place times each frequency. -/
def angleA : FVec F S16384x8 .f32 :=
  mulf (broadcastInDim S16384x8 ![0, 1] bcast_S16384x1_S16384x8_0_1 (broadcastInDim S16384x1 ![0] bcast_S16384_S16384x1_0 (sitofp .f32 (iotaInDim S16384 32 0)))) (broadcastInDim S16384x8 ![0, 1] bcast_S1x8_S16384x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (sitofp .f32 (iotaInDim S8 32 0)) (broadcastInDim S8 ![] bcast_S_S8 (constant S_ .f32 0x41000000#32)))))))

/-- The second branch's angles. -/
def angleB : FVec F S16384x16 .f32 :=
  mulf (broadcastInDim S16384x16 ![0, 1] bcast_S16384x1_S16384x16_0_1 (broadcastInDim S16384x1 ![0] bcast_S16384_S16384x1_0 (sitofp .f32 (iotaInDim S16384 32 0)))) (broadcastInDim S16384x16 ![0, 1] bcast_S1x16_S16384x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (Host.divf (sitofp .f32 (iotaInDim S16 32 0)) (broadcastInDim S16 ![] bcast_S_S16 (constant S_ .f32 0x41800000#32)))))))

/-- Two copies of a head's 64 lanes side by side. -/
def twice (x : FVec F S16384x64 .f32) : FVec F S16384x128 .f32 :=
  shapeCast S16384x128 (broadcastInDim S1x16384x2x64 ![0, 1, 2, 3] bcast_S1x16384x1x64_S1x16384x2x64_0_1_2_3 (shapeCast S1x16384x1x64 x shapeCasts_S16384x64_S1x16384x1x64)) shapeCasts_S1x16384x2x64_S16384x128

/-- Three pieces of 8, 8 and 48 lanes side by side. -/
def rowA (x y : FVec F S16384x8 .f32) (z : FVec F S16384x48 .f32) : FVec F S16384x64 .f32 :=
  concatenate S16384x64 1 [⟨S16384x8, x⟩, ⟨S16384x8, y⟩, ⟨S16384x48, z⟩] concatenates_S16384x8_S16384x8_S16384x48_S16384x64_d1

/-- The first branch's tables: the cosines, and the sines for the two rotations. -/
def cosA : FVec F S16384x128 .f32 := twice (rowA (Host.cos angleA) (Host.cos angleA) (broadcastInDim S16384x48 ![] bcast_S_S16384x48 (constant S_ .f32 0x3F800000#32)))
def upA : FVec F S16384x128 .f32 := twice (rowA (broadcastInDim S16384x8 ![] bcast_S_S16384x8 (constant S_ .f32 0x00000000#32)) (Host.sin angleA) (broadcastInDim S16384x48 ![] bcast_S_S16384x48 (constant S_ .f32 0x00000000#32)))
def downA : FVec F S16384x128 .f32 := twice (rowA (Host.negf (Host.sin angleA)) (broadcastInDim S16384x8 ![] bcast_S_S16384x8 (constant S_ .f32 0x00000000#32)) (broadcastInDim S16384x48 ![] bcast_S_S16384x48 (constant S_ .f32 0x00000000#32)))

/-- Four copies of 32 lanes side by side. -/
def fourTimes (x : FVec F S16384x32 .f32) : FVec F S16384x128 .f32 :=
  shapeCast S16384x128 (broadcastInDim S1x16384x4x32 ![0, 1, 2, 3] bcast_S1x16384x1x32_S1x16384x4x32_0_1_2_3 (shapeCast S1x16384x1x32 x shapeCasts_S16384x32_S1x16384x1x32)) shapeCasts_S1x16384x4x32_S16384x128

/-- Two pieces of 16 lanes side by side, and a piece of none. -/
def rowB (x y : FVec F S16384x16 .f32) (z : FVec F S16384x0 .f32) : FVec F S16384x32 .f32 :=
  concatenate S16384x32 1 [⟨S16384x16, x⟩, ⟨S16384x16, y⟩, ⟨S16384x0, z⟩] concatenates_S16384x16_S16384x16_S16384x0_S16384x32_d1

/-- The second branch's tables. -/
def cosB : FVec F S16384x128 .f32 := fourTimes (rowB (Host.cos angleB) (Host.cos angleB) (broadcastInDim S16384x0 ![] bcast_S_S16384x0 (constant S_ .f32 0x3F800000#32)))
def upB : FVec F S16384x128 .f32 := fourTimes (rowB (broadcastInDim S16384x16 ![] bcast_S_S16384x16 (constant S_ .f32 0x00000000#32)) (Host.sin angleB) (broadcastInDim S16384x0 ![] bcast_S_S16384x0 (constant S_ .f32 0x00000000#32)))
def downB : FVec F S16384x128 .f32 := fourTimes (rowB (Host.negf (Host.sin angleB)) (broadcastInDim S16384x16 ![] bcast_S_S16384x16 (constant S_ .f32 0x00000000#32)) (broadcastInDim S16384x0 ![] bcast_S_S16384x0 (constant S_ .f32 0x00000000#32)))
end

/-! ## At an index -/

theorem columns_apply (w : FVec Ideal S1024x4000 .f32) (i : Fin 1024) (k : Fin 4096) : columns w (ix2 i k)
    = if h : k.val < 1920 then w (ix2 i ⟨k.val, by omega⟩) else if h' : k.val < 3968 then w (ix2 i ⟨k.val + 32, by omega⟩) else if h'' : k.val < 4000 then w (ix2 i ⟨k.val - 2048, by omega⟩) else 0 := by
  pointwise [columns]
  by_cases h : k.val < 1920
  · simp only [dif_pos h]
  · by_cases h' : k.val < 3968
    · have e : k.val - 1920 < 2048 := by omega
      simp only [dif_neg h, dif_pos h', dif_pos e]
      exact congrArg (fun a => w (ix2 i a)) (Fin.ext (by show 1952 + (k.val - 1920) = k.val + 32; omega))
    · have e : ¬ k.val - 1920 < 2048 := by omega
      by_cases h'' : k.val < 4000
      · have e' : k.val - 1920 - 2048 < 32 := by omega
        simp only [dif_neg h, dif_neg h', dif_neg e, dif_pos h'', dif_pos e']
        exact congrArg (fun a => w (ix2 i a)) (Fin.ext (by show 1920 + (k.val - 1920 - 2048) = k.val - 2048; omega))
      · have e' : ¬ k.val - 1920 - 2048 < 32 := by omega
        simp only [dif_neg h, dif_neg h', dif_neg e, dif_neg h'', dif_neg e']

theorem plain_apply (w : FVec Ideal S256x768 .f32) (j : Fin 256) (h : Fin 8) (n : Fin 64) :
    plain w (ix2 j ⟨64 * h.val + n.val, by omega⟩) = w (ix2 j ⟨96 * h.val + n.val, by omega⟩) := by
  pointwise [plain, heads]
  refine congrArg (fun a => w (ix2 j a)) (Fin.ext ?_)
  first | rfl | omega | (simp only []; omega)

theorem rotary_apply (w : FVec Ideal S256x768 .f32) (j : Fin 256) (h : Fin 8) (x : Fin 128) :
    rotary w (ix2 j ⟨128 * h.val + x.val, by omega⟩) = if hx : x.val < 32 then w (ix2 j ⟨96 * h.val + (64 + x.val), by omega⟩) else 0 := by
  pointwise [rotary, heads]
  rw [Rows.sitofp_zero]
  congr 1
  funext hx
  exact congrArg (fun a => w (ix2 j a)) (Fin.ext (by show h.val * 96 + (64 + x.val) = 96 * h.val + (64 + x.val); omega))

theorem diagonal_apply (u : FVec Ideal S128x8x64 .f32) (h g : Fin 8) (n : Fin 64) (c : Fin 128) :
    diagonal u (ix2 ⟨64 * h.val + n.val, by omega⟩ ⟨128 * g.val + c.val, by omega⟩) = u (ix3 c h n) * (if h = g then 1 else 0) := by
  rw [← Rows.eye h g]
  pointwise [diagonal]

theorem angleA_apply (r : Fin 16384) (j : Fin 8) : angleA (F := Ideal) (ix2 r j) = ProjRows.angleA r.val j.val := by
  pointwise [angleA]
  rfl

theorem angleB_apply (r : Fin 16384) (j : Fin 16) : angleB (F := Ideal) (ix2 r j) = ProjRows.angleB r.val j.val := by
  pointwise [angleB]
  rfl

theorem twice_apply (x : FVec Ideal S16384x64 .f32) (r : Fin 16384) (l : Fin 128) : twice x (ix2 r l) = x (ix2 r ⟨l.val % 64, by omega⟩) := by
  pointwise [twice]

theorem fourTimes_apply (x : FVec Ideal S16384x32 .f32) (r : Fin 16384) (l : Fin 128) : fourTimes x (ix2 r l) = x (ix2 r ⟨l.val % 32, by omega⟩) := by
  pointwise [fourTimes]

theorem rowA_apply (x y : FVec Ideal S16384x8 .f32) (z : FVec Ideal S16384x48 .f32) (r : Fin 16384) (k : Fin 64) : rowA x y z (ix2 r k)
    = if h : k.val < 8 then x (ix2 r ⟨k.val, h⟩) else if h' : k.val < 16 then y (ix2 r ⟨k.val - 8, by omega⟩) else z (ix2 r ⟨k.val - 16, by omega⟩) := by
  pointwise [rowA]
  by_cases h : k.val < 8
  · simp only [dif_pos h]
  · by_cases h' : k.val < 16
    · have e : k.val - 8 < 8 := by omega
      simp only [dif_neg h, dif_pos h', dif_pos e]
    · have e : ¬ k.val - 8 < 8 := by omega
      simp only [dif_neg h, dif_neg h', dif_neg e]
      exact congrArg (fun a => z (ix2 r a)) (Fin.ext (by show k.val - 8 - 8 = k.val - 16; omega))

theorem rowB_apply (x y : FVec Ideal S16384x16 .f32) (z : FVec Ideal S16384x0 .f32) (r : Fin 16384) (k : Fin 32) : rowB x y z (ix2 r k)
    = if h : k.val < 16 then x (ix2 r ⟨k.val, h⟩) else y (ix2 r ⟨k.val - 16, by omega⟩) := by
  pointwise [rowB]
  have e : k.val - 16 < 16 := by omega
  simp only [dif_pos e]

/-! ## The tables are the rows' tables -/

theorem cosA_apply (r : Fin 16384) (l : Fin 128) : cosA (F := Ideal) (ix2 r l) = ProjRows.cosTableA (ProjRows.angleA r.val) l := by
  unfold cosA ProjRows.cosTableA
  rw [twice_apply, rowA_apply]
  by_cases h : l.val % 64 < 8
  · simp only [dif_pos h, if_pos h]
    exact congrArg Ideal.cos (angleA_apply r _)
  · by_cases h' : l.val % 64 < 16
    · simp only [dif_neg h, if_neg h, dif_pos h', if_pos h']
      exact congrArg Ideal.cos (angleA_apply r _)
    · simp only [dif_neg h, if_neg h, dif_neg h', if_neg h']
      pointwise []

theorem upA_apply (r : Fin 16384) (l : Fin 128) : upA (F := Ideal) (ix2 r l) = ProjRows.upTableA (ProjRows.angleA r.val) l := by
  unfold upA ProjRows.upTableA
  rw [twice_apply, rowA_apply]
  by_cases h : l.val % 64 < 8
  · simp only [dif_pos h, if_pos h]
    pointwise []
  · by_cases h' : l.val % 64 < 16
    · simp only [dif_neg h, if_neg h, dif_pos h', if_pos h']
      exact congrArg Ideal.sin (angleA_apply r _)
    · simp only [dif_neg h, if_neg h, dif_neg h', if_neg h']
      pointwise []

theorem downA_apply (r : Fin 16384) (l : Fin 128) : downA (F := Ideal) (ix2 r l) = ProjRows.downTableA (ProjRows.angleA r.val) l := by
  unfold downA ProjRows.downTableA
  rw [twice_apply, rowA_apply]
  by_cases h : l.val % 64 < 8
  · simp only [dif_pos h, if_pos h]
    exact congrArg (fun t => -Ideal.sin t) (angleA_apply r _)
  · by_cases h' : l.val % 64 < 16
    · simp only [dif_neg h, if_neg h, dif_pos h']
      pointwise []
    · simp only [dif_neg h, if_neg h, dif_neg h']
      pointwise []

theorem cosB_apply (r : Fin 16384) (l : Fin 128) : cosB (F := Ideal) (ix2 r l) = ProjRows.cosTableB (ProjRows.angleB r.val) l := by
  unfold cosB ProjRows.cosTableB
  rw [fourTimes_apply, rowB_apply]
  by_cases h : l.val % 32 < 16
  · simp only [dif_pos h, if_pos h]
    exact congrArg Ideal.cos (angleB_apply r _)
  · simp only [dif_neg h, if_neg h]
    exact congrArg Ideal.cos (angleB_apply r _)

theorem upB_apply (r : Fin 16384) (l : Fin 128) : upB (F := Ideal) (ix2 r l) = ProjRows.upTableB (ProjRows.angleB r.val) l := by
  unfold upB ProjRows.upTableB
  rw [fourTimes_apply, rowB_apply]
  by_cases h : l.val % 32 < 16
  · simp only [dif_pos h, if_pos h]
    pointwise []
  · simp only [dif_neg h, if_neg h]
    exact congrArg Ideal.sin (angleB_apply r _)

theorem downB_apply (r : Fin 16384) (l : Fin 128) : downB (F := Ideal) (ix2 r l) = ProjRows.downTableB (ProjRows.angleB r.val) l := by
  unfold downB ProjRows.downTableB
  rw [fourTimes_apply, rowB_apply]
  by_cases h : l.val % 32 < 16
  · simp only [dif_pos h, if_pos h]
    exact congrArg (fun t => -Ideal.sin t) (angleB_apply r _)
  · simp only [dif_neg h, if_neg h]
    pointwise []

/-! ## What the call is given -/

variable (m : (ℓ : Loc nD τ sig) → Buf (Elt Ideal) ℓ) (c : Dev nD)

set_option maxHeartbeats 4000000 in
theorem V_cosA : V m c main_v53 = (cosA : FVec Ideal S16384x128 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_upA : V m c main_v56 = (upA : FVec Ideal S16384x128 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_downA : V m c main_v59 = (downA : FVec Ideal S16384x128 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_cosB : V m c main_v84 = (cosB : FVec Ideal S16384x128 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_upB : V m c main_v87 = (upB : FVec Ideal S16384x128 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_downB : V m c main_v90 = (downB : FVec Ideal S16384x128 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_columns : V m c main_v6 = (columns (m ((c.tc : Thread nD τ).loc main_arg4)) : FVec Ideal S1024x4096 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_plain : V m c main_v10 = (plain (m ((c.tc : Thread nD τ).loc main_arg7)) : FVec Ideal S256x512 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_rotary : V m c main_v14 = (rotary (m ((c.tc : Thread nD τ).loc main_arg7)) : FVec Ideal S256x1024 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_diagonal : V m c main_v28 = (diagonal (m ((c.tc : Thread nD τ).loc main_arg8)) : FVec Ideal S512x1024 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_gain : V m c main_v91 = (shapeCast S1x1024 (m ((c.tc : Thread nD τ).loc main_arg3) : FVec Ideal S1024 .f32) shapeCasts_S1024_S1x1024 : FVec Ideal S1x1024 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_gainQ : V m c main_v92 = (shapeCast S1x256 (m ((c.tc : Thread nD τ).loc main_arg5) : FVec Ideal S256 .f32) shapeCasts_S256_S1x256 : FVec Ideal S1x256 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_gainKv : V m c main_v93 = (shapeCast S1x128 (m ((c.tc : Thread nD τ).loc main_arg6) : FVec Ideal S128 .f32) shapeCasts_S128_S1x128 : FVec Ideal S1x128 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

/-- A gain laid out as a row. -/
theorem row_apply (g : FVec Ideal S1024 .f32) (l : Fin 1024) : shapeCast S1x1024 g shapeCasts_S1024_S1x1024 (ix2 0 l) = g (ix1 l) := by
  pointwise []

theorem rowQ_apply (g : FVec Ideal S256 .f32) (l : Fin 256) : shapeCast S1x256 g shapeCasts_S256_S1x256 (ix2 0 l) = g (ix1 l) := by
  pointwise []

theorem rowKv_apply (g : FVec Ideal S128 .f32) (l : Fin 128) : shapeCast S1x128 g shapeCasts_S128_S1x128 (ix2 0 l) = g (ix1 l) := by
  pointwise []

end Cert.ProjHost

end
-- ==== Proof.ProjPoint.lean ====
/- What one grid point of the projection's call takes and leaves, in terms of the call's own arguments. -/
module

public import proofs.«01_k».proof.Proof.ProjBlock
public import proofs.«01_k».proof.Proof.ProjHost
public import Idealize.ShloMosaic.Lib.Pipeline.ValueKit

@[expose] public section

set_option maxRecDepth 16384

noncomputable section

namespace Cert.ProjPoint

open Cert.ProjIdeal Cert.ProjIdeal.Gen Cert.ProjBody Cert.ProjHost Cert.ProjBlock
open Idealize.ShloMosaic Idealize.ShloMosaic.TcCoe Idealize.SL.Sem Idealize.ShloMosaic.Tactic Idealize.ShloMosaic.StableHlo

variable (m : (ℓ : Loc nD τ sig) → Buf (Elt Ideal) ℓ) (c : Dev nD)

/-! ## Where the blocks lie -/

/-- Where each window's block lies. -/
theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0] ∧ win0_19.index t = ![t.val, 0]
    ∧ win0_20.index t = ![t.val, 0] ∧ win0_21.index t = ![t.val, 0] ∧ win0_22.index t = ![t.val, 0] ∧ win0_23.index t = ![0, t.val, 0] ∧ win0_24.index t = ![t.val, 0] :=
  (by decide +kernel : ∀ t : Fin grid0.N, _)

/-- Grid point `i`. -/
def pt (i : Fin 64) : Fin cfg0.N := ⟨i.val, by have := N_0; have := i.isLt; show i.val < grid0.N; omega⟩

/-- Row `s` of grid point `i`. -/
def row (i : Fin 64) (s : Fin 256) : Fin 16384 := ⟨256 * i.val + s.val, by omega⟩

theorem blk0 (i : Fin 64) (r : Fin 256) (l : Fin 1024) : iblk m c 0 (pt i) (ix2 r l) = m ((c.tc : Thread nD τ).loc main_arg0) (ix2 (row i r) l) := by
  rw [← V_main_arg0 m c]
  show V m c main_arg0 (((cfg0.win 0).blk (pt i)).view.emb (ix2 r l)) = V m c main_arg0 (ix2 (row i r) l)
  congr 1
  have e := (idx (pt i)).1
  have hp : (pt i).val = i.val := rfl
  unfold row
  blk_ext [e, hp]

theorem blk1 (i : Fin 64) (l : Fin 1024) : iblk m c 1 (pt i) (ix2 0 l) = m ((c.tc : Thread nD τ).loc main_arg1) (ix2 0 l) := by
  rw [← V_main_arg1 m c]
  show V m c main_arg1 (((cfg0.win 1).blk (pt i)).view.emb (ix2 0 l)) = V m c main_arg1 (ix2 0 l)
  congr 1
  have e := (idx (pt i)).2.1
  blk_ext [e]

theorem blk2 (i : Fin 64) (l : Fin 1024) : iblk m c 2 (pt i) (ix2 0 l) = m ((c.tc : Thread nD τ).loc main_arg2) (ix2 0 l) := by
  rw [← V_main_arg2 m c]
  show V m c main_arg2 (((cfg0.win 2).blk (pt i)).view.emb (ix2 0 l)) = V m c main_arg2 (ix2 0 l)
  congr 1
  have e := (idx (pt i)).2.2.1
  blk_ext [e]

theorem blk3 (i : Fin 64) (l : Fin 1024) : iblk m c 3 (pt i) (ix2 0 l) = m ((c.tc : Thread nD τ).loc main_arg3) (ix1 l) := by
  refine Eq.trans ?_ (row_apply (m ((c.tc : Thread nD τ).loc main_arg3)) l)
  rw [← V_gain m c]
  show V m c main_v91 (((cfg0.win 3).blk (pt i)).view.emb (ix2 0 l)) = V m c main_v91 (ix2 0 l)
  congr 1
  have e := (idx (pt i)).2.2.2.1
  blk_ext [e]

theorem blk5 (i : Fin 64) (l : Fin 256) : iblk m c 5 (pt i) (ix2 0 l) = m ((c.tc : Thread nD τ).loc main_arg5) (ix1 l) := by
  refine Eq.trans ?_ (rowQ_apply (m ((c.tc : Thread nD τ).loc main_arg5)) l)
  rw [← V_gainQ m c]
  show V m c main_v92 (((cfg0.win 5).blk (pt i)).view.emb (ix2 0 l)) = V m c main_v92 (ix2 0 l)
  congr 1
  have e := (idx (pt i)).2.2.2.2.2.1
  blk_ext [e]

theorem blk6 (i : Fin 64) (l : Fin 128) : iblk m c 6 (pt i) (ix2 0 l) = m ((c.tc : Thread nD τ).loc main_arg6) (ix1 l) := by
  refine Eq.trans ?_ (rowKv_apply (m ((c.tc : Thread nD τ).loc main_arg6)) l)
  rw [← V_gainKv m c]
  show V m c main_v93 (((cfg0.win 6).blk (pt i)).view.emb (ix2 0 l)) = V m c main_v93 (ix2 0 l)
  congr 1
  have e := (idx (pt i)).2.2.2.2.2.2.1
  blk_ext [e]

theorem blk4 (i : Fin 64) (a : Fin 1024) (b : Fin 4096) : iblk m c 4 (pt i) (ix2 a b) = columns (F := Ideal) (m ((c.tc : Thread nD τ).loc main_arg4)) (ix2 a b) := by
  refine Eq.trans ?_ (congrFun (V_columns m c) (ix2 a b))
  show V m c main_v6 (((cfg0.win 4).blk (pt i)).view.emb (ix2 a b)) = V m c main_v6 (ix2 a b)
  congr 1
  have e := (idx (pt i)).2.2.2.2.1
  blk_ext [e]

theorem blk7 (i : Fin 64) (a : Fin 256) (b : Fin 512) : iblk m c 7 (pt i) (ix2 a b) = plain (F := Ideal) (m ((c.tc : Thread nD τ).loc main_arg7)) (ix2 a b) := by
  refine Eq.trans ?_ (congrFun (V_plain m c) (ix2 a b))
  show V m c main_v10 (((cfg0.win 7).blk (pt i)).view.emb (ix2 a b)) = V m c main_v10 (ix2 a b)
  congr 1
  have e := (idx (pt i)).2.2.2.2.2.2.2.1
  blk_ext [e]

theorem blk8 (i : Fin 64) (a : Fin 256) (b : Fin 1024) : iblk m c 8 (pt i) (ix2 a b) = rotary (F := Ideal) (m ((c.tc : Thread nD τ).loc main_arg7)) (ix2 a b) := by
  refine Eq.trans ?_ (congrFun (V_rotary m c) (ix2 a b))
  show V m c main_v14 (((cfg0.win 8).blk (pt i)).view.emb (ix2 a b)) = V m c main_v14 (ix2 a b)
  congr 1
  have e := (idx (pt i)).2.2.2.2.2.2.2.2.1
  blk_ext [e]

theorem blk9 (i : Fin 64) (a : Fin 512) (b : Fin 1024) : iblk m c 9 (pt i) (ix2 a b) = diagonal (F := Ideal) (m ((c.tc : Thread nD τ).loc main_arg8)) (ix2 a b) := by
  refine Eq.trans ?_ (congrFun (V_diagonal m c) (ix2 a b))
  show V m c main_v28 (((cfg0.win 9).blk (pt i)).view.emb (ix2 a b)) = V m c main_v28 (ix2 a b)
  congr 1
  have e := (idx (pt i)).2.2.2.2.2.2.2.2.2.1
  blk_ext [e]

theorem blk10 (i : Fin 64) (r : Fin 256) (l : Fin 128) : iblk m c 10 (pt i) (ix2 r l) = ProjRows.cosTableA (ProjRows.angleA (row i r).val) l := by
  refine Eq.trans ?_ ((congrFun (V_cosA m c) (ix2 (row i r) l)).trans (cosA_apply (row i r) l))
  show V m c main_v53 (((cfg0.win 10).blk (pt i)).view.emb (ix2 r l)) = V m c main_v53 (ix2 (row i r) l)
  congr 1
  have e := (idx (pt i)).2.2.2.2.2.2.2.2.2.2.1
  have hp : (pt i).val = i.val := rfl
  unfold row
  blk_ext [e, hp]

theorem blk11 (i : Fin 64) (r : Fin 256) (l : Fin 128) : iblk m c 11 (pt i) (ix2 r l) = ProjRows.upTableA (ProjRows.angleA (row i r).val) l := by
  refine Eq.trans ?_ ((congrFun (V_upA m c) (ix2 (row i r) l)).trans (upA_apply (row i r) l))
  show V m c main_v56 (((cfg0.win 11).blk (pt i)).view.emb (ix2 r l)) = V m c main_v56 (ix2 (row i r) l)
  congr 1
  have e := (idx (pt i)).2.2.2.2.2.2.2.2.2.2.2.1
  have hp : (pt i).val = i.val := rfl
  unfold row
  blk_ext [e, hp]

theorem blk12 (i : Fin 64) (r : Fin 256) (l : Fin 128) : iblk m c 12 (pt i) (ix2 r l) = ProjRows.downTableA (ProjRows.angleA (row i r).val) l := by
  refine Eq.trans ?_ ((congrFun (V_downA m c) (ix2 (row i r) l)).trans (downA_apply (row i r) l))
  show V m c main_v59 (((cfg0.win 12).blk (pt i)).view.emb (ix2 r l)) = V m c main_v59 (ix2 (row i r) l)
  congr 1
  have e := (idx (pt i)).2.2.2.2.2.2.2.2.2.2.2.2.1
  have hp : (pt i).val = i.val := rfl
  unfold row
  blk_ext [e, hp]

theorem blk13 (i : Fin 64) (r : Fin 256) (l : Fin 128) : iblk m c 13 (pt i) (ix2 r l) = ProjRows.cosTableB (ProjRows.angleB (row i r).val) l := by
  refine Eq.trans ?_ ((congrFun (V_cosB m c) (ix2 (row i r) l)).trans (cosB_apply (row i r) l))
  show V m c main_v84 (((cfg0.win 13).blk (pt i)).view.emb (ix2 r l)) = V m c main_v84 (ix2 (row i r) l)
  congr 1
  have e := (idx (pt i)).2.2.2.2.2.2.2.2.2.2.2.2.2.1
  have hp : (pt i).val = i.val := rfl
  unfold row
  blk_ext [e, hp]

theorem blk14 (i : Fin 64) (r : Fin 256) (l : Fin 128) : iblk m c 14 (pt i) (ix2 r l) = ProjRows.upTableB (ProjRows.angleB (row i r).val) l := by
  refine Eq.trans ?_ ((congrFun (V_upB m c) (ix2 (row i r) l)).trans (upB_apply (row i r) l))
  show V m c main_v87 (((cfg0.win 14).blk (pt i)).view.emb (ix2 r l)) = V m c main_v87 (ix2 (row i r) l)
  congr 1
  have e := (idx (pt i)).2.2.2.2.2.2.2.2.2.2.2.2.2.2.1
  have hp : (pt i).val = i.val := rfl
  unfold row
  blk_ext [e, hp]

theorem blk15 (i : Fin 64) (r : Fin 256) (l : Fin 128) : iblk m c 15 (pt i) (ix2 r l) = ProjRows.downTableB (ProjRows.angleB (row i r).val) l := by
  refine Eq.trans ?_ ((congrFun (V_downB m c) (ix2 (row i r) l)).trans (downB_apply (row i r) l))
  show V m c main_v90 (((cfg0.win 15).blk (pt i)).view.emb (ix2 r l)) = V m c main_v90 (ix2 (row i r) l)
  congr 1
  have e := (idx (pt i)).2.2.2.2.2.2.2.2.2.2.2.2.2.2.2.1
  have hp : (pt i).val = i.val := rfl
  unfold row
  blk_ext [e, hp]

/-! The blocks as the body's inputs. -/

theorem in_x (i : Fin 64) (r : Fin 256) (l : Fin 1024) : (ins m c (pt i)).x (ix2 r l) = m ((c.tc : Thread nD τ).loc main_arg0) (ix2 (row i r) l) := blk0 m c i r l
theorem in_sc (i : Fin 64) (l : Fin 1024) : (ins m c (pt i)).sc (ix2 0 l) = m ((c.tc : Thread nD τ).loc main_arg1) (ix2 0 l) := blk1 m c i l
theorem in_sh (i : Fin 64) (l : Fin 1024) : (ins m c (pt i)).sh (ix2 0 l) = m ((c.tc : Thread nD τ).loc main_arg2) (ix2 0 l) := blk2 m c i l
theorem in_gpre (i : Fin 64) (l : Fin 1024) : (ins m c (pt i)).gpre (ix2 0 l) = m ((c.tc : Thread nD τ).loc main_arg3) (ix1 l) := blk3 m c i l
theorem in_gqr (i : Fin 64) (l : Fin 256) : (ins m c (pt i)).gqr (ix2 0 l) = m ((c.tc : Thread nD τ).loc main_arg5) (ix1 l) := blk5 m c i l
theorem in_gkvr (i : Fin 64) (l : Fin 128) : (ins m c (pt i)).gkvr (ix2 0 l) = m ((c.tc : Thread nD τ).loc main_arg6) (ix1 l) := blk6 m c i l
theorem in_win (i : Fin 64) (a : Fin 1024) (b : Fin 4096) : (ins m c (pt i)).win (ix2 a b) = columns (F := Ideal) (m ((c.tc : Thread nD τ).loc main_arg4)) (ix2 a b) := blk4 m c i a b
theorem in_wuqn (i : Fin 64) (a : Fin 256) (b : Fin 512) : (ins m c (pt i)).wuqn (ix2 a b) = plain (F := Ideal) (m ((c.tc : Thread nD τ).loc main_arg7)) (ix2 a b) := blk7 m c i a b
theorem in_wuqr (i : Fin 64) (a : Fin 256) (b : Fin 1024) : (ins m c (pt i)).wuqr (ix2 a b) = rotary (F := Ideal) (m ((c.tc : Thread nD τ).loc main_arg7)) (ix2 a b) := blk8 m c i a b
theorem in_wuk (i : Fin 64) (a : Fin 512) (b : Fin 1024) : (ins m c (pt i)).wuk (ix2 a b) = diagonal (F := Ideal) (m ((c.tc : Thread nD τ).loc main_arg8)) (ix2 a b) := blk9 m c i a b
theorem in_tca (i : Fin 64) (r : Fin 256) (l : Fin 128) : (ins m c (pt i)).tca (ix2 r l) = ProjRows.cosTableA (ProjRows.angleA (row i r).val) l := blk10 m c i r l
theorem in_tsau (i : Fin 64) (r : Fin 256) (l : Fin 128) : (ins m c (pt i)).tsau (ix2 r l) = ProjRows.upTableA (ProjRows.angleA (row i r).val) l := blk11 m c i r l
theorem in_tsad (i : Fin 64) (r : Fin 256) (l : Fin 128) : (ins m c (pt i)).tsad (ix2 r l) = ProjRows.downTableA (ProjRows.angleA (row i r).val) l := blk12 m c i r l
theorem in_tcb (i : Fin 64) (r : Fin 256) (l : Fin 128) : (ins m c (pt i)).tcb (ix2 r l) = ProjRows.cosTableB (ProjRows.angleB (row i r).val) l := blk13 m c i r l
theorem in_tsbu (i : Fin 64) (r : Fin 256) (l : Fin 128) : (ins m c (pt i)).tsbu (ix2 r l) = ProjRows.upTableB (ProjRows.angleB (row i r).val) l := blk14 m c i r l
theorem in_tsbd (i : Fin 64) (r : Fin 256) (l : Fin 128) : (ins m c (pt i)).tsbd (ix2 r l) = ProjRows.downTableB (ProjRows.angleB (row i r).val) l := blk15 m c i r l

/-! ## The columns -/

/-- The columns of row `R`'s projection. -/
def cols (R : Fin 16384) : Fin 4000 → EReal :=
  ProjRows.entry (fun i => m ((c.tc : Thread nD τ).loc main_arg0) (ix2 R i)) (fun i => m ((c.tc : Thread nD τ).loc main_arg3) (ix1 i)) (fun i => m ((c.tc : Thread nD τ).loc main_arg1) (ix2 0 i)) (fun i => m ((c.tc : Thread nD τ).loc main_arg2) (ix2 0 i)) (fun i k => m ((c.tc : Thread nD τ).loc main_arg4) (ix2 i k))

section
variable (i : Fin 64) (s : Fin 256)

theorem p_at (k : Fin 4096) : p (ins m c (pt i)) (ix2 s k)
    = ∑ j, Rows.modulated (fun l => m ((c.tc : Thread nD τ).loc main_arg0) (ix2 (row i s) l)) (fun i => m ((c.tc : Thread nD τ).loc main_arg3) (ix1 i)) (fun i => m ((c.tc : Thread nD τ).loc main_arg1) (ix2 0 i)) (fun i => m ((c.tc : Thread nD τ).loc main_arg2) (ix2 0 i)) j * columns (F := Ideal) (m ((c.tc : Thread nD τ).loc main_arg4)) (ix2 j k) := by
  refine (p_apply _ s k).trans ?_
  simp only [in_x m c i, in_gpre m c i, in_sc m c i, in_sh m c i, in_win m c i]

/-- The first 1920 columns are where they were. -/
theorem p_first (k : ℕ) (hk : k < 1920) : p (ins m c (pt i)) (ix2 s ⟨k, by omega⟩) = cols m c (row i s) ⟨k, by omega⟩ := by
  refine (p_at m c i s _).trans ?_
  unfold cols ProjRows.entry
  refine Finset.sum_congr rfl fun j _ => congrArg₂ (· * ·) rfl ?_
  exact (columns_apply _ j _).trans (dif_pos hk)

/-- The next 2048 come from 32 places on. -/
theorem p_gate (k : ℕ) (hk : 1920 ≤ k) (hk' : k < 3968) : p (ins m c (pt i)) (ix2 s ⟨k, by omega⟩) = cols m c (row i s) ⟨k + 32, by omega⟩ := by
  refine (p_at m c i s _).trans ?_
  unfold cols ProjRows.entry
  refine Finset.sum_congr rfl fun j _ => congrArg₂ (· * ·) rfl ?_
  exact (columns_apply _ j _).trans ((dif_neg (by show ¬ k < 1920; omega)).trans (dif_pos hk'))

/-- Then the 32 of the rotary key. -/
theorem p_rope (k : ℕ) (hk : 3968 ≤ k) (hk' : k < 4000) : p (ins m c (pt i)) (ix2 s ⟨k, by omega⟩) = cols m c (row i s) ⟨k - 2048, by omega⟩ := by
  refine (p_at m c i s _).trans ?_
  unfold cols ProjRows.entry
  refine Finset.sum_congr rfl fun j _ => congrArg₂ (· * ·) rfl ?_
  exact (columns_apply _ j _).trans ((dif_neg (by show ¬ k < 1920; omega)).trans ((dif_neg (by show ¬ k < 3968; omega)).trans (dif_pos hk')))

/-- And noughts. -/
theorem p_zero (k : ℕ) (hk : 4000 ≤ k) (hk' : k < 4096) : p (ins m c (pt i)) (ix2 s ⟨k, hk'⟩) = 0 := by
  refine (p_at m c i s _).trans (Finset.sum_eq_zero fun j _ => ?_)
  rw [(columns_apply _ j _).trans ((dif_neg (by show ¬ k < 1920; omega)).trans ((dif_neg (by show ¬ k < 3968; omega)).trans (dif_neg (by show ¬ k < 4000; omega)))), mul_zero]

/-! ## The first branch -/

theorem tablesA (Y : Fin 512 → EReal) (l : Fin 512) :
    slabs Y (fun x => ca (ins m c (pt i)) (ix2 s x)) (fun x => sau (ins m c (pt i)) (ix2 s x)) (fun x => sad (ins m c (pt i)) (ix2 s x)) l
      = ProjRows.turnA (ProjRows.angleA (row i s).val) (fun e => Y ⟨64 * (l.val / 64) + e.val, by omega⟩) ⟨l.val % 64, by omega⟩ := by
  rw [ca_eq, sau_eq, sad_eq]
  simp only [in_tca m c i, in_tsau m c i, in_tsad m c i]
  exact slabs_eq _ Y l

theorem qa_at (l : Fin 512) : qa (ins m c (pt i)) (ix2 s l) = ProjRows.headsA 0 (by decide) (ProjRows.angleA (row i s).val) (cols m c (row i s)) l := by
  rw [qa_eq, pay11_apply]
  refine (tablesA m c i s _ l).trans (congrArg (fun y => ProjRows.turnA (ProjRows.angleA (row i s).val) y _) (funext fun e => ?_))
  refine (p_first m c i s _ (by omega)).trans (congrArg _ (Fin.ext ?_))
  show 64 * (l.val / 64) + e.val = 0 + (64 * (l.val / 64) + e.val)
  omega

theorem key_at (l : Fin 512) : key (ins m c (pt i)) (ix2 s l) = ProjRows.headsA 512 (by decide) (ProjRows.angleA (row i s).val) (cols m c (row i s)) l := by
  rw [key_eq]
  refine (pay14_apply _ _ _ _ s l).trans ?_
  refine (tablesA m c i s _ l).trans (congrArg (fun y => ProjRows.turnA (ProjRows.angleA (row i s).val) y _) (funext fun e => ?_))
  exact (pay12_apply _ s _).trans (p_first m c i s _ (by omega))

theorem value_at (l : Fin 512) : value (ins m c (pt i)) (ix2 s l) = cols m c (row i s) ⟨1024 + l.val, by omega⟩ := by
  rw [value_eq, pay15_apply]
  exact p_first m c i s _ (by omega)

theorem gateA_at (l : Fin 1024) : gateA (ins m c (pt i)) (ix2 s l) = cols m c (row i s) ⟨1952 + l.val, by omega⟩ := by
  rw [gateA_eq, pay16_apply]
  refine (p_gate m c i s _ (by omega) (by omega)).trans (congrArg _ (Fin.ext ?_))
  show 1920 + l.val + 32 = 1952 + l.val
  omega

theorem gateB_at (l : Fin 1024) : gateB (ins m c (pt i)) (ix2 s l) = cols m c (row i s) ⟨2976 + l.val, by omega⟩ := by
  rw [gateB_eq, pay17_apply]
  refine (p_gate m c i s _ (by omega) (by omega)).trans (congrArg _ (Fin.ext ?_))
  show 2944 + l.val + 32 = 2976 + l.val
  omega

/-! ## The second branch's keys -/

theorem latent_at (l : Fin 128) : latent (ins m c (pt i)) (ix2 s l) = ProjRows.latent (fun k => m ((c.tc : Thread nD τ).loc main_arg6) (ix1 k)) (cols m c (row i s)) l := by
  rw [latent_eq, gkv_eq]
  refine (pay21_apply _ _ s l).trans (congrArg₂ (fun y g => Rows.norm ProjRows.latentRank y g l) (funext fun k => ?_) (funext fun k => in_gkvr m c i k))
  exact p_first m c i s _ (by omega)

theorem tablesB (Y : Fin 128 → EReal) (l : Fin 128) :
    ProjRows.slabB Y (fun x => (ins m c (pt i)).tcb (ix2 s x)) (fun x => (ins m c (pt i)).tsbu (ix2 s x)) (fun x => (ins m c (pt i)).tsbd (ix2 s x)) l
      = ProjRows.turnB (ProjRows.angleB (row i s).val) (fun e => Y ⟨32 * (l.val / 32) + e.val, by omega⟩) ⟨l.val % 32, by omega⟩ := by
  simp only [in_tcb m c i, in_tsbu m c i, in_tsbd m c i]
  exact ProjRows.slabB_eq _ Y l

/-- A slab of which only the first 32 lanes are not noughts, by the tables: those rotated, and noughts. -/
theorem first_group (t : ℕ → EReal) (Y : Fin 128 → EReal) (y : Fin 32 → EReal) (h : ∀ x : Fin 128, Y x = if hx : x.val < 32 then y ⟨x.val, hx⟩ else 0) (l : Fin 128) :
    ProjRows.turnB t (fun e => Y ⟨32 * (l.val / 32) + e.val, by omega⟩) ⟨l.val % 32, by omega⟩ = if hl : l.val < 32 then ProjRows.turnB t y ⟨l.val, hl⟩ else 0 := by
  by_cases hl : l.val < 32
  · rw [dif_pos hl]
    refine congrArg₂ (fun y d => ProjRows.turnB t y d) (funext fun e => ?_) (Fin.ext ?_)
    · refine (h _).trans ((dif_pos (by show 32 * (l.val / 32) + e.val < 32; omega)).trans (congrArg y (Fin.ext ?_)))
      show 32 * (l.val / 32) + e.val = e.val
      omega
    · show l.val % 32 = l.val
      omega
  · rw [dif_neg hl]
    refine Eq.trans (congrArg (fun y => ProjRows.turnB t y _) (funext fun e => ?_)) (ProjRows.turnB_zero t _)
    exact (h _).trans (dif_neg (by show ¬ 32 * (l.val / 32) + e.val < 32; omega))

theorem tables_first (Y : Fin 128 → EReal) (y : Fin 32 → EReal) (h : ∀ x : Fin 128, Y x = if hx : x.val < 32 then y ⟨x.val, hx⟩ else 0) (l : Fin 128) :
    ProjRows.slabB Y (fun x => (ins m c (pt i)).tcb (ix2 s x)) (fun x => (ins m c (pt i)).tsbu (ix2 s x)) (fun x => (ins m c (pt i)).tsbd (ix2 s x)) l
      = if hl : l.val < 32 then ProjRows.turnB (ProjRows.angleB (row i s).val) y ⟨l.val, hl⟩ else 0 :=
  (tablesB m c i s Y l).trans (first_group (ProjRows.angleB (row i s).val) Y y h l)

theorem rope_slab (l : Fin 128) : k0_pay22 (p (ins m c (pt i))) (cb (ins m c (pt i))) (sbu (ins m c (pt i))) (sbd (ins m c (pt i))) (ix2 s l)
    = if hl : l.val < 32 then ProjRows.keyRope (ProjRows.angleB (row i s).val) (cols m c (row i s)) ⟨l.val, hl⟩ else 0 := by
  rw [pay22_apply, cb_eq, sbu_eq, sbd_eq]
  refine tables_first m c i s (fun x => p (ins m c (pt i)) (ix2 s ⟨3968 + x.val, by omega⟩)) (fun e => cols m c (row i s) ⟨1920 + e.val, by omega⟩) (fun x => ?_) l
  by_cases hx : x.val < 32
  · rw [dif_pos hx]
    refine (p_rope m c i s _ (by omega) (by omega)).trans (congrArg _ (Fin.ext ?_))
    show 3968 + x.val - 2048 = 1920 + x.val
    omega
  · rw [dif_neg hx]
    exact p_zero m c i s _ (by omega) (by omega)

theorem keyRope_at (l : Fin 32) : keyRope (ins m c (pt i)) (ix2 s l) = ProjRows.keyRope (ProjRows.angleB (row i s).val) (cols m c (row i s)) l := by
  rw [keyRope_eq, pay23_apply, rope_slab]
  exact dif_pos l.isLt

theorem keys_at (l : Fin 256) : keys (ins m c (pt i)) (ix2 s l) = ProjRows.key (ProjRows.angleB (row i s).val) (fun k => m ((c.tc : Thread nD τ).loc main_arg6) (ix1 k)) (cols m c (row i s)) l := by
  rw [keys_eq, pay24_apply]
  unfold ProjRows.key
  by_cases h : l.val < 128
  · rw [dif_pos h, dif_pos h, ← latent_eq]
    exact latent_at m c i s _
  · rw [dif_neg h, dif_neg h, rope_slab]
    by_cases h' : l.val < 160
    · rw [dif_pos h', if_neg (by omega)]
      exact dif_pos (by show l.val - 128 < 32; omega)
    · rw [dif_neg h']
      refine if_congr Iff.rfl rfl (dif_neg ?_)
      show ¬ l.val - 128 < 32
      omega

/-! ## The second branch's queries -/

/-- The query weights by heads' columns, and the keys' weights. -/
abbrev wq (j : Fin 256) (k : Fin 768) : EReal := m ((c.tc : Thread nD τ).loc main_arg7) (ix2 j k)
abbrev wk (a : Fin 128) (h : Fin 8) (n : Fin 64) : EReal := m ((c.tc : Thread nD τ).loc main_arg8) (ix3 a h n)
/-- Row `R`'s query latent. -/
abbrev ql (R : Fin 16384) : Fin 256 → EReal := ProjRows.queryLatent (fun k => m ((c.tc : Thread nD τ).loc main_arg5) (ix1 k)) (cols m c R)

theorem queryLatent_at (j : Fin 256) :
    Rows.norm ProjRows.queryRank (fun k => p (ins m c (pt i)) (ix2 s ⟨1536 + k.val, by omega⟩)) (fun k => (ins m c (pt i)).gqr (ix2 0 k)) j = ql m c (row i s) j :=
  congrArg₂ (fun y g => Rows.norm ProjRows.queryRank y g j) (funext fun k => p_first m c i s _ (by omega)) (funext fun k => in_gqr m c i k)

/-- Head `h`'s slab of the rotary part: the head's last 32 lanes, then noughts. -/
theorem qRope_at (h : Fin 8) (x : Fin 128) : qRope (ins m c (pt i)) (ix2 s ⟨128 * h.val + x.val, by omega⟩)
    = if hx : x.val < 32 then ProjRows.head (ql m c (row i s)) (wq m c) h ⟨64 + x.val, by omega⟩ else 0 := by
  refine (qRope_apply _ s _).trans ?_
  have e : ∀ j : Fin 256, (ins m c (pt i)).wuqr (ix2 j ⟨128 * h.val + x.val, by omega⟩) = if hx : x.val < 32 then wq m c j ⟨96 * h.val + (64 + x.val), by omega⟩ else 0 :=
    fun j => (in_wuqr m c i j _).trans (rotary_apply _ j h x)
  by_cases hx : x.val < 32
  · rw [dif_pos hx]
    exact Finset.sum_congr rfl fun j _ => congrArg₂ (· * ·) (queryLatent_at m c i s j) ((e j).trans (dif_pos hx))
  · rw [dif_neg hx]
    refine Finset.sum_eq_zero fun j _ => ?_
    rw [(e j).trans (dif_neg hx), mul_zero]

/-- Head `h`'s absorbed lanes: of the blocks on the diagonal only the head's own counts. -/
theorem qAbs_at (h : Fin 8) (a : Fin 128) : qAbs (ins m c (pt i)) (ix2 s ⟨128 * h.val + a.val, by omega⟩)
    = ProjRows.absorbed (ql m c (row i s)) (wq m c) (wk m c) h a := by
  refine (qAbs_apply _ s _).trans ?_
  rw [Rows.sum_blocks 8 64 rfl, Finset.sum_comm]
  refine Finset.sum_congr rfl fun n _ => ?_
  have e : ∀ g : Fin 8, (∑ j, Rows.norm ProjRows.queryRank (fun k => p (ins m c (pt i)) (ix2 s ⟨1536 + k.val, by omega⟩)) (fun k => (ins m c (pt i)).gqr (ix2 0 k)) j * (ins m c (pt i)).wuqn (ix2 j ⟨64 * g.val + n.val, by omega⟩))
        * (ins m c (pt i)).wuk (ix2 ⟨64 * g.val + n.val, by omega⟩ ⟨128 * h.val + a.val, by omega⟩)
      = ProjRows.head (ql m c (row i s)) (wq m c) g ⟨n.val, by omega⟩ * wk m c a g n * (if g = h then 1 else 0) := fun g => by
    rw [mul_assoc]
    refine congrArg₂ (· * ·) (Finset.sum_congr rfl fun j _ => congrArg₂ (· * ·) (queryLatent_at m c i s j) ?_) ?_
    · exact (in_wuqn m c i j _).trans (plain_apply _ j g n)
    · exact (in_wuk m c i _ _).trans (diagonal_apply _ g h n a)
  refine (Finset.sum_congr rfl fun g _ => e g).trans ?_
  rw [Rows.sum_diag h fun g => ProjRows.head (ql m c (row i s)) (wq m c) g ⟨n.val, by omega⟩ * wk m c a g n, mul_comm]

theorem queries_at (h : Fin 8) (l : Fin 256) : queries (ins m c (pt i)) (ix3 h s l)
    = ProjRows.query (ProjRows.angleB (row i s).val) (ql m c (row i s)) (wq m c) (wk m c) h l := by
  refine (queries_apply _ s h l).trans (congrArg (· * _) ?_)
  by_cases hl : l.val < 128
  · rw [dif_pos hl, dif_pos hl]
    exact qAbs_at m c i s h ⟨l.val, hl⟩
  · rw [dif_neg hl, dif_neg hl]
    refine (tables_first m c i s (fun x => qRope (ins m c (pt i)) (ix2 s ⟨128 * h.val + x.val, by omega⟩)) (fun e => ProjRows.head (ql m c (row i s)) (wq m c) h ⟨64 + e.val, by omega⟩)
      (fun x => qRope_at m c i s h x) ⟨l.val - 128, by omega⟩).trans ?_
    by_cases h' : l.val < 160
    · rw [dif_pos h']
      exact dif_pos (by show l.val - 128 < 32; omega)
    · rw [dif_neg h']
      exact dif_neg (by show ¬ l.val - 128 < 32; omega)
end

end Cert.ProjPoint

end
-- ==== Proof.ProjArray.lean ====
/- The arrays the projection's call leaves, read at an index over the extended reals, and its run. -/
module

public import proofs.«01_k».proof.Proof.ProjPoint
public import Idealize.ShloMosaic.Lib.Pipeline.Value
public import Idealize.ShloMosaic.Lib.Pipeline.ValueKit

@[expose] public section

set_option maxRecDepth 16384

noncomputable section

namespace Cert.ProjArray

open Cert.ProjIdeal Cert.ProjIdeal.Gen Cert.ProjBody Cert.ProjHost Cert.ProjBlock Cert.ProjPoint
open Idealize.ShloMosaic Idealize.ShloMosaic.TcCoe Idealize.SL.Sem Idealize.ShloMosaic.Tactic Idealize.ShloMosaic.StableHlo

variable (m : (ℓ : Loc nD τ sig) → Buf (Elt Ideal) ℓ) (ρ : Dev nD → PrngReg) (c : Dev nD)

/-- Every row is a row of a grid point. -/
theorem row_cases (R : Fin 16384) : ∃ (i : Fin 64) (s : Fin 256), R = row i s :=
  ⟨⟨R.val / 256, by omega⟩, ⟨R.val % 256, by omega⟩, Fin.ext (by show R.val = 256 * (R.val / 256) + R.val % 256; omega)⟩

/-! ## `qa` -/

/-- Two points' blocks share no index. -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne ((by decide +kernel : ∀ t t' : Fin grid0.N, win0_16.index t = win0_16.index t' → t = t') t t' h)

/-- The array at an index. -/
theorem qa_array (R : Fin 16384) (l : Fin 512) : (dats m 0 c).arrAt 16 cfg0.N (ix2 R l) = ProjRows.headsA 0 (by decide) (ProjRows.angleA R.val) (cols m c R) l := by
  obtain ⟨i, s, rfl⟩ := row_cases R
  have b := congrFun ((dats m 0 c).read_blk_arrAt_eq_flushed 16 disjoint16 cfg0.N (pt i) (pt i).isLt (flush0_16 _)) (ix2 s l)
  refine Eq.trans ?_ (b.trans ?_)
  · show _ = (dats m 0 c).arrAt 16 cfg0.N (((cfg0.win 16).blk (pt i)).view.emb (ix2 s l))
    congr 1
    have e := (idx (pt i)).2.2.2.2.2.2.2.2.2.2.2.2.2.2.2.2.1
    have hp : (pt i).val = i.val := rfl
    unfold row
    blk_ext [e, hp]
  · show (cfg0.win 16).cut (grid0.coords (pt i)) ((dats m 0 c).after 16 (pt i)) (ix2 s l) = _
    rw [after16]
    exact qa_at m c i s l

/-! ## `key` -/

/-- Two points' blocks share no index. -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne ((by decide +kernel : ∀ t t' : Fin grid0.N, win0_17.index t = win0_17.index t' → t = t') t t' h)

/-- The array at an index. -/
theorem key_array (R : Fin 16384) (l : Fin 512) : (dats m 0 c).arrAt 17 cfg0.N (ix2 R l) = ProjRows.headsA 512 (by decide) (ProjRows.angleA R.val) (cols m c R) l := by
  obtain ⟨i, s, rfl⟩ := row_cases R
  have b := congrFun ((dats m 0 c).read_blk_arrAt_eq_flushed 17 disjoint17 cfg0.N (pt i) (pt i).isLt (flush0_17 _)) (ix2 s l)
  refine Eq.trans ?_ (b.trans ?_)
  · show _ = (dats m 0 c).arrAt 17 cfg0.N (((cfg0.win 17).blk (pt i)).view.emb (ix2 s l))
    congr 1
    have e := (idx (pt i)).2.2.2.2.2.2.2.2.2.2.2.2.2.2.2.2.2.1
    have hp : (pt i).val = i.val := rfl
    unfold row
    blk_ext [e, hp]
  · show (cfg0.win 17).cut (grid0.coords (pt i)) ((dats m 0 c).after 17 (pt i)) (ix2 s l) = _
    rw [after17]
    exact key_at m c i s l

/-! ## `value` -/

/-- Two points' blocks share no index. -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne ((by decide +kernel : ∀ t t' : Fin grid0.N, win0_18.index t = win0_18.index t' → t = t') t t' h)

/-- The array at an index. -/
theorem value_array (R : Fin 16384) (l : Fin 512) : (dats m 0 c).arrAt 18 cfg0.N (ix2 R l) = cols m c R ⟨1024 + l.val, by omega⟩ := by
  obtain ⟨i, s, rfl⟩ := row_cases R
  have b := congrFun ((dats m 0 c).read_blk_arrAt_eq_flushed 18 disjoint18 cfg0.N (pt i) (pt i).isLt (flush0_18 _)) (ix2 s l)
  refine Eq.trans ?_ (b.trans ?_)
  · show _ = (dats m 0 c).arrAt 18 cfg0.N (((cfg0.win 18).blk (pt i)).view.emb (ix2 s l))
    congr 1
    have e := (idx (pt i)).2.2.2.2.2.2.2.2.2.2.2.2.2.2.2.2.2.2.1
    have hp : (pt i).val = i.val := rfl
    unfold row
    blk_ext [e, hp]
  · show (cfg0.win 18).cut (grid0.coords (pt i)) ((dats m 0 c).after 18 (pt i)) (ix2 s l) = _
    rw [after18]
    exact value_at m c i s l

/-! ## `latent` -/

/-- Two points' blocks share no index. -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne ((by decide +kernel : ∀ t t' : Fin grid0.N, win0_19.index t = win0_19.index t' → t = t') t t' h)

/-- The array at an index. -/
theorem latent_array (R : Fin 16384) (l : Fin 128) : (dats m 0 c).arrAt 19 cfg0.N (ix2 R l) = ProjRows.latent (fun k => m ((c.tc : Thread nD τ).loc main_arg6) (ix1 k)) (cols m c R) l := by
  obtain ⟨i, s, rfl⟩ := row_cases R
  have b := congrFun ((dats m 0 c).read_blk_arrAt_eq_flushed 19 disjoint19 cfg0.N (pt i) (pt i).isLt (flush0_19 _)) (ix2 s l)
  refine Eq.trans ?_ (b.trans ?_)
  · show _ = (dats m 0 c).arrAt 19 cfg0.N (((cfg0.win 19).blk (pt i)).view.emb (ix2 s l))
    congr 1
    have e := (idx (pt i)).2.2.2.2.2.2.2.2.2.2.2.2.2.2.2.2.2.2.2.1
    have hp : (pt i).val = i.val := rfl
    unfold row
    blk_ext [e, hp]
  · show (cfg0.win 19).cut (grid0.coords (pt i)) ((dats m 0 c).after 19 (pt i)) (ix2 s l) = _
    rw [after19]
    exact latent_at m c i s l

/-! ## `keyRope` -/

/-- Two points' blocks share no index. -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne ((by decide +kernel : ∀ t t' : Fin grid0.N, win0_20.index t = win0_20.index t' → t = t') t t' h)

/-- The array at an index. -/
theorem keyRope_array (R : Fin 16384) (l : Fin 32) : (dats m 0 c).arrAt 20 cfg0.N (ix2 R l) = ProjRows.keyRope (ProjRows.angleB R.val) (cols m c R) l := by
  obtain ⟨i, s, rfl⟩ := row_cases R
  have b := congrFun ((dats m 0 c).read_blk_arrAt_eq_flushed 20 disjoint20 cfg0.N (pt i) (pt i).isLt (flush0_20 _)) (ix2 s l)
  refine Eq.trans ?_ (b.trans ?_)
  · show _ = (dats m 0 c).arrAt 20 cfg0.N (((cfg0.win 20).blk (pt i)).view.emb (ix2 s l))
    congr 1
    have e := (idx (pt i)).2.2.2.2.2.2.2.2.2.2.2.2.2.2.2.2.2.2.2.2.1
    have hp : (pt i).val = i.val := rfl
    unfold row
    blk_ext [e, hp]
  · show (cfg0.win 20).cut (grid0.coords (pt i)) ((dats m 0 c).after 20 (pt i)) (ix2 s l) = _
    rw [after20]
    exact keyRope_at m c i s l

/-! ## `gateA` -/

/-- Two points' blocks share no index. -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne ((by decide +kernel : ∀ t t' : Fin grid0.N, win0_21.index t = win0_21.index t' → t = t') t t' h)

/-- The array at an index. -/
theorem gateA_array (R : Fin 16384) (l : Fin 1024) : (dats m 0 c).arrAt 21 cfg0.N (ix2 R l) = cols m c R ⟨1952 + l.val, by omega⟩ := by
  obtain ⟨i, s, rfl⟩ := row_cases R
  have b := congrFun ((dats m 0 c).read_blk_arrAt_eq_flushed 21 disjoint21 cfg0.N (pt i) (pt i).isLt (flush0_21 _)) (ix2 s l)
  refine Eq.trans ?_ (b.trans ?_)
  · show _ = (dats m 0 c).arrAt 21 cfg0.N (((cfg0.win 21).blk (pt i)).view.emb (ix2 s l))
    congr 1
    have e := (idx (pt i)).2.2.2.2.2.2.2.2.2.2.2.2.2.2.2.2.2.2.2.2.2.1
    have hp : (pt i).val = i.val := rfl
    unfold row
    blk_ext [e, hp]
  · show (cfg0.win 21).cut (grid0.coords (pt i)) ((dats m 0 c).after 21 (pt i)) (ix2 s l) = _
    rw [after21]
    exact gateA_at m c i s l

/-! ## `gateB` -/

/-- Two points' blocks share no index. -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne ((by decide +kernel : ∀ t t' : Fin grid0.N, win0_22.index t = win0_22.index t' → t = t') t t' h)

/-- The array at an index. -/
theorem gateB_array (R : Fin 16384) (l : Fin 1024) : (dats m 0 c).arrAt 22 cfg0.N (ix2 R l) = cols m c R ⟨2976 + l.val, by omega⟩ := by
  obtain ⟨i, s, rfl⟩ := row_cases R
  have b := congrFun ((dats m 0 c).read_blk_arrAt_eq_flushed 22 disjoint22 cfg0.N (pt i) (pt i).isLt (flush0_22 _)) (ix2 s l)
  refine Eq.trans ?_ (b.trans ?_)
  · show _ = (dats m 0 c).arrAt 22 cfg0.N (((cfg0.win 22).blk (pt i)).view.emb (ix2 s l))
    congr 1
    have e := (idx (pt i)).2.2.2.2.2.2.2.2.2.2.2.2.2.2.2.2.2.2.2.2.2.2.1
    have hp : (pt i).val = i.val := rfl
    unfold row
    blk_ext [e, hp]
  · show (cfg0.win 22).cut (grid0.coords (pt i)) ((dats m 0 c).after 22 (pt i)) (ix2 s l) = _
    rw [after22]
    exact gateB_at m c i s l

/-! ## `queries` -/

/-- Two points' blocks share no index. -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne ((by decide +kernel : ∀ t t' : Fin grid0.N, win0_23.index t = win0_23.index t' → t = t') t t' h)

/-- The array at an index. -/
theorem queries_array (R : Fin 16384) (h : Fin 8) (l : Fin 256) : (dats m 0 c).arrAt 23 cfg0.N (ix3 h R l) = ProjRows.query (ProjRows.angleB R.val) (ql m c R) (wq m c) (wk m c) h l := by
  obtain ⟨i, s, rfl⟩ := row_cases R
  have b := congrFun ((dats m 0 c).read_blk_arrAt_eq_flushed 23 disjoint23 cfg0.N (pt i) (pt i).isLt (flush0_23 _)) (ix3 h s l)
  refine Eq.trans ?_ (b.trans ?_)
  · show _ = (dats m 0 c).arrAt 23 cfg0.N (((cfg0.win 23).blk (pt i)).view.emb (ix3 h s l))
    congr 1
    have e := (idx (pt i)).2.2.2.2.2.2.2.2.2.2.2.2.2.2.2.2.2.2.2.2.2.2.2.1
    have hp : (pt i).val = i.val := rfl
    unfold row
    blk_ext [e, hp]
  · show (cfg0.win 23).cut (grid0.coords (pt i)) ((dats m 0 c).after 23 (pt i)) (ix3 h s l) = _
    rw [after23]
    exact queries_at m c i s h l

/-! ## `keys` -/

/-- Two points' blocks share no index. -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne ((by decide +kernel : ∀ t t' : Fin grid0.N, win0_24.index t = win0_24.index t' → t = t') t t' h)

/-- The array at an index. -/
theorem keys_array (R : Fin 16384) (l : Fin 256) : (dats m 0 c).arrAt 24 cfg0.N (ix2 R l) = ProjRows.key (ProjRows.angleB R.val) (fun k => m ((c.tc : Thread nD τ).loc main_arg6) (ix1 k)) (cols m c R) l := by
  obtain ⟨i, s, rfl⟩ := row_cases R
  have b := congrFun ((dats m 0 c).read_blk_arrAt_eq_flushed 24 disjoint24 cfg0.N (pt i) (pt i).isLt (flush0_24 _)) (ix2 s l)
  refine Eq.trans ?_ (b.trans ?_)
  · show _ = (dats m 0 c).arrAt 24 cfg0.N (((cfg0.win 24).blk (pt i)).view.emb (ix2 s l))
    congr 1
    have e := (idx (pt i)).2.2.2.2.2.2.2.2.2.2.2.2.2.2.2.2.2.2.2.2.2.2.2.2
    have hp : (pt i).val = i.val := rfl
    unfold row
    blk_ext [e, hp]
  · show (cfg0.win 24).cut (grid0.coords (pt i)) ((dats m 0 c).after 24 (pt i)) (ix2 s l) = _
    rw [after24]
    exact keys_at m c i s l

/-! ## The run -/

set_option maxHeartbeats 4000000 in
/-- Every run ends with the nine arrays and leaves the arguments. -/
theorem run : θ_run defs (onTc (τ := τ) (main (F := Ideal))) ⟨m, fun _ => 0, ρ⟩ fun r => ∀ c : Dev nD,
      r.2.mem ((c.tc : Thread nD τ).loc main_v94_0) = (dats m 0 c).arrAt 16 cfg0.N
      ∧ r.2.mem ((c.tc : Thread nD τ).loc main_v94_1) = (dats m 0 c).arrAt 17 cfg0.N
      ∧ r.2.mem ((c.tc : Thread nD τ).loc main_v94_2) = (dats m 0 c).arrAt 18 cfg0.N
      ∧ r.2.mem ((c.tc : Thread nD τ).loc main_v94_3) = (dats m 0 c).arrAt 19 cfg0.N
      ∧ r.2.mem ((c.tc : Thread nD τ).loc main_v94_4) = (dats m 0 c).arrAt 20 cfg0.N
      ∧ r.2.mem ((c.tc : Thread nD τ).loc main_v94_5) = (dats m 0 c).arrAt 21 cfg0.N
      ∧ r.2.mem ((c.tc : Thread nD τ).loc main_v94_6) = (dats m 0 c).arrAt 22 cfg0.N
      ∧ r.2.mem ((c.tc : Thread nD τ).loc main_v94_7) = (dats m 0 c).arrAt 23 cfg0.N
      ∧ r.2.mem ((c.tc : Thread nD τ).loc main_v94_8) = (dats m 0 c).arrAt 24 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1 16,
      (h c).1 17,
      (h c).1 18,
      (h c).1 19,
      (h c).1 20,
      (h c).1 21,
      (h c).1 22,
      (h c).1 23,
      (h c).1 24,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.ProjArray

end
-- ==== Proof.ProjReference.lean ====
/- The projection the reference writes, step by step, each step read at an index over the extended reals. -/
module

public import proofs.«01_k».proof.Proof.Gen.ProjRefIdeal.Run
public import proofs.«01_k».proof.Proof.ProjRows

@[expose] public section

set_option maxRecDepth 16384

noncomputable section

namespace Cert.ProjReference

open Cert.ProjRefIdeal Cert.ProjRefIdeal.Gen
open Idealize.ShloMosaic Idealize.ShloMosaic.TcCoe Idealize.SL.Sem Idealize.ShloMosaic.Tactic Idealize.ShloMosaic.StableHlo

section
variable {F : FTy → Type} [FloatOps F]

/-- The rows normalised, scaled and shifted, times the weights: all the columns of the projection. -/
def entry (x : FVec F S16384x1024 .f32) (sc sh : FVec F S1x1024 .f32) (g : FVec F S1024 .f32) (w : FVec F S1024x4000 .f32) : FVec F S16384x4000 .f32 :=
  Host.dotGeneral dot_S16384x1024_S1024x4000_S16384x4000_1_0_0_1_n_n none (addf (mulf (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (addf (broadcastInDim S1x1024 ![] bcast_S_S1x1024 (constant S_ .f32 0x3F800000#32)) sc))) (broadcastInDim S16384x1024 ![0, 1] bcast_S1x1024_S16384x1024_0_1 sh)) w

/-- The first branch's angles: a row's place times each frequency. -/
def angleA : FVec F S16384x8 .f32 :=
  mulf (broadcastInDim S16384x8 ![0, 1] bcast_S16384x1_S16384x8_0_1 (broadcastInDim S16384x1 ![0] bcast_S16384_S16384x1_0 (sitofp .f32 (iotaInDim S16384 32 0)))) (broadcastInDim S16384x8 ![0, 1] bcast_S1x8_S16384x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (sitofp .f32 (iotaInDim S8 32 0)) (broadcastInDim S8 ![] bcast_S_S8 (constant S_ .f32 0x41000000#32)))))))

/-- The second branch's angles. -/
def angleB : FVec F S16384x16 .f32 :=
  mulf (broadcastInDim S16384x16 ![0, 1] bcast_S16384x1_S16384x16_0_1 (broadcastInDim S16384x1 ![0] bcast_S16384_S16384x1_0 (sitofp .f32 (iotaInDim S16384 32 0)))) (broadcastInDim S16384x16 ![0, 1] bcast_S1x16_S16384x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (Host.divf (sitofp .f32 (iotaInDim S16 32 0)) (broadcastInDim S16 ![] bcast_S_S16 (constant S_ .f32 0x41800000#32)))))))

/-- The first branch's heads by themselves. -/
def headsA (y : FVec F S16384x512 .f32) : FVec F S16384x8x64 .f32 := shapeCast _ y shapeCasts_S16384x512_S16384x8x64

/-- The first half of a head's rotated lanes, and the second. -/
def lowA (y : FVec F S16384x8x64 .f32) : FVec F S16384x8x8 .f32 :=
  extractStridedSlice S16384x8x8 ![0, 0, 0] (extractStridedSlice S16384x8x16 ![0, 0, 0] y slices_S16384x8x64_S16384x8x16_0_0_0) slices_S16384x8x16_S16384x8x8_0_0_0
def highA (y : FVec F S16384x8x64 .f32) : FVec F S16384x8x8 .f32 :=
  extractStridedSlice S16384x8x8 ![0, 0, 8] (extractStridedSlice S16384x8x16 ![0, 0, 0] y slices_S16384x8x64_S16384x8x16_0_0_0) slices_S16384x8x16_S16384x8x8_0_0_8

/-- The first branch's angles' cosines and sines, the same for every head. -/
def cosA : FVec F S16384x8x8 .f32 := broadcastInDim S16384x8x8 ![0, 1, 2] bcast_S16384x1x8_S16384x8x8_0_1_2 (broadcastInDim S16384x1x8 ![0, 2] bcast_S16384x8_S16384x1x8_0_2 (Host.cos angleA))
def sinA : FVec F S16384x8x8 .f32 := broadcastInDim S16384x8x8 ![0, 1, 2] bcast_S16384x1x8_S16384x8x8_0_1_2 (broadcastInDim S16384x1x8 ![0, 2] bcast_S16384x8_S16384x1x8_0_2 (Host.sin angleA))

/-- The first branch's heads, each head's first sixteen lanes rotated. -/
def rotatedA (y : FVec F S16384x512 .f32) : FVec F S16384x512 .f32 :=
  shapeCast _ (concatenate S16384x8x64 2 [⟨S16384x8x16, (concatenate S16384x8x16 2 [⟨S16384x8x8, (subf (mulf (lowA (headsA y)) cosA) (mulf (highA (headsA y)) sinA))⟩,
    ⟨S16384x8x8, (addf (mulf (highA (headsA y)) cosA) (mulf (lowA (headsA y)) sinA))⟩] concatenates_S16384x8x8_S16384x8x8_S16384x8x16_d2)⟩,
    ⟨S16384x8x48, (extractStridedSlice S16384x8x48 ![0, 0, 16] (headsA y) slices_S16384x8x64_S16384x8x48_0_0_16)⟩] concatenates_S16384x8x16_S16384x8x48_S16384x8x64_d2) shapeCasts_S16384x8x64_S16384x512

/-- The latent's norm. -/
def normLatent (x : FVec F S16384x128 .f32) (g : FVec F S128 .f32) : FVec F S16384x128 .f32 :=
  mulf (mulf x (broadcastInDim S16384x128 ![0, 1] bcast_S16384x1_S16384x128_0_1 (Host.rsqrt (addf (Host.divf (broadcastInDim S16384x1 ![0] bcast_S16384_S16384x1_0 (Host.reduceAdd (mulf x x) (constant S_ .f32 0x00000000#32) reducesTo_S16384x128_S16384_d1 h_S_)) (broadcastInDim S16384x1 ![] bcast_S_S16384x1 (constant S_ .f32 0x43000000#32))) (broadcastInDim S16384x1 ![] bcast_S_S16384x1 (constant S_ .f32 0x358637BD#32)))))) (broadcastInDim S16384x128 ![0, 1] bcast_S1x128_S16384x128_0_1 (broadcastInDim S1x128 ![1] bcast_S128_S1x128_1 g))

/-- The query latent's norm. -/
def normQuery (x : FVec F S16384x256 .f32) (g : FVec F S256 .f32) : FVec F S16384x256 .f32 :=
  mulf (mulf x (broadcastInDim S16384x256 ![0, 1] bcast_S16384x1_S16384x256_0_1 (Host.rsqrt (addf (Host.divf (broadcastInDim S16384x1 ![0] bcast_S16384_S16384x1_0 (Host.reduceAdd (mulf x x) (constant S_ .f32 0x00000000#32) reducesTo_S16384x256_S16384_d1 h_S_)) (broadcastInDim S16384x1 ![] bcast_S_S16384x1 (constant S_ .f32 0x43800000#32))) (broadcastInDim S16384x1 ![] bcast_S_S16384x1 (constant S_ .f32 0x358637BD#32)))))) (broadcastInDim S16384x256 ![0, 1] bcast_S1x256_S16384x256_0_1 (broadcastInDim S1x256 ![1] bcast_S256_S1x256_1 g))

/-- The second branch's queries by heads. -/
def headsB (u : FVec F S16384x256 .f32) (w : FVec F S256x768 .f32) : FVec F S16384x8x96 .f32 :=
  shapeCast _ (Host.dotGeneral dot_S16384x256_S256x768_S16384x768_1_0_0_1_n_n none u w) shapeCasts_S16384x768_S16384x8x96

/-- The queries absorbed into the latent. -/
def absorbed (y : FVec F S16384x8x96 .f32) (w : FVec F S128x8x64 .f32) : FVec F S16384x8x128 .f32 :=
  transpose S16384x8x128 [2, 0, 1] (Host.dotGeneral dot_S128x8x64_S16384x8x64_S8x128x16384_2_2_0_0_1_1 none w (extractStridedSlice S16384x8x64 ![0, 0, 0] y slices_S16384x8x96_S16384x8x64_0_0_0)) transposes_S8x128x16384_S16384x8x128_2_0_1

/-- The second branch's angles' cosines and sines, a row's. -/
def cosB : FVec F S16384x1x16 .f32 := broadcastInDim S16384x1x16 ![0, 2] bcast_S16384x16_S16384x1x16_0_2 (Host.cos angleB)
def sinB : FVec F S16384x1x16 .f32 := broadcastInDim S16384x1x16 ![0, 2] bcast_S16384x16_S16384x1x16_0_2 (Host.sin angleB)

/-- The two halves of a head's rotary lanes. -/
def lowB (y : FVec F S16384x8x96 .f32) : FVec F S16384x8x16 .f32 :=
  extractStridedSlice S16384x8x16 ![0, 0, 0] (extractStridedSlice S16384x8x32 ![0, 0, 64] y slices_S16384x8x96_S16384x8x32_0_0_64) slices_S16384x8x32_S16384x8x16_0_0_0
def highB (y : FVec F S16384x8x96 .f32) : FVec F S16384x8x16 .f32 :=
  extractStridedSlice S16384x8x16 ![0, 0, 16] (extractStridedSlice S16384x8x32 ![0, 0, 64] y slices_S16384x8x96_S16384x8x32_0_0_64) slices_S16384x8x32_S16384x8x16_0_0_16

/-- The queries' rotary part, rotated. -/
def rotatedB (y : FVec F S16384x8x96 .f32) : FVec F S16384x8x32 .f32 :=
  concatenate S16384x8x32 2 [⟨S16384x8x16, (subf (mulf (lowB y) (broadcastInDim S16384x8x16 ![0, 1, 2] bcast_S16384x1x16_S16384x8x16_0_1_2 cosB)) (mulf (highB y) (broadcastInDim S16384x8x16 ![0, 1, 2] bcast_S16384x1x16_S16384x8x16_0_1_2 sinB)))⟩, ⟨S16384x8x16, (addf (mulf (highB y) (broadcastInDim S16384x8x16 ![0, 1, 2] bcast_S16384x1x16_S16384x8x16_0_1_2 cosB)) (mulf (lowB y) (broadcastInDim S16384x8x16 ![0, 1, 2] bcast_S16384x1x16_S16384x8x16_0_1_2 sinB)))⟩] concatenates_S16384x8x16_S16384x8x16_S16384x8x32_d2

/-- The queries as the attention takes them: absorbed part, rotary part, noughts, scaled. -/
def queries (y : FVec F S16384x8x96 .f32) (w : FVec F S128x8x64 .f32) : FVec F S8x16384x256 .bf16 :=
  truncf .bf16 (transpose S8x16384x256 [1, 0, 2] (mulf ((concatenate S16384x8x256 2 [⟨S16384x8x128, absorbed y w⟩, ⟨S16384x8x32, rotatedB y⟩, ⟨S16384x8x96, (broadcastInDim S16384x8x96 ![] bcast_S_S16384x8x96 (constant S_ .f32 0x00000000#32))⟩] concatenates_S16384x8x128_S16384x8x32_S16384x8x96_S16384x8x256_d2)) (broadcastInDim S16384x8x256 ![] bcast_S_S16384x8x256 (constant S_ .f32 0x3DD105EC#32))) transposes_S16384x8x256_S8x16384x256_1_0_2) bitsLt_bf16_f32

/-- The keys' rotary part, rotated. -/
def rotatedK (y : FVec F S16384x32 .f32) : FVec F S16384x32 .f32 :=
  shapeCast _ (concatenate S16384x1x32 2 [⟨S16384x1x16, (subf (mulf (extractStridedSlice S16384x1x16 ![0, 0, 0] (broadcastInDim S16384x1x32 ![0, 2] bcast_S16384x32_S16384x1x32_0_2 y) slices_S16384x1x32_S16384x1x16_0_0_0) cosB) (mulf (extractStridedSlice S16384x1x16 ![0, 0, 16] (broadcastInDim S16384x1x32 ![0, 2] bcast_S16384x32_S16384x1x32_0_2 y) slices_S16384x1x32_S16384x1x16_0_0_16) sinB))⟩,
    ⟨S16384x1x16, (addf (mulf (extractStridedSlice S16384x1x16 ![0, 0, 16] (broadcastInDim S16384x1x32 ![0, 2] bcast_S16384x32_S16384x1x32_0_2 y) slices_S16384x1x32_S16384x1x16_0_0_16) cosB) (mulf (extractStridedSlice S16384x1x16 ![0, 0, 0] (broadcastInDim S16384x1x32 ![0, 2] bcast_S16384x32_S16384x1x32_0_2 y) slices_S16384x1x32_S16384x1x16_0_0_0) sinB))⟩] concatenates_S16384x1x16_S16384x1x16_S16384x1x32_d2) shapeCasts_S16384x1x32_S16384x32

/-- The keys as the attention takes them: the latent, the rotary part, a one, noughts. -/
def keys (y : FVec F S16384x128 .f32) (z : FVec F S16384x32 .f32) : FVec F S16384x256 .bf16 :=
  truncf .bf16 ((concatenate S16384x256 1 [⟨S16384x128, y⟩, ⟨S16384x32, z⟩, ⟨S16384x1, (broadcastInDim S16384x1 ![] bcast_S_S16384x1 (constant S_ .f32 0x3F800000#32))⟩, ⟨S16384x95, (broadcastInDim S16384x95 ![] bcast_S_S16384x95 (constant S_ .f32 0x00000000#32))⟩] concatenates_S16384x128_S16384x32_S16384x1_S16384x95_S16384x256_d1)) bitsLt_bf16_f32
end

theorem entry_apply (x : FVec Ideal S16384x1024 .f32) (sc sh : FVec Ideal S1x1024 .f32) (g : FVec Ideal S1024 .f32) (w : FVec Ideal S1024x4000 .f32) (r : Fin 16384) (k : Fin 4000) :
    entry x sc sh g w (ix2 r k) = ProjRows.entry (fun i => x (ix2 r i)) (fun i => g (ix1 i)) (fun i => sc (ix2 0 i)) (fun i => sh (ix2 0 i)) (fun i k => w (ix2 i k)) k := by
  pointwise [entry]
  rfl

theorem angleA_apply (r : Fin 16384) (j : Fin 8) : angleA (F := Ideal) (ix2 r j) = ProjRows.angleA r.val j.val := by
  pointwise [angleA]
  rfl

theorem angleB_apply (r : Fin 16384) (j : Fin 16) : angleB (F := Ideal) (ix2 r j) = ProjRows.angleB r.val j.val := by
  pointwise [angleB]
  rfl

set_option maxHeartbeats 2000000 in
theorem rotatedA_apply (y : FVec Ideal S16384x512 .f32) (r : Fin 16384) (k : Fin 512) :
    rotatedA y (ix2 r k) = ProjRows.turnA (ProjRows.angleA r.val) (fun e => y (ix2 r ⟨64 * (k.val / 64) + e.val, by omega⟩)) ⟨k.val % 64, by omega⟩ := by
  have at_eq : ∀ (a b : ℕ) (ha : a < 512) (hb : b < 512), a = b → y (ix2 r ⟨a, ha⟩) = y (ix2 r ⟨b, hb⟩) := by
    intro a b ha hb e; subst e; rfl
  pointwise [rotatedA, cosA, sinA, lowA, highA, headsA]
  simp only [angleA_apply]
  generalize ProjRows.angleA r.val = t
  unfold ProjRows.turnA
  dsimp only
  by_cases h : k.val % 64 < 8
  · have h' : k.val % 64 < 16 := by omega
    simp only [dif_pos h, dif_pos h']
    exact congrArg₂ (fun a b => a * Ideal.cos (t (k.val % 64)) - b * Ideal.sin (t (k.val % 64))) (at_eq k.val (64 * (k.val / 64) + k.val % 64) k.isLt (by omega) (by omega))
      (at_eq (k.val / 64 * 64 + (8 + k.val % 64)) (64 * (k.val / 64) + (k.val % 64 + 8)) (by omega) (by omega) (by omega))
  · by_cases h' : k.val % 64 < 16
    · simp only [dif_pos h', dif_neg h]
      exact congrArg₂ (fun a b => a * Ideal.cos (t (k.val % 64 - 8)) + b * Ideal.sin (t (k.val % 64 - 8))) (at_eq (k.val / 64 * 64 + (8 + (k.val % 64 - 8))) (64 * (k.val / 64) + k.val % 64) (by omega) (by omega) (by omega))
        (at_eq (k.val / 64 * 64 + (k.val % 64 - 8)) (64 * (k.val / 64) + (k.val % 64 - 8)) (by omega) (by omega) (by omega))
    · simp only [dif_neg h', dif_neg h]
      exact at_eq (k.val / 64 * 64 + (16 + (k.val % 64 - 16))) (64 * (k.val / 64) + k.val % 64) (by omega) (by omega) (by omega)

theorem normLatent_apply (x : FVec Ideal S16384x128 .f32) (g : FVec Ideal S128 .f32) (r : Fin 16384) (k : Fin 128) :
    normLatent x g (ix2 r k) = Rows.norm ProjRows.latentRank (fun k => x (ix2 r k)) (fun k => g (ix1 k)) k := by
  pointwise [normLatent]
  rfl

theorem normQuery_apply (x : FVec Ideal S16384x256 .f32) (g : FVec Ideal S256 .f32) (r : Fin 16384) (k : Fin 256) :
    normQuery x g (ix2 r k) = Rows.norm ProjRows.queryRank (fun k => x (ix2 r k)) (fun k => g (ix1 k)) k := by
  pointwise [normQuery]
  rfl

theorem headsB_apply (u : FVec Ideal S16384x256 .f32) (w : FVec Ideal S256x768 .f32) (r : Fin 16384) (h : Fin 8) (k : Fin 96) :
    headsB u w (ix3 r h k) = ProjRows.head (fun j => u (ix2 r j)) (fun j k => w (ix2 j k)) h k := by
  pointwise [headsB]
  refine Finset.sum_congr rfl fun j _ => congrArg₂ (· * ·) rfl (congrArg (fun i => w (ix2 j i)) (Fin.ext ?_))
  show h.val * 96 + k.val = 96 * h.val + k.val
  omega

set_option maxHeartbeats 2000000 in
theorem queries_apply (y : FVec Ideal S16384x8x96 .f32) (w : FVec Ideal S128x8x64 .f32) (h : Fin 8) (r : Fin 16384) (l : Fin 256) :
    queries y w (ix3 h r l) = (if hl : l.val < 128 then ∑ n : Fin 64, w (ix3 ⟨l.val, hl⟩ h n) * y (ix3 r h ⟨n.val, by omega⟩)
      else if hl : l.val < 160 then ProjRows.turnB (ProjRows.angleB r.val) (fun e => y (ix3 r h ⟨64 + e.val, by omega⟩)) ⟨l.val - 128, by omega⟩ else 0)
        * Ideal.ofBits .f32 0x3DD105EC#32 := by
  have at_eq : ∀ (a b : ℕ) (ha : a < 96) (hb : b < 96), a = b → y (ix3 r h ⟨a, ha⟩) = y (ix3 r h ⟨b, hb⟩) := by
    intro a b ha hb e; subst e; rfl
  pointwise [queries, absorbed, rotatedB, cosB, sinB, lowB, highB]
  simp only [angleB_apply]
  generalize ProjRows.angleB r.val = t
  refine congrArg₂ (· * ·) ?_ rfl
  by_cases h1 : l.val < 128
  · rw [dif_pos h1, dif_pos h1]
  · rw [dif_neg h1, dif_neg h1]
    by_cases h2 : l.val < 160
    · rw [dif_pos (by omega), dif_pos h2]
      unfold ProjRows.turnB
      dsimp only
      by_cases h3 : l.val - 128 < 16
      · rw [dif_pos h3, dif_pos h3]
        rw [at_eq (64 + (l.val - 128 + 16)) (64 + (16 + (l.val - 128))) (by omega) (by omega) (by omega)]
      · rw [dif_neg h3, dif_neg h3]
        rw [at_eq (64 + (16 + (l.val - 128 - 16))) (64 + (l.val - 128)) (by omega) (by omega) (by omega)]
    · rw [dif_neg (by omega), dif_neg h2]

theorem rotatedK_apply (z : FVec Ideal S16384x32 .f32) (r : Fin 16384) (k : Fin 32) :
    rotatedK z (ix2 r k) = ProjRows.turnB (ProjRows.angleB r.val) (fun e => z (ix2 r e)) k := by
  have at_eq : ∀ (a b : ℕ) (ha : a < 32) (hb : b < 32), a = b → z (ix2 r ⟨a, ha⟩) = z (ix2 r ⟨b, hb⟩) := by
    intro a b ha hb e; subst e; rfl
  pointwise [rotatedK, cosB, sinB]
  simp only [angleB_apply]
  generalize ProjRows.angleB r.val = t
  unfold ProjRows.turnB
  by_cases h : k.val < 16
  · rw [dif_pos h, dif_pos h]
    exact congrArg₂ (· - ·) rfl (congrArg₂ (· * ·) (at_eq _ _ _ _ (by omega)) rfl)
  · rw [dif_neg h, dif_neg h]
    exact congrArg₂ (· + ·) (congrArg₂ (· * ·) (at_eq _ _ _ k.isLt (by omega)) rfl) rfl

theorem keys_apply (y : FVec Ideal S16384x128 .f32) (z : FVec Ideal S16384x32 .f32) (r : Fin 16384) (k : Fin 256) :
    keys y z (ix2 r k) = if h : k.val < 128 then y (ix2 r ⟨k.val, h⟩) else if h : k.val < 160 then z (ix2 r ⟨k.val - 128, by omega⟩) else if k.val = 160 then 1 else 0 := by
  pointwise [keys]
  by_cases h1 : k.val < 128
  · rw [dif_pos h1, dif_pos h1]
  · rw [dif_neg h1, dif_neg h1]
    by_cases h2 : k.val < 160
    · rw [dif_pos (by omega), dif_pos h2]
    · rw [dif_neg (by omega), dif_neg h2]
      by_cases h3 : k.val = 160
      · simp [h3]
      · rw [if_neg h3]
        split
        · omega
        · rfl

/-! ## The results -/

section
variable {F : FTy → Type} [FloatOps F] (P : FVec F S16384x4000 .f32)

/-- The second branch's queries by heads, of the projection's columns. -/
def queryHeads (g : FVec F S256 .f32) (w : FVec F S256x768 .f32) : FVec F S16384x8x96 .f32 :=
  headsB (normQuery (extractStridedSlice S16384x256 ![0, 1536] P slices_S16384x4000_S16384x256_0_1536) g) w

/-- The nine results, of the projection's columns. -/
def result0 : FVec F S16384x512 .f32 := rotatedA (extractStridedSlice S16384x512 ![0, 0] P slices_S16384x4000_S16384x512_0_0)
def result1 : FVec F S16384x512 .f32 := rotatedA (extractStridedSlice S16384x512 ![0, 512] P slices_S16384x4000_S16384x512_0_512)
def result2 : FVec F S16384x512 .f32 := extractStridedSlice S16384x512 ![0, 1024] P slices_S16384x4000_S16384x512_0_1024
def result3 (g : FVec F S128 .f32) : FVec F S16384x128 .f32 := normLatent (extractStridedSlice S16384x128 ![0, 1792] P slices_S16384x4000_S16384x128_0_1792) g
def result4 : FVec F S16384x32 .f32 := rotatedK (extractStridedSlice S16384x32 ![0, 1920] P slices_S16384x4000_S16384x32_0_1920)
def result5 : FVec F S16384x1024 .f32 := extractStridedSlice S16384x1024 ![0, 1952] P slices_S16384x4000_S16384x1024_0_1952
def result6 : FVec F S16384x1024 .f32 := extractStridedSlice S16384x1024 ![0, 2976] P slices_S16384x4000_S16384x1024_0_2976
def result7 (g : FVec F S256 .f32) (w : FVec F S256x768 .f32) (v : FVec F S128x8x64 .f32) : FVec F S8x16384x256 .bf16 := queries (queryHeads P g w) v
def result8 (g : FVec F S128 .f32) : FVec F S16384x256 .bf16 := keys (result3 P g) (result4 P)

/-- The projection's columns, of the arguments. -/
def columns (m : (ℓ : Loc nD τ sig) → Buf (Elt F) ℓ) (c : Dev nD) : FVec F S16384x4000 .f32 :=
  entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- Every run of the reference ends with the nine results, and the arguments unchanged. -/
theorem results (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v194) = result0 (columns m c)
      ∧ r.2.mem ((c.tc : Thread nD τ).loc main_v195) = result1 (columns m c)
      ∧ r.2.mem ((c.tc : Thread nD τ).loc main_v23) = result2 (columns m c)
      ∧ r.2.mem ((c.tc : Thread nD τ).loc main_v158) = result3 (columns m c) (m ((c.tc : Thread nD τ).loc main_arg6))
      ∧ r.2.mem ((c.tc : Thread nD τ).loc main_v186) = result4 (columns m c)
      ∧ r.2.mem ((c.tc : Thread nD τ).loc main_v27) = result5 (columns m c)
      ∧ r.2.mem ((c.tc : Thread nD τ).loc main_v28) = result6 (columns m c)
      ∧ r.2.mem ((c.tc : Thread nD τ).loc main_v197) = result7 (columns m c) (m ((c.tc : Thread nD τ).loc main_arg5)) (m ((c.tc : Thread nD τ).loc main_arg7)) (m ((c.tc : Thread nD τ).loc main_arg8))
      ∧ r.2.mem ((c.tc : Thread nD τ).loc main_v198) = result8 (columns m c) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Value.run (F := F) m ρ
end

section
variable (P : FVec Ideal S16384x4000 .f32) (r : Fin 16384)

theorem result0_apply (l : Fin 512) : result0 P (ix2 r l) = ProjRows.headsA 0 (by decide) (ProjRows.angleA r.val) (fun k => P (ix2 r k)) l := by
  refine (rotatedA_apply _ r l).trans (congrArg (fun y => ProjRows.turnA (ProjRows.angleA r.val) y _) (funext fun e => ?_))
  pointwise []

theorem result1_apply (l : Fin 512) : result1 P (ix2 r l) = ProjRows.headsA 512 (by decide) (ProjRows.angleA r.val) (fun k => P (ix2 r k)) l := by
  refine (rotatedA_apply _ r l).trans (congrArg (fun y => ProjRows.turnA (ProjRows.angleA r.val) y _) (funext fun e => ?_))
  pointwise []

theorem result2_apply (l : Fin 512) : result2 P (ix2 r l) = P (ix2 r ⟨1024 + l.val, by omega⟩) := by
  pointwise [result2]

theorem result3_apply (g : FVec Ideal S128 .f32) (l : Fin 128) : result3 P g (ix2 r l) = ProjRows.latent (fun k => g (ix1 k)) (fun k => P (ix2 r k)) l := by
  refine (normLatent_apply _ g r l).trans (congrArg (fun y => Rows.norm ProjRows.latentRank y _ l) (funext fun e => ?_))
  pointwise []

theorem result4_apply (l : Fin 32) : result4 P (ix2 r l) = ProjRows.keyRope (ProjRows.angleB r.val) (fun k => P (ix2 r k)) l := by
  refine (rotatedK_apply _ r l).trans (congrArg (fun y => ProjRows.turnB (ProjRows.angleB r.val) y l) (funext fun e => ?_))
  pointwise []

theorem result5_apply (l : Fin 1024) : result5 P (ix2 r l) = P (ix2 r ⟨1952 + l.val, by omega⟩) := by
  pointwise [result5]

theorem result6_apply (l : Fin 1024) : result6 P (ix2 r l) = P (ix2 r ⟨2976 + l.val, by omega⟩) := by
  pointwise [result6]

theorem queryHeads_apply (g : FVec Ideal S256 .f32) (w : FVec Ideal S256x768 .f32) (h : Fin 8) (k : Fin 96) :
    queryHeads P g w (ix3 r h k) = ProjRows.head (ProjRows.queryLatent (fun k => g (ix1 k)) (fun k => P (ix2 r k))) (fun j k => w (ix2 j k)) h k := by
  refine (headsB_apply _ w r h k).trans (congrArg (fun u => ProjRows.head u _ h k) (funext fun j => ?_))
  refine (normQuery_apply _ g r j).trans (congrArg (fun y => Rows.norm ProjRows.queryRank y _ j) (funext fun e => ?_))
  pointwise []

theorem result7_apply (g : FVec Ideal S256 .f32) (w : FVec Ideal S256x768 .f32) (v : FVec Ideal S128x8x64 .f32) (h : Fin 8) (l : Fin 256) :
    result7 P g w v (ix3 h r l) = ProjRows.query (ProjRows.angleB r.val) (ProjRows.queryLatent (fun k => g (ix1 k)) (fun k => P (ix2 r k))) (fun j k => w (ix2 j k)) (fun c h n => v (ix3 c h n)) h l := by
  refine (queries_apply _ v h r l).trans ?_
  simp only [queryHeads_apply]
  rfl

theorem result8_apply (g : FVec Ideal S128 .f32) (l : Fin 256) :
    result8 P g (ix2 r l) = ProjRows.key (ProjRows.angleB r.val) (fun k => g (ix1 k)) (fun k => P (ix2 r k)) l := by
  refine (keys_apply _ _ r l).trans ?_
  simp only [result3_apply, result4_apply]
  rfl
end

end Cert.ProjReference

end
-- ==== Proof.ProjClaims.lean ====
/- The claims about the projection's call. -/
module

public import proofs.«01_k».proof.Defs
public import proofs.«01_k».proof.Proof.ProjBodyFloat
public import proofs.«01_k».proof.Proof.ProjArray
public import proofs.«01_k».proof.Proof.ProjReference
public import Idealize.ShloMosaic.Lib.Quiescent

@[expose] public section

noncomputable section

namespace Cert.ProjClaims

open Idealize.ShloMosaic Idealize.ShloMosaic.TcCoe Idealize.SL.Sem

/-- The kernel runs on the machine's numbers, leaving its arguments and every semaphore at rest. -/
theorem frame : Cert.quiescent_Proj := fun m ρ _ => Cert.ProjBodyFloat.frame m ρ

/-- So does the kernel over the extended reals. -/
theorem frameIdeal : Cert.quiescent_ProjIdeal := fun m ρ _ => Cert.ProjBody.frame m ρ

/-- The reference runs over the extended reals, leaving its arguments. -/
theorem frameRef : Cert.quiescent_ProjRefIdeal := fun m ρ _ =>
  (θ_run Cert.ProjRefIdeal.defs _ _).mono (fun r h => ⟨fun c => (h c).2.2.2.2.2.2.2.2.2, sem_eq_zero_of_no_sems (by decide) r.2⟩)
    (Cert.ProjReference.results (F := Ideal) m ρ)

/-- Nothing is rewritten. -/
theorem preserves : Cert.preserves_Proj_ProjIdeal := trivial

/-- An index of two coordinates. -/
theorem pair {a b : ℕ} (j : (⟨2, ![a, b]⟩ : Shape).Idx) : ∃ (r : Fin a) (l : Fin b), j = ix2 r l :=
  ⟨j 0, j 1, by
    funext x
    match x with
    | ⟨0, _⟩ => rfl
    | ⟨1, _⟩ => rfl⟩

/-- An index of three. -/
theorem three {a b d : ℕ} (j : (⟨3, ![a, b, d]⟩ : Shape).Idx) : ∃ (h : Fin a) (r : Fin b) (l : Fin d), j = ix3 h r l :=
  ⟨j 0, j 1, j 2, by
    funext x
    match x with
    | ⟨0, _⟩ => rfl
    | ⟨1, _⟩ => rfl
    | ⟨2, _⟩ => rfl⟩

section
variable (m : (ℓ : Loc Cert.ProjIdeal.nD Cert.ProjIdeal.τ Cert.ProjIdeal.sig) → Buf (Elt Ideal) ℓ)
  (m' : (ℓ : Loc Cert.ProjRefIdeal.nD Cert.ProjRefIdeal.τ Cert.ProjRefIdeal.sig) → Buf (Elt Ideal) ℓ) (c : Dev Cert.ProjIdeal.nD)

/-- The kernel's arguments, as the reference names them. -/
def Same : Prop :=
  m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
  ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
  ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
  ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
  ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
  ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
  ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
  ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
  ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)

/-- The reference's columns are the kernel's. -/
theorem columns_eq (h : Same m m' c) (R : Fin 16384) : (fun k => Cert.ProjReference.columns (F := Ideal) m' c (ix2 R k)) = Cert.ProjPoint.cols m c R := by
  obtain ⟨e0, e1, e2, e3, e4, _⟩ := h
  funext k
  refine (Cert.ProjReference.entry_apply _ _ _ _ _ R k).trans ?_
  rw [e0, e1, e2, e3, e4]
  rfl

/-- Result 0. -/
theorem same0 (e : Same m m' c) : Cert.ProjReference.result0 (F := Ideal) (Cert.ProjReference.columns m' c)  = (Cert.ProjBody.dats m 0 c).arrAt 16 Cert.ProjIdeal.cfg0.N := by
  funext j
  obtain ⟨R, l, rfl⟩ := pair j
  exact (Cert.ProjReference.result0_apply _ R l).trans ((congrArg (fun P : Fin 4000 → EReal => ProjRows.headsA 0 (by decide) (ProjRows.angleA R.val) P l) (columns_eq m m' c e R)).trans (Cert.ProjArray.qa_array m c R l).symm)

/-- Result 1. -/
theorem same1 (e : Same m m' c) : Cert.ProjReference.result1 (F := Ideal) (Cert.ProjReference.columns m' c)  = (Cert.ProjBody.dats m 0 c).arrAt 17 Cert.ProjIdeal.cfg0.N := by
  funext j
  obtain ⟨R, l, rfl⟩ := pair j
  exact (Cert.ProjReference.result1_apply _ R l).trans ((congrArg (fun P : Fin 4000 → EReal => ProjRows.headsA 512 (by decide) (ProjRows.angleA R.val) P l) (columns_eq m m' c e R)).trans (Cert.ProjArray.key_array m c R l).symm)

/-- Result 2. -/
theorem same2 (e : Same m m' c) : Cert.ProjReference.result2 (F := Ideal) (Cert.ProjReference.columns m' c)  = (Cert.ProjBody.dats m 0 c).arrAt 18 Cert.ProjIdeal.cfg0.N := by
  funext j
  obtain ⟨R, l, rfl⟩ := pair j
  exact (Cert.ProjReference.result2_apply _ R l).trans ((congrArg (fun P : Fin 4000 → EReal => P ⟨1024 + l.val, by omega⟩) (columns_eq m m' c e R)).trans (Cert.ProjArray.value_array m c R l).symm)

/-- Result 3. -/
theorem same3 (e : Same m m' c) : Cert.ProjReference.result3 (F := Ideal) (Cert.ProjReference.columns m' c) (m' ((c.tc : Thread Cert.ProjRefIdeal.nD Cert.ProjRefIdeal.τ).loc Cert.ProjRefIdeal.main_arg6)) = (Cert.ProjBody.dats m 0 c).arrAt 19 Cert.ProjIdeal.cfg0.N := by
  have w := e
  obtain ⟨_, _, _, _, _, e5, e6, e7, e8⟩ := w
  rw [e6]
  funext j
  obtain ⟨R, l, rfl⟩ := pair j
  exact (Cert.ProjReference.result3_apply _ R _ l).trans ((congrArg (fun P : Fin 4000 → EReal => ProjRows.latent (fun k => m ((c.tc : Thread Cert.ProjIdeal.nD Cert.ProjIdeal.τ).loc Cert.ProjIdeal.main_arg6) (ix1 k)) P l) (columns_eq m m' c e R)).trans (Cert.ProjArray.latent_array m c R l).symm)

/-- Result 4. -/
theorem same4 (e : Same m m' c) : Cert.ProjReference.result4 (F := Ideal) (Cert.ProjReference.columns m' c)  = (Cert.ProjBody.dats m 0 c).arrAt 20 Cert.ProjIdeal.cfg0.N := by
  funext j
  obtain ⟨R, l, rfl⟩ := pair j
  exact (Cert.ProjReference.result4_apply _ R l).trans ((congrArg (fun P : Fin 4000 → EReal => ProjRows.keyRope (ProjRows.angleB R.val) P l) (columns_eq m m' c e R)).trans (Cert.ProjArray.keyRope_array m c R l).symm)

/-- Result 5. -/
theorem same5 (e : Same m m' c) : Cert.ProjReference.result5 (F := Ideal) (Cert.ProjReference.columns m' c)  = (Cert.ProjBody.dats m 0 c).arrAt 21 Cert.ProjIdeal.cfg0.N := by
  funext j
  obtain ⟨R, l, rfl⟩ := pair j
  exact (Cert.ProjReference.result5_apply _ R l).trans ((congrArg (fun P : Fin 4000 → EReal => P ⟨1952 + l.val, by omega⟩) (columns_eq m m' c e R)).trans (Cert.ProjArray.gateA_array m c R l).symm)

/-- Result 6. -/
theorem same6 (e : Same m m' c) : Cert.ProjReference.result6 (F := Ideal) (Cert.ProjReference.columns m' c)  = (Cert.ProjBody.dats m 0 c).arrAt 22 Cert.ProjIdeal.cfg0.N := by
  funext j
  obtain ⟨R, l, rfl⟩ := pair j
  exact (Cert.ProjReference.result6_apply _ R l).trans ((congrArg (fun P : Fin 4000 → EReal => P ⟨2976 + l.val, by omega⟩) (columns_eq m m' c e R)).trans (Cert.ProjArray.gateB_array m c R l).symm)

/-- Result 7. -/
theorem same7 (e : Same m m' c) : Cert.ProjReference.result7 (F := Ideal) (Cert.ProjReference.columns m' c) (m' ((c.tc : Thread Cert.ProjRefIdeal.nD Cert.ProjRefIdeal.τ).loc Cert.ProjRefIdeal.main_arg5)) (m' ((c.tc : Thread Cert.ProjRefIdeal.nD Cert.ProjRefIdeal.τ).loc Cert.ProjRefIdeal.main_arg7)) (m' ((c.tc : Thread Cert.ProjRefIdeal.nD Cert.ProjRefIdeal.τ).loc Cert.ProjRefIdeal.main_arg8)) = (Cert.ProjBody.dats m 0 c).arrAt 23 Cert.ProjIdeal.cfg0.N := by
  have w := e
  obtain ⟨_, _, _, _, _, e5, e6, e7, e8⟩ := w
  rw [e5, e7, e8]
  funext j
  obtain ⟨h, R, l, rfl⟩ := three j
  exact (Cert.ProjReference.result7_apply _ R _ _ _ h l).trans ((congrArg (fun P : Fin 4000 → EReal => ProjRows.query (ProjRows.angleB R.val) (ProjRows.queryLatent (fun k => m ((c.tc : Thread Cert.ProjIdeal.nD Cert.ProjIdeal.τ).loc Cert.ProjIdeal.main_arg5) (ix1 k)) P) (ProjPoint.wq m c) (ProjPoint.wk m c) h l) (columns_eq m m' c e R)).trans (Cert.ProjArray.queries_array m c R h l).symm)

/-- Result 8. -/
theorem same8 (e : Same m m' c) : Cert.ProjReference.result8 (F := Ideal) (Cert.ProjReference.columns m' c) (m' ((c.tc : Thread Cert.ProjRefIdeal.nD Cert.ProjRefIdeal.τ).loc Cert.ProjRefIdeal.main_arg6)) = (Cert.ProjBody.dats m 0 c).arrAt 24 Cert.ProjIdeal.cfg0.N := by
  have w := e
  obtain ⟨_, _, _, _, _, e5, e6, e7, e8⟩ := w
  rw [e6]
  funext j
  obtain ⟨R, l, rfl⟩ := pair j
  exact (Cert.ProjReference.result8_apply _ R _ l).trans ((congrArg (fun P : Fin 4000 → EReal => ProjRows.key (ProjRows.angleB R.val) (fun k => m ((c.tc : Thread Cert.ProjIdeal.nD Cert.ProjIdeal.τ).loc Cert.ProjIdeal.main_arg6) (ix1 k)) P l) (columns_eq m m' c e R)).trans (Cert.ProjArray.keys_array m c R l).symm)

end

set_option maxHeartbeats 4000000 in
/-- The kernel's nine results are the reference's, of all arguments. -/
theorem algebraic : Cert.algebraic_ProjIdeal_ProjRefIdeal := by
  intro m ρ m' ρ' hpre hagree
  refine ⟨_, _, _, _, _, _, _, _, _, Cert.ProjArray.run m ρ, ?_⟩
  refine (θ_run Cert.ProjRefIdeal.defs _ _).mono (fun _ h c => ?_) (Cert.ProjReference.results (F := Ideal) m' ρ')
  obtain ⟨h0, h1, h2, h3, h4, h5, h6, h7, h8, h9⟩ := h c
  have e : Same m m' c := hagree c
  exact ⟨h0.trans (same0 m m' c e), h1.trans (same1 m m' c e), h2.trans (same2 m m' c e), h3.trans (same3 m m' c e), h4.trans (same4 m m' c e), h5.trans (same5 m m' c e), h6.trans (same6 m m' c e), h7.trans (same7 m m' c e), h8.trans (same8 m m' c e), h9⟩

end Cert.ProjClaims

end
-- ==== Proof.MergeHost.lean ====
/- The arrays the merge call is given: the second branch's weights as blocks on a diagonal and the first branch's
   weights filled up with noughts, each read at an index. -/
module

public import proofs.«01_k».proof.Proof.Gen.MergeIdeal.Frame
public import proofs.«01_k».proof.Proof.Rows
public import Idealize.ShloMosaic.Lib.Pipeline.ValueKit

@[expose] public section

set_option maxRecDepth 16384

noncomputable section

namespace Cert.MergeHost

open Cert.MergeIdeal Cert.MergeIdeal.Gen
open Idealize.ShloMosaic Idealize.ShloMosaic.TcCoe Idealize.SL.Sem Idealize.ShloMosaic.Tactic Idealize.ShloMosaic.StableHlo

section
variable {F : FTy → Type} [FloatOps F]

/-- The second branch's weights as a matrix of blocks, one for each head, on the diagonal. -/
def diagonal (u : FVec F S128x8x64 .f32) : FVec F S1024x512 .bf16 :=
  truncf .bf16 (shapeCast S1024x512 (mulf
      (broadcastInDim S8x128x8x64 ![0, 1, 2, 3] bcast_S8x128x1x64_S8x128x8x64_0_1_2_3 (broadcastInDim S8x128x1x64 ![0, 1, 3] bcast_S8x128x64_S8x128x1x64_0_1_3
        (transpose S8x128x64 [1, 0, 2] u transposes_S128x8x64_S8x128x64_1_0_2)))
      (broadcastInDim S8x128x8x64 ![0, 1, 2, 3] bcast_S8x1x8x1_S8x128x8x64_0_1_2_3 (broadcastInDim S8x1x8x1 ![0, 2] bcast_S8x8_S8x1x8x1_0_2
        (uitofp .f32 (cmpi .eq (addi (iotaInDim S8x8 32 0) (broadcastInDim S8x8 ![] bcast_S_S8x8 (constantI S_ 32 0#32))) (iotaInDim S8x8 32 1))))))
    shapeCasts_S8x128x8x64_S1024x512) bitsLt_bf16_f32

/-- The first branch's weights, each head's rows filled up to 128 with noughts. -/
def padded (w : FVec F S512x1024 .f32) : FVec F S8x128x1024 .bf16 :=
  truncf .bf16 (pad S8x128x1024 ![0, 0, 0] ![0, 64, 0] ![0, 0, 0] (shapeCast S8x64x1024 w shapeCasts_S512x1024_S8x64x1024) (sitofp .f32 (constantI S_ 32 0#32))
    pads_S8x64x1024_S8x128x1024_000_0640_000 h_S_) bitsLt_bf16_f32
end

theorem diagonal_apply (u : FVec Ideal S128x8x64 .f32) (h g : Fin 8) (r : Fin 128) (v : Fin 64) :
    diagonal u (ix2 ⟨128 * h.val + r.val, by omega⟩ ⟨64 * g.val + v.val, by omega⟩) = u (ix3 r h v) * (if h = g then 1 else 0) := by
  rw [← Rows.eye h g]
  pointwise [diagonal]

theorem padded_apply (w : FVec Ideal S512x1024 .f32) (h : Fin 8) (d : Fin 128) (l : Fin 1024) :
    padded w (ix3 h d l) = if hd : d.val < 64 then w (ix2 ⟨64 * h.val + d.val, by omega⟩ l) else 0 := by
  pointwise [padded]
  rw [Rows.sitofp_zero]
  congr 1
  funext hd
  refine congrArg (fun a => w (ix2 a l)) (Fin.ext ?_)
  show h.val * 64 + d.val = 64 * h.val + d.val
  omega

variable (m : (ℓ : Loc nD τ sig) → Buf (Elt Ideal) ℓ) (c : Dev nD)

theorem V_diagonal : V m c main_v13 = (diagonal (m ((c.tc : Thread nD τ).loc main_arg7)) : FVec Ideal S1024x512 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

theorem V_padded : V m c main_v17 = (padded (m ((c.tc : Thread nD τ).loc main_arg8)) : FVec Ideal S8x128x1024 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

theorem V_gain : V m c main_v16 = shapeCast S1x1024 (m ((c.tc : Thread nD τ).loc main_arg6) : FVec Ideal S1024 .f32) shapeCasts_S1024_S1x1024 := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

theorem V_projB : V m c main_v18 = (truncf .bf16 (m ((c.tc : Thread nD τ).loc main_arg9) : FVec Ideal S512x1024 .f32) bitsLt_bf16_f32 : FVec Ideal S512x1024 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

theorem V_out : V m c main_v19 = (truncf .bf16 (m ((c.tc : Thread nD τ).loc main_arg10) : FVec Ideal S1024x1024 .f32) bitsLt_bf16_f32 : FVec Ideal S1024x1024 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

/-- The gain laid out as a row. -/
theorem row_apply (g : FVec Ideal S1024 .f32) (l : Fin 1024) : shapeCast S1x1024 g shapeCasts_S1024_S1x1024 (ix2 0 l) = g (ix1 l) := by
  pointwise []

end Cert.MergeHost

end
-- ==== Proof.MergeBlock.lean ====
/- What one grid point of the merge call computes, read at an index over the extended reals. -/
module

public import proofs.«01_k».proof.Proof.Gen.MergeIdeal.Frame
public import proofs.«01_k».proof.Proof.Rows
public import Idealize.ShloMosaic.Lib.Pipeline.ValueKit

@[expose] public section

set_option maxRecDepth 16384

noncomputable section

namespace Cert.MergeBlock

open Cert.MergeIdeal Cert.MergeIdeal.Gen
open Idealize.ShloMosaic Idealize.ShloMosaic.TcCoe Idealize.SL.Sem Idealize.ShloMosaic.Tactic Idealize.ShloMosaic.StableHlo

theorem pay1_apply (ya yb ga gb : Vec Ideal S256x1024 .f32) (w : Vec Ideal S1024x1024 .bf16) (x : Vec Ideal S256x1024 .f32) (gt g : Vec Ideal S1x1024 .f32)
    (r : Fin 256) (l : Fin 1024) :
    k0_pay1 ya yb ga gb w x gt g (ix2 r l)
      = Rows.merge (fun l => x (ix2 r l)) (fun l => ya (ix2 r l)) (fun l => yb (ix2 r l)) (fun l => ga (ix2 r l)) (fun l => gb (ix2 r l))
          (fun l => gt (ix2 0 l)) (fun l => g (ix2 0 l)) (fun j l => w (ix2 j l)) l := by
  pointwise [k0_pay1]
  rfl

theorem pay2_apply (a0 a1 a2 a3 : Vec Ideal S1x256x128 .bf16) (b0 b1 b2 b3 : Vec Ideal S1x128x1024 .bf16) (r : Fin 256) (l : Fin 1024) :
    k0_pay2 a0 b0 a1 b1 a2 b2 a3 b3 (ix2 r l) = ∑ d, a0 (ix3 0 r d) * b0 (ix3 0 d l) + ∑ d, a1 (ix3 0 r d) * b1 (ix3 0 d l)
      + ∑ d, a2 (ix3 0 r d) * b2 (ix3 0 d l) + ∑ d, a3 (ix3 0 r d) * b3 (ix3 0 d l) := by
  pointwise [k0_pay2]

theorem pay3_apply (a : Vec Ideal S1x256x128 .bf16) (r : Fin 256) (d : Fin 128) : k0_pay3 a (ix2 r d) = a (ix3 0 r d) := by
  pointwise [k0_pay3]

theorem pay4_apply (c : FVec Ideal S256x1024 .f32) (a0 : FVec Ideal S256x128 .bf16) (a1 a2 a3 : Vec Ideal S1x256x128 .bf16) (b0 b1 b2 b3 : Vec Ideal S1x128x1024 .bf16)
    (r : Fin 256) (l : Fin 1024) :
    k0_pay4 c a0 b0 a1 b1 a2 b2 a3 b3 (ix2 r l) = c (ix2 r l) + ∑ d, a0 (ix2 r d) * b0 (ix3 0 d l) + ∑ d, a1 (ix3 0 r d) * b1 (ix3 0 d l)
      + ∑ d, a2 (ix3 0 r d) * b2 (ix3 0 d l) + ∑ d, a3 (ix3 0 r d) * b3 (ix3 0 d l) := by
  pointwise [k0_pay4]

theorem pay5_apply (o : Vec Ideal S256x1024 .bf16) (u : Vec Ideal S1024x512 .bf16) (w : Vec Ideal S512x1024 .bf16) (r : Fin 256) (l : Fin 1024) :
    k0_pay5 o u w (ix2 r l) = ∑ k, (∑ x, o (ix2 r x) * u (ix2 x k)) * w (ix2 k l) := by
  pointwise [k0_pay5]

/-! ## One head's slice of a block -/

theorem head0 (x : Vec Ideal S8x256x128 .bf16) (r : Fin 256) (d : Fin 128) : View.ld x r0_0 (ix3 0 r d) = x (ix3 0 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight0 (w : Vec Ideal S8x128x1024 .bf16) (d : Fin 128) (l : Fin 1024) : View.ld w r0_1 (ix3 0 d l) = w (ix3 0 d l) := by
  refine congrArg w (funext fun a => Fin.ext ?_)
  match a with
  | ⟨0, _⟩ => rfl
  | ⟨1, _⟩ => show 0 + 1 * d.val = d.val; omega
  | ⟨2, _⟩ => show 0 + 1 * l.val = l.val; omega

theorem head1 (x : Vec Ideal S8x256x128 .bf16) (r : Fin 256) (d : Fin 128) : View.ld x r0_2 (ix3 0 r d) = x (ix3 1 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight1 (w : Vec Ideal S8x128x1024 .bf16) (d : Fin 128) (l : Fin 1024) : View.ld w r0_3 (ix3 0 d l) = w (ix3 1 d l) := by
  refine congrArg w (funext fun a => Fin.ext ?_)
  match a with
  | ⟨0, _⟩ => rfl
  | ⟨1, _⟩ => show 0 + 1 * d.val = d.val; omega
  | ⟨2, _⟩ => show 0 + 1 * l.val = l.val; omega

theorem head2 (x : Vec Ideal S8x256x128 .bf16) (r : Fin 256) (d : Fin 128) : View.ld x r0_4 (ix3 0 r d) = x (ix3 2 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight2 (w : Vec Ideal S8x128x1024 .bf16) (d : Fin 128) (l : Fin 1024) : View.ld w r0_5 (ix3 0 d l) = w (ix3 2 d l) := by
  refine congrArg w (funext fun a => Fin.ext ?_)
  match a with
  | ⟨0, _⟩ => rfl
  | ⟨1, _⟩ => show 0 + 1 * d.val = d.val; omega
  | ⟨2, _⟩ => show 0 + 1 * l.val = l.val; omega

theorem head3 (x : Vec Ideal S8x256x128 .bf16) (r : Fin 256) (d : Fin 128) : View.ld x r0_6 (ix3 0 r d) = x (ix3 3 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight3 (w : Vec Ideal S8x128x1024 .bf16) (d : Fin 128) (l : Fin 1024) : View.ld w r0_7 (ix3 0 d l) = w (ix3 3 d l) := by
  refine congrArg w (funext fun a => Fin.ext ?_)
  match a with
  | ⟨0, _⟩ => rfl
  | ⟨1, _⟩ => show 0 + 1 * d.val = d.val; omega
  | ⟨2, _⟩ => show 0 + 1 * l.val = l.val; omega

theorem head4 (x : Vec Ideal S8x256x128 .bf16) (r : Fin 256) (d : Fin 128) : View.ld x r0_8 (ix3 0 r d) = x (ix3 4 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight4 (w : Vec Ideal S8x128x1024 .bf16) (d : Fin 128) (l : Fin 1024) : View.ld w r0_9 (ix3 0 d l) = w (ix3 4 d l) := by
  refine congrArg w (funext fun a => Fin.ext ?_)
  match a with
  | ⟨0, _⟩ => rfl
  | ⟨1, _⟩ => show 0 + 1 * d.val = d.val; omega
  | ⟨2, _⟩ => show 0 + 1 * l.val = l.val; omega

theorem head5 (x : Vec Ideal S8x256x128 .bf16) (r : Fin 256) (d : Fin 128) : View.ld x r0_10 (ix3 0 r d) = x (ix3 5 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight5 (w : Vec Ideal S8x128x1024 .bf16) (d : Fin 128) (l : Fin 1024) : View.ld w r0_11 (ix3 0 d l) = w (ix3 5 d l) := by
  refine congrArg w (funext fun a => Fin.ext ?_)
  match a with
  | ⟨0, _⟩ => rfl
  | ⟨1, _⟩ => show 0 + 1 * d.val = d.val; omega
  | ⟨2, _⟩ => show 0 + 1 * l.val = l.val; omega

theorem head6 (x : Vec Ideal S8x256x128 .bf16) (r : Fin 256) (d : Fin 128) : View.ld x r0_12 (ix3 0 r d) = x (ix3 6 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight6 (w : Vec Ideal S8x128x1024 .bf16) (d : Fin 128) (l : Fin 1024) : View.ld w r0_13 (ix3 0 d l) = w (ix3 6 d l) := by
  refine congrArg w (funext fun a => Fin.ext ?_)
  match a with
  | ⟨0, _⟩ => rfl
  | ⟨1, _⟩ => show 0 + 1 * d.val = d.val; omega
  | ⟨2, _⟩ => show 0 + 1 * l.val = l.val; omega

theorem head7 (x : Vec Ideal S8x256x128 .bf16) (r : Fin 256) (d : Fin 128) : View.ld x r0_14 (ix3 0 r d) = x (ix3 7 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight7 (w : Vec Ideal S8x128x1024 .bf16) (d : Fin 128) (l : Fin 1024) : View.ld w r0_15 (ix3 0 d l) = w (ix3 7 d l) := by
  refine congrArg w (funext fun a => Fin.ext ?_)
  match a with
  | ⟨0, _⟩ => rfl
  | ⟨1, _⟩ => show 0 + 1 * d.val = d.val; omega
  | ⟨2, _⟩ => show 0 + 1 * l.val = l.val; omega

/-- The heads' products, summed one by one. -/
theorem heads_apply (oa : Vec Ideal S8x256x128 .bf16) (wa : Vec Ideal S8x128x1024 .bf16) (r : Fin 256) (l : Fin 1024) :
    k0_pay4 (k0_pay2 (View.ld oa r0_0) (View.ld wa r0_1) (View.ld oa r0_2) (View.ld wa r0_3) (View.ld oa r0_4) (View.ld wa r0_5) (View.ld oa r0_6) (View.ld wa r0_7))
      (k0_pay3 (View.ld oa r0_8)) (View.ld wa r0_9) (View.ld oa r0_10) (View.ld wa r0_11) (View.ld oa r0_12) (View.ld wa r0_13) (View.ld oa r0_14) (View.ld wa r0_15) (ix2 r l)
      = ∑ h : Fin 8, ∑ d, oa (ix3 h r d) * wa (ix3 h d l) := by
  rw [pay4_apply, pay2_apply, Fin.sum_univ_eight]
  exact congrArg₂ (· + ·) (congrArg₂ (· + ·) (congrArg₂ (· + ·) (congrArg₂ (· + ·) (congrArg₂ (· + ·) (congrArg₂ (· + ·) (congrArg₂ (· + ·) (Finset.sum_congr rfl fun d _ => congrArg₂ (· * ·) (head0 oa r d) (weight0 wa d l))
    (Finset.sum_congr rfl fun d _ => congrArg₂ (· * ·) (head1 oa r d) (weight1 wa d l)))
    (Finset.sum_congr rfl fun d _ => congrArg₂ (· * ·) (head2 oa r d) (weight2 wa d l)))
    (Finset.sum_congr rfl fun d _ => congrArg₂ (· * ·) (head3 oa r d) (weight3 wa d l)))
    (Finset.sum_congr rfl fun d _ => congrArg₂ (· * ·) ((pay3_apply _ r d).trans (head4 oa r d)) (weight4 wa d l)))
    (Finset.sum_congr rfl fun d _ => congrArg₂ (· * ·) (head5 oa r d) (weight5 wa d l)))
    (Finset.sum_congr rfl fun d _ => congrArg₂ (· * ·) (head6 oa r d) (weight6 wa d l)))
    (Finset.sum_congr rfl fun d _ => congrArg₂ (· * ·) (head7 oa r d) (weight7 wa d l))

/-- The block a grid point computes, at an index: the merge of its row, the first branch's heads summed one by one and
    the second branch's products with the matrix it is given. -/
theorem out_apply (oa : Vec Ideal S8x256x128 .bf16) (ob : Vec Ideal S256x1024 .bf16) (ga gb x : Vec Ideal S256x1024 .f32) (gt g : Vec Ideal S1x1024 .f32)
    (wa : Vec Ideal S8x128x1024 .bf16) (u : Vec Ideal S1024x512 .bf16) (wb : Vec Ideal S512x1024 .bf16) (w : Vec Ideal S1024x1024 .bf16) (r : Fin 256) (l : Fin 1024) :
    out0_11 oa ob ga gb x gt g wa u wb w (ix2 r l)
      = Rows.merge (fun l => x (ix2 r l)) (fun l => ∑ h : Fin 8, ∑ d, oa (ix3 h r d) * wa (ix3 h d l)) (fun l => ∑ k, (∑ x, ob (ix2 r x) * u (ix2 x k)) * wb (ix2 k l))
          (fun l => ga (ix2 r l)) (fun l => gb (ix2 r l)) (fun l => gt (ix2 0 l)) (fun l => g (ix2 0 l)) (fun j l => w (ix2 j l)) l := by
  have e : out0_11 oa ob ga gb x gt g wa u wb w = k0_pay1 (k0_pay4 (k0_pay2 (View.ld oa r0_0) (View.ld wa r0_1) (View.ld oa r0_2) (View.ld wa r0_3) (View.ld oa r0_4) (View.ld wa r0_5) (View.ld oa r0_6) (View.ld wa r0_7))
      (k0_pay3 (View.ld oa r0_8)) (View.ld wa r0_9) (View.ld oa r0_10) (View.ld wa r0_11) (View.ld oa r0_12) (View.ld wa r0_13) (View.ld oa r0_14) (View.ld wa r0_15))
      (k0_pay5 ob u wb) ga gb w x gt g := by
    unfold out0_11
    frame_out
  rw [e, pay1_apply]
  simp only [heads_apply, pay5_apply]

end Cert.MergeBlock

end
-- ==== Proof.MergeArray.lean ====
/- The array the merge call leaves, read at an index over the extended reals: each grid point takes 256 rows, and the
   weights whole. -/
module

public import proofs.«01_k».proof.Proof.Gen.MergeIdeal.Value
public import proofs.«01_k».proof.Proof.MergeHost
public import proofs.«01_k».proof.Proof.MergeBlock
public import Idealize.ShloMosaic.Lib.Pipeline.ValueKit

@[expose] public section

set_option maxRecDepth 16384

noncomputable section

namespace Cert.MergeArray

open Cert.MergeIdeal Cert.MergeIdeal.Gen Cert.MergeHost Cert.MergeBlock
open Idealize.ShloMosaic Idealize.ShloMosaic.TcCoe Idealize.SL.Sem Idealize.ShloMosaic.Tactic Idealize.ShloMosaic.StableHlo

variable (m : (ℓ : Loc nD τ sig) → Buf (Elt Ideal) ℓ) (c : Dev nD)

/-! ## Where the blocks lie -/

/-- Where each window's block lies. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0, 0] ∧ win0_8.index t = ![0, 0]
    ∧ win0_9.index t = ![0, 0] ∧ win0_10.index t = ![0, 0] ∧ win0_11.index t = ![t.val, 0] :=
  (by decide +kernel : ∀ t : Fin grid0.N, _)

/-- Grid point `i`. -/
def pt (i : Fin 64) : Fin cfg0.N := ⟨i.val, by have := N_0; have := i.isLt; show i.val < grid0.N; omega⟩

theorem blk0 (i : Fin 64) (h : Fin 8) (r : Fin 256) (d : Fin 128) : iblk m c 0 (pt i) (ix3 h r d) = m ((c.tc : Thread nD τ).loc main_arg0) (ix3 h ⟨256 * i.val + r.val, by omega⟩ d) := by
  rw [← V_main_arg0 m c]
  show V m c main_arg0 (((cfg0.win 0).blk (pt i)).view.emb (ix3 h r d)) = V m c main_arg0 _
  congr 1
  have e := (idx (pt i)).1
  have hp : (pt i).val = i.val := rfl
  blk_ext [e, hp]

theorem blk1 (i : Fin 64) (r : Fin 256) (l : Fin 1024) : iblk m c 1 (pt i) (ix2 r l) = m ((c.tc : Thread nD τ).loc main_arg1) (ix2 ⟨256 * i.val + r.val, by omega⟩ l) := by
  rw [← V_main_arg1 m c]
  show V m c main_arg1 (((cfg0.win 1).blk (pt i)).view.emb (ix2 r l)) = V m c main_arg1 _
  congr 1
  have e := (idx (pt i)).2.1
  have hp : (pt i).val = i.val := rfl
  blk_ext [e, hp]

theorem blk2 (i : Fin 64) (r : Fin 256) (l : Fin 1024) : iblk m c 2 (pt i) (ix2 r l) = m ((c.tc : Thread nD τ).loc main_arg2) (ix2 ⟨256 * i.val + r.val, by omega⟩ l) := by
  rw [← V_main_arg2 m c]
  show V m c main_arg2 (((cfg0.win 2).blk (pt i)).view.emb (ix2 r l)) = V m c main_arg2 _
  congr 1
  have e := (idx (pt i)).2.2.1
  have hp : (pt i).val = i.val := rfl
  blk_ext [e, hp]

theorem blk3 (i : Fin 64) (r : Fin 256) (l : Fin 1024) : iblk m c 3 (pt i) (ix2 r l) = m ((c.tc : Thread nD τ).loc main_arg3) (ix2 ⟨256 * i.val + r.val, by omega⟩ l) := by
  rw [← V_main_arg3 m c]
  show V m c main_arg3 (((cfg0.win 3).blk (pt i)).view.emb (ix2 r l)) = V m c main_arg3 _
  congr 1
  have e := (idx (pt i)).2.2.2.1
  have hp : (pt i).val = i.val := rfl
  blk_ext [e, hp]

theorem blk4 (i : Fin 64) (r : Fin 256) (l : Fin 1024) : iblk m c 4 (pt i) (ix2 r l) = m ((c.tc : Thread nD τ).loc main_arg4) (ix2 ⟨256 * i.val + r.val, by omega⟩ l) := by
  rw [← V_main_arg4 m c]
  show V m c main_arg4 (((cfg0.win 4).blk (pt i)).view.emb (ix2 r l)) = V m c main_arg4 _
  congr 1
  have e := (idx (pt i)).2.2.2.2.1
  have hp : (pt i).val = i.val := rfl
  blk_ext [e, hp]

theorem blk5 (i : Fin 64) (l : Fin 1024) : iblk m c 5 (pt i) (ix2 0 l) = m ((c.tc : Thread nD τ).loc main_arg5) (ix2 0 l) := by
  rw [← V_main_arg5 m c]
  show V m c main_arg5 (((cfg0.win 5).blk (pt i)).view.emb (ix2 0 l)) = V m c main_arg5 _
  congr 1
  have e := (idx (pt i)).2.2.2.2.2.1
  blk_ext [e]

theorem blk6 (i : Fin 64) (l : Fin 1024) : iblk m c 6 (pt i) (ix2 0 l) = m ((c.tc : Thread nD τ).loc main_arg6) (ix1 l) := by
  refine Eq.trans ?_ (row_apply (m ((c.tc : Thread nD τ).loc main_arg6)) l)
  rw [← V_gain m c]
  show V m c main_v16 (((cfg0.win 6).blk (pt i)).view.emb (ix2 0 l)) = V m c main_v16 _
  congr 1
  have e := (idx (pt i)).2.2.2.2.2.2.1
  blk_ext [e]

theorem blk7 (i : Fin 64) (h : Fin 8) (d : Fin 128) (l : Fin 1024) : iblk m c 7 (pt i) (ix3 h d l) = padded (F := Ideal) (m ((c.tc : Thread nD τ).loc main_arg8)) (ix3 h d l) := by
  refine Eq.trans ?_ (congrFun (V_padded m c) (ix3 h d l))
  show V m c main_v17 (((cfg0.win 7).blk (pt i)).view.emb (ix3 h d l)) = V m c main_v17 _
  congr 1
  have e := (idx (pt i)).2.2.2.2.2.2.2.1
  blk_ext [e]

theorem blk8 (i : Fin 64) (a : Fin 1024) (b : Fin 512) : iblk m c 8 (pt i) (ix2 a b) = diagonal (F := Ideal) (m ((c.tc : Thread nD τ).loc main_arg7)) (ix2 a b) := by
  refine Eq.trans ?_ (congrFun (V_diagonal m c) (ix2 a b))
  show V m c main_v13 (((cfg0.win 8).blk (pt i)).view.emb (ix2 a b)) = V m c main_v13 _
  congr 1
  have e := (idx (pt i)).2.2.2.2.2.2.2.2.1
  blk_ext [e]

theorem blk9 (i : Fin 64) (a : Fin 512) (b : Fin 1024) : iblk m c 9 (pt i) (ix2 a b) = m ((c.tc : Thread nD τ).loc main_arg9) (ix2 a b) := by
  refine Eq.trans ?_ (congrFun (V_projB m c) (ix2 a b))
  show V m c main_v18 (((cfg0.win 9).blk (pt i)).view.emb (ix2 a b)) = V m c main_v18 _
  congr 1
  have e := (idx (pt i)).2.2.2.2.2.2.2.2.2.1
  blk_ext [e]

theorem blk10 (i : Fin 64) (a b : Fin 1024) : iblk m c 10 (pt i) (ix2 a b) = m ((c.tc : Thread nD τ).loc main_arg10) (ix2 a b) := by
  refine Eq.trans ?_ (congrFun (V_out m c) (ix2 a b))
  show V m c main_v19 (((cfg0.win 10).blk (pt i)).view.emb (ix2 a b)) = V m c main_v19 _
  congr 1
  have e := (idx (pt i)).2.2.2.2.2.2.2.2.2.2.1
  blk_ext [e]

/-- The heads' products with the weights filled up with noughts are the projection of the heads side by side. -/
theorem projA_eq (o : Fin 8 → Fin 128 → EReal) (w : FVec Ideal S512x1024 .f32) (l : Fin 1024) :
    ∑ h : Fin 8, ∑ d, o h d * padded w (ix3 h d l) = Rows.projA (fun h d => o h ⟨d.val, by omega⟩) (fun k l => w (ix2 k l)) l := by
  unfold Rows.projA
  rw [Rows.sum_blocks 8 64 rfl]
  refine Finset.sum_congr rfl fun h _ => ?_
  simp only [padded_apply]
  refine (Rows.sum_padded (o h) fun d => w (ix2 ⟨64 * h.val + d.val, by omega⟩ l)).trans (Finset.sum_congr rfl fun d _ => ?_)
  have e1 : (⟨(64 * h.val + d.val) / 64, by omega⟩ : Fin 8) = h := Fin.ext (by show (64 * h.val + d.val) / 64 = h.val; omega)
  have e2 : (⟨(64 * h.val + d.val) % 64, by omega⟩ : Fin 64) = d := Fin.ext (by show (64 * h.val + d.val) % 64 = d.val; omega)
  show _ = o ⟨(64 * h.val + d.val) / 64, _⟩ ⟨(⟨(64 * h.val + d.val) % 64, _⟩ : Fin 64).val, _⟩ * w (ix2 ⟨64 * h.val + d.val, _⟩ l)
  rw [e1, e2]

/-- A row's products with the blocks on the diagonal are the heads' own products. -/
theorem values_eq (o : Fin 1024 → EReal) (u : FVec Ideal S128x8x64 .f32) (k : Fin 512) :
    ∑ x, o x * diagonal u (ix2 x k) = Rows.values o (fun c h v => u (ix3 c h v)) k := by
  obtain ⟨g, v, rfl⟩ : ∃ (g : Fin 8) (v : Fin 64), k = ⟨64 * g.val + v.val, by omega⟩ :=
    ⟨⟨k.val / 64, by omega⟩, ⟨k.val % 64, by omega⟩, Fin.ext (by show k.val = 64 * (k.val / 64) + k.val % 64; omega)⟩
  unfold Rows.values
  rw [Rows.sum_blocks 8 128 rfl]
  simp only [diagonal_apply]
  rw [Finset.sum_comm]
  refine Finset.sum_congr rfl fun c _ => ?_
  simp only [← mul_assoc]
  rw [Rows.sum_diag g fun h => o ⟨128 * h.val + c.val, by omega⟩ * u (ix3 c h v)]
  have e1 : (⟨(64 * g.val + v.val) / 64, by omega⟩ : Fin 8) = g := Fin.ext (by show (64 * g.val + v.val) / 64 = g.val; omega)
  have e2 : (⟨(64 * g.val + v.val) % 64, by omega⟩ : Fin 64) = v := Fin.ext (by show (64 * g.val + v.val) % 64 = v.val; omega)
  have e3 : (⟨128 * ((64 * g.val + v.val) / 64) + c.val, by omega⟩ : Fin 1024) = ⟨128 * g.val + c.val, by omega⟩ :=
    Fin.ext (by show 128 * ((64 * g.val + v.val) / 64) + c.val = 128 * g.val + c.val; omega)
  show _ = u (ix3 c ⟨(64 * g.val + v.val) / 64, _⟩ ⟨(64 * g.val + v.val) % 64, _⟩) * o ⟨128 * ((64 * g.val + v.val) / 64) + c.val, _⟩
  rw [e1, e2, e3, mul_comm]

/-- The result array at an index is the merge of its row. -/
theorem arrAt_apply (r : Fin 16384) (l : Fin 1024) :
    (dats m 0 c).arrAt 11 cfg0.N (ix2 r l) = Rows.merge (fun l => m ((c.tc : Thread nD τ).loc main_arg4) (ix2 r l))
      (Rows.projA (fun h d => m ((c.tc : Thread nD τ).loc main_arg0) (ix3 h r ⟨d.val, by omega⟩)) (fun k l => m ((c.tc : Thread nD τ).loc main_arg8) (ix2 k l)))
      (Rows.projB (fun l => m ((c.tc : Thread nD τ).loc main_arg1) (ix2 r l)) (fun c' h v => m ((c.tc : Thread nD τ).loc main_arg7) (ix3 c' h v)) (fun k l => m ((c.tc : Thread nD τ).loc main_arg9) (ix2 k l)))
      (fun l => m ((c.tc : Thread nD τ).loc main_arg2) (ix2 r l)) (fun l => m ((c.tc : Thread nD τ).loc main_arg3) (ix2 r l)) (fun l => m ((c.tc : Thread nD τ).loc main_arg5) (ix2 0 l))
      (fun l => m ((c.tc : Thread nD τ).loc main_arg6) (ix1 l)) (fun j l => m ((c.tc : Thread nD τ).loc main_arg10) (ix2 j l)) l := by
  obtain ⟨i, s, rfl⟩ : ∃ (i : Fin 64) (s : Fin 256), r = ⟨256 * i.val + s.val, by omega⟩ :=
    ⟨⟨r.val / 256, by omega⟩, ⟨r.val % 256, by omega⟩, Fin.ext (by show r.val = 256 * (r.val / 256) + r.val % 256; omega)⟩
  have b := congrFun (Value.blocks11 m c (pt i) (flush0_11 _)) (ix2 s l)
  rw [Value.flushed11] at b
  refine Eq.trans ?_ (b.trans ?_)
  · show _ = (dats m 0 c).arrAt 11 cfg0.N (((cfg0.win 11).blk (pt i)).view.emb (ix2 s l))
    congr 1
    have e := (idx (pt i)).2.2.2.2.2.2.2.2.2.2.2
    have hp : (pt i).val = i.val := rfl
    blk_ext [e, hp]
  · refine (out_apply _ _ _ _ _ _ _ _ _ _ _ s l).trans ?_
    simp only [blk0 m c i, blk1 m c i, blk2 m c i, blk3 m c i, blk4 m c i, blk5 m c i, blk6 m c i, blk7 m c i, blk8 m c i, blk9 m c i, blk10 m c i]
    exact congrArg₂ (fun ya yb => Rows.merge _ ya yb _ _ _ _ _ l)
      (funext fun l => projA_eq (fun h d => m ((c.tc : Thread nD τ).loc main_arg0) (ix3 h ⟨256 * i.val + s.val, by omega⟩ d)) (m ((c.tc : Thread nD τ).loc main_arg8)) l)
      (funext fun l => Finset.sum_congr rfl fun k _ => congrArg₂ (· * ·)
        (values_eq (fun l => m ((c.tc : Thread nD τ).loc main_arg1) (ix2 ⟨256 * i.val + s.val, by omega⟩ l)) (m ((c.tc : Thread nD τ).loc main_arg7)) k) rfl)

end Cert.MergeArray

end
-- ==== Proof.MergeReference.lean ====
/- The merge the reference writes, step by step, each step read at an index over the extended reals. -/
module

public import proofs.«01_k».proof.Proof.Gen.MergeRefIdeal.Run
public import proofs.«01_k».proof.Proof.Rows

@[expose] public section

set_option maxRecDepth 16384

noncomputable section

namespace Cert.MergeReference

open Cert.MergeRefIdeal Cert.MergeRefIdeal.Gen
open Idealize.ShloMosaic Idealize.ShloMosaic.TcCoe Idealize.SL.Sem Idealize.ShloMosaic.Tactic Idealize.ShloMosaic.StableHlo

section
variable {F : FTy → Type} [FloatOps F]

/-- A branch gated. -/
def gated (x y : FVec F S16384x1024 .f32) : FVec F S16384x1024 .f32 :=
  mulf (Host.divf (broadcastInDim S16384x1024 ![] bcast_S_S16384x1024 (constant S_ .f32 0x3F800000#32))
    (addf (broadcastInDim S16384x1024 ![] bcast_S_S16384x1024 (constant S_ .f32 0x3F800000#32)) (Host.exp (Host.negf x)))) y

/-- The first branch's projection. -/
def projA (o : FVec F S8x16384x128 .bf16) (w : FVec F S512x1024 .f32) : FVec F S16384x1024 .f32 :=
  Host.dotGeneral dot_S16384x512_S512x1024_S16384x1024_1_0_0_1_n_n none (shapeCast S16384x512 (extf .f32 (transpose S16384x8x64 [1, 0, 2]
    (extractStridedSlice S8x16384x64 ![0, 0, 0] o slices_S8x16384x128_S8x16384x64_0_0_0) transposes_S8x16384x64_S16384x8x64_1_0_2) bitsLt_bf16_f32) shapeCasts_S16384x8x64_S16384x512) w

/-- The second branch's heads. -/
def values (o : FVec F S16384x1024 .bf16) (u : FVec F S128x8x64 .f32) : FVec F S16384x512 .f32 :=
  shapeCast S16384x512 (transpose S16384x8x64 [2, 0, 1] (Host.dotGeneral dot_S128x8x64_S16384x8x128_S8x64x16384_0_2_2_0_1_1 none u
    (extf .f32 (shapeCast S16384x8x128 o shapeCasts_S16384x1024_S16384x8x128) bitsLt_bf16_f32)) transposes_S8x64x16384_S16384x8x64_2_0_1) shapeCasts_S16384x8x64_S16384x512

/-- The second branch's projection. -/
def projB (o : FVec F S16384x512 .f32) (w : FVec F S512x1024 .f32) : FVec F S16384x1024 .f32 :=
  Host.dotGeneral dot_S16384x512_S512x1024_S16384x1024_1_0_0_1_n_n none o w

/-- The branches added and projected. -/
def mixed (x y : FVec F S16384x1024 .f32) (w : FVec F S1024x1024 .f32) : FVec F S16384x1024 .f32 :=
  Host.dotGeneral dot_S16384x1024_S1024x1024_S16384x1024_1_0_0_1_n_n none (addf x y) w

/-- The rows' root-mean-square normalisation. -/
def norm (x : FVec F S16384x1024 .f32) (g : FVec F S1024 .f32) : FVec F S16384x1024 .f32 :=
  mulf (mulf x (broadcastInDim S16384x1024 ![0, 1] bcast_S16384x1_S16384x1024_0_1 (Host.rsqrt (addf (Host.divf
      (broadcastInDim S16384x1 ![0] bcast_S16384_S16384x1_0 (Host.reduceAdd (mulf x x) (constant S_ .f32 0x00000000#32) reducesTo_S16384x1024_S16384_d1 h_S_))
      (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The gated residual. -/
def residual (x y : FVec F S16384x1024 .f32) (gt : FVec F S1x1024 .f32) : FVec F S16384x1024 .f32 :=
  addf x (mulf (broadcastInDim S16384x1024 ![0, 1] bcast_S1x1024_S16384x1024_0_1 gt) y)

/-- All of it, of the arguments. -/
def all (a0 : FVec F S8x16384x128 .bf16) (a1 : FVec F S16384x1024 .bf16) (a2 a3 a4 : FVec F S16384x1024 .f32) (a5 : FVec F S1x1024 .f32) (a6 : FVec F S1024 .f32)
    (a7 : FVec F S128x8x64 .f32) (a8 a9 : FVec F S512x1024 .f32) (a10 : FVec F S1024x1024 .f32) : FVec F S16384x1024 .f32 :=
  residual a4 (norm (mixed (gated a2 (projA a0 a8)) (gated a3 (projB (values a1 a7) a9)) a10) a6) a5

/-- The reference's result, step by step. -/
theorem res_eq (m : (ℓ : Loc nD τ sig) → Buf (Elt F) ℓ) (c : Dev nD) :
    Value.res_out0 m c = all (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10)) := rfl
end

theorem gated_apply (x y : FVec Ideal S16384x1024 .f32) (r : Fin 16384) (l : Fin 1024) :
    gated x y (ix2 r l) = Ideal.logistic (x (ix2 r l)) * y (ix2 r l) := by
  pointwise [gated]
  rfl

theorem projA_apply (o : FVec Ideal S8x16384x128 .bf16) (w : FVec Ideal S512x1024 .f32) (r : Fin 16384) (l : Fin 1024) :
    projA o w (ix2 r l) = Rows.projA (fun h d => o (ix3 h r ⟨d.val, by omega⟩)) (fun k l => w (ix2 k l)) l := by
  pointwise [projA]
  rfl

theorem values_apply (o : FVec Ideal S16384x1024 .bf16) (u : FVec Ideal S128x8x64 .f32) (r : Fin 16384) (k : Fin 512) :
    values o u (ix2 r k) = Rows.values (fun l => o (ix2 r l)) (fun c h v => u (ix3 c h v)) k := by
  pointwise [values]
  refine Finset.sum_congr rfl fun c _ => congrArg₂ (· * ·) rfl (congrArg (fun x => o (ix2 r x)) (Fin.ext ?_))
  show k.val / 64 * 128 + c.val = 128 * (k.val / 64) + c.val
  omega

theorem projB_apply (o : FVec Ideal S16384x512 .f32) (w : FVec Ideal S512x1024 .f32) (r : Fin 16384) (l : Fin 1024) :
    projB o w (ix2 r l) = ∑ k, o (ix2 r k) * w (ix2 k l) := by
  pointwise [projB]

theorem mixed_apply (x y : FVec Ideal S16384x1024 .f32) (w : FVec Ideal S1024x1024 .f32) (r : Fin 16384) (l : Fin 1024) :
    mixed x y w (ix2 r l) = ∑ j, (x (ix2 r j) + y (ix2 r j)) * w (ix2 j l) := by
  pointwise [mixed]

theorem norm_apply (x : FVec Ideal S16384x1024 .f32) (g : FVec Ideal S1024 .f32) (r : Fin 16384) (l : Fin 1024) :
    norm x g (ix2 r l) = Rows.norm Rows.model (fun l => x (ix2 r l)) (fun l => g (ix1 l)) l := by
  pointwise [norm]
  rfl

theorem residual_apply (x y : FVec Ideal S16384x1024 .f32) (gt : FVec Ideal S1x1024 .f32) (r : Fin 16384) (l : Fin 1024) :
    residual x y gt (ix2 r l) = x (ix2 r l) + gt (ix2 0 l) * y (ix2 r l) := by
  pointwise [residual]

/-- The reference's result at an index is the row's merge. -/
theorem all_apply (a0 : FVec Ideal S8x16384x128 .bf16) (a1 : FVec Ideal S16384x1024 .bf16) (a2 a3 a4 : FVec Ideal S16384x1024 .f32) (a5 : FVec Ideal S1x1024 .f32)
    (a6 : FVec Ideal S1024 .f32) (a7 : FVec Ideal S128x8x64 .f32) (a8 a9 : FVec Ideal S512x1024 .f32) (a10 : FVec Ideal S1024x1024 .f32) (r : Fin 16384) (l : Fin 1024) :
    all a0 a1 a2 a3 a4 a5 a6 a7 a8 a9 a10 (ix2 r l) = Rows.merge (fun l => a4 (ix2 r l))
      (Rows.projA (fun h d => a0 (ix3 h r ⟨d.val, by omega⟩)) (fun k l => a8 (ix2 k l)))
      (Rows.projB (fun l => a1 (ix2 r l)) (fun c h v => a7 (ix3 c h v)) (fun k l => a9 (ix2 k l)))
      (fun l => a2 (ix2 r l)) (fun l => a3 (ix2 r l)) (fun l => a5 (ix2 0 l)) (fun l => a6 (ix1 l)) (fun j l => a10 (ix2 j l)) l := by
  unfold all
  simp only [residual_apply, norm_apply, mixed_apply, gated_apply, projA_apply, projB_apply, values_apply]
  rfl

end Cert.MergeReference

end
-- ==== Proof.MergeClaims.lean ====
/- The claims about the merge call. -/
module

public import proofs.«01_k».proof.Defs
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.MergeArray
public import proofs.«01_k».proof.Proof.MergeReference
public import Idealize.ShloMosaic.Lib.Quiescent

@[expose] public section

noncomputable section

namespace Cert.MergeClaims

open Idealize.ShloMosaic Idealize.ShloMosaic.TcCoe Idealize.SL.Sem

/-- The kernel runs on the machine's numbers, leaving its arguments and every semaphore at rest. -/
theorem frame : Cert.quiescent_Merge := fun m ρ _ => Cert.Merge.Gen.frame m ρ

/-- So does the kernel over the extended reals. -/
theorem frameIdeal : Cert.quiescent_MergeIdeal := fun m ρ _ => Cert.MergeIdeal.Gen.frame m ρ

/-- The reference runs over the extended reals, leaving its arguments. -/
theorem frameRef : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- Nothing is rewritten. -/
theorem preserves : Cert.preserves_Merge_MergeIdeal := trivial

/-- The kernel's result is the reference's, of all arguments. -/
theorem algebraic : Cert.algebraic_MergeIdeal_MergeRefIdeal := by
  intro m ρ m' ρ' hpre hagree
  refine ⟨_, Cert.MergeIdeal.Value.run_blocks (F := Ideal) m ρ, ?_⟩
  refine (θ_run Cert.MergeRefIdeal.defs _ _).mono (fun _ h c => ⟨(h c).1.trans ?_, (h c).2⟩)
    (Cert.MergeRefIdeal.Value.run (F := Ideal) m' ρ')
  obtain ⟨e0, e1, e2, e3, e4, e5, e6, e7, e8, e9, e10⟩ := hagree c
  refine (Cert.MergeReference.res_eq m' c).trans ?_
  rw [e0, e1, e2, e3, e4, e5, e6, e7, e8, e9, e10]
  funext j
  obtain ⟨r, l, rfl⟩ : ∃ (r : Fin 16384) (l : Fin 1024), j = ix2 r l := ⟨j 0, j 1, by
    funext a
    match a with
    | ⟨0, _⟩ => rfl
    | ⟨1, _⟩ => rfl⟩
  exact (Cert.MergeReference.all_apply _ _ _ _ _ _ _ _ _ _ _ r l).trans (Cert.MergeArray.arrAt_apply m c r l).symm

end Cert.MergeClaims

end
-- ==== Proof.MlpSampleArray.lean ====
/- The array the sample's MLP call leaves, read at an index over the extended reals: each grid point takes 256 rows, and the
   weights whole. -/
module

public import proofs.«01_k».proof.Proof.Gen.MlpSampleIdeal.Value
public import proofs.«01_k».proof.Proof.Rows
public import Idealize.ShloMosaic.Lib.Pipeline.ValueKit

@[expose] public section

set_option maxRecDepth 16384

noncomputable section

namespace Cert.MlpSampleArray

open Cert.MlpSampleIdeal Cert.MlpSampleIdeal.Gen
open Idealize.ShloMosaic Idealize.ShloMosaic.TcCoe Idealize.SL.Sem Idealize.ShloMosaic.Tactic Idealize.ShloMosaic.StableHlo

/-! ## The block one grid point computes -/

theorem pay1_apply (x y gt : Vec Ideal S256x1024 .f32) (g : Vec Ideal S1x1024 .f32) (r : Fin 256) (l : Fin 1024) :
    k0_pay1 x y gt g (ix2 r l)
      = x (ix2 r l) + gt (ix2 r l) * Rows.norm Rows.model (fun l => y (ix2 r l)) (fun l => g (ix2 0 l)) l := by
  pointwise [k0_pay1]
  rfl

theorem pay2_eq (x : Vec Ideal S256x1024 .f32) : k0_pay2 x = x := by
  unfold k0_pay2
  rw [shapeCast_self]

theorem pay3_apply (x : Vec Ideal S256x1024 .f32) (g : Vec Ideal S1x1024 .f32) (sc sh : Vec Ideal S256x1024 .f32) (w : Vec Ideal S1024x4096 .bf16)
    (w' : Vec Ideal S4096x1024 .bf16) (r : Fin 256) (l : Fin 1024) :
    k0_pay3 x g sc sh w w' (ix2 r l)
      = ∑ j, Rows.hidden (Rows.modulated (fun l => x (ix2 r l)) (fun l => g (ix2 0 l)) (fun l => sc (ix2 r l)) (fun l => sh (ix2 r l))) (fun i j => w (ix2 i j)) j
          * Rows.hidden (Rows.modulated (fun l => x (ix2 r l)) (fun l => g (ix2 0 l)) (fun l => sc (ix2 r l)) (fun l => sh (ix2 r l))) (fun i j => w (ix2 i j)) j
          * w' (ix2 j l) := by
  pointwise [k0_pay3, pay2_eq]
  rfl

theorem pay4_eq (x : Vec Ideal S256x1024 .f32) : k0_pay4 x = x := by
  unfold k0_pay4
  rw [shapeCast_self]

/-- The block a grid point computes, at an index: the MLP of its row. -/
theorem out_apply (x sc sh gt : Vec Ideal S256x1024 .f32) (g g' : Vec Ideal S1x1024 .f32) (w : Vec Ideal S1024x4096 .bf16) (w' : Vec Ideal S4096x1024 .bf16)
    (r : Fin 256) (l : Fin 1024) :
    out0_8 x sc sh gt g g' w w' (ix2 r l) = Rows.mlp (fun l => x (ix2 r l)) (fun l => sc (ix2 r l)) (fun l => sh (ix2 r l)) (fun l => gt (ix2 r l))
      (fun l => g (ix2 0 l)) (fun l => g' (ix2 0 l)) (fun i j => w (ix2 i j)) (fun j l => w' (ix2 j l)) l := by
  have e : out0_8 x sc sh gt g g' w w' = k0_pay1 (k0_pay2 x) (k0_pay3 x g sc sh w w') (k0_pay4 gt) g' := by
    unfold out0_8
    frame_out
  rw [e, pay1_apply, pay2_eq, pay4_eq]
  simp only [pay3_apply]
  rfl

/-! ## The arrays the call is given -/

variable (m : (ℓ : Loc nD τ sig) → Buf (Elt Ideal) ℓ) (c : Dev nD)

theorem V_x : V m c main_v0 = shapeCast S512x1024 (m ((c.tc : Thread nD τ).loc main_arg0) : FVec Ideal S128x4x1024 .f32) shapeCasts_S128x4x1024_S512x1024 := by
  unfold V
  simp only [hostOps0]
  after_results_simp <;> rfl

/-- A modulation, each batch's row repeated for its four rows. -/
def repeated (s : FVec Ideal S128x1024 .f32) : FVec Ideal S512x1024 .f32 :=
  shapeCast S512x1024 (broadcastInDim S128x4x1024 ![0, 2] bcast_S128x1024_S128x4x1024_0_2 s) shapeCasts_S128x4x1024_S512x1024

theorem repeated_apply (s : FVec Ideal S128x1024 .f32) (r : Fin 512) (l : Fin 1024) : repeated s (ix2 r l) = s (ix2 ⟨r.val / 4, by omega⟩ l) := by
  pointwise [repeated]

/-- The batches' rows one after another. -/
theorem flat_apply (y : FVec Ideal S128x4x1024 .f32) (r : Fin 512) (l : Fin 1024) :
    shapeCast S512x1024 y shapeCasts_S128x4x1024_S512x1024 (ix2 r l) = y (ix3 ⟨r.val / 4, by omega⟩ ⟨r.val % 4, by omega⟩ l) := by
  pointwise []

theorem V_scale : V m c main_v2 = repeated (m ((c.tc : Thread nD τ).loc main_arg1)) := by
  unfold V
  simp only [hostOps0]
  after_results_simp <;> rfl

theorem V_shift : V m c main_v4 = repeated (m ((c.tc : Thread nD τ).loc main_arg2)) := by
  unfold V
  simp only [hostOps0]
  after_results_simp <;> rfl

theorem V_gate : V m c main_v6 = repeated (m ((c.tc : Thread nD τ).loc main_arg3)) := by
  unfold V
  simp only [hostOps0]
  after_results_simp <;> rfl

theorem V_gain : V m c main_v7 = shapeCast S1x1024 (m ((c.tc : Thread nD τ).loc main_arg4) : FVec Ideal S1024 .f32) shapeCasts_S1024_S1x1024 := by
  unfold V
  simp only [hostOps0]
  after_results_simp <;> rfl

theorem V_gain' : V m c main_v8 = shapeCast S1x1024 (m ((c.tc : Thread nD τ).loc main_arg5) : FVec Ideal S1024 .f32) shapeCasts_S1024_S1x1024 := by
  unfold V
  simp only [hostOps0]
  after_results_simp <;> rfl

theorem V_up : V m c main_v9 = (truncf .bf16 (m ((c.tc : Thread nD τ).loc main_arg6) : FVec Ideal S1024x4096 .f32) bitsLt_bf16_f32 : FVec Ideal S1024x4096 .bf16) := by
  unfold V
  simp only [hostOps0]
  after_results_simp <;> rfl

theorem V_down : V m c main_v10 = (truncf .bf16 (m ((c.tc : Thread nD τ).loc main_arg7) : FVec Ideal S4096x1024 .f32) bitsLt_bf16_f32 : FVec Ideal S4096x1024 .bf16) := by
  unfold V
  simp only [hostOps0]
  after_results_simp <;> rfl

/-- A gain laid out as a row. -/
theorem row_apply (g : FVec Ideal S1024 .f32) (l : Fin 1024) : shapeCast S1x1024 g shapeCasts_S1024_S1x1024 (ix2 0 l) = g (ix1 l) := by
  pointwise []

/-! ## Where the blocks lie -/

/-- Where each window's block lies. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![t.val, 0] :=
  (by decide +kernel : ∀ t : Fin grid0.N, _)

/-- Grid point `i`. -/
def pt (i : Fin 2) : Fin cfg0.N := ⟨i.val, by have := N_0; have := i.isLt; show i.val < grid0.N; omega⟩

theorem blk0 (i : Fin 2) (r : Fin 256) (l : Fin 1024) :
    iblk m c 0 (pt i) (ix2 r l) = m ((c.tc : Thread nD τ).loc main_arg0) (ix3 ⟨(256 * i.val + r.val) / 4, by omega⟩ ⟨(256 * i.val + r.val) % 4, by omega⟩ l) := by
  refine Eq.trans ?_ (flat_apply (m ((c.tc : Thread nD τ).loc main_arg0)) ⟨256 * i.val + r.val, by omega⟩ l)
  rw [← V_x m c]
  show V m c main_v0 (((cfg0.win 0).blk (pt i)).view.emb (ix2 r l)) = V m c main_v0 _
  congr 1
  have e := (idx (pt i)).1
  have hp : (pt i).val = i.val := rfl
  blk_ext [e, hp]

theorem blk1 (i : Fin 2) (r : Fin 256) (l : Fin 1024) :
    iblk m c 1 (pt i) (ix2 r l) = m ((c.tc : Thread nD τ).loc main_arg1) (ix2 ⟨(256 * i.val + r.val) / 4, by omega⟩ l) := by
  refine Eq.trans ?_ (repeated_apply (m ((c.tc : Thread nD τ).loc main_arg1)) ⟨256 * i.val + r.val, by omega⟩ l)
  rw [← V_scale m c]
  show V m c main_v2 (((cfg0.win 1).blk (pt i)).view.emb (ix2 r l)) = V m c main_v2 _
  congr 1
  have e := (idx (pt i)).2.1
  have hp : (pt i).val = i.val := rfl
  blk_ext [e, hp]

theorem blk2 (i : Fin 2) (r : Fin 256) (l : Fin 1024) :
    iblk m c 2 (pt i) (ix2 r l) = m ((c.tc : Thread nD τ).loc main_arg2) (ix2 ⟨(256 * i.val + r.val) / 4, by omega⟩ l) := by
  refine Eq.trans ?_ (repeated_apply (m ((c.tc : Thread nD τ).loc main_arg2)) ⟨256 * i.val + r.val, by omega⟩ l)
  rw [← V_shift m c]
  show V m c main_v4 (((cfg0.win 2).blk (pt i)).view.emb (ix2 r l)) = V m c main_v4 _
  congr 1
  have e := (idx (pt i)).2.2.1
  have hp : (pt i).val = i.val := rfl
  blk_ext [e, hp]

theorem blk3 (i : Fin 2) (r : Fin 256) (l : Fin 1024) :
    iblk m c 3 (pt i) (ix2 r l) = m ((c.tc : Thread nD τ).loc main_arg3) (ix2 ⟨(256 * i.val + r.val) / 4, by omega⟩ l) := by
  refine Eq.trans ?_ (repeated_apply (m ((c.tc : Thread nD τ).loc main_arg3)) ⟨256 * i.val + r.val, by omega⟩ l)
  rw [← V_gate m c]
  show V m c main_v6 (((cfg0.win 3).blk (pt i)).view.emb (ix2 r l)) = V m c main_v6 _
  congr 1
  have e := (idx (pt i)).2.2.2.1
  have hp : (pt i).val = i.val := rfl
  blk_ext [e, hp]

theorem blk4 (i : Fin 2) (l : Fin 1024) : iblk m c 4 (pt i) (ix2 0 l) = m ((c.tc : Thread nD τ).loc main_arg4) (ix1 l) := by
  refine Eq.trans ?_ (row_apply (m ((c.tc : Thread nD τ).loc main_arg4)) l)
  rw [← V_gain m c]
  show V m c main_v7 (((cfg0.win 4).blk (pt i)).view.emb (ix2 0 l)) = V m c main_v7 _
  congr 1
  have e := (idx (pt i)).2.2.2.2.1
  blk_ext [e]

theorem blk5 (i : Fin 2) (l : Fin 1024) : iblk m c 5 (pt i) (ix2 0 l) = m ((c.tc : Thread nD τ).loc main_arg5) (ix1 l) := by
  refine Eq.trans ?_ (row_apply (m ((c.tc : Thread nD τ).loc main_arg5)) l)
  rw [← V_gain' m c]
  show V m c main_v8 (((cfg0.win 5).blk (pt i)).view.emb (ix2 0 l)) = V m c main_v8 _
  congr 1
  have e := (idx (pt i)).2.2.2.2.2.1
  blk_ext [e]

theorem blk6 (i : Fin 2) (a : Fin 1024) (b : Fin 4096) : iblk m c 6 (pt i) (ix2 a b) = m ((c.tc : Thread nD τ).loc main_arg6) (ix2 a b) := by
  refine Eq.trans ?_ (congrFun (V_up m c) (ix2 a b))
  show V m c main_v9 (((cfg0.win 6).blk (pt i)).view.emb (ix2 a b)) = V m c main_v9 _
  congr 1
  have e := (idx (pt i)).2.2.2.2.2.2.1
  blk_ext [e]

theorem blk7 (i : Fin 2) (a : Fin 4096) (b : Fin 1024) : iblk m c 7 (pt i) (ix2 a b) = m ((c.tc : Thread nD τ).loc main_arg7) (ix2 a b) := by
  refine Eq.trans ?_ (congrFun (V_down m c) (ix2 a b))
  show V m c main_v10 (((cfg0.win 7).blk (pt i)).view.emb (ix2 a b)) = V m c main_v10 _
  congr 1
  have e := (idx (pt i)).2.2.2.2.2.2.2.1
  blk_ext [e]

/-- The result array at an index is the MLP of its row. -/
theorem arrAt_apply (r : Fin 512) (l : Fin 1024) :
    (dats m 0 c).arrAt 8 cfg0.N (ix2 r l) = Rows.mlp (fun l => m ((c.tc : Thread nD τ).loc main_arg0) (ix3 ⟨r.val / 4, by omega⟩ ⟨r.val % 4, by omega⟩ l)) (fun l => m ((c.tc : Thread nD τ).loc main_arg1) (ix2 ⟨r.val / 4, by omega⟩ l))
      (fun l => m ((c.tc : Thread nD τ).loc main_arg2) (ix2 ⟨r.val / 4, by omega⟩ l)) (fun l => m ((c.tc : Thread nD τ).loc main_arg3) (ix2 ⟨r.val / 4, by omega⟩ l))
      (fun l => m ((c.tc : Thread nD τ).loc main_arg4) (ix1 l)) (fun l => m ((c.tc : Thread nD τ).loc main_arg5) (ix1 l))
      (fun i j => m ((c.tc : Thread nD τ).loc main_arg6) (ix2 i j)) (fun j l => m ((c.tc : Thread nD τ).loc main_arg7) (ix2 j l)) l := by
  obtain ⟨i, s, rfl⟩ : ∃ (i : Fin 2) (s : Fin 256), r = ⟨256 * i.val + s.val, by omega⟩ :=
    ⟨⟨r.val / 256, by omega⟩, ⟨r.val % 256, by omega⟩, Fin.ext (by show r.val = 256 * (r.val / 256) + r.val % 256; omega)⟩
  have b := congrFun (Value.blocks8 m c (pt i) (flush0_8 _)) (ix2 s l)
  rw [Value.flushed8] at b
  refine Eq.trans ?_ (b.trans ?_)
  · show _ = (dats m 0 c).arrAt 8 cfg0.N (((cfg0.win 8).blk (pt i)).view.emb (ix2 s l))
    congr 1
    have e := (idx (pt i)).2.2.2.2.2.2.2.2
    have hp : (pt i).val = i.val := rfl
    blk_ext [e, hp]
  · refine (out_apply _ _ _ _ _ _ _ _ s l).trans ?_
    simp only [blk0 m c i, blk1 m c i, blk2 m c i, blk3 m c i, blk4 m c i, blk5 m c i, blk6 m c i, blk7 m c i]

end Cert.MlpSampleArray

end
-- ==== Proof.MlpSampleReference.lean ====
/- The MLP the reference writes for the sample, step by step, each step read at an index over the extended reals. -/
module

public import proofs.«01_k».proof.Proof.Gen.MlpSampleRefIdeal.Run
public import proofs.«01_k».proof.Proof.Rows

@[expose] public section

set_option maxRecDepth 16384

noncomputable section

namespace Cert.MlpSampleReference

open Cert.MlpSampleRefIdeal Cert.MlpSampleRefIdeal.Gen
open Idealize.ShloMosaic Idealize.ShloMosaic.TcCoe Idealize.SL.Sem Idealize.ShloMosaic.Tactic Idealize.ShloMosaic.StableHlo

section
variable {F : FTy → Type} [FloatOps F]

/-- The rows' root-mean-square normalisation. -/
def norm (x : FVec F S128x4x1024 .f32) (g : FVec F S1024 .f32) : FVec F S128x4x1024 .f32 :=
  mulf (mulf x (broadcastInDim S128x4x1024 ![0, 1, 2] bcast_S128x4x1_S128x4x1024_0_1_2 (Host.rsqrt (addf (Host.divf
      (broadcastInDim S128x4x1 ![0, 1] bcast_S128x4_S128x4x1_0_1 (Host.reduceAdd (mulf x x) (constant S_ .f32 0x00000000#32) reducesTo_S128x4x1024_S128x4_d2 h_S_))
      (broadcastInDim S128x4x1 ![] bcast_S_S128x4x1 (constant S_ .f32 0x44800000#32))) (broadcastInDim S128x4x1 ![] bcast_S_S128x4x1 (constant S_ .f32 0x358637BD#32))))))
    (broadcastInDim S128x4x1024 ![0, 1, 2] bcast_S1x1x1024_S128x4x1024_0_1_2 (broadcastInDim S1x1x1024 ![2] bcast_S1024_S1x1x1024_2 g))

/-- A batch's modulation, the same for each of its rows. -/
def each (s : FVec F S128x1x1024 .f32) : FVec F S128x4x1024 .f32 := broadcastInDim S128x4x1024 ![0, 1, 2] bcast_S128x1x1024_S128x4x1024_0_1_2 s

/-- A modulation with a place for the row. -/
def wide (s : FVec F S128x1024 .f32) : FVec F S128x1x1024 .f32 := broadcastInDim S128x1x1024 ![0, 2] bcast_S128x1024_S128x1x1024_0_2 s

/-- The rows scaled and shifted. -/
def modulated (x : FVec F S128x4x1024 .f32) (sc sh : FVec F S128x1024 .f32) : FVec F S128x4x1024 .f32 :=
  addf (mulf x (each (addf (broadcastInDim S128x1x1024 ![] bcast_S_S128x1x1024 (constant S_ .f32 0x3F800000#32)) (wide sc)))) (each (wide sh))

/-- The hidden units. -/
def hidden (u : FVec F S128x4x1024 .f32) (w : FVec F S1024x4096 .f32) : FVec F S128x4x4096 .f32 :=
  maximumf (Host.dotGeneral dot_S128x4x1024_S1024x4096_S128x4x4096_2_0_01_1_n_n none u w) (broadcastInDim S128x4x4096 ![] bcast_S_S128x4x4096 (constant S_ .f32 0x00000000#32))

/-- The contraction of the squared hidden units. -/
def contracted (p : FVec F S128x4x4096 .f32) (w : FVec F S4096x1024 .f32) : FVec F S128x4x1024 .f32 :=
  Host.dotGeneral dot_S128x4x4096_S4096x1024_S128x4x1024_2_0_01_1_n_n none (mulf p p) w

/-- The gated residual. -/
def residual (x y : FVec F S128x4x1024 .f32) (gt : FVec F S128x1024 .f32) : FVec F S128x4x1024 .f32 :=
  addf x (mulf (each (wide gt)) y)

/-- All of it, of the arguments. -/
def all (a0 : FVec F S128x4x1024 .f32) (a1 a2 a3 : FVec F S128x1024 .f32) (a4 a5 : FVec F S1024 .f32) (a6 : FVec F S1024x4096 .f32) (a7 : FVec F S4096x1024 .f32) :
    FVec F S128x4x1024 .f32 :=
  residual a0 (norm (contracted (hidden (modulated (norm a0 a4) a1 a2) a6) a7) a5) a3

/-- The reference's result, step by step. -/
theorem res_eq (m : (ℓ : Loc nD τ sig) → Buf (Elt F) ℓ) (c : Dev nD) :
    Value.res_out0 m c = shapeCast S512x1024 (all (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7))) shapeCasts_S128x4x1024_S512x1024 := rfl
end

theorem norm_apply (x : FVec Ideal S128x4x1024 .f32) (g : FVec Ideal S1024 .f32) (b : Fin 128) (s : Fin 4) (l : Fin 1024) :
    norm x g (ix3 b s l) = Rows.norm Rows.model (fun l => x (ix3 b s l)) (fun l => g (ix1 l)) l := by
  pointwise [norm]
  rfl

theorem modulated_apply (x : FVec Ideal S128x4x1024 .f32) (sc sh : FVec Ideal S128x1024 .f32) (b : Fin 128) (s : Fin 4) (l : Fin 1024) :
    modulated x sc sh (ix3 b s l) = x (ix3 b s l) * (1 + sc (ix2 b l)) + sh (ix2 b l) := by
  pointwise [modulated, each, wide]

theorem hidden_apply (u : FVec Ideal S128x4x1024 .f32) (w : FVec Ideal S1024x4096 .f32) (b : Fin 128) (s : Fin 4) (j : Fin 4096) :
    hidden u w (ix3 b s j) = max (∑ x, u (ix3 b s x) * w (ix2 x j)) 0 := by
  pointwise [hidden]

theorem contracted_apply (p : FVec Ideal S128x4x4096 .f32) (w : FVec Ideal S4096x1024 .f32) (b : Fin 128) (s : Fin 4) (l : Fin 1024) :
    contracted p w (ix3 b s l) = ∑ x, p (ix3 b s x) * p (ix3 b s x) * w (ix2 x l) := by
  pointwise [contracted]

theorem residual_apply (x y : FVec Ideal S128x4x1024 .f32) (gt : FVec Ideal S128x1024 .f32) (b : Fin 128) (s : Fin 4) (l : Fin 1024) :
    residual x y gt (ix3 b s l) = x (ix3 b s l) + gt (ix2 b l) * y (ix3 b s l) := by
  pointwise [residual, each, wide]

/-- The reference's result at an index is the row's MLP. -/
theorem all_apply (a0 : FVec Ideal S128x4x1024 .f32) (a1 a2 a3 : FVec Ideal S128x1024 .f32) (a4 a5 : FVec Ideal S1024 .f32) (a6 : FVec Ideal S1024x4096 .f32)
    (a7 : FVec Ideal S4096x1024 .f32) (b : Fin 128) (s : Fin 4) (l : Fin 1024) :
    all a0 a1 a2 a3 a4 a5 a6 a7 (ix3 b s l) = Rows.mlp (fun l => a0 (ix3 b s l)) (fun l => a1 (ix2 b l)) (fun l => a2 (ix2 b l)) (fun l => a3 (ix2 b l))
      (fun l => a4 (ix1 l)) (fun l => a5 (ix1 l)) (fun i j => a6 (ix2 i j)) (fun j l => a7 (ix2 j l)) l := by
  unfold all
  simp only [residual_apply, norm_apply, contracted_apply, hidden_apply, modulated_apply]
  rfl

/-- The batches' rows one after another. -/
theorem flat_apply (y : FVec Ideal S128x4x1024 .f32) (r : Fin 512) (l : Fin 1024) :
    shapeCast S512x1024 y shapeCasts_S128x4x1024_S512x1024 (ix2 r l) = y (ix3 ⟨r.val / 4, by omega⟩ ⟨r.val % 4, by omega⟩ l) := by
  pointwise []

end Cert.MlpSampleReference

end
-- ==== Proof.MlpSampleClaims.lean ====
/- The claims about the sample's MLP call. -/
module

public import proofs.«01_k».proof.Defs
public import proofs.«01_k».proof.Proof.Gen.MlpSample.Frame
public import proofs.«01_k».proof.Proof.Gen.MlpSampleIdeal.Frame
public import proofs.«01_k».proof.Proof.Gen.MlpSampleIdeal.Value
public import proofs.«01_k».proof.Proof.Gen.MlpSampleRefIdeal.Run
public import proofs.«01_k».proof.Proof.MlpSampleArray
public import proofs.«01_k».proof.Proof.MlpSampleReference
public import Idealize.ShloMosaic.Lib.Quiescent

@[expose] public section

noncomputable section

namespace Cert.MlpSampleClaims

open Idealize.ShloMosaic Idealize.ShloMosaic.TcCoe Idealize.SL.Sem

/-- The kernel runs on the machine's numbers, leaving its arguments and every semaphore at rest. -/
theorem frame : Cert.quiescent_MlpSample := fun m ρ _ => Cert.MlpSample.Gen.frame m ρ

/-- So does the kernel over the extended reals. -/
theorem frameIdeal : Cert.quiescent_MlpSampleIdeal := fun m ρ _ => Cert.MlpSampleIdeal.Gen.frame m ρ

/-- The reference runs over the extended reals, leaving its arguments. -/
theorem frameRef : Cert.quiescent_MlpSampleRefIdeal := fun m ρ _ =>
  (θ_run Cert.MlpSampleRefIdeal.defs _ _).mono (fun r h => ⟨fun c => (h c).2, sem_eq_zero_of_no_sems (by decide) r.2⟩)
    (Cert.MlpSampleRefIdeal.Value.run (F := Ideal) m ρ)

/-- Nothing is rewritten. -/
theorem preserves : Cert.preserves_MlpSample_MlpSampleIdeal := trivial

/-- The kernel's result is the reference's, of all arguments. -/
theorem algebraic : Cert.algebraic_MlpSampleIdeal_MlpSampleRefIdeal := by
  intro m ρ m' ρ' hpre hagree
  refine ⟨_, Cert.MlpSampleIdeal.Value.run_blocks (F := Ideal) m ρ, ?_⟩
  refine (θ_run Cert.MlpSampleRefIdeal.defs _ _).mono (fun _ h c => ⟨(h c).1.trans ?_, (h c).2⟩)
    (Cert.MlpSampleRefIdeal.Value.run (F := Ideal) m' ρ')
  obtain ⟨e0, e1, e2, e3, e4, e5, e6, e7⟩ := hagree c
  refine (Cert.MlpSampleReference.res_eq m' c).trans ?_
  rw [e0, e1, e2, e3, e4, e5, e6, e7]
  funext j
  obtain ⟨r, l, rfl⟩ : ∃ (r : Fin 512) (l : Fin 1024), j = ix2 r l := ⟨j 0, j 1, by
    funext a
    match a with
    | ⟨0, _⟩ => rfl
    | ⟨1, _⟩ => rfl⟩
  exact ((Cert.MlpSampleReference.flat_apply _ r l).trans (Cert.MlpSampleReference.all_apply _ _ _ _ _ _ _ _ _ _ l)).trans (Cert.MlpSampleArray.arrAt_apply m c r l).symm

end Cert.MlpSampleClaims

end
-- ==== Proof.ProjSampleBlock.lean ====
/- What one grid point of the sample's projection call computes, read at an index over the extended reals. -/
module

public import proofs.«01_k».proof.Proof.Gen.ProjSampleIdeal.Value
public import proofs.«01_k».proof.Proof.ProjBlock
public import Idealize.ShloMosaic.Lib.Pipeline.ValueKit

@[expose] public section

set_option maxRecDepth 16384

noncomputable section

namespace Cert.ProjSampleBlock

open Cert.ProjSampleIdeal Cert.ProjSampleIdeal.Gen
open Idealize.ShloMosaic Idealize.ShloMosaic.TcCoe Idealize.SL.Sem Idealize.ShloMosaic.Tactic Idealize.ShloMosaic.StableHlo

/-! ## What the body is given and computes -/

/-- A grid point's blocks. -/
structure Ins (F : FTy → Type) where
  x : Vec F S256x1024 .f32
  sc : Vec F S256x1024 .f32
  sh : Vec F S256x1024 .f32
  gpre : Vec F S1x1024 .f32
  win : Vec F S1024x4096 .bf16
  gqr : Vec F S1x256 .f32
  gkvr : Vec F S1x128 .f32
  wuqn : Vec F S256x512 .bf16
  wuqr : Vec F S256x1024 .bf16
  wuk : Vec F S512x1024 .bf16
  tca : Vec F S256x128 .f32
  tsau : Vec F S256x128 .f32
  tsad : Vec F S256x128 .f32
  tcb : Vec F S256x128 .f32
  tsbu : Vec F S256x128 .f32
  tsbd : Vec F S256x128 .f32

section
variable {F : FTy → Type} [FloatOps F] (b : Ins F)

/-- The tile's combined projection. -/
def p := k0_pay40 b.x b.sc b.sh b.gpre b.win b.gqr b.gkvr b.wuqn b.wuqr b.wuk b.tca b.tsau b.tsad b.tcb b.tsbu b.tsbd
/-- The first branch's tables. -/
def ca := k0_pay41 b.x b.sc b.sh b.gpre b.win b.gqr b.gkvr b.wuqn b.wuqr b.wuk b.tca b.tsau b.tsad b.tcb b.tsbu b.tsbd
/-- The sines of one rotation. -/
def sau := k0_pay42 b.x b.sc b.sh b.gpre b.win b.gqr b.gkvr b.wuqn b.wuqr b.wuk b.tca b.tsau b.tsad b.tcb b.tsbu b.tsbd
/-- The sines of the other. -/
def sad := k0_pay43 b.x b.sc b.sh b.gpre b.win b.gqr b.gkvr b.wuqn b.wuqr b.wuk b.tca b.tsau b.tsad b.tcb b.tsbu b.tsbd
/-- The second branch's tables. -/
def cb := k0_pay44 b.x b.sc b.sh b.gpre b.win b.gqr b.gkvr b.wuqn b.wuqr b.wuk b.tca b.tsau b.tsad b.tcb b.tsbu b.tsbd
/-- The sines of one rotation. -/
def sbu := k0_pay45 b.x b.sc b.sh b.gpre b.win b.gqr b.gkvr b.wuqn b.wuqr b.wuk b.tca b.tsau b.tsad b.tcb b.tsbu b.tsbd
/-- The sines of the other. -/
def sbd := k0_pay46 b.x b.sc b.sh b.gpre b.win b.gqr b.gkvr b.wuqn b.wuqr b.wuk b.tca b.tsau b.tsad b.tcb b.tsbu b.tsbd
/-- The keys' latent columns. -/
def kvLat := k0_pay47 b.x b.sc b.sh b.gpre b.win b.gqr b.gkvr b.wuqn b.wuqr b.wuk b.tca b.tsau b.tsad b.tcb b.tsbu b.tsbd
/-- The keys' gain. -/
def gkv := k0_pay48 b.x b.sc b.sh b.gpre b.win b.gqr b.gkvr b.wuqn b.wuqr b.wuk b.tca b.tsau b.tsad b.tcb b.tsbu b.tsbd
/-- The queries' latent columns. -/
def qLat := k0_pay49 b.x b.sc b.sh b.gpre b.win b.gqr b.gkvr b.wuqn b.wuqr b.wuk b.tca b.tsau b.tsad b.tcb b.tsbu b.tsbd
/-- The queries' gain. -/
def gq := k0_pay50 b.x b.sc b.sh b.gpre b.win b.gqr b.gkvr b.wuqn b.wuqr b.wuk b.tca b.tsau b.tsad b.tcb b.tsbu b.tsbd
/-- The mean of their squares. -/
def qMean := k0_pay51 b.x b.sc b.sh b.gpre b.win b.gqr b.gkvr b.wuqn b.wuqr b.wuk b.tca b.tsau b.tsad b.tcb b.tsbu b.tsbd
/-- The rotary part of the queries. -/
def qRope := k0_pay52 b.x b.sc b.sh b.gpre b.win b.gqr b.gkvr b.wuqn b.wuqr b.wuk b.tca b.tsau b.tsad b.tcb b.tsbu b.tsbd
/-- The absorbed part. -/
def qAbs := k0_pay53 b.x b.sc b.sh b.gpre b.win b.gqr b.gkvr b.wuqn b.wuqr b.wuk b.tca b.tsau b.tsad b.tcb b.tsbu b.tsbd
/-- The first branch's queries. -/
def qa := out0_16 b.x b.sc b.sh b.gpre b.win b.gqr b.gkvr b.wuqn b.wuqr b.wuk b.tca b.tsau b.tsad b.tcb b.tsbu b.tsbd
/-- Its keys. -/
def key := out0_17 b.x b.sc b.sh b.gpre b.win b.gqr b.gkvr b.wuqn b.wuqr b.wuk b.tca b.tsau b.tsad b.tcb b.tsbu b.tsbd
/-- Its values. -/
def value := out0_18 b.x b.sc b.sh b.gpre b.win b.gqr b.gkvr b.wuqn b.wuqr b.wuk b.tca b.tsau b.tsad b.tcb b.tsbu b.tsbd
/-- The second branch's latent. -/
def latent := out0_19 b.x b.sc b.sh b.gpre b.win b.gqr b.gkvr b.wuqn b.wuqr b.wuk b.tca b.tsau b.tsad b.tcb b.tsbu b.tsbd
/-- Its rotary key. -/
def keyRope := out0_20 b.x b.sc b.sh b.gpre b.win b.gqr b.gkvr b.wuqn b.wuqr b.wuk b.tca b.tsau b.tsad b.tcb b.tsbu b.tsbd
/-- The first branch's gate. -/
def gateA := out0_21 b.x b.sc b.sh b.gpre b.win b.gqr b.gkvr b.wuqn b.wuqr b.wuk b.tca b.tsau b.tsad b.tcb b.tsbu b.tsbd
/-- The second branch's gate. -/
def gateB := out0_22 b.x b.sc b.sh b.gpre b.win b.gqr b.gkvr b.wuqn b.wuqr b.wuk b.tca b.tsau b.tsad b.tcb b.tsbu b.tsbd
/-- The second branch's queries. -/
def queries := out0_23 b.x b.sc b.sh b.gpre b.win b.gqr b.gkvr b.wuqn b.wuqr b.wuk b.tca b.tsau b.tsad b.tcb b.tsbu b.tsbd
/-- Its keys. -/
def keys := out0_24 b.x b.sc b.sh b.gpre b.win b.gqr b.gkvr b.wuqn b.wuqr b.wuk b.tca b.tsau b.tsad b.tcb b.tsbu b.tsbd
/-- The query norm's epsilon. -/
def qEps : F .f32 := Scalar.ofBits .f32 0x358637BD#32
end

/-! ## Four slabs of the first branch side by side -/

theorem pay10_apply (P : FVec Ideal S256x4096 .f32) (c u d : FVec Ideal S256x128 .f32) (r : Fin 256) (l : Fin 512) :
    k0_pay10 P c u d (ix2 r l) = ProjBlock.slabs (fun k => P (ix2 r ⟨k.val, by omega⟩)) (fun x => c (ix2 r x)) (fun x => u (ix2 r x)) (fun x => d (ix2 r x)) l := by
  pointwise [k0_pay10]
  by_cases h1 : l.val < 128
  · simp only [dif_pos h1]
    refine Eq.trans ?_ (ProjBlock.slab_at (fun k => P (ix2 r ⟨k.val, by omega⟩)) (fun x => c (ix2 r x)) (fun x => u (ix2 r x)) (fun x => d (ix2 r x)) l 0 l.val h1 (by omega) (by omega) (by omega))
    simp only [Nat.zero_add]
    rfl
  · simp only [dif_neg h1]
    by_cases h2 : l.val - 128 < 128
    · simp only [dif_pos h2]
      exact ProjBlock.slab_at (fun k => P (ix2 r ⟨k.val, by omega⟩)) (fun x => c (ix2 r x)) (fun x => u (ix2 r x)) (fun x => d (ix2 r x)) l 128 (l.val - 128) h2 (by omega) (by omega) (by omega)
    · simp only [dif_neg h2]
      by_cases h3 : l.val - 128 - 128 < 128
      · simp only [dif_pos h3]
        exact ProjBlock.slab_at (fun k => P (ix2 r ⟨k.val, by omega⟩)) (fun x => c (ix2 r x)) (fun x => u (ix2 r x)) (fun x => d (ix2 r x)) l 256 (l.val - 128 - 128) h3 (by omega) (by omega) (by omega)
      · simp only [dif_neg h3]
        exact ProjBlock.slab_at (fun k => P (ix2 r ⟨k.val, by omega⟩)) (fun x => c (ix2 r x)) (fun x => u (ix2 r x)) (fun x => d (ix2 r x)) l 384 (l.val - 128 - 128 - 128) (by omega) (by omega) (by omega) (by omega)

theorem pay11_apply (P : FVec Ideal S256x4096 .f32) (r : Fin 256) (k : Fin 512) : k0_pay11 P (ix2 r k) = P (ix2 r ⟨512 + k.val, by omega⟩) := by
  pointwise [k0_pay11]

theorem pay12_apply (P : FVec Ideal S256x4096 .f32) (r : Fin 256) (k : Fin 128) : k0_pay12 P (ix2 r k) = k0_pay11 P (ix2 r ⟨k.val, by omega⟩) := by
  pointwise [k0_pay12]

theorem first_slab (P : FVec Ideal S256x4096 .f32) (c u d : FVec Ideal S256x128 .f32) (r : Fin 256) (l : Fin 128) :
    k0_pay13 P c u (ix2 r l) + k0_pay14 P d (ix2 r l) = ProjRows.slabA (fun x => k0_pay11 P (ix2 r ⟨x.val, by omega⟩)) (fun x => c (ix2 r x)) (fun x => u (ix2 r x)) (fun x => d (ix2 r x)) l := by
  pointwise [k0_pay13, k0_pay14, pay12_apply]
  rfl

theorem pay15_apply (P : FVec Ideal S256x4096 .f32) (c u d : FVec Ideal S256x128 .f32) (r : Fin 256) (l : Fin 512) :
    k0_pay15 c u d (k0_pay11 P) (k0_pay13 P c u) (k0_pay14 P d) (ix2 r l)
      = ProjBlock.slabs (fun k => k0_pay11 P (ix2 r k)) (fun x => c (ix2 r x)) (fun x => u (ix2 r x)) (fun x => d (ix2 r x)) l := by
  pointwise [k0_pay15]
  by_cases h1 : l.val < 128
  · simp only [dif_pos h1]
    refine (first_slab P c u d r ⟨l.val, h1⟩).trans ((?_ : _ = _).trans (ProjBlock.slab_at (fun k => k0_pay11 P (ix2 r k)) (fun x => c (ix2 r x)) (fun x => u (ix2 r x)) (fun x => d (ix2 r x)) l 0 l.val h1 (by omega) (by omega) (by omega)))
    simp only [Nat.zero_add]
  · simp only [dif_neg h1]
    by_cases h2 : l.val - 128 < 128
    · simp only [dif_pos h2]
      exact ProjBlock.slab_at (fun k => k0_pay11 P (ix2 r k)) (fun x => c (ix2 r x)) (fun x => u (ix2 r x)) (fun x => d (ix2 r x)) l 128 (l.val - 128) h2 (by omega) (by omega) (by omega)
    · simp only [dif_neg h2]
      by_cases h3 : l.val - 128 - 128 < 128
      · simp only [dif_pos h3]
        exact ProjBlock.slab_at (fun k => k0_pay11 P (ix2 r k)) (fun x => c (ix2 r x)) (fun x => u (ix2 r x)) (fun x => d (ix2 r x)) l 256 (l.val - 128 - 128) h3 (by omega) (by omega) (by omega)
      · simp only [dif_neg h3]
        exact ProjBlock.slab_at (fun k => k0_pay11 P (ix2 r k)) (fun x => c (ix2 r x)) (fun x => u (ix2 r x)) (fun x => d (ix2 r x)) l 384 (l.val - 128 - 128 - 128) (by omega) (by omega) (by omega) (by omega)

/-! ## The columns, the norms, and the keys -/

theorem pay3_apply (x sc sh : Vec Ideal S256x1024 .f32) (g : Vec Ideal S1x1024 .f32) (w : Vec Ideal S1024x4096 .bf16) (r : Fin 256) (k : Fin 4096) :
    k0_pay3 x g sc sh w (ix2 r k) = ∑ i, Rows.modulated (fun i => x (ix2 r i)) (fun i => g (ix2 0 i)) (fun i => sc (ix2 r i)) (fun i => sh (ix2 r i)) i * w (ix2 i k) := by
  pointwise [k0_pay3]
  rfl

theorem pay16_apply (P : FVec Ideal S256x4096 .f32) (r : Fin 256) (l : Fin 512) : k0_pay16 P (ix2 r l) = P (ix2 r ⟨1024 + l.val, by omega⟩) := by
  pointwise [k0_pay16]

theorem pay17_apply (P : FVec Ideal S256x4096 .f32) (r : Fin 256) (l : Fin 1024) : k0_pay17 P (ix2 r l) = P (ix2 r ⟨1920 + l.val, by omega⟩) := by
  pointwise [k0_pay17]

theorem pay18_apply (P : FVec Ideal S256x4096 .f32) (r : Fin 256) (l : Fin 1024) : k0_pay18 P (ix2 r l) = P (ix2 r ⟨2944 + l.val, by omega⟩) := by
  pointwise [k0_pay18]

theorem pay21_apply (P : FVec Ideal S256x4096 .f32) (g : Vec Ideal S1x128 .f32) (r : Fin 256) (l : Fin 128) :
    k0_pay21 (k0_pay19 P) (k0_pay20 g) (ix2 r l) = Rows.norm ProjRows.latentRank (fun k => P (ix2 r ⟨1792 + k.val, by omega⟩)) (fun k => g (ix2 0 k)) l := by
  pointwise [k0_pay21, k0_pay19, k0_pay20]
  rfl

theorem pay22_apply (P : FVec Ideal S256x4096 .f32) (c u d : FVec Ideal S256x128 .f32) (r : Fin 256) (l : Fin 128) :
    k0_pay22 P c u d (ix2 r l) = ProjRows.slabB (fun x => P (ix2 r ⟨3968 + x.val, by omega⟩)) (fun x => c (ix2 r x)) (fun x => u (ix2 r x)) (fun x => d (ix2 r x)) l := by
  pointwise [k0_pay22]
  rfl

theorem pay23_apply (P : FVec Ideal S256x4096 .f32) (c u d : FVec Ideal S256x128 .f32) (r : Fin 256) (l : Fin 32) : k0_pay23 P c u d (ix2 r l) = k0_pay22 P c u d (ix2 r ⟨l.val, by omega⟩) := by
  pointwise [k0_pay23]

theorem pay24_apply (P : FVec Ideal S256x4096 .f32) (c u d : FVec Ideal S256x128 .f32) (x : FVec Ideal S256x128 .f32) (y : FVec Ideal S1x128 .f32) (r : Fin 256) (l : Fin 256) :
    k0_pay24 P c u d x y (ix2 r l)
      = if h : l.val < 128 then k0_pay21 x y (ix2 r ⟨l.val, h⟩) else if l.val = 160 then 1 else k0_pay22 P c u d (ix2 r ⟨l.val - 128, by omega⟩) := by
  pointwise [k0_pay24]
  by_cases h : l.val < 128
  · simp only [dif_pos h]
  · simp only [dif_neg h]
    show (if IntOp.cmpi CmpIPredicate.eq (BitVec.ofNat 32 (l.val - 128)) 32#32 = 1#1 then _ else _) = _
    refine if_congr ?_ rfl rfl
    rw [WordCmp.cmpi_eq_ofNat_eq_one_iff (a := l.val - 128) (b := 32) (by omega) (by omega)]
    omega

/-! ## The queries -/

theorem pay28_apply (P : FVec Ideal S256x4096 .f32) (g : Vec Ideal S1x256 .f32) (r : Fin 256) (j : Fin 256) :
    k0_pay28 (k0_pay25 P) (k0_pay26 g) (k0_pay27 P) (qEps (F := Ideal)) (ix2 r j) = Rows.norm ProjRows.queryRank (fun k => P (ix2 r ⟨1536 + k.val, by omega⟩)) (fun k => g (ix2 0 k)) j := by
  pointwise [k0_pay28, k0_pay25, k0_pay26, k0_pay27, qEps]
  rfl

theorem pay29_apply (a : FVec Ideal S256x256 .f32) (g : FVec Ideal S1x256 .f32) (s : FVec Ideal S256x1 .f32) (e : Ideal .f32) (w : Vec Ideal S256x1024 .bf16) (r : Fin 256) (l : Fin 1024) :
    k0_pay29 a g s e w (ix2 r l) = ∑ j, k0_pay28 a g s e (ix2 r j) * w (ix2 j l) := by
  pointwise [k0_pay29]

theorem pay30_apply (a : FVec Ideal S256x256 .f32) (g : FVec Ideal S1x256 .f32) (s : FVec Ideal S256x1 .f32) (e : Ideal .f32) (w : Vec Ideal S256x512 .bf16) (v : Vec Ideal S512x1024 .bf16) (r : Fin 256) (l : Fin 1024) :
    k0_pay30 a g s e w v (ix2 r l) = ∑ k, (∑ j, k0_pay28 a g s e (ix2 r j) * w (ix2 j k)) * v (ix2 k l) := by
  pointwise [k0_pay30]

section
variable (c u d : FVec Ideal S256x128 .f32) (R A : FVec Ideal S256x1024 .f32) (r : Fin 256) (l : Fin 256)

theorem head0 (a : FVec Ideal S256x256 .f32) (g : FVec Ideal S1x256 .f32) (s : FVec Ideal S256x1 .f32) (e : Ideal .f32) (w : Vec Ideal S256x512 .bf16) (w' : Vec Ideal S256x1024 .bf16) (v : Vec Ideal S512x1024 .bf16) :
    k0_pay31 c u d a g s e w w' v (ix3 0 r l)
      = ProjBlock.lanes 0 (by decide) (fun x => k0_pay29 a g s e w' (ix2 r x)) (fun x => k0_pay30 a g s e w v (ix2 r x)) (fun x => c (ix2 r x)) (fun x => u (ix2 r x)) (fun x => d (ix2 r x)) l := by
  pointwise [k0_pay31]
  unfold ProjBlock.lanes
  simp only [Nat.zero_add]
  rfl

theorem head1 (a : FVec Ideal S256x256 .f32) (g : FVec Ideal S1x256 .f32) (s : FVec Ideal S256x1 .f32) (e : Ideal .f32) (w : Vec Ideal S256x512 .bf16) (w' : Vec Ideal S256x1024 .bf16) (v : Vec Ideal S512x1024 .bf16) :
    k0_pay33 (k0_pay30 a g s e w v) (k0_pay32 c u d a g s e w') (ix3 0 r l)
      = ProjBlock.lanes 128 (by decide) (fun x => k0_pay29 a g s e w' (ix2 r x)) (fun x => k0_pay30 a g s e w v (ix2 r x)) (fun x => c (ix2 r x)) (fun x => u (ix2 r x)) (fun x => d (ix2 r x)) l := by
  pointwise [k0_pay33, k0_pay32]
  rfl

theorem head2 : k0_pay34 c u d R A (ix3 0 r l) = ProjBlock.lanes 256 (by decide) (fun x => R (ix2 r x)) (fun x => A (ix2 r x)) (fun x => c (ix2 r x)) (fun x => u (ix2 r x)) (fun x => d (ix2 r x)) l := by
  pointwise [k0_pay34]
  rfl

theorem head3 : k0_pay35 c u d R A (ix3 0 r l) = ProjBlock.lanes 384 (by decide) (fun x => R (ix2 r x)) (fun x => A (ix2 r x)) (fun x => c (ix2 r x)) (fun x => u (ix2 r x)) (fun x => d (ix2 r x)) l := by
  pointwise [k0_pay35]
  rfl

theorem head4 : k0_pay37 c u d A (k0_pay36 R) (ix3 0 r l) = ProjBlock.lanes 512 (by decide) (fun x => R (ix2 r x)) (fun x => A (ix2 r x)) (fun x => c (ix2 r x)) (fun x => u (ix2 r x)) (fun x => d (ix2 r x)) l := by
  pointwise [k0_pay37, k0_pay36]
  rfl

theorem head5 : k0_pay38 c u d R A (ix3 0 r l) = ProjBlock.lanes 640 (by decide) (fun x => R (ix2 r x)) (fun x => A (ix2 r x)) (fun x => c (ix2 r x)) (fun x => u (ix2 r x)) (fun x => d (ix2 r x)) l := by
  pointwise [k0_pay38]
  rfl

theorem head6 : k0_pay1 (k0_pay39 c u d R A) (ix3 0 r l) = ProjBlock.lanes 768 (by decide) (fun x => R (ix2 r x)) (fun x => A (ix2 r x)) (fun x => c (ix2 r x)) (fun x => u (ix2 r x)) (fun x => d (ix2 r x)) l := by
  pointwise [k0_pay1, k0_pay39]
  rfl

theorem head7 : k0_pay2 c u d R A (ix3 0 r l) = ProjBlock.lanes 896 (by decide) (fun x => R (ix2 r x)) (fun x => A (ix2 r x)) (fun x => c (ix2 r x)) (fun x => u (ix2 r x)) (fun x => d (ix2 r x)) l := by
  pointwise [k0_pay2]
  rfl
end

/-! ## What the body leaves, at an index -/

section
variable (b : Ins Ideal) (r : Fin 256)

theorem p_eq : p b = k0_pay3 b.x b.gpre b.sc b.sh b.win := by unfold p k0_pay40; frame_out
theorem ca_eq : ca b = b.tca := by unfold ca k0_pay41 k0_pay4; rw [shapeCast_self]; frame_out
theorem sau_eq : sau b = b.tsau := by unfold sau k0_pay42 k0_pay5; rw [shapeCast_self]; frame_out
theorem sad_eq : sad b = b.tsad := by unfold sad k0_pay43 k0_pay6; rw [shapeCast_self]; frame_out
theorem cb_eq : cb b = b.tcb := by unfold cb k0_pay44 k0_pay7; rw [shapeCast_self]; frame_out
theorem sbu_eq : sbu b = b.tsbu := by unfold sbu k0_pay45 k0_pay8; rw [shapeCast_self]; frame_out
theorem sbd_eq : sbd b = b.tsbd := by unfold sbd k0_pay46 k0_pay9; rw [shapeCast_self]; frame_out
theorem gkv_eq : gkv b = k0_pay20 b.gkvr := by unfold gkv k0_pay48; frame_out
theorem gq_eq : gq b = k0_pay26 b.gqr := by unfold gq k0_pay50; frame_out

theorem p_apply (k : Fin 4096) : p b (ix2 r k)
    = ∑ i, Rows.modulated (fun i => b.x (ix2 r i)) (fun i => b.gpre (ix2 0 i)) (fun i => b.sc (ix2 r i)) (fun i => b.sh (ix2 r i)) i * b.win (ix2 i k) := by
  rw [p_eq, pay3_apply]

theorem qa_eq : qa b = k0_pay10 (p b) (ca b) (sau b) (sad b) := by unfold qa out0_16 p ca sau sad; frame_out
theorem key_eq : key b = k0_pay15 (ca b) (sau b) (sad b) (k0_pay11 (p b)) (k0_pay13 (p b) (ca b) (sau b)) (k0_pay14 (p b) (sad b)) := by unfold key out0_17 p ca sau sad; frame_out
theorem value_eq : value b = k0_pay16 (p b) := by unfold value out0_18 p; frame_out
theorem latent_eq : latent b = k0_pay21 (kvLat b) (gkv b) := by unfold latent out0_19 kvLat gkv; frame_out
theorem keyRope_eq : keyRope b = k0_pay23 (p b) (cb b) (sbu b) (sbd b) := by unfold keyRope out0_20 p cb sbu sbd; frame_out
theorem gateA_eq : gateA b = k0_pay17 (p b) := by unfold gateA out0_21 p; frame_out
theorem gateB_eq : gateB b = k0_pay18 (p b) := by unfold gateB out0_22 p; frame_out
theorem keys_eq : keys b = k0_pay24 (p b) (cb b) (sbu b) (sbd b) (kvLat b) (gkv b) := by unfold keys out0_24 p cb sbu sbd kvLat gkv; frame_out

/-- One head's piece of the queries' block. -/
theorem tile (k : ℕ) (w : S1x256x256.Idx → EReal) (h : Fin 8) (l : Fin 256) (v : EReal) (e : h.val = k → w (ix3 0 r l) = v) :
    View.TileAt (Val := Elt Ideal) (S := S8x256x256) (e := .bf16) (ix3 h r l) ![k, 0, 0] S1x256x256.size w v := by
  intro x hx
  have h0 : h.val = k + (x 0).val := hx 0
  have h1 : r.val = 0 + (x 1).val := hx 1
  have h2 : l.val = 0 + (x 2).val := hx 2
  have hx0 : (x 0).val < 1 := (x 0).isLt
  have ex : x = ix3 0 r l := by
    funext a
    match a with
    | ⟨0, _⟩ => exact Fin.ext (by show (x 0).val = 0; omega)
    | ⟨1, _⟩ => exact Fin.ext (by show (x 1).val = r.val; omega)
    | ⟨2, _⟩ => exact Fin.ext (by show (x 2).val = l.val; omega)
  rw [ex]
  exact e (by omega)

/-- The queries' block at an index: head `h`'s lanes. -/
theorem queries_apply (h : Fin 8) (l : Fin 256) : queries b (ix3 h r l)
    = ProjBlock.lanes (128 * h.val) (by omega) (fun x => qRope b (ix2 r x)) (fun x => qAbs b (ix2 r x)) (fun x => b.tcb (ix2 r x)) (fun x => b.tsbu (ix2 r x)) (fun x => b.tsbd (ix2 r x)) l := by
  rw [← cb_eq b, ← sbu_eq b, ← sbd_eq b]
  unfold queries out0_23
  refine View.canon_eq_of_allAt _ _ _ (cover0_23 _ _ _ _ _ _ _ _ _) ?_
  refine View.allAt_cons_unit _ _ _ _ _ (tile r 7 _ h l _ fun e => (head7 _ _ _ _ _ r l).trans (ProjBlock.lanes_congr _ _ (by omega) _ _ _ _ _ l)) ?_
  refine View.allAt_cons_unit _ _ _ _ _ (tile r 6 _ h l _ fun e => (head6 _ _ _ _ _ r l).trans (ProjBlock.lanes_congr _ _ (by omega) _ _ _ _ _ l)) ?_
  refine View.allAt_cons_unit _ _ _ _ _ (tile r 5 _ h l _ fun e => (head5 _ _ _ _ _ r l).trans (ProjBlock.lanes_congr _ _ (by omega) _ _ _ _ _ l)) ?_
  refine View.allAt_cons_unit _ _ _ _ _ (tile r 4 _ h l _ fun e => (head4 _ _ _ _ _ r l).trans (ProjBlock.lanes_congr _ _ (by omega) _ _ _ _ _ l)) ?_
  refine View.allAt_cons_unit _ _ _ _ _ (tile r 3 _ h l _ fun e => (head3 _ _ _ _ _ r l).trans (ProjBlock.lanes_congr _ _ (by omega) _ _ _ _ _ l)) ?_
  refine View.allAt_cons_unit _ _ _ _ _ (tile r 2 _ h l _ fun e => (head2 _ _ _ _ _ r l).trans (ProjBlock.lanes_congr _ _ (by omega) _ _ _ _ _ l)) ?_
  refine View.allAt_cons_unit _ _ _ _ _ (tile r 1 _ h l _ fun e => (head1 _ _ _ r l _ _ _ _ _ _ _).trans (ProjBlock.lanes_congr _ _ (by omega) _ _ _ _ _ l)) ?_
  refine View.allAt_cons_unit _ _ _ _ _ (tile r 0 _ h l _ fun e => (head0 _ _ _ r l _ _ _ _ _ _ _).trans (ProjBlock.lanes_congr _ _ (by omega) _ _ _ _ _ l)) ?_
  exact View.allAt_nil _ _

theorem qRope_apply (l : Fin 1024) : qRope b (ix2 r l)
    = ∑ j, Rows.norm ProjRows.queryRank (fun k => p b (ix2 r ⟨1536 + k.val, by omega⟩)) (fun k => b.gqr (ix2 0 k)) j * b.wuqr (ix2 j l) := by
  have e : qRope b = k0_pay29 (qLat b) (gq b) (qMean b) (qEps (F := Ideal)) b.wuqr := by unfold qRope k0_pay52 qLat gq qMean qEps; frame_out
  rw [e, gq_eq, pay29_apply]
  exact Finset.sum_congr rfl fun j _ => congrArg₂ (· * ·) (pay28_apply (p b) b.gqr r j) rfl

theorem qAbs_apply (l : Fin 1024) : qAbs b (ix2 r l)
    = ∑ k, (∑ j, Rows.norm ProjRows.queryRank (fun k => p b (ix2 r ⟨1536 + k.val, by omega⟩)) (fun k => b.gqr (ix2 0 k)) j * b.wuqn (ix2 j k)) * b.wuk (ix2 k l) := by
  have e : qAbs b = k0_pay30 (qLat b) (gq b) (qMean b) (qEps (F := Ideal)) b.wuqn b.wuk := by unfold qAbs k0_pay53 qLat gq qMean qEps; frame_out
  rw [e, gq_eq, pay30_apply]
  exact Finset.sum_congr rfl fun k _ => congrArg₂ (· * ·) (Finset.sum_congr rfl fun j _ => congrArg₂ (· * ·) (pay28_apply (p b) b.gqr r j) rfl) rfl
end

end Cert.ProjSampleBlock

end
-- ==== Proof.ProjSampleHost.lean ====
/- The arrays the sample's projection call is given: its weights with their columns laid out anew and blocks on a diagonal, and the
   tables of the angles, each read at an index. -/
module

public import proofs.«01_k».proof.Proof.Gen.ProjSampleIdeal.Frame
public import proofs.«01_k».proof.Proof.ProjRows
public import Idealize.ShloMosaic.Lib.Pipeline.ValueKit

@[expose] public section

set_option maxRecDepth 16384

noncomputable section

namespace Cert.ProjSampleHost

open Cert.ProjSampleIdeal Cert.ProjSampleIdeal.Gen
open Idealize.ShloMosaic Idealize.ShloMosaic.TcCoe Idealize.SL.Sem Idealize.ShloMosaic.Tactic Idealize.ShloMosaic.StableHlo

section
variable {F : FTy → Type} [FloatOps F]

/-- The projection's weights with the rotary key's columns moved to the end and 96 columns of noughts after them. -/
def columns (w : FVec F S1024x4000 .f32) : FVec F S1024x4096 .bf16 :=
  truncf .bf16 (concatenate S1024x4096 1 [⟨S1024x1920, extractStridedSlice S1024x1920 ![0, 0] w slices_S1024x4000_S1024x1920_0_0⟩,
    ⟨S1024x2048, extractStridedSlice S1024x2048 ![0, 1952] w slices_S1024x4000_S1024x2048_0_1952⟩,
    ⟨S1024x32, extractStridedSlice S1024x32 ![0, 1920] w slices_S1024x4000_S1024x32_0_1920⟩,
    ⟨S1024x96, broadcastInDim S1024x96 ![] bcast_S_S1024x96 (constant S_ .f32 0x00000000#32)⟩] concatenates_S1024x1920_S1024x2048_S1024x32_S1024x96_S1024x4096_d1) bitsLt_bf16_f32

/-- The query weights by heads. -/
def heads (w : FVec F S256x768 .f32) : FVec F S256x8x96 .f32 := shapeCast S256x8x96 w shapeCasts_S256x768_S256x8x96

/-- The query weights' first 64 columns of each head. -/
def plain (w : FVec F S256x768 .f32) : FVec F S256x512 .bf16 :=
  truncf .bf16 (shapeCast S256x512 (extractStridedSlice S256x8x64 ![0, 0, 0] (heads w) slices_S256x8x96_S256x8x64_0_0_0) shapeCasts_S256x8x64_S256x512) bitsLt_bf16_f32

/-- The query weights' last 32 columns of each head, filled up to 128 with noughts. -/
def rotary (w : FVec F S256x768 .f32) : FVec F S256x1024 .bf16 :=
  truncf .bf16 (shapeCast S256x1024 (pad S256x8x128 ![0, 0, 0] ![0, 0, 96] ![0, 0, 0] (extractStridedSlice S256x8x32 ![0, 0, 64] (heads w) slices_S256x8x96_S256x8x32_0_0_64)
    (sitofp .f32 (constantI S_ 32 0#32)) pads_S256x8x32_S256x8x128_000_000_0960 h_S_) shapeCasts_S256x8x128_S256x1024) bitsLt_bf16_f32

/-- The keys' weights as a matrix of blocks, one for each head, on the diagonal. -/
def diagonal (u : FVec F S128x8x64 .f32) : FVec F S512x1024 .bf16 :=
  truncf .bf16 (shapeCast S512x1024 (mulf
      (broadcastInDim S8x64x8x128 ![0, 1, 2, 3] bcast_S8x64x1x128_S8x64x8x128_0_1_2_3 (broadcastInDim S8x64x1x128 ![0, 1, 3] bcast_S8x64x128_S8x64x1x128_0_1_3
        (transpose S8x64x128 [1, 2, 0] u transposes_S128x8x64_S8x64x128_1_2_0)))
      (broadcastInDim S8x64x8x128 ![0, 1, 2, 3] bcast_S8x1x8x1_S8x64x8x128_0_1_2_3 (broadcastInDim S8x1x8x1 ![0, 2] bcast_S8x8_S8x1x8x1_0_2
        (uitofp .f32 (cmpi .eq (addi (iotaInDim S8x8 32 0) (broadcastInDim S8x8 ![] bcast_S_S8x8 (constantI S_ 32 0#32))) (iotaInDim S8x8 32 1))))))
    shapeCasts_S8x64x8x128_S512x1024) bitsLt_bf16_f32

/-- A row's place: its token's, after the 16384 rows kept from before. -/
def position : IVec S512 32 :=
  addi (broadcastInDim S512 ![] bcast_S_S512 (constantI S_ 32 16384#32)) (shapeCast S512 (broadcastInDim S128x4 ![0, 1] bcast_S1x4_S128x4_0_1 (shapeCast S1x4 (iotaInDim S4 32 0) shapeCasts_S4_S1x4)) shapeCasts_S128x4_S512)

/-- A modulation, each batch's row repeated for its four rows. -/
def repeated (s : FVec F S128x1024 .f32) : FVec F S512x1024 .f32 :=
  shapeCast S512x1024 (broadcastInDim S128x4x1024 ![0, 2] bcast_S128x1024_S128x4x1024_0_2 s) shapeCasts_S128x4x1024_S512x1024

/-- The first branch's angles: a row's place times each frequency. -/
def angleA : FVec F S512x8 .f32 :=
  mulf (broadcastInDim S512x8 ![0, 1] bcast_S512x1_S512x8_0_1 (broadcastInDim S512x1 ![0] bcast_S512_S512x1_0 (sitofp .f32 (position)))) (broadcastInDim S512x8 ![0, 1] bcast_S1x8_S512x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (sitofp .f32 (iotaInDim S8 32 0)) (broadcastInDim S8 ![] bcast_S_S8 (constant S_ .f32 0x41000000#32)))))))

/-- The second branch's angles. -/
def angleB : FVec F S512x16 .f32 :=
  mulf (broadcastInDim S512x16 ![0, 1] bcast_S512x1_S512x16_0_1 (broadcastInDim S512x1 ![0] bcast_S512_S512x1_0 (sitofp .f32 (position)))) (broadcastInDim S512x16 ![0, 1] bcast_S1x16_S512x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (Host.divf (sitofp .f32 (iotaInDim S16 32 0)) (broadcastInDim S16 ![] bcast_S_S16 (constant S_ .f32 0x41800000#32)))))))

/-- Two copies of a head's 64 lanes side by side. -/
def twice (x : FVec F S512x64 .f32) : FVec F S512x128 .f32 :=
  shapeCast S512x128 (broadcastInDim S1x512x2x64 ![0, 1, 2, 3] bcast_S1x512x1x64_S1x512x2x64_0_1_2_3 (shapeCast S1x512x1x64 x shapeCasts_S512x64_S1x512x1x64)) shapeCasts_S1x512x2x64_S512x128

/-- Three pieces of 8, 8 and 48 lanes side by side. -/
def rowA (x y : FVec F S512x8 .f32) (z : FVec F S512x48 .f32) : FVec F S512x64 .f32 :=
  concatenate S512x64 1 [⟨S512x8, x⟩, ⟨S512x8, y⟩, ⟨S512x48, z⟩] concatenates_S512x8_S512x8_S512x48_S512x64_d1

/-- The first branch's tables: the cosines, and the sines for the two rotations. -/
def cosA : FVec F S512x128 .f32 := twice (rowA (Host.cos angleA) (Host.cos angleA) (broadcastInDim S512x48 ![] bcast_S_S512x48 (constant S_ .f32 0x3F800000#32)))
def upA : FVec F S512x128 .f32 := twice (rowA (broadcastInDim S512x8 ![] bcast_S_S512x8 (constant S_ .f32 0x00000000#32)) (Host.sin angleA) (broadcastInDim S512x48 ![] bcast_S_S512x48 (constant S_ .f32 0x00000000#32)))
def downA : FVec F S512x128 .f32 := twice (rowA (Host.negf (Host.sin angleA)) (broadcastInDim S512x8 ![] bcast_S_S512x8 (constant S_ .f32 0x00000000#32)) (broadcastInDim S512x48 ![] bcast_S_S512x48 (constant S_ .f32 0x00000000#32)))

/-- Four copies of 32 lanes side by side. -/
def fourTimes (x : FVec F S512x32 .f32) : FVec F S512x128 .f32 :=
  shapeCast S512x128 (broadcastInDim S1x512x4x32 ![0, 1, 2, 3] bcast_S1x512x1x32_S1x512x4x32_0_1_2_3 (shapeCast S1x512x1x32 x shapeCasts_S512x32_S1x512x1x32)) shapeCasts_S1x512x4x32_S512x128

/-- Two pieces of 16 lanes side by side, and a piece of none. -/
def rowB (x y : FVec F S512x16 .f32) (z : FVec F S512x0 .f32) : FVec F S512x32 .f32 :=
  concatenate S512x32 1 [⟨S512x16, x⟩, ⟨S512x16, y⟩, ⟨S512x0, z⟩] concatenates_S512x16_S512x16_S512x0_S512x32_d1

/-- The second branch's tables. -/
def cosB : FVec F S512x128 .f32 := fourTimes (rowB (Host.cos angleB) (Host.cos angleB) (broadcastInDim S512x0 ![] bcast_S_S512x0 (constant S_ .f32 0x3F800000#32)))
def upB : FVec F S512x128 .f32 := fourTimes (rowB (broadcastInDim S512x16 ![] bcast_S_S512x16 (constant S_ .f32 0x00000000#32)) (Host.sin angleB) (broadcastInDim S512x0 ![] bcast_S_S512x0 (constant S_ .f32 0x00000000#32)))
def downB : FVec F S512x128 .f32 := fourTimes (rowB (Host.negf (Host.sin angleB)) (broadcastInDim S512x16 ![] bcast_S_S512x16 (constant S_ .f32 0x00000000#32)) (broadcastInDim S512x0 ![] bcast_S_S512x0 (constant S_ .f32 0x00000000#32)))
end

/-! ## At an index -/

theorem columns_apply (w : FVec Ideal S1024x4000 .f32) (i : Fin 1024) (k : Fin 4096) : columns w (ix2 i k)
    = if h : k.val < 1920 then w (ix2 i ⟨k.val, by omega⟩) else if h' : k.val < 3968 then w (ix2 i ⟨k.val + 32, by omega⟩) else if h'' : k.val < 4000 then w (ix2 i ⟨k.val - 2048, by omega⟩) else 0 := by
  pointwise [columns]
  by_cases h : k.val < 1920
  · simp only [dif_pos h]
  · by_cases h' : k.val < 3968
    · have e : k.val - 1920 < 2048 := by omega
      simp only [dif_neg h, dif_pos h', dif_pos e]
      exact congrArg (fun a => w (ix2 i a)) (Fin.ext (by show 1952 + (k.val - 1920) = k.val + 32; omega))
    · have e : ¬ k.val - 1920 < 2048 := by omega
      by_cases h'' : k.val < 4000
      · have e' : k.val - 1920 - 2048 < 32 := by omega
        simp only [dif_neg h, dif_neg h', dif_neg e, dif_pos h'', dif_pos e']
        exact congrArg (fun a => w (ix2 i a)) (Fin.ext (by show 1920 + (k.val - 1920 - 2048) = k.val - 2048; omega))
      · have e' : ¬ k.val - 1920 - 2048 < 32 := by omega
        simp only [dif_neg h, dif_neg h', dif_neg e, dif_neg h'', dif_neg e']

theorem plain_apply (w : FVec Ideal S256x768 .f32) (j : Fin 256) (h : Fin 8) (n : Fin 64) :
    plain w (ix2 j ⟨64 * h.val + n.val, by omega⟩) = w (ix2 j ⟨96 * h.val + n.val, by omega⟩) := by
  pointwise [plain, heads]
  refine congrArg (fun a => w (ix2 j a)) (Fin.ext ?_)
  first | rfl | omega | (simp only []; omega)

theorem rotary_apply (w : FVec Ideal S256x768 .f32) (j : Fin 256) (h : Fin 8) (x : Fin 128) :
    rotary w (ix2 j ⟨128 * h.val + x.val, by omega⟩) = if hx : x.val < 32 then w (ix2 j ⟨96 * h.val + (64 + x.val), by omega⟩) else 0 := by
  pointwise [rotary, heads]
  rw [Rows.sitofp_zero]
  congr 1
  funext hx
  exact congrArg (fun a => w (ix2 j a)) (Fin.ext (by show h.val * 96 + (64 + x.val) = 96 * h.val + (64 + x.val); omega))

theorem diagonal_apply (u : FVec Ideal S128x8x64 .f32) (h g : Fin 8) (n : Fin 64) (c : Fin 128) :
    diagonal u (ix2 ⟨64 * h.val + n.val, by omega⟩ ⟨128 * g.val + c.val, by omega⟩) = u (ix3 c h n) * (if h = g then 1 else 0) := by
  rw [← Rows.eye h g]
  pointwise [diagonal]

theorem position_apply (r : Fin 512) : position (ix1 r) = BitVec.ofNat 32 (16384 + r.val % 4) := by
  refine Eq.trans ?_ (BitVec.ofNat_add 16384 (r.val % 4)).symm
  pointwise [position]
  rfl

theorem repeated_apply (s : FVec Ideal S128x1024 .f32) (r : Fin 512) (l : Fin 1024) : repeated s (ix2 r l) = s (ix2 ⟨r.val / 4, by omega⟩ l) := by
  pointwise [repeated]

/-- The batches' rows one after another. -/
theorem flat_apply (y : FVec Ideal S128x4x1024 .f32) (r : Fin 512) (l : Fin 1024) :
    shapeCast S512x1024 y shapeCasts_S128x4x1024_S512x1024 (ix2 r l) = y (ix3 ⟨r.val / 4, by omega⟩ ⟨r.val % 4, by omega⟩ l) := by
  pointwise []

theorem angleA_apply (r : Fin 512) (j : Fin 8) : angleA (F := Ideal) (ix2 r j) = ProjRows.angleA (16384 + r.val % 4) j.val := by
  pointwise [angleA, position_apply]
  rfl

theorem angleB_apply (r : Fin 512) (j : Fin 16) : angleB (F := Ideal) (ix2 r j) = ProjRows.angleB (16384 + r.val % 4) j.val := by
  pointwise [angleB, position_apply]
  rfl

theorem twice_apply (x : FVec Ideal S512x64 .f32) (r : Fin 512) (l : Fin 128) : twice x (ix2 r l) = x (ix2 r ⟨l.val % 64, by omega⟩) := by
  pointwise [twice]

theorem fourTimes_apply (x : FVec Ideal S512x32 .f32) (r : Fin 512) (l : Fin 128) : fourTimes x (ix2 r l) = x (ix2 r ⟨l.val % 32, by omega⟩) := by
  pointwise [fourTimes]

theorem rowA_apply (x y : FVec Ideal S512x8 .f32) (z : FVec Ideal S512x48 .f32) (r : Fin 512) (k : Fin 64) : rowA x y z (ix2 r k)
    = if h : k.val < 8 then x (ix2 r ⟨k.val, h⟩) else if h' : k.val < 16 then y (ix2 r ⟨k.val - 8, by omega⟩) else z (ix2 r ⟨k.val - 16, by omega⟩) := by
  pointwise [rowA]
  by_cases h : k.val < 8
  · simp only [dif_pos h]
  · by_cases h' : k.val < 16
    · have e : k.val - 8 < 8 := by omega
      simp only [dif_neg h, dif_pos h', dif_pos e]
    · have e : ¬ k.val - 8 < 8 := by omega
      simp only [dif_neg h, dif_neg h', dif_neg e]
      exact congrArg (fun a => z (ix2 r a)) (Fin.ext (by show k.val - 8 - 8 = k.val - 16; omega))

theorem rowB_apply (x y : FVec Ideal S512x16 .f32) (z : FVec Ideal S512x0 .f32) (r : Fin 512) (k : Fin 32) : rowB x y z (ix2 r k)
    = if h : k.val < 16 then x (ix2 r ⟨k.val, h⟩) else y (ix2 r ⟨k.val - 16, by omega⟩) := by
  pointwise [rowB]
  have e : k.val - 16 < 16 := by omega
  simp only [dif_pos e]

/-! ## The tables are the rows' tables -/

theorem cosA_apply (r : Fin 512) (l : Fin 128) : cosA (F := Ideal) (ix2 r l) = ProjRows.cosTableA (ProjRows.angleA (16384 + r.val % 4)) l := by
  unfold cosA ProjRows.cosTableA
  rw [twice_apply, rowA_apply]
  by_cases h : l.val % 64 < 8
  · simp only [dif_pos h, if_pos h]
    exact congrArg Ideal.cos (angleA_apply r _)
  · by_cases h' : l.val % 64 < 16
    · simp only [dif_neg h, if_neg h, dif_pos h', if_pos h']
      exact congrArg Ideal.cos (angleA_apply r _)
    · simp only [dif_neg h, if_neg h, dif_neg h', if_neg h']
      pointwise []

theorem upA_apply (r : Fin 512) (l : Fin 128) : upA (F := Ideal) (ix2 r l) = ProjRows.upTableA (ProjRows.angleA (16384 + r.val % 4)) l := by
  unfold upA ProjRows.upTableA
  rw [twice_apply, rowA_apply]
  by_cases h : l.val % 64 < 8
  · simp only [dif_pos h, if_pos h]
    pointwise []
  · by_cases h' : l.val % 64 < 16
    · simp only [dif_neg h, if_neg h, dif_pos h', if_pos h']
      exact congrArg Ideal.sin (angleA_apply r _)
    · simp only [dif_neg h, if_neg h, dif_neg h', if_neg h']
      pointwise []

theorem downA_apply (r : Fin 512) (l : Fin 128) : downA (F := Ideal) (ix2 r l) = ProjRows.downTableA (ProjRows.angleA (16384 + r.val % 4)) l := by
  unfold downA ProjRows.downTableA
  rw [twice_apply, rowA_apply]
  by_cases h : l.val % 64 < 8
  · simp only [dif_pos h, if_pos h]
    exact congrArg (fun t => -Ideal.sin t) (angleA_apply r _)
  · by_cases h' : l.val % 64 < 16
    · simp only [dif_neg h, if_neg h, dif_pos h']
      pointwise []
    · simp only [dif_neg h, if_neg h, dif_neg h']
      pointwise []

theorem cosB_apply (r : Fin 512) (l : Fin 128) : cosB (F := Ideal) (ix2 r l) = ProjRows.cosTableB (ProjRows.angleB (16384 + r.val % 4)) l := by
  unfold cosB ProjRows.cosTableB
  rw [fourTimes_apply, rowB_apply]
  by_cases h : l.val % 32 < 16
  · simp only [dif_pos h, if_pos h]
    exact congrArg Ideal.cos (angleB_apply r _)
  · simp only [dif_neg h, if_neg h]
    exact congrArg Ideal.cos (angleB_apply r _)

theorem upB_apply (r : Fin 512) (l : Fin 128) : upB (F := Ideal) (ix2 r l) = ProjRows.upTableB (ProjRows.angleB (16384 + r.val % 4)) l := by
  unfold upB ProjRows.upTableB
  rw [fourTimes_apply, rowB_apply]
  by_cases h : l.val % 32 < 16
  · simp only [dif_pos h, if_pos h]
    pointwise []
  · simp only [dif_neg h, if_neg h]
    exact congrArg Ideal.sin (angleB_apply r _)

theorem downB_apply (r : Fin 512) (l : Fin 128) : downB (F := Ideal) (ix2 r l) = ProjRows.downTableB (ProjRows.angleB (16384 + r.val % 4)) l := by
  unfold downB ProjRows.downTableB
  rw [fourTimes_apply, rowB_apply]
  by_cases h : l.val % 32 < 16
  · simp only [dif_pos h, if_pos h]
    exact congrArg (fun t => -Ideal.sin t) (angleB_apply r _)
  · simp only [dif_neg h, if_neg h]
    pointwise []

/-! ## What the call is given -/

variable (m : (ℓ : Loc nD τ sig) → Buf (Elt Ideal) ℓ) (c : Dev nD)

set_option maxHeartbeats 4000000 in
theorem V_cosA : V m c main_v58 = (cosA : FVec Ideal S512x128 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_upA : V m c main_v61 = (upA : FVec Ideal S512x128 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_downA : V m c main_v64 = (downA : FVec Ideal S512x128 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_cosB : V m c main_v89 = (cosB : FVec Ideal S512x128 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_upB : V m c main_v92 = (upB : FVec Ideal S512x128 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_downB : V m c main_v95 = (downB : FVec Ideal S512x128 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_columns : V m c main_v11 = (columns (m ((c.tc : Thread nD τ).loc main_arg4)) : FVec Ideal S1024x4096 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_plain : V m c main_v15 = (plain (m ((c.tc : Thread nD τ).loc main_arg7)) : FVec Ideal S256x512 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_rotary : V m c main_v19 = (rotary (m ((c.tc : Thread nD τ).loc main_arg7)) : FVec Ideal S256x1024 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_diagonal : V m c main_v33 = (diagonal (m ((c.tc : Thread nD τ).loc main_arg8)) : FVec Ideal S512x1024 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_x : V m c main_v96 = (shapeCast S512x1024 (m ((c.tc : Thread nD τ).loc main_arg0) : FVec Ideal S128x4x1024 .f32) shapeCasts_S128x4x1024_S512x1024 : FVec Ideal S512x1024 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_scale : V m c main_v98 = (repeated (m ((c.tc : Thread nD τ).loc main_arg1)) : FVec Ideal S512x1024 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_shift : V m c main_v100 = (repeated (m ((c.tc : Thread nD τ).loc main_arg2)) : FVec Ideal S512x1024 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_gain : V m c main_v101 = (shapeCast S1x1024 (m ((c.tc : Thread nD τ).loc main_arg3) : FVec Ideal S1024 .f32) shapeCasts_S1024_S1x1024 : FVec Ideal S1x1024 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_gainQ : V m c main_v102 = (shapeCast S1x256 (m ((c.tc : Thread nD τ).loc main_arg5) : FVec Ideal S256 .f32) shapeCasts_S256_S1x256 : FVec Ideal S1x256 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_gainKv : V m c main_v103 = (shapeCast S1x128 (m ((c.tc : Thread nD τ).loc main_arg6) : FVec Ideal S128 .f32) shapeCasts_S128_S1x128 : FVec Ideal S1x128 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

/-- A gain laid out as a row. -/
theorem row_apply (g : FVec Ideal S1024 .f32) (l : Fin 1024) : shapeCast S1x1024 g shapeCasts_S1024_S1x1024 (ix2 0 l) = g (ix1 l) := by
  pointwise []

theorem rowQ_apply (g : FVec Ideal S256 .f32) (l : Fin 256) : shapeCast S1x256 g shapeCasts_S256_S1x256 (ix2 0 l) = g (ix1 l) := by
  pointwise []

theorem rowKv_apply (g : FVec Ideal S128 .f32) (l : Fin 128) : shapeCast S1x128 g shapeCasts_S128_S1x128 (ix2 0 l) = g (ix1 l) := by
  pointwise []

end Cert.ProjSampleHost

end
-- ==== Proof.ProjSamplePoint.lean ====
/- What one grid point of the sample's projection call takes and leaves, in terms of the call's own arguments. -/
module

public import proofs.«01_k».proof.Proof.ProjPoint
public import proofs.«01_k».proof.Proof.ProjSampleBlock
public import proofs.«01_k».proof.Proof.ProjSampleHost
public import Idealize.ShloMosaic.Lib.Pipeline.ValueKit

@[expose] public section

set_option maxRecDepth 16384

noncomputable section

namespace Cert.ProjSamplePoint

open Cert.ProjSampleIdeal Cert.ProjSampleIdeal.Gen Cert.ProjSampleHost Cert.ProjSampleBlock
open Idealize.ShloMosaic Idealize.ShloMosaic.TcCoe Idealize.SL.Sem Idealize.ShloMosaic.Tactic Idealize.ShloMosaic.StableHlo

variable (m : (ℓ : Loc nD τ sig) → Buf (Elt Ideal) ℓ) (c : Dev nD)

/-- The blocks of grid point `t`. -/
def ins (t : Fin cfg0.N) : Ins Ideal := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t⟩

/-! ## Where the blocks lie -/

/-- Where each window's block lies. -/
theorem idx : ∀ t : Fin cfg0.N, win0_0.index t = ![t.val, 0] ∧ win0_1.index t = ![t.val, 0] ∧ win0_2.index t = ![t.val, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0] ∧ win0_19.index t = ![t.val, 0]
    ∧ win0_20.index t = ![t.val, 0] ∧ win0_21.index t = ![t.val, 0] ∧ win0_22.index t = ![t.val, 0] ∧ win0_23.index t = ![0, t.val, 0] ∧ win0_24.index t = ![t.val, 0] :=
  (by decide +kernel : ∀ t : Fin grid0.N, _)

/-- Grid point `i`. -/
def pt (i : Fin 2) : Fin cfg0.N := ⟨i.val, by have := N_0; have := i.isLt; show i.val < grid0.N; omega⟩

/-- Row `s` of grid point `i`. -/
def row (i : Fin 2) (s : Fin 256) : Fin 512 := ⟨256 * i.val + s.val, by omega⟩

/-- Row `R`'s batch and token. -/
abbrev batch (R : Fin 512) : Fin 128 := ⟨R.val / 4, by omega⟩
abbrev token (R : Fin 512) : Fin 4 := ⟨R.val % 4, by omega⟩

theorem blk0 (i : Fin 2) (r : Fin 256) (l : Fin 1024) : iblk m c 0 (pt i) (ix2 r l) = m ((c.tc : Thread nD τ).loc main_arg0) (ix3 (batch (row i r)) (token (row i r)) l) := by
  refine Eq.trans ?_ ((congrFun (V_x m c) (ix2 (row i r) l)).trans (flat_apply _ (row i r) l))
  show V m c main_v96 (((cfg0.win 0).blk (pt i)).view.emb (ix2 r l)) = V m c main_v96 (ix2 (row i r) l)
  congr 1
  have e := (idx (pt i)).1
  have hp : (pt i).val = i.val := rfl
  unfold row
  blk_ext [e, hp]

theorem blk1 (i : Fin 2) (r : Fin 256) (l : Fin 1024) : iblk m c 1 (pt i) (ix2 r l) = m ((c.tc : Thread nD τ).loc main_arg1) (ix2 (batch (row i r)) l) := by
  refine Eq.trans ?_ ((congrFun (V_scale m c) (ix2 (row i r) l)).trans (repeated_apply _ (row i r) l))
  show V m c main_v98 (((cfg0.win 1).blk (pt i)).view.emb (ix2 r l)) = V m c main_v98 (ix2 (row i r) l)
  congr 1
  have e := (idx (pt i)).2.1
  have hp : (pt i).val = i.val := rfl
  unfold row
  blk_ext [e, hp]

theorem blk2 (i : Fin 2) (r : Fin 256) (l : Fin 1024) : iblk m c 2 (pt i) (ix2 r l) = m ((c.tc : Thread nD τ).loc main_arg2) (ix2 (batch (row i r)) l) := by
  refine Eq.trans ?_ ((congrFun (V_shift m c) (ix2 (row i r) l)).trans (repeated_apply _ (row i r) l))
  show V m c main_v100 (((cfg0.win 2).blk (pt i)).view.emb (ix2 r l)) = V m c main_v100 (ix2 (row i r) l)
  congr 1
  have e := (idx (pt i)).2.2.1
  have hp : (pt i).val = i.val := rfl
  unfold row
  blk_ext [e, hp]

theorem blk3 (i : Fin 2) (l : Fin 1024) : iblk m c 3 (pt i) (ix2 0 l) = m ((c.tc : Thread nD τ).loc main_arg3) (ix1 l) := by
  refine Eq.trans ?_ (row_apply (m ((c.tc : Thread nD τ).loc main_arg3)) l)
  rw [← V_gain m c]
  show V m c main_v101 (((cfg0.win 3).blk (pt i)).view.emb (ix2 0 l)) = V m c main_v101 (ix2 0 l)
  congr 1
  have e := (idx (pt i)).2.2.2.1
  blk_ext [e]

theorem blk5 (i : Fin 2) (l : Fin 256) : iblk m c 5 (pt i) (ix2 0 l) = m ((c.tc : Thread nD τ).loc main_arg5) (ix1 l) := by
  refine Eq.trans ?_ (rowQ_apply (m ((c.tc : Thread nD τ).loc main_arg5)) l)
  rw [← V_gainQ m c]
  show V m c main_v102 (((cfg0.win 5).blk (pt i)).view.emb (ix2 0 l)) = V m c main_v102 (ix2 0 l)
  congr 1
  have e := (idx (pt i)).2.2.2.2.2.1
  blk_ext [e]

theorem blk6 (i : Fin 2) (l : Fin 128) : iblk m c 6 (pt i) (ix2 0 l) = m ((c.tc : Thread nD τ).loc main_arg6) (ix1 l) := by
  refine Eq.trans ?_ (rowKv_apply (m ((c.tc : Thread nD τ).loc main_arg6)) l)
  rw [← V_gainKv m c]
  show V m c main_v103 (((cfg0.win 6).blk (pt i)).view.emb (ix2 0 l)) = V m c main_v103 (ix2 0 l)
  congr 1
  have e := (idx (pt i)).2.2.2.2.2.2.1
  blk_ext [e]

theorem blk4 (i : Fin 2) (a : Fin 1024) (b : Fin 4096) : iblk m c 4 (pt i) (ix2 a b) = columns (F := Ideal) (m ((c.tc : Thread nD τ).loc main_arg4)) (ix2 a b) := by
  refine Eq.trans ?_ (congrFun (V_columns m c) (ix2 a b))
  show V m c main_v11 (((cfg0.win 4).blk (pt i)).view.emb (ix2 a b)) = V m c main_v11 (ix2 a b)
  congr 1
  have e := (idx (pt i)).2.2.2.2.1
  blk_ext [e]

theorem blk7 (i : Fin 2) (a : Fin 256) (b : Fin 512) : iblk m c 7 (pt i) (ix2 a b) = plain (F := Ideal) (m ((c.tc : Thread nD τ).loc main_arg7)) (ix2 a b) := by
  refine Eq.trans ?_ (congrFun (V_plain m c) (ix2 a b))
  show V m c main_v15 (((cfg0.win 7).blk (pt i)).view.emb (ix2 a b)) = V m c main_v15 (ix2 a b)
  congr 1
  have e := (idx (pt i)).2.2.2.2.2.2.2.1
  blk_ext [e]

theorem blk8 (i : Fin 2) (a : Fin 256) (b : Fin 1024) : iblk m c 8 (pt i) (ix2 a b) = rotary (F := Ideal) (m ((c.tc : Thread nD τ).loc main_arg7)) (ix2 a b) := by
  refine Eq.trans ?_ (congrFun (V_rotary m c) (ix2 a b))
  show V m c main_v19 (((cfg0.win 8).blk (pt i)).view.emb (ix2 a b)) = V m c main_v19 (ix2 a b)
  congr 1
  have e := (idx (pt i)).2.2.2.2.2.2.2.2.1
  blk_ext [e]

theorem blk9 (i : Fin 2) (a : Fin 512) (b : Fin 1024) : iblk m c 9 (pt i) (ix2 a b) = diagonal (F := Ideal) (m ((c.tc : Thread nD τ).loc main_arg8)) (ix2 a b) := by
  refine Eq.trans ?_ (congrFun (V_diagonal m c) (ix2 a b))
  show V m c main_v33 (((cfg0.win 9).blk (pt i)).view.emb (ix2 a b)) = V m c main_v33 (ix2 a b)
  congr 1
  have e := (idx (pt i)).2.2.2.2.2.2.2.2.2.1
  blk_ext [e]

theorem blk10 (i : Fin 2) (r : Fin 256) (l : Fin 128) : iblk m c 10 (pt i) (ix2 r l) = ProjRows.cosTableA (ProjRows.angleA (16384 + (row i r).val % 4)) l := by
  refine Eq.trans ?_ ((congrFun (V_cosA m c) (ix2 (row i r) l)).trans (cosA_apply (row i r) l))
  show V m c main_v58 (((cfg0.win 10).blk (pt i)).view.emb (ix2 r l)) = V m c main_v58 (ix2 (row i r) l)
  congr 1
  have e := (idx (pt i)).2.2.2.2.2.2.2.2.2.2.1
  have hp : (pt i).val = i.val := rfl
  unfold row
  blk_ext [e, hp]

theorem blk11 (i : Fin 2) (r : Fin 256) (l : Fin 128) : iblk m c 11 (pt i) (ix2 r l) = ProjRows.upTableA (ProjRows.angleA (16384 + (row i r).val % 4)) l := by
  refine Eq.trans ?_ ((congrFun (V_upA m c) (ix2 (row i r) l)).trans (upA_apply (row i r) l))
  show V m c main_v61 (((cfg0.win 11).blk (pt i)).view.emb (ix2 r l)) = V m c main_v61 (ix2 (row i r) l)
  congr 1
  have e := (idx (pt i)).2.2.2.2.2.2.2.2.2.2.2.1
  have hp : (pt i).val = i.val := rfl
  unfold row
  blk_ext [e, hp]

theorem blk12 (i : Fin 2) (r : Fin 256) (l : Fin 128) : iblk m c 12 (pt i) (ix2 r l) = ProjRows.downTableA (ProjRows.angleA (16384 + (row i r).val % 4)) l := by
  refine Eq.trans ?_ ((congrFun (V_downA m c) (ix2 (row i r) l)).trans (downA_apply (row i r) l))
  show V m c main_v64 (((cfg0.win 12).blk (pt i)).view.emb (ix2 r l)) = V m c main_v64 (ix2 (row i r) l)
  congr 1
  have e := (idx (pt i)).2.2.2.2.2.2.2.2.2.2.2.2.1
  have hp : (pt i).val = i.val := rfl
  unfold row
  blk_ext [e, hp]

theorem blk13 (i : Fin 2) (r : Fin 256) (l : Fin 128) : iblk m c 13 (pt i) (ix2 r l) = ProjRows.cosTableB (ProjRows.angleB (16384 + (row i r).val % 4)) l := by
  refine Eq.trans ?_ ((congrFun (V_cosB m c) (ix2 (row i r) l)).trans (cosB_apply (row i r) l))
  show V m c main_v89 (((cfg0.win 13).blk (pt i)).view.emb (ix2 r l)) = V m c main_v89 (ix2 (row i r) l)
  congr 1
  have e := (idx (pt i)).2.2.2.2.2.2.2.2.2.2.2.2.2.1
  have hp : (pt i).val = i.val := rfl
  unfold row
  blk_ext [e, hp]

theorem blk14 (i : Fin 2) (r : Fin 256) (l : Fin 128) : iblk m c 14 (pt i) (ix2 r l) = ProjRows.upTableB (ProjRows.angleB (16384 + (row i r).val % 4)) l := by
  refine Eq.trans ?_ ((congrFun (V_upB m c) (ix2 (row i r) l)).trans (upB_apply (row i r) l))
  show V m c main_v92 (((cfg0.win 14).blk (pt i)).view.emb (ix2 r l)) = V m c main_v92 (ix2 (row i r) l)
  congr 1
  have e := (idx (pt i)).2.2.2.2.2.2.2.2.2.2.2.2.2.2.1
  have hp : (pt i).val = i.val := rfl
  unfold row
  blk_ext [e, hp]

theorem blk15 (i : Fin 2) (r : Fin 256) (l : Fin 128) : iblk m c 15 (pt i) (ix2 r l) = ProjRows.downTableB (ProjRows.angleB (16384 + (row i r).val % 4)) l := by
  refine Eq.trans ?_ ((congrFun (V_downB m c) (ix2 (row i r) l)).trans (downB_apply (row i r) l))
  show V m c main_v95 (((cfg0.win 15).blk (pt i)).view.emb (ix2 r l)) = V m c main_v95 (ix2 (row i r) l)
  congr 1
  have e := (idx (pt i)).2.2.2.2.2.2.2.2.2.2.2.2.2.2.2.1
  have hp : (pt i).val = i.val := rfl
  unfold row
  blk_ext [e, hp]

/-! The blocks as the body's inputs. -/

theorem in_x (i : Fin 2) (r : Fin 256) (l : Fin 1024) : (ins m c (pt i)).x (ix2 r l) = m ((c.tc : Thread nD τ).loc main_arg0) (ix3 (batch (row i r)) (token (row i r)) l) := blk0 m c i r l
theorem in_sc (i : Fin 2) (r : Fin 256) (l : Fin 1024) : (ins m c (pt i)).sc (ix2 r l) = m ((c.tc : Thread nD τ).loc main_arg1) (ix2 (batch (row i r)) l) := blk1 m c i r l
theorem in_sh (i : Fin 2) (r : Fin 256) (l : Fin 1024) : (ins m c (pt i)).sh (ix2 r l) = m ((c.tc : Thread nD τ).loc main_arg2) (ix2 (batch (row i r)) l) := blk2 m c i r l
theorem in_gpre (i : Fin 2) (l : Fin 1024) : (ins m c (pt i)).gpre (ix2 0 l) = m ((c.tc : Thread nD τ).loc main_arg3) (ix1 l) := blk3 m c i l
theorem in_gqr (i : Fin 2) (l : Fin 256) : (ins m c (pt i)).gqr (ix2 0 l) = m ((c.tc : Thread nD τ).loc main_arg5) (ix1 l) := blk5 m c i l
theorem in_gkvr (i : Fin 2) (l : Fin 128) : (ins m c (pt i)).gkvr (ix2 0 l) = m ((c.tc : Thread nD τ).loc main_arg6) (ix1 l) := blk6 m c i l
theorem in_win (i : Fin 2) (a : Fin 1024) (b : Fin 4096) : (ins m c (pt i)).win (ix2 a b) = columns (F := Ideal) (m ((c.tc : Thread nD τ).loc main_arg4)) (ix2 a b) := blk4 m c i a b
theorem in_wuqn (i : Fin 2) (a : Fin 256) (b : Fin 512) : (ins m c (pt i)).wuqn (ix2 a b) = plain (F := Ideal) (m ((c.tc : Thread nD τ).loc main_arg7)) (ix2 a b) := blk7 m c i a b
theorem in_wuqr (i : Fin 2) (a : Fin 256) (b : Fin 1024) : (ins m c (pt i)).wuqr (ix2 a b) = rotary (F := Ideal) (m ((c.tc : Thread nD τ).loc main_arg7)) (ix2 a b) := blk8 m c i a b
theorem in_wuk (i : Fin 2) (a : Fin 512) (b : Fin 1024) : (ins m c (pt i)).wuk (ix2 a b) = diagonal (F := Ideal) (m ((c.tc : Thread nD τ).loc main_arg8)) (ix2 a b) := blk9 m c i a b
theorem in_tca (i : Fin 2) (r : Fin 256) (l : Fin 128) : (ins m c (pt i)).tca (ix2 r l) = ProjRows.cosTableA (ProjRows.angleA (16384 + (row i r).val % 4)) l := blk10 m c i r l
theorem in_tsau (i : Fin 2) (r : Fin 256) (l : Fin 128) : (ins m c (pt i)).tsau (ix2 r l) = ProjRows.upTableA (ProjRows.angleA (16384 + (row i r).val % 4)) l := blk11 m c i r l
theorem in_tsad (i : Fin 2) (r : Fin 256) (l : Fin 128) : (ins m c (pt i)).tsad (ix2 r l) = ProjRows.downTableA (ProjRows.angleA (16384 + (row i r).val % 4)) l := blk12 m c i r l
theorem in_tcb (i : Fin 2) (r : Fin 256) (l : Fin 128) : (ins m c (pt i)).tcb (ix2 r l) = ProjRows.cosTableB (ProjRows.angleB (16384 + (row i r).val % 4)) l := blk13 m c i r l
theorem in_tsbu (i : Fin 2) (r : Fin 256) (l : Fin 128) : (ins m c (pt i)).tsbu (ix2 r l) = ProjRows.upTableB (ProjRows.angleB (16384 + (row i r).val % 4)) l := blk14 m c i r l
theorem in_tsbd (i : Fin 2) (r : Fin 256) (l : Fin 128) : (ins m c (pt i)).tsbd (ix2 r l) = ProjRows.downTableB (ProjRows.angleB (16384 + (row i r).val % 4)) l := blk15 m c i r l

/-! ## The columns -/

/-- The columns of row `R`'s projection. -/
def cols (R : Fin 512) : Fin 4000 → EReal :=
  ProjRows.entry (fun i => m ((c.tc : Thread nD τ).loc main_arg0) (ix3 (batch R) (token R) i)) (fun i => m ((c.tc : Thread nD τ).loc main_arg3) (ix1 i)) (fun i => m ((c.tc : Thread nD τ).loc main_arg1) (ix2 (batch R) i)) (fun i => m ((c.tc : Thread nD τ).loc main_arg2) (ix2 (batch R) i)) (fun i k => m ((c.tc : Thread nD τ).loc main_arg4) (ix2 i k))

section
variable (i : Fin 2) (s : Fin 256)

theorem p_at (k : Fin 4096) : p (ins m c (pt i)) (ix2 s k)
    = ∑ j, Rows.modulated (fun l => m ((c.tc : Thread nD τ).loc main_arg0) (ix3 (batch (row i s)) (token (row i s)) l)) (fun i => m ((c.tc : Thread nD τ).loc main_arg3) (ix1 i)) (fun l => m ((c.tc : Thread nD τ).loc main_arg1) (ix2 (batch (row i s)) l)) (fun l => m ((c.tc : Thread nD τ).loc main_arg2) (ix2 (batch (row i s)) l)) j * columns (F := Ideal) (m ((c.tc : Thread nD τ).loc main_arg4)) (ix2 j k) := by
  refine (p_apply _ s k).trans ?_
  simp only [in_x m c i, in_gpre m c i, in_sc m c i, in_sh m c i, in_win m c i]

/-- The first 1920 columns are where they were. -/
theorem p_first (k : ℕ) (hk : k < 1920) : p (ins m c (pt i)) (ix2 s ⟨k, by omega⟩) = cols m c (row i s) ⟨k, by omega⟩ := by
  refine (p_at m c i s _).trans ?_
  unfold cols ProjRows.entry
  refine Finset.sum_congr rfl fun j _ => congrArg₂ (· * ·) rfl ?_
  exact (columns_apply _ j _).trans (dif_pos hk)

/-- The next 2048 come from 32 places on. -/
theorem p_gate (k : ℕ) (hk : 1920 ≤ k) (hk' : k < 3968) : p (ins m c (pt i)) (ix2 s ⟨k, by omega⟩) = cols m c (row i s) ⟨k + 32, by omega⟩ := by
  refine (p_at m c i s _).trans ?_
  unfold cols ProjRows.entry
  refine Finset.sum_congr rfl fun j _ => congrArg₂ (· * ·) rfl ?_
  exact (columns_apply _ j _).trans ((dif_neg (by show ¬ k < 1920; omega)).trans (dif_pos hk'))

/-- Then the 32 of the rotary key. -/
theorem p_rope (k : ℕ) (hk : 3968 ≤ k) (hk' : k < 4000) : p (ins m c (pt i)) (ix2 s ⟨k, by omega⟩) = cols m c (row i s) ⟨k - 2048, by omega⟩ := by
  refine (p_at m c i s _).trans ?_
  unfold cols ProjRows.entry
  refine Finset.sum_congr rfl fun j _ => congrArg₂ (· * ·) rfl ?_
  exact (columns_apply _ j _).trans ((dif_neg (by show ¬ k < 1920; omega)).trans ((dif_neg (by show ¬ k < 3968; omega)).trans (dif_pos hk')))

/-- And noughts. -/
theorem p_zero (k : ℕ) (hk : 4000 ≤ k) (hk' : k < 4096) : p (ins m c (pt i)) (ix2 s ⟨k, hk'⟩) = 0 := by
  refine (p_at m c i s _).trans (Finset.sum_eq_zero fun j _ => ?_)
  rw [(columns_apply _ j _).trans ((dif_neg (by show ¬ k < 1920; omega)).trans ((dif_neg (by show ¬ k < 3968; omega)).trans (dif_neg (by show ¬ k < 4000; omega)))), mul_zero]

/-! ## The first branch -/

theorem tablesA (Y : Fin 512 → EReal) (l : Fin 512) :
    ProjBlock.slabs Y (fun x => ca (ins m c (pt i)) (ix2 s x)) (fun x => sau (ins m c (pt i)) (ix2 s x)) (fun x => sad (ins m c (pt i)) (ix2 s x)) l
      = ProjRows.turnA (ProjRows.angleA (16384 + (row i s).val % 4)) (fun e => Y ⟨64 * (l.val / 64) + e.val, by omega⟩) ⟨l.val % 64, by omega⟩ := by
  rw [ca_eq, sau_eq, sad_eq]
  simp only [in_tca m c i, in_tsau m c i, in_tsad m c i]
  exact ProjBlock.slabs_eq _ Y l

theorem qa_at (l : Fin 512) : qa (ins m c (pt i)) (ix2 s l) = ProjRows.headsA 0 (by decide) (ProjRows.angleA (16384 + (row i s).val % 4)) (cols m c (row i s)) l := by
  rw [qa_eq, pay10_apply]
  refine (tablesA m c i s _ l).trans (congrArg (fun y => ProjRows.turnA (ProjRows.angleA (16384 + (row i s).val % 4)) y _) (funext fun e => ?_))
  refine (p_first m c i s _ (by omega)).trans (congrArg _ (Fin.ext ?_))
  show 64 * (l.val / 64) + e.val = 0 + (64 * (l.val / 64) + e.val)
  omega

theorem key_at (l : Fin 512) : key (ins m c (pt i)) (ix2 s l) = ProjRows.headsA 512 (by decide) (ProjRows.angleA (16384 + (row i s).val % 4)) (cols m c (row i s)) l := by
  rw [key_eq]
  refine (pay15_apply _ _ _ _ s l).trans ?_
  refine (tablesA m c i s _ l).trans (congrArg (fun y => ProjRows.turnA (ProjRows.angleA (16384 + (row i s).val % 4)) y _) (funext fun e => ?_))
  exact (pay11_apply _ s _).trans (p_first m c i s _ (by omega))

theorem value_at (l : Fin 512) : value (ins m c (pt i)) (ix2 s l) = cols m c (row i s) ⟨1024 + l.val, by omega⟩ := by
  rw [value_eq, pay16_apply]
  exact p_first m c i s _ (by omega)

theorem gateA_at (l : Fin 1024) : gateA (ins m c (pt i)) (ix2 s l) = cols m c (row i s) ⟨1952 + l.val, by omega⟩ := by
  rw [gateA_eq, pay17_apply]
  refine (p_gate m c i s _ (by omega) (by omega)).trans (congrArg _ (Fin.ext ?_))
  show 1920 + l.val + 32 = 1952 + l.val
  omega

theorem gateB_at (l : Fin 1024) : gateB (ins m c (pt i)) (ix2 s l) = cols m c (row i s) ⟨2976 + l.val, by omega⟩ := by
  rw [gateB_eq, pay18_apply]
  refine (p_gate m c i s _ (by omega) (by omega)).trans (congrArg _ (Fin.ext ?_))
  show 2944 + l.val + 32 = 2976 + l.val
  omega

/-! ## The second branch's keys -/

theorem latent_at (l : Fin 128) : latent (ins m c (pt i)) (ix2 s l) = ProjRows.latent (fun k => m ((c.tc : Thread nD τ).loc main_arg6) (ix1 k)) (cols m c (row i s)) l := by
  have e : kvLat (ins m c (pt i)) = k0_pay19 (p (ins m c (pt i))) := by
    unfold kvLat p k0_pay47
    rfl
  rw [latent_eq, gkv_eq, e]
  refine (pay21_apply _ _ s l).trans (congrArg₂ (fun y g => Rows.norm ProjRows.latentRank y g l) (funext fun k => ?_) (funext fun k => in_gkvr m c i k))
  exact p_first m c i s _ (by omega)

theorem tablesB (Y : Fin 128 → EReal) (l : Fin 128) :
    ProjRows.slabB Y (fun x => (ins m c (pt i)).tcb (ix2 s x)) (fun x => (ins m c (pt i)).tsbu (ix2 s x)) (fun x => (ins m c (pt i)).tsbd (ix2 s x)) l
      = ProjRows.turnB (ProjRows.angleB (16384 + (row i s).val % 4)) (fun e => Y ⟨32 * (l.val / 32) + e.val, by omega⟩) ⟨l.val % 32, by omega⟩ := by
  simp only [in_tcb m c i, in_tsbu m c i, in_tsbd m c i]
  exact ProjRows.slabB_eq _ Y l

theorem tables_first (Y : Fin 128 → EReal) (y : Fin 32 → EReal) (h : ∀ x : Fin 128, Y x = if hx : x.val < 32 then y ⟨x.val, hx⟩ else 0) (l : Fin 128) :
    ProjRows.slabB Y (fun x => (ins m c (pt i)).tcb (ix2 s x)) (fun x => (ins m c (pt i)).tsbu (ix2 s x)) (fun x => (ins m c (pt i)).tsbd (ix2 s x)) l
      = if hl : l.val < 32 then ProjRows.turnB (ProjRows.angleB (16384 + (row i s).val % 4)) y ⟨l.val, hl⟩ else 0 :=
  (tablesB m c i s Y l).trans (ProjPoint.first_group (ProjRows.angleB (16384 + (row i s).val % 4)) Y y h l)

theorem rope_slab (l : Fin 128) : k0_pay22 (p (ins m c (pt i))) (cb (ins m c (pt i))) (sbu (ins m c (pt i))) (sbd (ins m c (pt i))) (ix2 s l)
    = if hl : l.val < 32 then ProjRows.keyRope (ProjRows.angleB (16384 + (row i s).val % 4)) (cols m c (row i s)) ⟨l.val, hl⟩ else 0 := by
  rw [pay22_apply, cb_eq, sbu_eq, sbd_eq]
  refine tables_first m c i s (fun x => p (ins m c (pt i)) (ix2 s ⟨3968 + x.val, by omega⟩)) (fun e => cols m c (row i s) ⟨1920 + e.val, by omega⟩) (fun x => ?_) l
  by_cases hx : x.val < 32
  · rw [dif_pos hx]
    refine (p_rope m c i s _ (by omega) (by omega)).trans (congrArg _ (Fin.ext ?_))
    show 3968 + x.val - 2048 = 1920 + x.val
    omega
  · rw [dif_neg hx]
    exact p_zero m c i s _ (by omega) (by omega)

theorem keyRope_at (l : Fin 32) : keyRope (ins m c (pt i)) (ix2 s l) = ProjRows.keyRope (ProjRows.angleB (16384 + (row i s).val % 4)) (cols m c (row i s)) l := by
  rw [keyRope_eq, pay23_apply, rope_slab]
  exact dif_pos l.isLt

theorem keys_at (l : Fin 256) : keys (ins m c (pt i)) (ix2 s l) = ProjRows.key (ProjRows.angleB (16384 + (row i s).val % 4)) (fun k => m ((c.tc : Thread nD τ).loc main_arg6) (ix1 k)) (cols m c (row i s)) l := by
  rw [keys_eq, pay24_apply]
  unfold ProjRows.key
  by_cases h : l.val < 128
  · rw [dif_pos h, dif_pos h, ← latent_eq]
    exact latent_at m c i s _
  · rw [dif_neg h, dif_neg h, rope_slab]
    by_cases h' : l.val < 160
    · rw [dif_pos h', if_neg (by omega)]
      exact dif_pos (by show l.val - 128 < 32; omega)
    · rw [dif_neg h']
      refine if_congr Iff.rfl rfl (dif_neg ?_)
      show ¬ l.val - 128 < 32
      omega

/-! ## The second branch's queries -/

/-- The query weights by heads' columns, and the keys' weights. -/
abbrev wq (j : Fin 256) (k : Fin 768) : EReal := m ((c.tc : Thread nD τ).loc main_arg7) (ix2 j k)
abbrev wk (a : Fin 128) (h : Fin 8) (n : Fin 64) : EReal := m ((c.tc : Thread nD τ).loc main_arg8) (ix3 a h n)
/-- Row `R`'s query latent. -/
abbrev ql (R : Fin 512) : Fin 256 → EReal := ProjRows.queryLatent (fun k => m ((c.tc : Thread nD τ).loc main_arg5) (ix1 k)) (cols m c R)

theorem queryLatent_at (j : Fin 256) :
    Rows.norm ProjRows.queryRank (fun k => p (ins m c (pt i)) (ix2 s ⟨1536 + k.val, by omega⟩)) (fun k => (ins m c (pt i)).gqr (ix2 0 k)) j = ql m c (row i s) j :=
  congrArg₂ (fun y g => Rows.norm ProjRows.queryRank y g j) (funext fun k => p_first m c i s _ (by omega)) (funext fun k => in_gqr m c i k)

/-- Head `h`'s slab of the rotary part: the head's last 32 lanes, then noughts. -/
theorem qRope_at (h : Fin 8) (x : Fin 128) : qRope (ins m c (pt i)) (ix2 s ⟨128 * h.val + x.val, by omega⟩)
    = if hx : x.val < 32 then ProjRows.head (ql m c (row i s)) (wq m c) h ⟨64 + x.val, by omega⟩ else 0 := by
  refine (qRope_apply _ s _).trans ?_
  have e : ∀ j : Fin 256, (ins m c (pt i)).wuqr (ix2 j ⟨128 * h.val + x.val, by omega⟩) = if hx : x.val < 32 then wq m c j ⟨96 * h.val + (64 + x.val), by omega⟩ else 0 :=
    fun j => (in_wuqr m c i j _).trans (rotary_apply _ j h x)
  by_cases hx : x.val < 32
  · rw [dif_pos hx]
    exact Finset.sum_congr rfl fun j _ => congrArg₂ (· * ·) (queryLatent_at m c i s j) ((e j).trans (dif_pos hx))
  · rw [dif_neg hx]
    refine Finset.sum_eq_zero fun j _ => ?_
    rw [(e j).trans (dif_neg hx), mul_zero]

/-- Head `h`'s absorbed lanes: of the blocks on the diagonal only the head's own counts. -/
theorem qAbs_at (h : Fin 8) (a : Fin 128) : qAbs (ins m c (pt i)) (ix2 s ⟨128 * h.val + a.val, by omega⟩)
    = ProjRows.absorbed (ql m c (row i s)) (wq m c) (wk m c) h a := by
  refine (qAbs_apply _ s _).trans ?_
  rw [Rows.sum_blocks 8 64 rfl, Finset.sum_comm]
  refine Finset.sum_congr rfl fun n _ => ?_
  have e : ∀ g : Fin 8, (∑ j, Rows.norm ProjRows.queryRank (fun k => p (ins m c (pt i)) (ix2 s ⟨1536 + k.val, by omega⟩)) (fun k => (ins m c (pt i)).gqr (ix2 0 k)) j * (ins m c (pt i)).wuqn (ix2 j ⟨64 * g.val + n.val, by omega⟩))
        * (ins m c (pt i)).wuk (ix2 ⟨64 * g.val + n.val, by omega⟩ ⟨128 * h.val + a.val, by omega⟩)
      = ProjRows.head (ql m c (row i s)) (wq m c) g ⟨n.val, by omega⟩ * wk m c a g n * (if g = h then 1 else 0) := fun g => by
    rw [mul_assoc]
    refine congrArg₂ (· * ·) (Finset.sum_congr rfl fun j _ => congrArg₂ (· * ·) (queryLatent_at m c i s j) ?_) ?_
    · exact (in_wuqn m c i j _).trans (plain_apply _ j g n)
    · exact (in_wuk m c i _ _).trans (diagonal_apply _ g h n a)
  refine (Finset.sum_congr rfl fun g _ => e g).trans ?_
  rw [Rows.sum_diag h fun g => ProjRows.head (ql m c (row i s)) (wq m c) g ⟨n.val, by omega⟩ * wk m c a g n, mul_comm]

theorem queries_at (h : Fin 8) (l : Fin 256) : queries (ins m c (pt i)) (ix3 h s l)
    = ProjRows.query (ProjRows.angleB (16384 + (row i s).val % 4)) (ql m c (row i s)) (wq m c) (wk m c) h l := by
  refine (queries_apply _ s h l).trans (congrArg (· * _) ?_)
  by_cases hl : l.val < 128
  · rw [dif_pos hl, dif_pos hl]
    exact qAbs_at m c i s h ⟨l.val, hl⟩
  · rw [dif_neg hl, dif_neg hl]
    refine (tables_first m c i s (fun x => qRope (ins m c (pt i)) (ix2 s ⟨128 * h.val + x.val, by omega⟩)) (fun e => ProjRows.head (ql m c (row i s)) (wq m c) h ⟨64 + e.val, by omega⟩)
      (fun x => qRope_at m c i s h x) ⟨l.val - 128, by omega⟩).trans ?_
    by_cases h' : l.val < 160
    · rw [dif_pos h']
      exact dif_pos (by show l.val - 128 < 32; omega)
    · rw [dif_neg h']
      exact dif_neg (by show ¬ l.val - 128 < 32; omega)
end

end Cert.ProjSamplePoint

end
-- ==== Proof.ProjSampleArray.lean ====
/- The arrays the sample's projection call leaves, read at an index over the extended reals. -/
module

public import proofs.«01_k».proof.Proof.ProjSamplePoint
public import Idealize.ShloMosaic.Lib.Pipeline.Value
public import Idealize.ShloMosaic.Lib.Pipeline.ValueKit

@[expose] public section

set_option maxRecDepth 16384

noncomputable section

namespace Cert.ProjSampleArray

open Cert.ProjSampleIdeal Cert.ProjSampleIdeal.Gen Cert.ProjSampleHost Cert.ProjSampleBlock Cert.ProjSamplePoint
open Idealize.ShloMosaic Idealize.ShloMosaic.TcCoe Idealize.SL.Sem Idealize.ShloMosaic.Tactic Idealize.ShloMosaic.StableHlo

variable (m : (ℓ : Loc nD τ sig) → Buf (Elt Ideal) ℓ) (c : Dev nD)

/-- Every row is a row of a grid point. -/
theorem row_cases (R : Fin 512) : ∃ (i : Fin 2) (s : Fin 256), R = row i s :=
  ⟨⟨R.val / 256, by omega⟩, ⟨R.val % 256, by omega⟩, Fin.ext (by show R.val = 256 * (R.val / 256) + R.val % 256; omega)⟩

/-! ## `qa` -/

/-- What a point leaves. -/
theorem after16 (t : Fin cfg0.N) : (dats m 0 c).after 16 t = qa (ins m c t) := by
  rw [after0_16]
  unfold qa ins
  dsimp only

/-- Two points' blocks share no index. -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne ((by decide +kernel : ∀ t t' : Fin grid0.N, win0_16.index t = win0_16.index t' → t = t') t t' h)

/-- The array at an index. -/
theorem qa_array (R : Fin 512) (l : Fin 512) : (dats m 0 c).arrAt 16 cfg0.N (ix2 R l) = ProjRows.headsA 0 (by decide) (ProjRows.angleA (16384 + R.val % 4)) (cols m c R) l := by
  obtain ⟨i, s, rfl⟩ := row_cases R
  have b := congrFun ((dats m 0 c).read_blk_arrAt_eq_flushed 16 disjoint16 cfg0.N (pt i) (pt i).isLt (flush0_16 _)) (ix2 s l)
  refine Eq.trans ?_ (b.trans ?_)
  · show _ = (dats m 0 c).arrAt 16 cfg0.N (((cfg0.win 16).blk (pt i)).view.emb (ix2 s l))
    congr 1
    have e := (idx (pt i)).2.2.2.2.2.2.2.2.2.2.2.2.2.2.2.2.1
    have hp : (pt i).val = i.val := rfl
    unfold row
    blk_ext [e, hp]
  · show (cfg0.win 16).cut (grid0.coords (pt i)) ((dats m 0 c).after 16 (pt i)) (ix2 s l) = _
    rw [after16]
    exact qa_at m c i s l

/-! ## `key` -/

/-- What a point leaves. -/
theorem after17 (t : Fin cfg0.N) : (dats m 0 c).after 17 t = key (ins m c t) := by
  rw [after0_17]
  unfold key ins
  dsimp only

/-- Two points' blocks share no index. -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne ((by decide +kernel : ∀ t t' : Fin grid0.N, win0_17.index t = win0_17.index t' → t = t') t t' h)

/-- The array at an index. -/
theorem key_array (R : Fin 512) (l : Fin 512) : (dats m 0 c).arrAt 17 cfg0.N (ix2 R l) = ProjRows.headsA 512 (by decide) (ProjRows.angleA (16384 + R.val % 4)) (cols m c R) l := by
  obtain ⟨i, s, rfl⟩ := row_cases R
  have b := congrFun ((dats m 0 c).read_blk_arrAt_eq_flushed 17 disjoint17 cfg0.N (pt i) (pt i).isLt (flush0_17 _)) (ix2 s l)
  refine Eq.trans ?_ (b.trans ?_)
  · show _ = (dats m 0 c).arrAt 17 cfg0.N (((cfg0.win 17).blk (pt i)).view.emb (ix2 s l))
    congr 1
    have e := (idx (pt i)).2.2.2.2.2.2.2.2.2.2.2.2.2.2.2.2.2.1
    have hp : (pt i).val = i.val := rfl
    unfold row
    blk_ext [e, hp]
  · show (cfg0.win 17).cut (grid0.coords (pt i)) ((dats m 0 c).after 17 (pt i)) (ix2 s l) = _
    rw [after17]
    exact key_at m c i s l

/-! ## `value` -/

/-- What a point leaves. -/
theorem after18 (t : Fin cfg0.N) : (dats m 0 c).after 18 t = value (ins m c t) := by
  rw [after0_18]
  unfold value ins
  dsimp only

/-- Two points' blocks share no index. -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne ((by decide +kernel : ∀ t t' : Fin grid0.N, win0_18.index t = win0_18.index t' → t = t') t t' h)

/-- The array at an index. -/
theorem value_array (R : Fin 512) (l : Fin 512) : (dats m 0 c).arrAt 18 cfg0.N (ix2 R l) = cols m c R ⟨1024 + l.val, by omega⟩ := by
  obtain ⟨i, s, rfl⟩ := row_cases R
  have b := congrFun ((dats m 0 c).read_blk_arrAt_eq_flushed 18 disjoint18 cfg0.N (pt i) (pt i).isLt (flush0_18 _)) (ix2 s l)
  refine Eq.trans ?_ (b.trans ?_)
  · show _ = (dats m 0 c).arrAt 18 cfg0.N (((cfg0.win 18).blk (pt i)).view.emb (ix2 s l))
    congr 1
    have e := (idx (pt i)).2.2.2.2.2.2.2.2.2.2.2.2.2.2.2.2.2.2.1
    have hp : (pt i).val = i.val := rfl
    unfold row
    blk_ext [e, hp]
  · show (cfg0.win 18).cut (grid0.coords (pt i)) ((dats m 0 c).after 18 (pt i)) (ix2 s l) = _
    rw [after18]
    exact value_at m c i s l

/-! ## `latent` -/

/-- What a point leaves. -/
theorem after19 (t : Fin cfg0.N) : (dats m 0 c).after 19 t = latent (ins m c t) := by
  rw [after0_19]
  unfold latent ins
  dsimp only

/-- Two points' blocks share no index. -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne ((by decide +kernel : ∀ t t' : Fin grid0.N, win0_19.index t = win0_19.index t' → t = t') t t' h)

/-- The array at an index. -/
theorem latent_array (R : Fin 512) (l : Fin 128) : (dats m 0 c).arrAt 19 cfg0.N (ix2 R l) = ProjRows.latent (fun k => m ((c.tc : Thread nD τ).loc main_arg6) (ix1 k)) (cols m c R) l := by
  obtain ⟨i, s, rfl⟩ := row_cases R
  have b := congrFun ((dats m 0 c).read_blk_arrAt_eq_flushed 19 disjoint19 cfg0.N (pt i) (pt i).isLt (flush0_19 _)) (ix2 s l)
  refine Eq.trans ?_ (b.trans ?_)
  · show _ = (dats m 0 c).arrAt 19 cfg0.N (((cfg0.win 19).blk (pt i)).view.emb (ix2 s l))
    congr 1
    have e := (idx (pt i)).2.2.2.2.2.2.2.2.2.2.2.2.2.2.2.2.2.2.2.1
    have hp : (pt i).val = i.val := rfl
    unfold row
    blk_ext [e, hp]
  · show (cfg0.win 19).cut (grid0.coords (pt i)) ((dats m 0 c).after 19 (pt i)) (ix2 s l) = _
    rw [after19]
    exact latent_at m c i s l

/-! ## `keyRope` -/

/-- What a point leaves. -/
theorem after20 (t : Fin cfg0.N) : (dats m 0 c).after 20 t = keyRope (ins m c t) := by
  rw [after0_20]
  unfold keyRope ins
  dsimp only

/-- Two points' blocks share no index. -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne ((by decide +kernel : ∀ t t' : Fin grid0.N, win0_20.index t = win0_20.index t' → t = t') t t' h)

/-- The array at an index. -/
theorem keyRope_array (R : Fin 512) (l : Fin 32) : (dats m 0 c).arrAt 20 cfg0.N (ix2 R l) = ProjRows.keyRope (ProjRows.angleB (16384 + R.val % 4)) (cols m c R) l := by
  obtain ⟨i, s, rfl⟩ := row_cases R
  have b := congrFun ((dats m 0 c).read_blk_arrAt_eq_flushed 20 disjoint20 cfg0.N (pt i) (pt i).isLt (flush0_20 _)) (ix2 s l)
  refine Eq.trans ?_ (b.trans ?_)
  · show _ = (dats m 0 c).arrAt 20 cfg0.N (((cfg0.win 20).blk (pt i)).view.emb (ix2 s l))
    congr 1
    have e := (idx (pt i)).2.2.2.2.2.2.2.2.2.2.2.2.2.2.2.2.2.2.2.2.1
    have hp : (pt i).val = i.val := rfl
    unfold row
    blk_ext [e, hp]
  · show (cfg0.win 20).cut (grid0.coords (pt i)) ((dats m 0 c).after 20 (pt i)) (ix2 s l) = _
    rw [after20]
    exact keyRope_at m c i s l

/-! ## `gateA` -/

/-- What a point leaves. -/
theorem after21 (t : Fin cfg0.N) : (dats m 0 c).after 21 t = gateA (ins m c t) := by
  rw [after0_21]
  unfold gateA ins
  dsimp only

/-- Two points' blocks share no index. -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne ((by decide +kernel : ∀ t t' : Fin grid0.N, win0_21.index t = win0_21.index t' → t = t') t t' h)

/-- The array at an index. -/
theorem gateA_array (R : Fin 512) (l : Fin 1024) : (dats m 0 c).arrAt 21 cfg0.N (ix2 R l) = cols m c R ⟨1952 + l.val, by omega⟩ := by
  obtain ⟨i, s, rfl⟩ := row_cases R
  have b := congrFun ((dats m 0 c).read_blk_arrAt_eq_flushed 21 disjoint21 cfg0.N (pt i) (pt i).isLt (flush0_21 _)) (ix2 s l)
  refine Eq.trans ?_ (b.trans ?_)
  · show _ = (dats m 0 c).arrAt 21 cfg0.N (((cfg0.win 21).blk (pt i)).view.emb (ix2 s l))
    congr 1
    have e := (idx (pt i)).2.2.2.2.2.2.2.2.2.2.2.2.2.2.2.2.2.2.2.2.2.1
    have hp : (pt i).val = i.val := rfl
    unfold row
    blk_ext [e, hp]
  · show (cfg0.win 21).cut (grid0.coords (pt i)) ((dats m 0 c).after 21 (pt i)) (ix2 s l) = _
    rw [after21]
    exact gateA_at m c i s l

/-! ## `gateB` -/

/-- What a point leaves. -/
theorem after22 (t : Fin cfg0.N) : (dats m 0 c).after 22 t = gateB (ins m c t) := by
  rw [after0_22]
  unfold gateB ins
  dsimp only

/-- Two points' blocks share no index. -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne ((by decide +kernel : ∀ t t' : Fin grid0.N, win0_22.index t = win0_22.index t' → t = t') t t' h)

/-- The array at an index. -/
theorem gateB_array (R : Fin 512) (l : Fin 1024) : (dats m 0 c).arrAt 22 cfg0.N (ix2 R l) = cols m c R ⟨2976 + l.val, by omega⟩ := by
  obtain ⟨i, s, rfl⟩ := row_cases R
  have b := congrFun ((dats m 0 c).read_blk_arrAt_eq_flushed 22 disjoint22 cfg0.N (pt i) (pt i).isLt (flush0_22 _)) (ix2 s l)
  refine Eq.trans ?_ (b.trans ?_)
  · show _ = (dats m 0 c).arrAt 22 cfg0.N (((cfg0.win 22).blk (pt i)).view.emb (ix2 s l))
    congr 1
    have e := (idx (pt i)).2.2.2.2.2.2.2.2.2.2.2.2.2.2.2.2.2.2.2.2.2.2.1
    have hp : (pt i).val = i.val := rfl
    unfold row
    blk_ext [e, hp]
  · show (cfg0.win 22).cut (grid0.coords (pt i)) ((dats m 0 c).after 22 (pt i)) (ix2 s l) = _
    rw [after22]
    exact gateB_at m c i s l

/-! ## `queries` -/

/-- What a point leaves. -/
theorem after23 (t : Fin cfg0.N) : (dats m 0 c).after 23 t = queries (ins m c t) := by
  rw [after0_23]
  unfold queries ins
  dsimp only

/-- Two points' blocks share no index. -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne ((by decide +kernel : ∀ t t' : Fin grid0.N, win0_23.index t = win0_23.index t' → t = t') t t' h)

/-- The array at an index. -/
theorem queries_array (R : Fin 512) (h : Fin 8) (l : Fin 256) : (dats m 0 c).arrAt 23 cfg0.N (ix3 h R l) = ProjRows.query (ProjRows.angleB (16384 + R.val % 4)) (ql m c R) (wq m c) (wk m c) h l := by
  obtain ⟨i, s, rfl⟩ := row_cases R
  have b := congrFun ((dats m 0 c).read_blk_arrAt_eq_flushed 23 disjoint23 cfg0.N (pt i) (pt i).isLt (flush0_23 _)) (ix3 h s l)
  refine Eq.trans ?_ (b.trans ?_)
  · show _ = (dats m 0 c).arrAt 23 cfg0.N (((cfg0.win 23).blk (pt i)).view.emb (ix3 h s l))
    congr 1
    have e := (idx (pt i)).2.2.2.2.2.2.2.2.2.2.2.2.2.2.2.2.2.2.2.2.2.2.2.1
    have hp : (pt i).val = i.val := rfl
    unfold row
    blk_ext [e, hp]
  · show (cfg0.win 23).cut (grid0.coords (pt i)) ((dats m 0 c).after 23 (pt i)) (ix3 h s l) = _
    rw [after23]
    exact queries_at m c i s h l

/-! ## `keys` -/

/-- What a point leaves. -/
theorem after24 (t : Fin cfg0.N) : (dats m 0 c).after 24 t = keys (ins m c t) := by
  rw [after0_24]
  unfold keys ins
  dsimp only

/-- Two points' blocks share no index. -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne ((by decide +kernel : ∀ t t' : Fin grid0.N, win0_24.index t = win0_24.index t' → t = t') t t' h)

/-- The array at an index. -/
theorem keys_array (R : Fin 512) (l : Fin 256) : (dats m 0 c).arrAt 24 cfg0.N (ix2 R l) = ProjRows.key (ProjRows.angleB (16384 + R.val % 4)) (fun k => m ((c.tc : Thread nD τ).loc main_arg6) (ix1 k)) (cols m c R) l := by
  obtain ⟨i, s, rfl⟩ := row_cases R
  have b := congrFun ((dats m 0 c).read_blk_arrAt_eq_flushed 24 disjoint24 cfg0.N (pt i) (pt i).isLt (flush0_24 _)) (ix2 s l)
  refine Eq.trans ?_ (b.trans ?_)
  · show _ = (dats m 0 c).arrAt 24 cfg0.N (((cfg0.win 24).blk (pt i)).view.emb (ix2 s l))
    congr 1
    have e := (idx (pt i)).2.2.2.2.2.2.2.2.2.2.2.2.2.2.2.2.2.2.2.2.2.2.2.2
    have hp : (pt i).val = i.val := rfl
    unfold row
    blk_ext [e, hp]
  · show (cfg0.win 24).cut (grid0.coords (pt i)) ((dats m 0 c).after 24 (pt i)) (ix2 s l) = _
    rw [after24]
    exact keys_at m c i s l

end Cert.ProjSampleArray

end
-- ==== Proof.ProjSampleReference.lean ====
/- The projection the reference writes for the sample, step by step, each step read at an index over the extended reals. -/
module

public import proofs.«01_k».proof.Proof.Gen.ProjSampleRefIdeal.Run
public import proofs.«01_k».proof.Proof.ProjRows

@[expose] public section

set_option maxRecDepth 16384

noncomputable section

namespace Cert.ProjSampleReference

open Cert.ProjSampleRefIdeal Cert.ProjSampleRefIdeal.Gen
open Idealize.ShloMosaic Idealize.ShloMosaic.TcCoe Idealize.SL.Sem Idealize.ShloMosaic.Tactic Idealize.ShloMosaic.StableHlo

section
variable {F : FTy → Type} [FloatOps F]

/-- The model's norm of every row. -/
def normModel (x : FVec F S128x4x1024 .f32) (g : FVec F S1024 .f32) : FVec F S128x4x1024 .f32 :=
  mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 g))

/-- The rows normalised, scaled and shifted by their batch's modulation, times the weights: all the columns of the projection. -/
def entry (x : FVec F S128x4x1024 .f32) (sc sh : FVec F S128x1024 .f32) (g : FVec F S1024 .f32) (w : FVec F S1024x4000 .f32) : FVec F S128x4x4000 .f32 :=
  Host.dotGeneral dot_S128x4x1024_S1024x4000_S128x4x4000_2_0_01_1_n_n none (addf (mulf (normModel x g)
    (broadcastInDim S128x4x1024 ![0, 1, 2] bcast_S128x1x1024_S128x4x1024_0_1_2 (addf (broadcastInDim S128x1x1024 ![] bcast_S_S128x1x1024 (constant S_ .f32 0x3F800000#32)) (broadcastInDim S128x1x1024 ![0, 2] bcast_S128x1024_S128x1x1024_0_2 sc))))
    (broadcastInDim S128x4x1024 ![0, 1, 2] bcast_S128x1x1024_S128x4x1024_0_1_2 (broadcastInDim S128x1x1024 ![0, 2] bcast_S128x1024_S128x1x1024_0_2 sh))) w

/-- A token's place, after the 16384 rows kept from before. -/
def position : IVec S4 32 := addi (broadcastInDim S4 ![] bcast_S_S4 (constantI S_ 32 16384#32)) (iotaInDim S4 32 0)

/-- The first branch's angles: a token's place times each frequency. -/
def angleA : FVec F S4x8 .f32 :=
  mulf (broadcastInDim S4x8 ![0, 1] bcast_S4x1_S4x8_0_1 (broadcastInDim S4x1 ![0] bcast_S4_S4x1_0 (sitofp .f32 position))) (broadcastInDim S4x8 ![0, 1] bcast_S1x8_S4x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (sitofp .f32 (iotaInDim S8 32 0)) (broadcastInDim S8 ![] bcast_S_S8 (constant S_ .f32 0x41000000#32)))))))

/-- The second branch's angles. -/
def angleB : FVec F S4x16 .f32 :=
  mulf (broadcastInDim S4x16 ![0, 1] bcast_S4x1_S4x16_0_1 (broadcastInDim S4x1 ![0] bcast_S4_S4x1_0 (sitofp .f32 position))) (broadcastInDim S4x16 ![0, 1] bcast_S1x16_S4x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (Host.divf (sitofp .f32 (iotaInDim S16 32 0)) (broadcastInDim S16 ![] bcast_S_S16 (constant S_ .f32 0x41800000#32)))))))

/-- The first branch's heads by themselves. -/
def headsA (y : FVec F S128x4x512 .f32) : FVec F S128x4x8x64 .f32 := shapeCast _ y shapeCasts_S128x4x512_S128x4x8x64

/-- The first half of a head's rotated lanes, and the second. -/
def lowA (y : FVec F S128x4x8x64 .f32) : FVec F S128x4x8x8 .f32 :=
  extractStridedSlice S128x4x8x8 ![0, 0, 0, 0] (extractStridedSlice S128x4x8x16 ![0, 0, 0, 0] y slices_S128x4x8x64_S128x4x8x16_0_0_0_0) slices_S128x4x8x16_S128x4x8x8_0_0_0_0
def highA (y : FVec F S128x4x8x64 .f32) : FVec F S128x4x8x8 .f32 :=
  extractStridedSlice S128x4x8x8 ![0, 0, 0, 8] (extractStridedSlice S128x4x8x16 ![0, 0, 0, 0] y slices_S128x4x8x64_S128x4x8x16_0_0_0_0) slices_S128x4x8x16_S128x4x8x8_0_0_0_8

/-- The first branch's angles' cosines and sines, the same for every batch and head. -/
def cosA : FVec F S128x4x8x8 .f32 := broadcastInDim S128x4x8x8 ![0, 1, 2, 3] bcast_S1x4x1x8_S128x4x8x8_0_1_2_3 (broadcastInDim S1x4x1x8 ![1, 2, 3] bcast_S4x1x8_S1x4x1x8_1_2_3 (broadcastInDim S4x1x8 ![0, 2] bcast_S4x8_S4x1x8_0_2 (Host.cos angleA)))
def sinA : FVec F S128x4x8x8 .f32 := broadcastInDim S128x4x8x8 ![0, 1, 2, 3] bcast_S1x4x1x8_S128x4x8x8_0_1_2_3 (broadcastInDim S1x4x1x8 ![1, 2, 3] bcast_S4x1x8_S1x4x1x8_1_2_3 (broadcastInDim S4x1x8 ![0, 2] bcast_S4x8_S4x1x8_0_2 (Host.sin angleA)))

/-- The first branch's heads, each head's first sixteen lanes rotated. -/
def turnedA (y : FVec F S128x4x8x64 .f32) : FVec F S128x4x8x64 .f32 :=
  concatenate S128x4x8x64 3 [⟨S128x4x8x16, concatenate S128x4x8x16 3 [⟨S128x4x8x8, subf (mulf (lowA y) cosA) (mulf (highA y) sinA)⟩,
    ⟨S128x4x8x8, addf (mulf (highA y) cosA) (mulf (lowA y) sinA)⟩] concatenates_S128x4x8x8_S128x4x8x8_S128x4x8x16_d3⟩,
    ⟨S128x4x8x48, extractStridedSlice S128x4x8x48 ![0, 0, 0, 16] y slices_S128x4x8x64_S128x4x8x48_0_0_0_16⟩] concatenates_S128x4x8x16_S128x4x8x48_S128x4x8x64_d3

/-- The rows with their heads side by side. -/
def rotatedA (y : FVec F S128x4x512 .f32) : FVec F S512x512 .f32 := shapeCast _ (turnedA (headsA y)) shapeCasts_S128x4x8x64_S512x512

/-- The latent's norm. -/
def normLatent (x : FVec F S128x4x128 .f32) (g : FVec F S128 .f32) : FVec F S128x4x128 .f32 :=
  mulf (mulf x (broadcastInDim S128x4x128 ![0, 1, 2] bcast_S128x4x1_S128x4x128_0_1_2 (Host.rsqrt (addf (Host.divf (broadcastInDim S128x4x1 ![0, 1] bcast_S128x4_S128x4x1_0_1 (Host.reduceAdd (mulf x x) (constant S_ .f32 0x00000000#32) reducesTo_S128x4x128_S128x4_d2 h_S_)) (broadcastInDim S128x4x1 ![] bcast_S_S128x4x1 (constant S_ .f32 0x43000000#32))) (broadcastInDim S128x4x1 ![] bcast_S_S128x4x1 (constant S_ .f32 0x358637BD#32)))))) (broadcastInDim S128x4x128 ![0, 1, 2] bcast_S1x1x128_S128x4x128_0_1_2 (broadcastInDim S1x1x128 ![2] bcast_S128_S1x1x128_2 g))

/-- The query latent's norm. -/
def normQuery (x : FVec F S128x4x256 .f32) (g : FVec F S256 .f32) : FVec F S128x4x256 .f32 :=
  mulf (mulf x (broadcastInDim S128x4x256 ![0, 1, 2] bcast_S128x4x1_S128x4x256_0_1_2 (Host.rsqrt (addf (Host.divf (broadcastInDim S128x4x1 ![0, 1] bcast_S128x4_S128x4x1_0_1 (Host.reduceAdd (mulf x x) (constant S_ .f32 0x00000000#32) reducesTo_S128x4x256_S128x4_d2 h_S_)) (broadcastInDim S128x4x1 ![] bcast_S_S128x4x1 (constant S_ .f32 0x43800000#32))) (broadcastInDim S128x4x1 ![] bcast_S_S128x4x1 (constant S_ .f32 0x358637BD#32)))))) (broadcastInDim S128x4x256 ![0, 1, 2] bcast_S1x1x256_S128x4x256_0_1_2 (broadcastInDim S1x1x256 ![2] bcast_S256_S1x1x256_2 g))

/-- The second branch's queries by heads. -/
def headsB (u : FVec F S128x4x256 .f32) (w : FVec F S256x768 .f32) : FVec F S128x4x8x96 .f32 :=
  shapeCast _ (Host.dotGeneral dot_S128x4x256_S256x768_S128x4x768_2_0_01_1_n_n none u w) shapeCasts_S128x4x768_S128x4x8x96

/-- The queries absorbed into the latent. -/
def absorbed (y : FVec F S128x4x8x96 .f32) (w : FVec F S128x8x64 .f32) : FVec F S128x4x8x128 .f32 :=
  transpose S128x4x8x128 [2, 3, 0, 1] (Host.dotGeneral dot_S128x8x64_S128x4x8x64_S8x128x128x4_2_3_0_01_1_2 none w (extractStridedSlice S128x4x8x64 ![0, 0, 0, 0] y slices_S128x4x8x96_S128x4x8x64_0_0_0_0)) transposes_S8x128x128x4_S128x4x8x128_2_3_0_1

/-- The second branch's angles' cosines and sines, a token's. -/
def cosB : FVec F S4x1x16 .f32 := broadcastInDim S4x1x16 ![0, 2] bcast_S4x16_S4x1x16_0_2 (Host.cos angleB)
def sinB : FVec F S4x1x16 .f32 := broadcastInDim S4x1x16 ![0, 2] bcast_S4x16_S4x1x16_0_2 (Host.sin angleB)

/-- The two halves of a head's rotary lanes. -/
def lowB (y : FVec F S128x4x8x96 .f32) : FVec F S128x4x8x16 .f32 :=
  extractStridedSlice S128x4x8x16 ![0, 0, 0, 0] (extractStridedSlice S128x4x8x32 ![0, 0, 0, 64] y slices_S128x4x8x96_S128x4x8x32_0_0_0_64) slices_S128x4x8x32_S128x4x8x16_0_0_0_0
def highB (y : FVec F S128x4x8x96 .f32) : FVec F S128x4x8x16 .f32 :=
  extractStridedSlice S128x4x8x16 ![0, 0, 0, 16] (extractStridedSlice S128x4x8x32 ![0, 0, 0, 64] y slices_S128x4x8x96_S128x4x8x32_0_0_0_64) slices_S128x4x8x32_S128x4x8x16_0_0_0_16

/-- The queries' rotary part, rotated. -/
def rotatedB (y : FVec F S128x4x8x96 .f32) : FVec F S128x4x8x32 .f32 :=
  concatenate S128x4x8x32 3 [⟨S128x4x8x16, subf (mulf (lowB y) (broadcastInDim S128x4x8x16 ![0, 1, 2, 3] bcast_S1x4x1x16_S128x4x8x16_0_1_2_3 (broadcastInDim S1x4x1x16 ![1, 2, 3] bcast_S4x1x16_S1x4x1x16_1_2_3 (cosB)))) (mulf (highB y) (broadcastInDim S128x4x8x16 ![0, 1, 2, 3] bcast_S1x4x1x16_S128x4x8x16_0_1_2_3 (broadcastInDim S1x4x1x16 ![1, 2, 3] bcast_S4x1x16_S1x4x1x16_1_2_3 (sinB))))⟩,
    ⟨S128x4x8x16, addf (mulf (highB y) (broadcastInDim S128x4x8x16 ![0, 1, 2, 3] bcast_S1x4x1x16_S128x4x8x16_0_1_2_3 (broadcastInDim S1x4x1x16 ![1, 2, 3] bcast_S4x1x16_S1x4x1x16_1_2_3 (cosB)))) (mulf (lowB y) (broadcastInDim S128x4x8x16 ![0, 1, 2, 3] bcast_S1x4x1x16_S128x4x8x16_0_1_2_3 (broadcastInDim S1x4x1x16 ![1, 2, 3] bcast_S4x1x16_S1x4x1x16_1_2_3 (sinB))))⟩] concatenates_S128x4x8x16_S128x4x8x16_S128x4x8x32_d3

/-- The queries as the attention takes them, by batch, token and head: absorbed part, rotary part, noughts, scaled. -/
def scaled (y : FVec F S128x4x8x96 .f32) (w : FVec F S128x8x64 .f32) : FVec F S128x4x8x256 .f32 :=
  mulf (concatenate S128x4x8x256 3 [⟨S128x4x8x128, absorbed y w⟩, ⟨S128x4x8x32, rotatedB y⟩, ⟨S128x4x8x96, broadcastInDim S128x4x8x96 ![] bcast_S_S128x4x8x96 (constant S_ .f32 0x00000000#32)⟩] concatenates_S128x4x8x128_S128x4x8x32_S128x4x8x96_S128x4x8x256_d3)
    (broadcastInDim S128x4x8x256 ![] bcast_S_S128x4x8x256 (constant S_ .f32 0x3DD105EC#32))

/-- The queries by head and row. -/
def queries (y : FVec F S128x4x8x96 .f32) (w : FVec F S128x8x64 .f32) : FVec F S8x512x256 .bf16 :=
  truncf .bf16 (transpose S8x512x256 [1, 0, 2] (shapeCast S512x8x256 (scaled y w) shapeCasts_S128x4x8x256_S512x8x256) transposes_S512x8x256_S8x512x256_1_0_2) bitsLt_bf16_f32

/-- The keys' rotary part with a head's place, and its halves. -/
def ropeK (y : FVec F S128x4x32 .f32) : FVec F S128x4x1x32 .f32 := broadcastInDim S128x4x1x32 ![0, 1, 3] bcast_S128x4x32_S128x4x1x32_0_1_3 y
def lowK (y : FVec F S128x4x32 .f32) : FVec F S128x4x1x16 .f32 := extractStridedSlice S128x4x1x16 ![0, 0, 0, 0] (ropeK y) slices_S128x4x1x32_S128x4x1x16_0_0_0_0
def highK (y : FVec F S128x4x32 .f32) : FVec F S128x4x1x16 .f32 := extractStridedSlice S128x4x1x16 ![0, 0, 0, 16] (ropeK y) slices_S128x4x1x32_S128x4x1x16_0_0_0_16

/-- The keys' rotary part, rotated. -/
def rotatedK (y : FVec F S128x4x32 .f32) : FVec F S128x4x32 .f32 :=
  shapeCast _ (concatenate S128x4x1x32 3 [⟨S128x4x1x16, subf (mulf (lowK y) (broadcastInDim S128x4x1x16 ![0, 1, 2, 3] bcast_S1x4x1x16_S128x4x1x16_0_1_2_3 (broadcastInDim S1x4x1x16 ![1, 2, 3] bcast_S4x1x16_S1x4x1x16_1_2_3 (cosB)))) (mulf (highK y) (broadcastInDim S128x4x1x16 ![0, 1, 2, 3] bcast_S1x4x1x16_S128x4x1x16_0_1_2_3 (broadcastInDim S1x4x1x16 ![1, 2, 3] bcast_S4x1x16_S1x4x1x16_1_2_3 (sinB))))⟩,
    ⟨S128x4x1x16, addf (mulf (highK y) (broadcastInDim S128x4x1x16 ![0, 1, 2, 3] bcast_S1x4x1x16_S128x4x1x16_0_1_2_3 (broadcastInDim S1x4x1x16 ![1, 2, 3] bcast_S4x1x16_S1x4x1x16_1_2_3 (cosB)))) (mulf (lowK y) (broadcastInDim S128x4x1x16 ![0, 1, 2, 3] bcast_S1x4x1x16_S128x4x1x16_0_1_2_3 (broadcastInDim S1x4x1x16 ![1, 2, 3] bcast_S4x1x16_S1x4x1x16_1_2_3 (sinB))))⟩] concatenates_S128x4x1x16_S128x4x1x16_S128x4x1x32_d3) shapeCasts_S128x4x1x32_S128x4x32

/-- The keys as the attention takes them: the latent, the rotary part, a one, noughts. -/
def joined (y : FVec F S128x4x128 .f32) (z : FVec F S128x4x32 .f32) : FVec F S128x4x256 .f32 :=
  concatenate S128x4x256 2 [⟨S128x4x128, y⟩, ⟨S128x4x32, z⟩, ⟨S128x4x1, broadcastInDim S128x4x1 ![] bcast_S_S128x4x1 (constant S_ .f32 0x3F800000#32)⟩,
    ⟨S128x4x95, broadcastInDim S128x4x95 ![] bcast_S_S128x4x95 (constant S_ .f32 0x00000000#32)⟩] concatenates_S128x4x128_S128x4x32_S128x4x1_S128x4x95_S128x4x256_d2

/-- The keys by row. -/
def keys (y : FVec F S128x4x128 .f32) (z : FVec F S128x4x32 .f32) : FVec F S512x256 .bf16 :=
  truncf .bf16 (shapeCast S512x256 (joined y z) shapeCasts_S128x4x256_S512x256) bitsLt_bf16_f32
end

section
variable (b : Fin 128) (t : Fin 4)

theorem normModel_apply (x : FVec Ideal S128x4x1024 .f32) (g : FVec Ideal S1024 .f32) (k : Fin 1024) :
    normModel x g (ix3 b t k) = Rows.norm Rows.model (fun k => x (ix3 b t k)) (fun k => g (ix1 k)) k := by
  pointwise [normModel]
  rfl

theorem entry_apply (x : FVec Ideal S128x4x1024 .f32) (sc sh : FVec Ideal S128x1024 .f32) (g : FVec Ideal S1024 .f32) (w : FVec Ideal S1024x4000 .f32) (k : Fin 4000) :
    entry x sc sh g w (ix3 b t k) = ProjRows.entry (fun i => x (ix3 b t i)) (fun i => g (ix1 i)) (fun i => sc (ix2 b i)) (fun i => sh (ix2 b i)) (fun i k => w (ix2 i k)) k := by
  pointwise [entry, normModel_apply]
  rfl

theorem position_apply : position (ix1 t) = BitVec.ofNat 32 (16384 + t.val) := by
  refine Eq.trans ?_ (BitVec.ofNat_add 16384 t.val).symm
  pointwise [position]
  rfl

theorem angleA_apply (j : Fin 8) : angleA (F := Ideal) (ix2 t j) = ProjRows.angleA (16384 + t.val) j.val := by
  pointwise [angleA, position_apply]
  rfl

theorem angleB_apply (j : Fin 16) : angleB (F := Ideal) (ix2 t j) = ProjRows.angleB (16384 + t.val) j.val := by
  pointwise [angleB, position_apply]
  rfl

theorem headsA_apply (y : FVec Ideal S128x4x512 .f32) (h : Fin 8) (e : Fin 64) : headsA y (ix4 b t h e) = y (ix3 b t ⟨64 * h.val + e.val, by omega⟩) := by
  pointwise [headsA]
  refine congrArg (fun i => y (ix3 b t i)) (Fin.ext ?_)
  show h.val * 64 + e.val = 64 * h.val + e.val
  omega

set_option maxHeartbeats 2000000 in
theorem turnedA_apply (y : FVec Ideal S128x4x8x64 .f32) (h : Fin 8) (k : Fin 64) :
    turnedA y (ix4 b t h k) = ProjRows.turnA (ProjRows.angleA (16384 + t.val)) (fun e => y (ix4 b t h e)) k := by
  have at_eq : ∀ (p q : ℕ) (hp : p < 64) (hq : q < 64), p = q → y (ix4 b t h ⟨p, hp⟩) = y (ix4 b t h ⟨q, hq⟩) := by
    intro p q hp hq e; subst e; rfl
  pointwise [turnedA, cosA, sinA, lowA, highA]
  simp only [angleA_apply]
  generalize ProjRows.angleA (16384 + t.val) = s
  unfold ProjRows.turnA
  dsimp only
  by_cases h1 : k.val < 8
  · have h2 : k.val < 16 := by omega
    simp only [dif_pos h1, dif_pos h2]
    exact congrArg₂ (fun p q => p * Ideal.cos (s k.val) - q * Ideal.sin (s k.val)) rfl (at_eq (8 + k.val) (k.val + 8) (by omega) (by omega) (by omega))
  · by_cases h2 : k.val < 16
    · simp only [dif_pos h2, dif_neg h1]
      exact congrArg₂ (fun p q => p * Ideal.cos (s (k.val - 8)) + q * Ideal.sin (s (k.val - 8))) (at_eq (8 + (k.val - 8)) k.val (by omega) (by omega) (by omega)) rfl
    · simp only [dif_neg h2, dif_neg h1]
      exact at_eq (16 + (k.val - 16)) k.val (by omega) (by omega) (by omega)

theorem normLatent_apply (x : FVec Ideal S128x4x128 .f32) (g : FVec Ideal S128 .f32) (k : Fin 128) :
    normLatent x g (ix3 b t k) = Rows.norm ProjRows.latentRank (fun k => x (ix3 b t k)) (fun k => g (ix1 k)) k := by
  pointwise [normLatent]
  rfl

theorem normQuery_apply (x : FVec Ideal S128x4x256 .f32) (g : FVec Ideal S256 .f32) (k : Fin 256) :
    normQuery x g (ix3 b t k) = Rows.norm ProjRows.queryRank (fun k => x (ix3 b t k)) (fun k => g (ix1 k)) k := by
  pointwise [normQuery]
  rfl

theorem headsB_apply (u : FVec Ideal S128x4x256 .f32) (w : FVec Ideal S256x768 .f32) (h : Fin 8) (k : Fin 96) :
    headsB u w (ix4 b t h k) = ProjRows.head (fun j => u (ix3 b t j)) (fun j k => w (ix2 j k)) h k := by
  pointwise [headsB]
  refine Finset.sum_congr rfl fun j _ => congrArg₂ (· * ·) rfl (congrArg (fun i => w (ix2 j i)) (Fin.ext ?_))
  show h.val * 96 + k.val = 96 * h.val + k.val
  omega

set_option maxHeartbeats 2000000 in
theorem scaled_apply (y : FVec Ideal S128x4x8x96 .f32) (w : FVec Ideal S128x8x64 .f32) (h : Fin 8) (l : Fin 256) :
    scaled y w (ix4 b t h l) = (if hl : l.val < 128 then ∑ n : Fin 64, w (ix3 ⟨l.val, hl⟩ h n) * y (ix4 b t h ⟨n.val, by omega⟩)
      else if hl : l.val < 160 then ProjRows.turnB (ProjRows.angleB (16384 + t.val)) (fun e => y (ix4 b t h ⟨64 + e.val, by omega⟩)) ⟨l.val - 128, by omega⟩ else 0)
        * Ideal.ofBits .f32 0x3DD105EC#32 := by
  have at_eq : ∀ (p q : ℕ) (hp : p < 96) (hq : q < 96), p = q → y (ix4 b t h ⟨p, hp⟩) = y (ix4 b t h ⟨q, hq⟩) := by
    intro p q hp hq e; subst e; rfl
  pointwise [scaled, absorbed, rotatedB, cosB, sinB, lowB, highB]
  simp only [angleB_apply]
  generalize ProjRows.angleB (16384 + t.val) = s
  refine congrArg₂ (· * ·) ?_ rfl
  by_cases h1 : l.val < 128
  · rw [dif_pos h1, dif_pos h1]
  · rw [dif_neg h1, dif_neg h1]
    by_cases h2 : l.val < 160
    · rw [dif_pos (by omega), dif_pos h2]
      unfold ProjRows.turnB
      dsimp only
      by_cases h3 : l.val - 128 < 16
      · rw [dif_pos h3, dif_pos h3]
        rw [at_eq (64 + (l.val - 128 + 16)) (64 + (16 + (l.val - 128))) (by omega) (by omega) (by omega)]
      · rw [dif_neg h3, dif_neg h3]
        rw [at_eq (64 + (16 + (l.val - 128 - 16))) (64 + (l.val - 128)) (by omega) (by omega) (by omega)]
    · rw [dif_neg (by omega), dif_neg h2]

theorem rotatedK_apply (z : FVec Ideal S128x4x32 .f32) (k : Fin 32) :
    rotatedK z (ix3 b t k) = ProjRows.turnB (ProjRows.angleB (16384 + t.val)) (fun e => z (ix3 b t e)) k := by
  have at_eq : ∀ (p q : ℕ) (hp : p < 32) (hq : q < 32), p = q → z (ix3 b t ⟨p, hp⟩) = z (ix3 b t ⟨q, hq⟩) := by
    intro p q hp hq e; subst e; rfl
  pointwise [rotatedK, lowK, highK, ropeK, cosB, sinB]
  simp only [angleB_apply]
  generalize ProjRows.angleB (16384 + t.val) = s
  unfold ProjRows.turnB
  by_cases h : k.val < 16
  · rw [dif_pos h, dif_pos h]
    exact congrArg₂ (· - ·) rfl (congrArg₂ (· * ·) (at_eq _ _ _ _ (by omega)) rfl)
  · rw [dif_neg h, dif_neg h]
    exact congrArg₂ (· + ·) (congrArg₂ (· * ·) (at_eq _ _ _ k.isLt (by omega)) rfl) rfl

theorem joined_apply (y : FVec Ideal S128x4x128 .f32) (z : FVec Ideal S128x4x32 .f32) (k : Fin 256) :
    joined y z (ix3 b t k) = if h : k.val < 128 then y (ix3 b t ⟨k.val, h⟩) else if h : k.val < 160 then z (ix3 b t ⟨k.val - 128, by omega⟩) else if k.val = 160 then 1 else 0 := by
  pointwise [joined]
  by_cases h1 : k.val < 128
  · rw [dif_pos h1, dif_pos h1]
  · rw [dif_neg h1, dif_neg h1]
    by_cases h2 : k.val < 160
    · rw [dif_pos (by omega), dif_pos h2]
    · rw [dif_neg (by omega), dif_neg h2]
      by_cases h3 : k.val = 160
      · simp [h3]
      · rw [if_neg h3]
        split
        · omega
        · rfl
end

/-! ## The results -/

section
variable {F : FTy → Type} [FloatOps F] (P : FVec F S128x4x4000 .f32)

/-- The second branch's queries by heads, of the projection's columns. -/
def queryHeads (g : FVec F S256 .f32) (w : FVec F S256x768 .f32) : FVec F S128x4x8x96 .f32 :=
  headsB (normQuery (extractStridedSlice S128x4x256 ![0, 0, 1536] P slices_S128x4x4000_S128x4x256_0_0_1536) g) w

/-- The latent and the rotary key, of the projection's columns. -/
def latent (g : FVec F S128 .f32) : FVec F S128x4x128 .f32 := normLatent (extractStridedSlice S128x4x128 ![0, 0, 1792] P slices_S128x4x4000_S128x4x128_0_0_1792) g
def keyRope : FVec F S128x4x32 .f32 := rotatedK (extractStridedSlice S128x4x32 ![0, 0, 1920] P slices_S128x4x4000_S128x4x32_0_0_1920)

/-- The nine results, of the projection's columns. -/
def result0 : FVec F S512x512 .f32 := rotatedA (extractStridedSlice S128x4x512 ![0, 0, 0] P slices_S128x4x4000_S128x4x512_0_0_0)
def result1 : FVec F S512x512 .f32 := rotatedA (extractStridedSlice S128x4x512 ![0, 0, 512] P slices_S128x4x4000_S128x4x512_0_0_512)
def result2 : FVec F S512x512 .f32 := shapeCast _ (extractStridedSlice S128x4x512 ![0, 0, 1024] P slices_S128x4x4000_S128x4x512_0_0_1024) shapeCasts_S128x4x512_S512x512
def result3 (g : FVec F S128 .f32) : FVec F S512x128 .f32 := shapeCast _ (latent P g) shapeCasts_S128x4x128_S512x128
def result4 : FVec F S512x32 .f32 := shapeCast _ (keyRope P) shapeCasts_S128x4x32_S512x32
def result5 : FVec F S512x1024 .f32 := shapeCast _ (extractStridedSlice S128x4x1024 ![0, 0, 1952] P slices_S128x4x4000_S128x4x1024_0_0_1952) shapeCasts_S128x4x1024_S512x1024
def result6 : FVec F S512x1024 .f32 := shapeCast _ (extractStridedSlice S128x4x1024 ![0, 0, 2976] P slices_S128x4x4000_S128x4x1024_0_0_2976) shapeCasts_S128x4x1024_S512x1024
def result7 (g : FVec F S256 .f32) (w : FVec F S256x768 .f32) (v : FVec F S128x8x64 .f32) : FVec F S8x512x256 .bf16 := queries (queryHeads P g w) v
def result8 (g : FVec F S128 .f32) : FVec F S512x256 .bf16 := keys (latent P g) (keyRope P)

/-- The projection's columns, of the arguments. -/
def columns (m : (ℓ : Loc nD τ sig) → Buf (Elt F) ℓ) (c : Dev nD) : FVec F S128x4x4000 .f32 :=
  entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- Every run of the reference ends with the nine results, and the arguments unchanged. -/
theorem results (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v218) = result0 (columns m c)
      ∧ r.2.mem ((c.tc : Thread nD τ).loc main_v219) = result1 (columns m c)
      ∧ r.2.mem ((c.tc : Thread nD τ).loc main_v220) = result2 (columns m c)
      ∧ r.2.mem ((c.tc : Thread nD τ).loc main_v221) = result3 (columns m c) (m ((c.tc : Thread nD τ).loc main_arg6))
      ∧ r.2.mem ((c.tc : Thread nD τ).loc main_v222) = result4 (columns m c)
      ∧ r.2.mem ((c.tc : Thread nD τ).loc main_v223) = result5 (columns m c)
      ∧ r.2.mem ((c.tc : Thread nD τ).loc main_v224) = result6 (columns m c)
      ∧ r.2.mem ((c.tc : Thread nD τ).loc main_v227) = result7 (columns m c) (m ((c.tc : Thread nD τ).loc main_arg5)) (m ((c.tc : Thread nD τ).loc main_arg7)) (m ((c.tc : Thread nD τ).loc main_arg8))
      ∧ r.2.mem ((c.tc : Thread nD τ).loc main_v229) = result8 (columns m c) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Value.run (F := F) m ρ
end

section
variable (P : FVec Ideal S128x4x4000 .f32) (r : Fin 512)

/-- Row `r`'s batch and token. -/
abbrev batch : Fin 128 := ⟨r.val / 4, by omega⟩
abbrev token : Fin 4 := ⟨r.val % 4, by omega⟩

/-- A row's columns. -/
abbrev colsOf (k : Fin 4000) : EReal := P (ix3 (batch r) (token r) k)

theorem rotatedA_apply (y : FVec Ideal S128x4x512 .f32) (l : Fin 512) :
    rotatedA y (ix2 r l) = ProjRows.turnA (ProjRows.angleA (16384 + r.val % 4)) (fun e => y (ix3 (batch r) (token r) ⟨64 * (l.val / 64) + e.val, by omega⟩)) ⟨l.val % 64, by omega⟩ := by
  have e : rotatedA y (ix2 r l) = turnedA (headsA y) (ix4 (batch r) (token r) ⟨l.val / 64, by omega⟩ ⟨l.val % 64, by omega⟩) := by
    unfold rotatedA
    generalize turnedA (headsA y) = z
    pointwise []
  rw [e, turnedA_apply]
  exact congrArg (fun y => ProjRows.turnA (ProjRows.angleA (16384 + r.val % 4)) y _) (funext fun e => headsA_apply _ _ y _ e)

theorem result0_apply (l : Fin 512) : result0 P (ix2 r l) = ProjRows.headsA 0 (by decide) (ProjRows.angleA (16384 + r.val % 4)) (colsOf P r) l := by
  refine (rotatedA_apply r _ l).trans (congrArg (fun y => ProjRows.turnA (ProjRows.angleA (16384 + r.val % 4)) y _) (funext fun e => ?_))
  pointwise []

theorem result1_apply (l : Fin 512) : result1 P (ix2 r l) = ProjRows.headsA 512 (by decide) (ProjRows.angleA (16384 + r.val % 4)) (colsOf P r) l := by
  refine (rotatedA_apply r _ l).trans (congrArg (fun y => ProjRows.turnA (ProjRows.angleA (16384 + r.val % 4)) y _) (funext fun e => ?_))
  pointwise []

theorem result2_apply (l : Fin 512) : result2 P (ix2 r l) = colsOf P r ⟨1024 + l.val, by omega⟩ := by
  pointwise [result2]

theorem latent_apply (b : Fin 128) (t : Fin 4) (g : FVec Ideal S128 .f32) (l : Fin 128) : latent P g (ix3 b t l) = ProjRows.latent (fun k => g (ix1 k)) (fun k => P (ix3 b t k)) l := by
  refine (normLatent_apply b t _ g l).trans (congrArg (fun y => Rows.norm ProjRows.latentRank y _ l) (funext fun e => ?_))
  pointwise []

theorem keyRope_apply (b : Fin 128) (t : Fin 4) (l : Fin 32) : keyRope P (ix3 b t l) = ProjRows.keyRope (ProjRows.angleB (16384 + t.val)) (fun k => P (ix3 b t k)) l := by
  refine (rotatedK_apply b t _ l).trans (congrArg (fun y => ProjRows.turnB (ProjRows.angleB (16384 + t.val)) y l) (funext fun e => ?_))
  pointwise []

theorem result3_apply (g : FVec Ideal S128 .f32) (l : Fin 128) : result3 P g (ix2 r l) = ProjRows.latent (fun k => g (ix1 k)) (colsOf P r) l := by
  refine Eq.trans ?_ (latent_apply P (batch r) (token r) g l)
  unfold result3
  generalize latent P g = z
  pointwise []

theorem result4_apply (l : Fin 32) : result4 P (ix2 r l) = ProjRows.keyRope (ProjRows.angleB (16384 + r.val % 4)) (colsOf P r) l := by
  refine Eq.trans ?_ (keyRope_apply P (batch r) (token r) l)
  unfold result4
  generalize keyRope P = z
  pointwise []

theorem result5_apply (l : Fin 1024) : result5 P (ix2 r l) = colsOf P r ⟨1952 + l.val, by omega⟩ := by
  pointwise [result5]

theorem result6_apply (l : Fin 1024) : result6 P (ix2 r l) = colsOf P r ⟨2976 + l.val, by omega⟩ := by
  pointwise [result6]

theorem queryHeads_apply (b : Fin 128) (t : Fin 4) (g : FVec Ideal S256 .f32) (w : FVec Ideal S256x768 .f32) (h : Fin 8) (k : Fin 96) :
    queryHeads P g w (ix4 b t h k) = ProjRows.head (ProjRows.queryLatent (fun k => g (ix1 k)) (fun k => P (ix3 b t k))) (fun j k => w (ix2 j k)) h k := by
  refine (headsB_apply b t _ w h k).trans (congrArg (fun u => ProjRows.head u _ h k) (funext fun j => ?_))
  refine (normQuery_apply b t _ g j).trans (congrArg (fun y => Rows.norm ProjRows.queryRank y _ j) (funext fun e => ?_))
  pointwise []

theorem queries_apply (y : FVec Ideal S128x4x8x96 .f32) (w : FVec Ideal S128x8x64 .f32) (h : Fin 8) (l : Fin 256) :
    queries y w (ix3 h r l) = scaled y w (ix4 (batch r) (token r) h l) := by
  unfold queries
  generalize scaled y w = z
  pointwise []

theorem keys_apply (y : FVec Ideal S128x4x128 .f32) (z : FVec Ideal S128x4x32 .f32) (l : Fin 256) : keys y z (ix2 r l) = joined y z (ix3 (batch r) (token r) l) := by
  unfold keys
  generalize joined y z = z
  pointwise []

theorem result7_apply (g : FVec Ideal S256 .f32) (w : FVec Ideal S256x768 .f32) (v : FVec Ideal S128x8x64 .f32) (h : Fin 8) (l : Fin 256) :
    result7 P g w v (ix3 h r l) = ProjRows.query (ProjRows.angleB (16384 + r.val % 4)) (ProjRows.queryLatent (fun k => g (ix1 k)) (colsOf P r)) (fun j k => w (ix2 j k)) (fun c h n => v (ix3 c h n)) h l := by
  refine (queries_apply r _ v h l).trans ((scaled_apply _ _ _ v h l).trans ?_)
  simp only [queryHeads_apply]
  rfl

theorem result8_apply (g : FVec Ideal S128 .f32) (l : Fin 256) :
    result8 P g (ix2 r l) = ProjRows.key (ProjRows.angleB (16384 + r.val % 4)) (fun k => g (ix1 k)) (colsOf P r) l := by
  refine (keys_apply r _ _ l).trans ((joined_apply _ _ _ _ l).trans ?_)
  simp only [latent_apply, keyRope_apply]
  rfl
end

end Cert.ProjSampleReference

end
-- ==== Proof.ProjSampleClaims.lean ====
/- The claims about the sample's projection call. -/
module

public import proofs.«01_k».proof.Defs
public import proofs.«01_k».proof.Proof.Gen.ProjSample.Frame
public import proofs.«01_k».proof.Proof.Gen.ProjSampleIdeal.Frame
public import proofs.«01_k».proof.Proof.Gen.ProjSampleIdeal.Value
public import proofs.«01_k».proof.Proof.ProjClaims
public import proofs.«01_k».proof.Proof.ProjSampleArray
public import proofs.«01_k».proof.Proof.ProjSampleReference
public import Idealize.ShloMosaic.Lib.Quiescent

@[expose] public section

noncomputable section

namespace Cert.ProjSampleClaims

open Idealize.ShloMosaic Idealize.ShloMosaic.TcCoe Idealize.SL.Sem

/-- The kernel runs on the machine's numbers, leaving its arguments and every semaphore at rest. -/
theorem frame : Cert.quiescent_ProjSample := fun m ρ _ => Cert.ProjSample.Gen.frame m ρ

/-- So does the kernel over the extended reals. -/
theorem frameIdeal : Cert.quiescent_ProjSampleIdeal := fun m ρ _ => Cert.ProjSampleIdeal.Gen.frame m ρ

/-- The reference runs over the extended reals, leaving its arguments. -/
theorem frameRef : Cert.quiescent_ProjSampleRefIdeal := fun m ρ _ =>
  (θ_run Cert.ProjSampleRefIdeal.defs _ _).mono (fun r h => ⟨fun c => (h c).2.2.2.2.2.2.2.2.2, sem_eq_zero_of_no_sems (by decide) r.2⟩)
    (Cert.ProjSampleReference.results (F := Ideal) m ρ)

/-- Nothing is rewritten. -/
theorem preserves : Cert.preserves_ProjSample_ProjSampleIdeal := trivial

section
variable (m : (ℓ : Loc Cert.ProjSampleIdeal.nD Cert.ProjSampleIdeal.τ Cert.ProjSampleIdeal.sig) → Buf (Elt Ideal) ℓ)
  (m' : (ℓ : Loc Cert.ProjSampleRefIdeal.nD Cert.ProjSampleRefIdeal.τ Cert.ProjSampleRefIdeal.sig) → Buf (Elt Ideal) ℓ) (c : Dev Cert.ProjSampleIdeal.nD)

/-- The kernel's arguments, as the reference names them. -/
def Same : Prop :=
  m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
  ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
  ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
  ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
  ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)
  ∧ m' ((c.tc : Thread Cert.ProjSampleRefIdeal.nD Cert.ProjSampleRefIdeal.τ).loc Cert.ProjSampleRefIdeal.main_arg5) = m ((c.tc : Thread Cert.ProjSampleIdeal.nD Cert.ProjSampleIdeal.τ).loc Cert.ProjSampleIdeal.main_arg5)
  ∧ m' ((c.tc : Thread Cert.ProjSampleRefIdeal.nD Cert.ProjSampleRefIdeal.τ).loc Cert.ProjSampleRefIdeal.main_arg6) = m ((c.tc : Thread Cert.ProjSampleIdeal.nD Cert.ProjSampleIdeal.τ).loc Cert.ProjSampleIdeal.main_arg6)
  ∧ m' ((c.tc : Thread Cert.ProjSampleRefIdeal.nD Cert.ProjSampleRefIdeal.τ).loc Cert.ProjSampleRefIdeal.main_arg7) = m ((c.tc : Thread Cert.ProjSampleIdeal.nD Cert.ProjSampleIdeal.τ).loc Cert.ProjSampleIdeal.main_arg7)
  ∧ m' ((c.tc : Thread Cert.ProjSampleRefIdeal.nD Cert.ProjSampleRefIdeal.τ).loc Cert.ProjSampleRefIdeal.main_arg8) = m ((c.tc : Thread Cert.ProjSampleIdeal.nD Cert.ProjSampleIdeal.τ).loc Cert.ProjSampleIdeal.main_arg8)

/-- The reference's columns are the kernel's. -/
theorem columns_eq (h : Same m m' c) (R : Fin 512) : (fun k => Cert.ProjSampleReference.columns (F := Ideal) m' c (ix3 (Cert.ProjSamplePoint.batch R) (Cert.ProjSamplePoint.token R) k)) = Cert.ProjSamplePoint.cols m c R := by
  obtain ⟨e0, e1, e2, e3, e4, _⟩ := h
  funext k
  refine (Cert.ProjSampleReference.entry_apply (Cert.ProjSamplePoint.batch R) (Cert.ProjSamplePoint.token R) _ _ _ _ _ k).trans ?_
  rw [e0, e1, e2, e3, e4]
  rfl

/-- Result 0. -/
theorem same0 (e : Same m m' c) : Cert.ProjSampleReference.result0 (F := Ideal) (Cert.ProjSampleReference.columns m' c)  = (Cert.ProjSampleIdeal.Gen.dats m 0 c).arrAt 16 Cert.ProjSampleIdeal.cfg0.N := by
  funext j
  obtain ⟨R, l, rfl⟩ := Cert.ProjClaims.pair j
  exact (Cert.ProjSampleReference.result0_apply _ R l).trans ((congrArg (fun P : Fin 4000 → EReal => ProjRows.headsA 0 (by decide) (ProjRows.angleA (16384 + R.val % 4)) P l) (columns_eq m m' c e R)).trans (Cert.ProjSampleArray.qa_array m c R l).symm)

/-- Result 1. -/
theorem same1 (e : Same m m' c) : Cert.ProjSampleReference.result1 (F := Ideal) (Cert.ProjSampleReference.columns m' c)  = (Cert.ProjSampleIdeal.Gen.dats m 0 c).arrAt 17 Cert.ProjSampleIdeal.cfg0.N := by
  funext j
  obtain ⟨R, l, rfl⟩ := Cert.ProjClaims.pair j
  exact (Cert.ProjSampleReference.result1_apply _ R l).trans ((congrArg (fun P : Fin 4000 → EReal => ProjRows.headsA 512 (by decide) (ProjRows.angleA (16384 + R.val % 4)) P l) (columns_eq m m' c e R)).trans (Cert.ProjSampleArray.key_array m c R l).symm)

/-- Result 2. -/
theorem same2 (e : Same m m' c) : Cert.ProjSampleReference.result2 (F := Ideal) (Cert.ProjSampleReference.columns m' c)  = (Cert.ProjSampleIdeal.Gen.dats m 0 c).arrAt 18 Cert.ProjSampleIdeal.cfg0.N := by
  funext j
  obtain ⟨R, l, rfl⟩ := Cert.ProjClaims.pair j
  exact (Cert.ProjSampleReference.result2_apply _ R l).trans ((congrArg (fun P : Fin 4000 → EReal => P ⟨1024 + l.val, by omega⟩) (columns_eq m m' c e R)).trans (Cert.ProjSampleArray.value_array m c R l).symm)

/-- Result 3. -/
theorem same3 (e : Same m m' c) : Cert.ProjSampleReference.result3 (F := Ideal) (Cert.ProjSampleReference.columns m' c) (m' ((c.tc : Thread Cert.ProjSampleRefIdeal.nD Cert.ProjSampleRefIdeal.τ).loc Cert.ProjSampleRefIdeal.main_arg6)) = (Cert.ProjSampleIdeal.Gen.dats m 0 c).arrAt 19 Cert.ProjSampleIdeal.cfg0.N := by
  have w := e
  obtain ⟨_, _, _, _, _, e5, e6, e7, e8⟩ := w
  rw [e6]
  funext j
  obtain ⟨R, l, rfl⟩ := Cert.ProjClaims.pair j
  exact (Cert.ProjSampleReference.result3_apply _ R _ l).trans ((congrArg (fun P : Fin 4000 → EReal => ProjRows.latent (fun k => m ((c.tc : Thread Cert.ProjSampleIdeal.nD Cert.ProjSampleIdeal.τ).loc Cert.ProjSampleIdeal.main_arg6) (ix1 k)) P l) (columns_eq m m' c e R)).trans (Cert.ProjSampleArray.latent_array m c R l).symm)

/-- Result 4. -/
theorem same4 (e : Same m m' c) : Cert.ProjSampleReference.result4 (F := Ideal) (Cert.ProjSampleReference.columns m' c)  = (Cert.ProjSampleIdeal.Gen.dats m 0 c).arrAt 20 Cert.ProjSampleIdeal.cfg0.N := by
  funext j
  obtain ⟨R, l, rfl⟩ := Cert.ProjClaims.pair j
  exact (Cert.ProjSampleReference.result4_apply _ R l).trans ((congrArg (fun P : Fin 4000 → EReal => ProjRows.keyRope (ProjRows.angleB (16384 + R.val % 4)) P l) (columns_eq m m' c e R)).trans (Cert.ProjSampleArray.keyRope_array m c R l).symm)

/-- Result 5. -/
theorem same5 (e : Same m m' c) : Cert.ProjSampleReference.result5 (F := Ideal) (Cert.ProjSampleReference.columns m' c)  = (Cert.ProjSampleIdeal.Gen.dats m 0 c).arrAt 21 Cert.ProjSampleIdeal.cfg0.N := by
  funext j
  obtain ⟨R, l, rfl⟩ := Cert.ProjClaims.pair j
  exact (Cert.ProjSampleReference.result5_apply _ R l).trans ((congrArg (fun P : Fin 4000 → EReal => P ⟨1952 + l.val, by omega⟩) (columns_eq m m' c e R)).trans (Cert.ProjSampleArray.gateA_array m c R l).symm)

/-- Result 6. -/
theorem same6 (e : Same m m' c) : Cert.ProjSampleReference.result6 (F := Ideal) (Cert.ProjSampleReference.columns m' c)  = (Cert.ProjSampleIdeal.Gen.dats m 0 c).arrAt 22 Cert.ProjSampleIdeal.cfg0.N := by
  funext j
  obtain ⟨R, l, rfl⟩ := Cert.ProjClaims.pair j
  exact (Cert.ProjSampleReference.result6_apply _ R l).trans ((congrArg (fun P : Fin 4000 → EReal => P ⟨2976 + l.val, by omega⟩) (columns_eq m m' c e R)).trans (Cert.ProjSampleArray.gateB_array m c R l).symm)

/-- Result 7. -/
theorem same7 (e : Same m m' c) : Cert.ProjSampleReference.result7 (F := Ideal) (Cert.ProjSampleReference.columns m' c) (m' ((c.tc : Thread Cert.ProjSampleRefIdeal.nD Cert.ProjSampleRefIdeal.τ).loc Cert.ProjSampleRefIdeal.main_arg5)) (m' ((c.tc : Thread Cert.ProjSampleRefIdeal.nD Cert.ProjSampleRefIdeal.τ).loc Cert.ProjSampleRefIdeal.main_arg7)) (m' ((c.tc : Thread Cert.ProjSampleRefIdeal.nD Cert.ProjSampleRefIdeal.τ).loc Cert.ProjSampleRefIdeal.main_arg8)) = (Cert.ProjSampleIdeal.Gen.dats m 0 c).arrAt 23 Cert.ProjSampleIdeal.cfg0.N := by
  have w := e
  obtain ⟨_, _, _, _, _, e5, e6, e7, e8⟩ := w
  rw [e5, e7, e8]
  funext j
  obtain ⟨h, R, l, rfl⟩ := Cert.ProjClaims.three j
  exact (Cert.ProjSampleReference.result7_apply _ R _ _ _ h l).trans ((congrArg (fun P : Fin 4000 → EReal => ProjRows.query (ProjRows.angleB (16384 + R.val % 4)) (ProjRows.queryLatent (fun k => m ((c.tc : Thread Cert.ProjSampleIdeal.nD Cert.ProjSampleIdeal.τ).loc Cert.ProjSampleIdeal.main_arg5) (ix1 k)) P) (ProjSamplePoint.wq m c) (ProjSamplePoint.wk m c) h l) (columns_eq m m' c e R)).trans (Cert.ProjSampleArray.queries_array m c R h l).symm)

/-- Result 8. -/
theorem same8 (e : Same m m' c) : Cert.ProjSampleReference.result8 (F := Ideal) (Cert.ProjSampleReference.columns m' c) (m' ((c.tc : Thread Cert.ProjSampleRefIdeal.nD Cert.ProjSampleRefIdeal.τ).loc Cert.ProjSampleRefIdeal.main_arg6)) = (Cert.ProjSampleIdeal.Gen.dats m 0 c).arrAt 24 Cert.ProjSampleIdeal.cfg0.N := by
  have w := e
  obtain ⟨_, _, _, _, _, e5, e6, e7, e8⟩ := w
  rw [e6]
  funext j
  obtain ⟨R, l, rfl⟩ := Cert.ProjClaims.pair j
  exact (Cert.ProjSampleReference.result8_apply _ R _ l).trans ((congrArg (fun P : Fin 4000 → EReal => ProjRows.key (ProjRows.angleB (16384 + R.val % 4)) (fun k => m ((c.tc : Thread Cert.ProjSampleIdeal.nD Cert.ProjSampleIdeal.τ).loc Cert.ProjSampleIdeal.main_arg6) (ix1 k)) P l) (columns_eq m m' c e R)).trans (Cert.ProjSampleArray.keys_array m c R l).symm)

end

set_option maxHeartbeats 4000000 in
/-- The kernel's nine results are the reference's, of all arguments. -/
theorem algebraic : Cert.algebraic_ProjSampleIdeal_ProjSampleRefIdeal := by
  intro m ρ m' ρ' hpre hagree
  refine ⟨_, _, _, _, _, _, _, _, _, Cert.ProjSampleIdeal.Value.run_blocks (F := Ideal) m ρ, ?_⟩
  refine (θ_run Cert.ProjSampleRefIdeal.defs _ _).mono (fun _ h c => ?_) (Cert.ProjSampleReference.results (F := Ideal) m' ρ')
  obtain ⟨h0, h1, h2, h3, h4, h5, h6, h7, h8, h9⟩ := h c
  have e : Same m m' c := hagree c
  exact ⟨h0.trans (same0 m m' c e), h1.trans (same1 m m' c e), h2.trans (same2 m m' c e), h3.trans (same3 m m' c e), h4.trans (same4 m m' c e), h5.trans (same5 m m' c e), h6.trans (same6 m m' c e), h7.trans (same7 m m' c e), h8.trans (same8 m m' c e), h9⟩

end Cert.ProjSampleClaims

end
-- ==== Proof.ModArray.lean ====
/- The array the modulation's call leaves, read at an index over the extended reals: each grid point takes 768 columns of the
   weights, and the conditions whole. -/
module

public import proofs.«01_k».proof.Proof.Gen.ModIdeal.Value
public import proofs.«01_k».proof.Proof.Rows
public import Idealize.ShloMosaic.Lib.Pipeline.ValueKit

@[expose] public section

set_option maxRecDepth 16384

noncomputable section

namespace Cert.ModArray

open Cert.ModIdeal Cert.ModIdeal.Gen
open Idealize.ShloMosaic Idealize.ShloMosaic.TcCoe Idealize.SL.Sem Idealize.ShloMosaic.Tactic Idealize.ShloMosaic.StableHlo

/-- A number times its logistic. -/
def silu (x : EReal) : EReal := x * Ideal.logistic x

/-- Row `r` of the conditions: the prompt's, then the sample's, then noughts. -/
def condition (p : Fin 1024 → EReal) (s : Fin 128 → Fin 1024 → EReal) (r : Fin 136) (l : Fin 1024) : EReal :=
  if r.val < 1 then p l else if h : r.val < 129 then s ⟨r.val - 1, by omega⟩ l else 0

/-- A row's modulation. -/
def modulation (x : Fin 1024 → EReal) (w : Fin 1024 → Fin 6144 → EReal) (b : Fin 6144 → EReal) (k : Fin 6144) : EReal :=
  ∑ j, silu (x j) * w j k + b k

/-! ## The block one grid point computes -/

theorem pay1_apply (x : Vec Ideal S136x1024 .f32) (w : Vec Ideal S1024x768 .f32) (b : Vec Ideal S1x768 .f32) (r : Fin 136) (l : Fin 768) :
    k0_pay1 x w b (ix2 r l) = ∑ j, silu (x (ix2 r j)) * w (ix2 j l) + b (ix2 0 l) := by
  pointwise [k0_pay1]
  rfl

theorem out_apply (x : Vec Ideal S136x1024 .f32) (w : Vec Ideal S1024x768 .f32) (b : Vec Ideal S1x768 .f32) (r : Fin 136) (l : Fin 768) :
    out0_3 x w b (ix2 r l) = ∑ j, silu (x (ix2 r j)) * w (ix2 j l) + b (ix2 0 l) := by
  have e : out0_3 x w b = k0_pay1 x w b := by
    unfold out0_3
    frame_out
  rw [e, pay1_apply]

/-! ## The arrays the call is given -/

/-- The conditions' rows, filled up with noughts. -/
def rows (p : FVec Ideal S1x1024 .f32) (s : FVec Ideal S128x1024 .f32) : FVec Ideal S136x1024 .f32 :=
  pad S136x1024 ![0, 0] ![7, 0] ![0, 0] (concatenate S129x1024 0 [⟨S1x1024, p⟩, ⟨S128x1024, s⟩] concatenates_S1x1024_S128x1024_S129x1024_d0)
    (sitofp .f32 (constantI S_ 32 0#32)) pads_S129x1024_S136x1024_070_000 h_S_

theorem rows_apply (p : FVec Ideal S1x1024 .f32) (s : FVec Ideal S128x1024 .f32) (r : Fin 136) (l : Fin 1024) :
    rows p s (ix2 r l) = condition (fun l => p (ix2 0 l)) (fun b l => s (ix2 b l)) r l := by
  pointwise [rows]
  rw [Rows.sitofp_zero]
  unfold condition
  by_cases h1 : r.val < 1
  · rw [if_pos h1, dif_pos (by omega), dif_pos h1]
    exact congrArg (fun i => p (ix2 i l)) (Fin.ext (by show r.val = 0; omega))
  · rw [if_neg h1]
    by_cases h2 : r.val < 129
    · rw [dif_pos h2, dif_pos h2, dif_neg h1]
    · rw [dif_neg h2, dif_neg h2]

variable (m : (ℓ : Loc nD τ sig) → Buf (Elt Ideal) ℓ) (c : Dev nD)

set_option maxHeartbeats 4000000 in
theorem V_rows : V m c main_v1 = (rows (m ((c.tc : Thread nD τ).loc main_arg0)) (m ((c.tc : Thread nD τ).loc main_arg1)) : FVec Ideal S136x1024 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

set_option maxHeartbeats 4000000 in
theorem V_bias : V m c main_v2 = (shapeCast S1x6144 (m ((c.tc : Thread nD τ).loc main_arg3) : FVec Ideal S6144 .f32) shapeCasts_S6144_S1x6144 : FVec Ideal S1x6144 .f32) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

theorem bias_apply (b : FVec Ideal S6144 .f32) (l : Fin 6144) : shapeCast S1x6144 b shapeCasts_S6144_S1x6144 (ix2 0 l) = b (ix1 l) := by
  pointwise []

/-! ## Where the blocks lie -/

/-- Where each window's block lies. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- Grid point `i`. -/
def pt (i : Fin 8) : Fin cfg0.N := ⟨i.val, by have := N_0; have := i.isLt; show i.val < grid0.N; omega⟩

theorem blk0 (i : Fin 8) (r : Fin 136) (l : Fin 1024) : iblk m c 0 (pt i) (ix2 r l)
    = condition (fun l => m ((c.tc : Thread nD τ).loc main_arg0) (ix2 0 l)) (fun b l => m ((c.tc : Thread nD τ).loc main_arg1) (ix2 b l)) r l := by
  refine Eq.trans ?_ ((congrFun (V_rows m c) (ix2 r l)).trans (rows_apply _ _ r l))
  show V m c main_v1 (((cfg0.win 0).blk (pt i)).view.emb (ix2 r l)) = V m c main_v1 (ix2 r l)
  congr 1
  have e := (idx (pt i)).1
  blk_ext [e]

theorem blk1 (i : Fin 8) (j : Fin 1024) (l : Fin 768) : iblk m c 1 (pt i) (ix2 j l) = m ((c.tc : Thread nD τ).loc main_arg2) (ix2 j ⟨768 * i.val + l.val, by omega⟩) := by
  rw [← V_main_arg2 m c]
  show V m c main_arg2 (((cfg0.win 1).blk (pt i)).view.emb (ix2 j l)) = V m c main_arg2 _
  congr 1
  have e := (idx (pt i)).2.1
  have hp : (pt i).val = i.val := rfl
  blk_ext [e, hp]

theorem blk2 (i : Fin 8) (l : Fin 768) : iblk m c 2 (pt i) (ix2 0 l) = m ((c.tc : Thread nD τ).loc main_arg3) (ix1 ⟨768 * i.val + l.val, by omega⟩) := by
  refine Eq.trans ?_ ((congrFun (V_bias m c) (ix2 0 ⟨768 * i.val + l.val, by omega⟩)).trans (bias_apply _ _))
  show V m c main_v2 (((cfg0.win 2).blk (pt i)).view.emb (ix2 0 l)) = V m c main_v2 _
  congr 1
  have e := (idx (pt i)).2.2.1
  have hp : (pt i).val = i.val := rfl
  blk_ext [e, hp]

/-- The result array at an index is its row's modulation. -/
theorem arrAt_apply (r : Fin 136) (k : Fin 6144) :
    (dats m 0 c).arrAt 3 cfg0.N (ix2 r k) = modulation
      (condition (fun l => m ((c.tc : Thread nD τ).loc main_arg0) (ix2 0 l)) (fun b l => m ((c.tc : Thread nD τ).loc main_arg1) (ix2 b l)) r)
      (fun j k => m ((c.tc : Thread nD τ).loc main_arg2) (ix2 j k)) (fun k => m ((c.tc : Thread nD τ).loc main_arg3) (ix1 k)) k := by
  obtain ⟨i, s, rfl⟩ : ∃ (i : Fin 8) (s : Fin 768), k = ⟨768 * i.val + s.val, by omega⟩ :=
    ⟨⟨k.val / 768, by omega⟩, ⟨k.val % 768, by omega⟩, Fin.ext (by show k.val = 768 * (k.val / 768) + k.val % 768; omega)⟩
  have b := congrFun (Value.blocks3 m c (pt i) (flush0_3 _)) (ix2 r s)
  rw [Value.flushed3] at b
  refine Eq.trans ?_ (b.trans ?_)
  · show _ = (dats m 0 c).arrAt 3 cfg0.N (((cfg0.win 3).blk (pt i)).view.emb (ix2 r s))
    congr 1
    have e := (idx (pt i)).2.2.2
    have hp : (pt i).val = i.val := rfl
    blk_ext [e, hp]
  · refine (out_apply _ _ _ r s).trans ?_
    simp only [blk0 m c i, blk1 m c i, blk2 m c i]
    rfl

end Cert.ModArray

end
-- ==== Proof.ModReference.lean ====
/- The modulation the reference writes, read at an index over the extended reals. -/
module

public import proofs.«01_k».proof.Proof.Gen.ModRefIdeal.Run
public import proofs.«01_k».proof.Proof.ModArray

@[expose] public section

set_option maxRecDepth 16384

noncomputable section

namespace Cert.ModReference

open Cert.ModRefIdeal Cert.ModRefIdeal.Gen
open Idealize.ShloMosaic Idealize.ShloMosaic.TcCoe Idealize.SL.Sem Idealize.ShloMosaic.Tactic Idealize.ShloMosaic.StableHlo

section
variable {F : FTy → Type} [FloatOps F]

/-- The conditions, one after another. -/
def rows (p : FVec F S1x1024 .f32) (s : FVec F S128x1024 .f32) : FVec F S136x1024 .f32 :=
  concatenate S136x1024 0 [⟨S1x1024, p⟩, ⟨S128x1024, s⟩, ⟨S7x1024, broadcastInDim S7x1024 ![] bcast_S_S7x1024 (constant S_ .f32 0x00000000#32)⟩] concatenates_S1x1024_S128x1024_S7x1024_S136x1024_d0

/-- Each number times its logistic. -/
def gated (x : FVec F S136x1024 .f32) : FVec F S136x1024 .f32 :=
  mulf x (Host.divf (broadcastInDim S136x1024 ![] bcast_S_S136x1024 (constant S_ .f32 0x3F800000#32))
    (addf (broadcastInDim S136x1024 ![] bcast_S_S136x1024 (constant S_ .f32 0x3F800000#32)) (Host.exp (Host.negf x))))

/-- The modulation, of the arguments. -/
def all (p : FVec F S1x1024 .f32) (s : FVec F S128x1024 .f32) (w : FVec F S1024x6144 .f32) (b : FVec F S6144 .f32) : FVec F S136x6144 .f32 :=
  addf (Host.dotGeneral dot_S136x1024_S1024x6144_S136x6144_1_0_0_1_n_n none (gated (rows p s)) w)
    (broadcastInDim S136x6144 ![0, 1] bcast_S1x6144_S136x6144_0_1 (broadcastInDim S1x6144 ![1] bcast_S6144_S1x6144_1 b))

/-- Every run of the reference ends with the modulation and leaves the arguments. -/
theorem results (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = all (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run (F := F) m ρ
end

theorem rows_apply (p : FVec Ideal S1x1024 .f32) (s : FVec Ideal S128x1024 .f32) (r : Fin 136) (l : Fin 1024) :
    rows p s (ix2 r l) = ModArray.condition (fun l => p (ix2 0 l)) (fun b l => s (ix2 b l)) r l := by
  pointwise [rows]
  unfold ModArray.condition
  by_cases h1 : r.val < 1
  · rw [if_pos h1, dif_pos h1]
    exact congrArg (fun i => p (ix2 i l)) (Fin.ext (by show r.val = 0; omega))
  · rw [if_neg h1, dif_neg h1]
    by_cases h2 : r.val < 129
    · rw [dif_pos (by omega), dif_pos h2]
    · rw [dif_neg (by omega), dif_neg h2]

theorem gated_apply (x : FVec Ideal S136x1024 .f32) (r : Fin 136) (l : Fin 1024) : gated x (ix2 r l) = ModArray.silu (x (ix2 r l)) := by
  pointwise [gated]
  rfl

/-- The reference's result at an index is its row's modulation. -/
theorem all_apply (p : FVec Ideal S1x1024 .f32) (s : FVec Ideal S128x1024 .f32) (w : FVec Ideal S1024x6144 .f32) (b : FVec Ideal S6144 .f32) (r : Fin 136) (k : Fin 6144) :
    all p s w b (ix2 r k) = ModArray.modulation (ModArray.condition (fun l => p (ix2 0 l)) (fun b l => s (ix2 b l)) r) (fun j k => w (ix2 j k)) (fun k => b (ix1 k)) k := by
  pointwise [all, gated_apply, rows_apply]
  rfl

end Cert.ModReference

end
-- ==== Proof.ModClaims.lean ====
/- The claims about the modulation's call. -/
module

public import proofs.«01_k».proof.Defs
public import proofs.«01_k».proof.Proof.Gen.Mod.Frame
public import proofs.«01_k».proof.Proof.Gen.ModIdeal.Frame
public import proofs.«01_k».proof.Proof.Gen.ModIdeal.Value
public import proofs.«01_k».proof.Proof.ModArray
public import proofs.«01_k».proof.Proof.ModReference
public import Idealize.ShloMosaic.Lib.Quiescent

@[expose] public section

noncomputable section

namespace Cert.ModClaims

open Idealize.ShloMosaic Idealize.ShloMosaic.TcCoe Idealize.SL.Sem

/-- The kernel runs on the machine's numbers, leaving its arguments and every semaphore at rest. -/
theorem frame : Cert.quiescent_Mod := fun m ρ _ => Cert.Mod.Gen.frame m ρ

/-- So does the kernel over the extended reals. -/
theorem frameIdeal : Cert.quiescent_ModIdeal := fun m ρ _ => Cert.ModIdeal.Gen.frame m ρ

/-- The reference runs over the extended reals, leaving its arguments. -/
theorem frameRef : Cert.quiescent_ModRefIdeal := fun m ρ _ =>
  (θ_run Cert.ModRefIdeal.defs _ _).mono (fun r h => ⟨fun c => (h c).2, sem_eq_zero_of_no_sems (by decide) r.2⟩)
    (Cert.ModReference.results (F := Ideal) m ρ)

/-- Nothing is rewritten. -/
theorem preserves : Cert.preserves_Mod_ModIdeal := trivial

/-- The kernel's result is the reference's, of all arguments. -/
theorem algebraic : Cert.algebraic_ModIdeal_ModRefIdeal := by
  intro m ρ m' ρ' hpre hagree
  refine ⟨_, Cert.ModIdeal.Value.run_blocks (F := Ideal) m ρ, ?_⟩
  refine (θ_run Cert.ModRefIdeal.defs _ _).mono (fun _ h c => ⟨(h c).1.trans ?_, (h c).2⟩)
    (Cert.ModReference.results (F := Ideal) m' ρ')
  obtain ⟨e0, e1, e2, e3⟩ := hagree c
  rw [e0, e1, e2, e3]
  funext j
  obtain ⟨r, k, rfl⟩ : ∃ (r : Fin 136) (k : Fin 6144), j = ix2 r k := ⟨j 0, j 1, by
    funext a
    match a with
    | ⟨0, _⟩ => rfl
    | ⟨1, _⟩ => rfl⟩
  exact (Cert.ModReference.all_apply _ _ _ _ r k).trans (Cert.ModArray.arrAt_apply m c r k).symm

end Cert.ModClaims

end
-- ==== Proof.MergeSampleHost.lean ====
/- The arrays the sample's merge call is given: the second branch's weights as blocks on a diagonal and the first branch's
   weights filled up with noughts, each read at an index. -/
module

public import proofs.«01_k».proof.Proof.Gen.MergeSampleIdeal.Frame
public import proofs.«01_k».proof.Proof.Rows
public import Idealize.ShloMosaic.Lib.Pipeline.ValueKit

@[expose] public section

set_option maxRecDepth 16384

noncomputable section

namespace Cert.MergeSampleHost

open Cert.MergeSampleIdeal Cert.MergeSampleIdeal.Gen
open Idealize.ShloMosaic Idealize.ShloMosaic.TcCoe Idealize.SL.Sem Idealize.ShloMosaic.Tactic Idealize.ShloMosaic.StableHlo

section
variable {F : FTy → Type} [FloatOps F]

/-- The second branch's weights as a matrix of blocks, one for each head, on the diagonal. -/
def diagonal (u : FVec F S128x8x64 .f32) : FVec F S1024x512 .bf16 :=
  truncf .bf16 (shapeCast S1024x512 (mulf
      (broadcastInDim S8x128x8x64 ![0, 1, 2, 3] bcast_S8x128x1x64_S8x128x8x64_0_1_2_3 (broadcastInDim S8x128x1x64 ![0, 1, 3] bcast_S8x128x64_S8x128x1x64_0_1_3
        (transpose S8x128x64 [1, 0, 2] u transposes_S128x8x64_S8x128x64_1_0_2)))
      (broadcastInDim S8x128x8x64 ![0, 1, 2, 3] bcast_S8x1x8x1_S8x128x8x64_0_1_2_3 (broadcastInDim S8x1x8x1 ![0, 2] bcast_S8x8_S8x1x8x1_0_2
        (uitofp .f32 (cmpi .eq (addi (iotaInDim S8x8 32 0) (broadcastInDim S8x8 ![] bcast_S_S8x8 (constantI S_ 32 0#32))) (iotaInDim S8x8 32 1))))))
    shapeCasts_S8x128x8x64_S1024x512) bitsLt_bf16_f32

/-- The first branch's weights, each head's rows filled up to 128 with noughts. -/
def padded (w : FVec F S512x1024 .f32) : FVec F S8x128x1024 .bf16 :=
  truncf .bf16 (pad S8x128x1024 ![0, 0, 0] ![0, 64, 0] ![0, 0, 0] (shapeCast S8x64x1024 w shapeCasts_S512x1024_S8x64x1024) (sitofp .f32 (constantI S_ 32 0#32))
    pads_S8x64x1024_S8x128x1024_000_0640_000 h_S_) bitsLt_bf16_f32
end

theorem diagonal_apply (u : FVec Ideal S128x8x64 .f32) (h g : Fin 8) (r : Fin 128) (v : Fin 64) :
    diagonal u (ix2 ⟨128 * h.val + r.val, by omega⟩ ⟨64 * g.val + v.val, by omega⟩) = u (ix3 r h v) * (if h = g then 1 else 0) := by
  rw [← Rows.eye h g]
  pointwise [diagonal]

theorem padded_apply (w : FVec Ideal S512x1024 .f32) (h : Fin 8) (d : Fin 128) (l : Fin 1024) :
    padded w (ix3 h d l) = if hd : d.val < 64 then w (ix2 ⟨64 * h.val + d.val, by omega⟩ l) else 0 := by
  pointwise [padded]
  rw [Rows.sitofp_zero]
  congr 1
  funext hd
  refine congrArg (fun a => w (ix2 a l)) (Fin.ext ?_)
  show h.val * 64 + d.val = 64 * h.val + d.val
  omega

/-- A modulation, each batch's row repeated for its four rows. -/
def repeated (s : FVec Ideal S128x1024 .f32) : FVec Ideal S512x1024 .f32 :=
  shapeCast S512x1024 (broadcastInDim S128x4x1024 ![0, 2] bcast_S128x1024_S128x4x1024_0_2 s) shapeCasts_S128x4x1024_S512x1024

theorem repeated_apply (s : FVec Ideal S128x1024 .f32) (r : Fin 512) (l : Fin 1024) : repeated s (ix2 r l) = s (ix2 ⟨r.val / 4, by omega⟩ l) := by
  pointwise [repeated]

/-- The batches' rows one after another. -/
theorem flat_apply (y : FVec Ideal S128x4x1024 .f32) (r : Fin 512) (l : Fin 1024) :
    shapeCast S512x1024 y shapeCasts_S128x4x1024_S512x1024 (ix2 r l) = y (ix3 ⟨r.val / 4, by omega⟩ ⟨r.val % 4, by omega⟩ l) := by
  pointwise []

variable (m : (ℓ : Loc nD τ sig) → Buf (Elt Ideal) ℓ) (c : Dev nD)

theorem V_diagonal : V m c main_v13 = (diagonal (m ((c.tc : Thread nD τ).loc main_arg7)) : FVec Ideal S1024x512 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

theorem V_padded : V m c main_v20 = (padded (m ((c.tc : Thread nD τ).loc main_arg8)) : FVec Ideal S8x128x1024 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

theorem V_gain : V m c main_v19 = shapeCast S1x1024 (m ((c.tc : Thread nD τ).loc main_arg6) : FVec Ideal S1024 .f32) shapeCasts_S1024_S1x1024 := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

theorem V_projB : V m c main_v21 = (truncf .bf16 (m ((c.tc : Thread nD τ).loc main_arg9) : FVec Ideal S512x1024 .f32) bitsLt_bf16_f32 : FVec Ideal S512x1024 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

theorem V_out : V m c main_v22 = (truncf .bf16 (m ((c.tc : Thread nD τ).loc main_arg10) : FVec Ideal S1024x1024 .f32) bitsLt_bf16_f32 : FVec Ideal S1024x1024 .bf16) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

theorem V_x : V m c main_v16 = shapeCast S512x1024 (m ((c.tc : Thread nD τ).loc main_arg4) : FVec Ideal S128x4x1024 .f32) shapeCasts_S128x4x1024_S512x1024 := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

theorem V_gate : V m c main_v18 = repeated (m ((c.tc : Thread nD τ).loc main_arg5)) := by
  unfold V
  simp only [hostOps0, hostOps0_1, hostOps0_2, List.flatten_cons, List.flatten_nil, List.append_nil, List.cons_append,
      List.nil_append, TRef.ternary, TRef.unary, TRef.binary, TRef.toBuf, TRef.ofBuf, cast_eq]
  after_results_simp <;> rfl

/-- The gain laid out as a row. -/
theorem row_apply (g : FVec Ideal S1024 .f32) (l : Fin 1024) : shapeCast S1x1024 g shapeCasts_S1024_S1x1024 (ix2 0 l) = g (ix1 l) := by
  pointwise []

end Cert.MergeSampleHost

end
-- ==== Proof.MergeSampleBlock.lean ====
/- What one grid point of the sample's merge call computes, read at an index over the extended reals. -/
module

public import proofs.«01_k».proof.Proof.Gen.MergeSampleIdeal.Frame
public import proofs.«01_k».proof.Proof.Rows
public import Idealize.ShloMosaic.Lib.Pipeline.ValueKit

@[expose] public section

set_option maxRecDepth 16384

noncomputable section

namespace Cert.MergeSampleBlock

open Cert.MergeSampleIdeal Cert.MergeSampleIdeal.Gen
open Idealize.ShloMosaic Idealize.ShloMosaic.TcCoe Idealize.SL.Sem Idealize.ShloMosaic.Tactic Idealize.ShloMosaic.StableHlo

theorem pay1_apply (ya yb ga gb : Vec Ideal S256x1024 .f32) (w : Vec Ideal S1024x1024 .bf16) (x gt : Vec Ideal S256x1024 .f32) (g : Vec Ideal S1x1024 .f32)
    (r : Fin 256) (l : Fin 1024) :
    k0_pay1 ya yb ga gb w x gt g (ix2 r l)
      = Rows.merge (fun l => x (ix2 r l)) (fun l => ya (ix2 r l)) (fun l => yb (ix2 r l)) (fun l => ga (ix2 r l)) (fun l => gb (ix2 r l))
          (fun l => gt (ix2 r l)) (fun l => g (ix2 0 l)) (fun j l => w (ix2 j l)) l := by
  pointwise [k0_pay1]
  rfl

theorem pay2_apply (a0 a1 a2 a3 : Vec Ideal S1x256x128 .bf16) (b0 b1 b2 b3 : Vec Ideal S1x128x1024 .bf16) (r : Fin 256) (l : Fin 1024) :
    k0_pay2 a0 b0 a1 b1 a2 b2 a3 b3 (ix2 r l) = ∑ d, a0 (ix3 0 r d) * b0 (ix3 0 d l) + ∑ d, a1 (ix3 0 r d) * b1 (ix3 0 d l)
      + ∑ d, a2 (ix3 0 r d) * b2 (ix3 0 d l) + ∑ d, a3 (ix3 0 r d) * b3 (ix3 0 d l) := by
  pointwise [k0_pay2]

theorem pay3_apply (a : Vec Ideal S1x256x128 .bf16) (r : Fin 256) (d : Fin 128) : k0_pay3 a (ix2 r d) = a (ix3 0 r d) := by
  pointwise [k0_pay3]

theorem pay4_apply (c : FVec Ideal S256x1024 .f32) (a0 : FVec Ideal S256x128 .bf16) (a1 a2 a3 : Vec Ideal S1x256x128 .bf16) (b0 b1 b2 b3 : Vec Ideal S1x128x1024 .bf16)
    (r : Fin 256) (l : Fin 1024) :
    k0_pay4 c a0 b0 a1 b1 a2 b2 a3 b3 (ix2 r l) = c (ix2 r l) + ∑ d, a0 (ix2 r d) * b0 (ix3 0 d l) + ∑ d, a1 (ix3 0 r d) * b1 (ix3 0 d l)
      + ∑ d, a2 (ix3 0 r d) * b2 (ix3 0 d l) + ∑ d, a3 (ix3 0 r d) * b3 (ix3 0 d l) := by
  pointwise [k0_pay4]

theorem pay5_apply (o : Vec Ideal S256x1024 .bf16) (u : Vec Ideal S1024x512 .bf16) (w : Vec Ideal S512x1024 .bf16) (r : Fin 256) (l : Fin 1024) :
    k0_pay5 o u w (ix2 r l) = ∑ k, (∑ x, o (ix2 r x) * u (ix2 x k)) * w (ix2 k l) := by
  pointwise [k0_pay5]

/-! ## One head's slice of a block -/

theorem head0 (x : Vec Ideal S8x256x128 .bf16) (r : Fin 256) (d : Fin 128) : View.ld x r0_0 (ix3 0 r d) = x (ix3 0 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight0 (w : Vec Ideal S8x128x1024 .bf16) (d : Fin 128) (l : Fin 1024) : View.ld w r0_1 (ix3 0 d l) = w (ix3 0 d l) := by
  refine congrArg w (funext fun a => Fin.ext ?_)
  match a with
  | ⟨0, _⟩ => rfl
  | ⟨1, _⟩ => show 0 + 1 * d.val = d.val; omega
  | ⟨2, _⟩ => show 0 + 1 * l.val = l.val; omega

theorem head1 (x : Vec Ideal S8x256x128 .bf16) (r : Fin 256) (d : Fin 128) : View.ld x r0_2 (ix3 0 r d) = x (ix3 1 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight1 (w : Vec Ideal S8x128x1024 .bf16) (d : Fin 128) (l : Fin 1024) : View.ld w r0_3 (ix3 0 d l) = w (ix3 1 d l) := by
  refine congrArg w (funext fun a => Fin.ext ?_)
  match a with
  | ⟨0, _⟩ => rfl
  | ⟨1, _⟩ => show 0 + 1 * d.val = d.val; omega
  | ⟨2, _⟩ => show 0 + 1 * l.val = l.val; omega

theorem head2 (x : Vec Ideal S8x256x128 .bf16) (r : Fin 256) (d : Fin 128) : View.ld x r0_4 (ix3 0 r d) = x (ix3 2 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight2 (w : Vec Ideal S8x128x1024 .bf16) (d : Fin 128) (l : Fin 1024) : View.ld w r0_5 (ix3 0 d l) = w (ix3 2 d l) := by
  refine congrArg w (funext fun a => Fin.ext ?_)
  match a with
  | ⟨0, _⟩ => rfl
  | ⟨1, _⟩ => show 0 + 1 * d.val = d.val; omega
  | ⟨2, _⟩ => show 0 + 1 * l.val = l.val; omega

theorem head3 (x : Vec Ideal S8x256x128 .bf16) (r : Fin 256) (d : Fin 128) : View.ld x r0_6 (ix3 0 r d) = x (ix3 3 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight3 (w : Vec Ideal S8x128x1024 .bf16) (d : Fin 128) (l : Fin 1024) : View.ld w r0_7 (ix3 0 d l) = w (ix3 3 d l) := by
  refine congrArg w (funext fun a => Fin.ext ?_)
  match a with
  | ⟨0, _⟩ => rfl
  | ⟨1, _⟩ => show 0 + 1 * d.val = d.val; omega
  | ⟨2, _⟩ => show 0 + 1 * l.val = l.val; omega

theorem head4 (x : Vec Ideal S8x256x128 .bf16) (r : Fin 256) (d : Fin 128) : View.ld x r0_8 (ix3 0 r d) = x (ix3 4 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight4 (w : Vec Ideal S8x128x1024 .bf16) (d : Fin 128) (l : Fin 1024) : View.ld w r0_9 (ix3 0 d l) = w (ix3 4 d l) := by
  refine congrArg w (funext fun a => Fin.ext ?_)
  match a with
  | ⟨0, _⟩ => rfl
  | ⟨1, _⟩ => show 0 + 1 * d.val = d.val; omega
  | ⟨2, _⟩ => show 0 + 1 * l.val = l.val; omega

theorem head5 (x : Vec Ideal S8x256x128 .bf16) (r : Fin 256) (d : Fin 128) : View.ld x r0_10 (ix3 0 r d) = x (ix3 5 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight5 (w : Vec Ideal S8x128x1024 .bf16) (d : Fin 128) (l : Fin 1024) : View.ld w r0_11 (ix3 0 d l) = w (ix3 5 d l) := by
  refine congrArg w (funext fun a => Fin.ext ?_)
  match a with
  | ⟨0, _⟩ => rfl
  | ⟨1, _⟩ => show 0 + 1 * d.val = d.val; omega
  | ⟨2, _⟩ => show 0 + 1 * l.val = l.val; omega

theorem head6 (x : Vec Ideal S8x256x128 .bf16) (r : Fin 256) (d : Fin 128) : View.ld x r0_12 (ix3 0 r d) = x (ix3 6 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight6 (w : Vec Ideal S8x128x1024 .bf16) (d : Fin 128) (l : Fin 1024) : View.ld w r0_13 (ix3 0 d l) = w (ix3 6 d l) := by
  refine congrArg w (funext fun a => Fin.ext ?_)
  match a with
  | ⟨0, _⟩ => rfl
  | ⟨1, _⟩ => show 0 + 1 * d.val = d.val; omega
  | ⟨2, _⟩ => show 0 + 1 * l.val = l.val; omega

theorem head7 (x : Vec Ideal S8x256x128 .bf16) (r : Fin 256) (d : Fin 128) : View.ld x r0_14 (ix3 0 r d) = x (ix3 7 r d) := by
  refine congrArg x (funext fun a => Fin.ext ?_)
  match a with
  | ⟨0, _⟩ => rfl
  | ⟨1, _⟩ => show 0 + 1 * r.val = r.val; omega
  | ⟨2, _⟩ => show 0 + 1 * d.val = d.val; omega

theorem weight7 (w : Vec Ideal S8x128x1024 .bf16) (d : Fin 128) (l : Fin 1024) : View.ld w r0_15 (ix3 0 d l) = w (ix3 7 d l) := by
  refine congrArg w (funext fun a => Fin.ext ?_)
  match a with
  | ⟨0, _⟩ => rfl
  | ⟨1, _⟩ => show 0 + 1 * d.val = d.val; omega
  | ⟨2, _⟩ => show 0 + 1 * l.val = l.val; omega

/-- The heads' products, summed one by one. -/
theorem heads_apply (oa : Vec Ideal S8x256x128 .bf16) (wa : Vec Ideal S8x128x1024 .bf16) (r : Fin 256) (l : Fin 1024) :
    k0_pay4 (k0_pay2 (View.ld oa r0_0) (View.ld wa r0_1) (View.ld oa r0_2) (View.ld wa r0_3) (View.ld oa r0_4) (View.ld wa r0_5) (View.ld oa r0_6) (View.ld wa r0_7))
      (k0_pay3 (View.ld oa r0_8)) (View.ld wa r0_9) (View.ld oa r0_10) (View.ld wa r0_11) (View.ld oa r0_12) (View.ld wa r0_13) (View.ld oa r0_14) (View.ld wa r0_15) (ix2 r l)
      = ∑ h : Fin 8, ∑ d, oa (ix3 h r d) * wa (ix3 h d l) := by
  rw [pay4_apply, pay2_apply, Fin.sum_univ_eight]
  exact congrArg₂ (· + ·) (congrArg₂ (· + ·) (congrArg₂ (· + ·) (congrArg₂ (· + ·) (congrArg₂ (· + ·) (congrArg₂ (· + ·) (congrArg₂ (· + ·) (Finset.sum_congr rfl fun d _ => congrArg₂ (· * ·) (head0 oa r d) (weight0 wa d l))
    (Finset.sum_congr rfl fun d _ => congrArg₂ (· * ·) (head1 oa r d) (weight1 wa d l)))
    (Finset.sum_congr rfl fun d _ => congrArg₂ (· * ·) (head2 oa r d) (weight2 wa d l)))
    (Finset.sum_congr rfl fun d _ => congrArg₂ (· * ·) (head3 oa r d) (weight3 wa d l)))
    (Finset.sum_congr rfl fun d _ => congrArg₂ (· * ·) ((pay3_apply _ r d).trans (head4 oa r d)) (weight4 wa d l)))
    (Finset.sum_congr rfl fun d _ => congrArg₂ (· * ·) (head5 oa r d) (weight5 wa d l)))
    (Finset.sum_congr rfl fun d _ => congrArg₂ (· * ·) (head6 oa r d) (weight6 wa d l)))
    (Finset.sum_congr rfl fun d _ => congrArg₂ (· * ·) (head7 oa r d) (weight7 wa d l))

/-- The block a grid point computes, at an index: the merge of its row, the first branch's heads summed one by one and
    the second branch's products with the matrix it is given. -/
theorem out_apply (oa : Vec Ideal S8x256x128 .bf16) (ob : Vec Ideal S256x1024 .bf16) (ga gb x gt : Vec Ideal S256x1024 .f32) (g : Vec Ideal S1x1024 .f32)
    (wa : Vec Ideal S8x128x1024 .bf16) (u : Vec Ideal S1024x512 .bf16) (wb : Vec Ideal S512x1024 .bf16) (w : Vec Ideal S1024x1024 .bf16) (r : Fin 256) (l : Fin 1024) :
    out0_11 oa ob ga gb x gt g wa u wb w (ix2 r l)
      = Rows.merge (fun l => x (ix2 r l)) (fun l => ∑ h : Fin 8, ∑ d, oa (ix3 h r d) * wa (ix3 h d l)) (fun l => ∑ k, (∑ x, ob (ix2 r x) * u (ix2 x k)) * wb (ix2 k l))
          (fun l => ga (ix2 r l)) (fun l => gb (ix2 r l)) (fun l => gt (ix2 r l)) (fun l => g (ix2 0 l)) (fun j l => w (ix2 j l)) l := by
  have e : out0_11 oa ob ga gb x gt g wa u wb w = k0_pay1 (k0_pay4 (k0_pay2 (View.ld oa r0_0) (View.ld wa r0_1) (View.ld oa r0_2) (View.ld wa r0_3) (View.ld oa r0_4) (View.ld wa r0_5) (View.ld oa r0_6) (View.ld wa r0_7))
      (k0_pay3 (View.ld oa r0_8)) (View.ld wa r0_9) (View.ld oa r0_10) (View.ld wa r0_11) (View.ld oa r0_12) (View.ld wa r0_13) (View.ld oa r0_14) (View.ld wa r0_15))
      (k0_pay5 ob u wb) ga gb w x gt g := by
    unfold out0_11
    frame_out
  rw [e, pay1_apply]
  simp only [heads_apply, pay5_apply]

end Cert.MergeSampleBlock

end
-- ==== Proof.MergeSampleArray.lean ====
/- The array the sample's merge call leaves, read at an index over the extended reals: each grid point takes 256 rows, and the
   weights whole. -/
module

public import proofs.«01_k».proof.Proof.Gen.MergeSampleIdeal.Value
public import proofs.«01_k».proof.Proof.MergeSampleHost
public import proofs.«01_k».proof.Proof.MergeSampleBlock
public import Idealize.ShloMosaic.Lib.Pipeline.ValueKit

@[expose] public section

set_option maxRecDepth 16384

noncomputable section

namespace Cert.MergeSampleArray

open Cert.MergeSampleIdeal Cert.MergeSampleIdeal.Gen Cert.MergeSampleHost Cert.MergeSampleBlock
open Idealize.ShloMosaic Idealize.ShloMosaic.TcCoe Idealize.SL.Sem Idealize.ShloMosaic.Tactic Idealize.ShloMosaic.StableHlo

variable (m : (ℓ : Loc nD τ sig) → Buf (Elt Ideal) ℓ) (c : Dev nD)

/-! ## Where the blocks lie -/

/-- Where each window's block lies. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0, 0] ∧ win0_8.index t = ![0, 0]
    ∧ win0_9.index t = ![0, 0] ∧ win0_10.index t = ![0, 0] ∧ win0_11.index t = ![t.val, 0] :=
  (by decide +kernel : ∀ t : Fin grid0.N, _)

/-- Grid point `i`. -/
def pt (i : Fin 2) : Fin cfg0.N := ⟨i.val, by have := N_0; have := i.isLt; show i.val < grid0.N; omega⟩

theorem blk0 (i : Fin 2) (h : Fin 8) (r : Fin 256) (d : Fin 128) : iblk m c 0 (pt i) (ix3 h r d) = m ((c.tc : Thread nD τ).loc main_arg0) (ix3 h ⟨256 * i.val + r.val, by omega⟩ d) := by
  rw [← V_main_arg0 m c]
  show V m c main_arg0 (((cfg0.win 0).blk (pt i)).view.emb (ix3 h r d)) = V m c main_arg0 _
  congr 1
  have e := (idx (pt i)).1
  have hp : (pt i).val = i.val := rfl
  blk_ext [e, hp]

theorem blk1 (i : Fin 2) (r : Fin 256) (l : Fin 1024) : iblk m c 1 (pt i) (ix2 r l) = m ((c.tc : Thread nD τ).loc main_arg1) (ix2 ⟨256 * i.val + r.val, by omega⟩ l) := by
  rw [← V_main_arg1 m c]
  show V m c main_arg1 (((cfg0.win 1).blk (pt i)).view.emb (ix2 r l)) = V m c main_arg1 _
  congr 1
  have e := (idx (pt i)).2.1
  have hp : (pt i).val = i.val := rfl
  blk_ext [e, hp]

theorem blk2 (i : Fin 2) (r : Fin 256) (l : Fin 1024) : iblk m c 2 (pt i) (ix2 r l) = m ((c.tc : Thread nD τ).loc main_arg2) (ix2 ⟨256 * i.val + r.val, by omega⟩ l) := by
  rw [← V_main_arg2 m c]
  show V m c main_arg2 (((cfg0.win 2).blk (pt i)).view.emb (ix2 r l)) = V m c main_arg2 _
  congr 1
  have e := (idx (pt i)).2.2.1
  have hp : (pt i).val = i.val := rfl
  blk_ext [e, hp]

theorem blk3 (i : Fin 2) (r : Fin 256) (l : Fin 1024) : iblk m c 3 (pt i) (ix2 r l) = m ((c.tc : Thread nD τ).loc main_arg3) (ix2 ⟨256 * i.val + r.val, by omega⟩ l) := by
  rw [← V_main_arg3 m c]
  show V m c main_arg3 (((cfg0.win 3).blk (pt i)).view.emb (ix2 r l)) = V m c main_arg3 _
  congr 1
  have e := (idx (pt i)).2.2.2.1
  have hp : (pt i).val = i.val := rfl
  blk_ext [e, hp]

theorem blk4 (i : Fin 2) (r : Fin 256) (l : Fin 1024) :
    iblk m c 4 (pt i) (ix2 r l) = m ((c.tc : Thread nD τ).loc main_arg4) (ix3 ⟨(256 * i.val + r.val) / 4, by omega⟩ ⟨(256 * i.val + r.val) % 4, by omega⟩ l) := by
  refine Eq.trans ?_ (flat_apply (m ((c.tc : Thread nD τ).loc main_arg4)) ⟨256 * i.val + r.val, by omega⟩ l)
  rw [← V_x m c]
  show V m c main_v16 (((cfg0.win 4).blk (pt i)).view.emb (ix2 r l)) = V m c main_v16 _
  congr 1
  have e := (idx (pt i)).2.2.2.2.1
  have hp : (pt i).val = i.val := rfl
  blk_ext [e, hp]

theorem blk5 (i : Fin 2) (r : Fin 256) (l : Fin 1024) :
    iblk m c 5 (pt i) (ix2 r l) = m ((c.tc : Thread nD τ).loc main_arg5) (ix2 ⟨(256 * i.val + r.val) / 4, by omega⟩ l) := by
  refine Eq.trans ?_ (repeated_apply (m ((c.tc : Thread nD τ).loc main_arg5)) ⟨256 * i.val + r.val, by omega⟩ l)
  rw [← V_gate m c]
  show V m c main_v18 (((cfg0.win 5).blk (pt i)).view.emb (ix2 r l)) = V m c main_v18 _
  congr 1
  have e := (idx (pt i)).2.2.2.2.2.1
  have hp : (pt i).val = i.val := rfl
  blk_ext [e, hp]

theorem blk6 (i : Fin 2) (l : Fin 1024) : iblk m c 6 (pt i) (ix2 0 l) = m ((c.tc : Thread nD τ).loc main_arg6) (ix1 l) := by
  refine Eq.trans ?_ (row_apply (m ((c.tc : Thread nD τ).loc main_arg6)) l)
  rw [← V_gain m c]
  show V m c main_v19 (((cfg0.win 6).blk (pt i)).view.emb (ix2 0 l)) = V m c main_v19 _
  congr 1
  have e := (idx (pt i)).2.2.2.2.2.2.1
  blk_ext [e]

theorem blk7 (i : Fin 2) (h : Fin 8) (d : Fin 128) (l : Fin 1024) : iblk m c 7 (pt i) (ix3 h d l) = padded (F := Ideal) (m ((c.tc : Thread nD τ).loc main_arg8)) (ix3 h d l) := by
  refine Eq.trans ?_ (congrFun (V_padded m c) (ix3 h d l))
  show V m c main_v20 (((cfg0.win 7).blk (pt i)).view.emb (ix3 h d l)) = V m c main_v20 _
  congr 1
  have e := (idx (pt i)).2.2.2.2.2.2.2.1
  blk_ext [e]

theorem blk8 (i : Fin 2) (a : Fin 1024) (b : Fin 512) : iblk m c 8 (pt i) (ix2 a b) = diagonal (F := Ideal) (m ((c.tc : Thread nD τ).loc main_arg7)) (ix2 a b) := by
  refine Eq.trans ?_ (congrFun (V_diagonal m c) (ix2 a b))
  show V m c main_v13 (((cfg0.win 8).blk (pt i)).view.emb (ix2 a b)) = V m c main_v13 _
  congr 1
  have e := (idx (pt i)).2.2.2.2.2.2.2.2.1
  blk_ext [e]

theorem blk9 (i : Fin 2) (a : Fin 512) (b : Fin 1024) : iblk m c 9 (pt i) (ix2 a b) = m ((c.tc : Thread nD τ).loc main_arg9) (ix2 a b) := by
  refine Eq.trans ?_ (congrFun (V_projB m c) (ix2 a b))
  show V m c main_v21 (((cfg0.win 9).blk (pt i)).view.emb (ix2 a b)) = V m c main_v21 _
  congr 1
  have e := (idx (pt i)).2.2.2.2.2.2.2.2.2.1
  blk_ext [e]

theorem blk10 (i : Fin 2) (a b : Fin 1024) : iblk m c 10 (pt i) (ix2 a b) = m ((c.tc : Thread nD τ).loc main_arg10) (ix2 a b) := by
  refine Eq.trans ?_ (congrFun (V_out m c) (ix2 a b))
  show V m c main_v22 (((cfg0.win 10).blk (pt i)).view.emb (ix2 a b)) = V m c main_v22 _
  congr 1
  have e := (idx (pt i)).2.2.2.2.2.2.2.2.2.2.1
  blk_ext [e]

/-- The heads' products with the weights filled up with noughts are the projection of the heads side by side. -/
theorem projA_eq (o : Fin 8 → Fin 128 → EReal) (w : FVec Ideal S512x1024 .f32) (l : Fin 1024) :
    ∑ h : Fin 8, ∑ d, o h d * padded w (ix3 h d l) = Rows.projA (fun h d => o h ⟨d.val, by omega⟩) (fun k l => w (ix2 k l)) l := by
  unfold Rows.projA
  rw [Rows.sum_blocks 8 64 rfl]
  refine Finset.sum_congr rfl fun h _ => ?_
  simp only [padded_apply]
  refine (Rows.sum_padded (o h) fun d => w (ix2 ⟨64 * h.val + d.val, by omega⟩ l)).trans (Finset.sum_congr rfl fun d _ => ?_)
  have e1 : (⟨(64 * h.val + d.val) / 64, by omega⟩ : Fin 8) = h := Fin.ext (by show (64 * h.val + d.val) / 64 = h.val; omega)
  have e2 : (⟨(64 * h.val + d.val) % 64, by omega⟩ : Fin 64) = d := Fin.ext (by show (64 * h.val + d.val) % 64 = d.val; omega)
  show _ = o ⟨(64 * h.val + d.val) / 64, _⟩ ⟨(⟨(64 * h.val + d.val) % 64, _⟩ : Fin 64).val, _⟩ * w (ix2 ⟨64 * h.val + d.val, _⟩ l)
  rw [e1, e2]

/-- A row's products with the blocks on the diagonal are the heads' own products. -/
theorem values_eq (o : Fin 1024 → EReal) (u : FVec Ideal S128x8x64 .f32) (k : Fin 512) :
    ∑ x, o x * diagonal u (ix2 x k) = Rows.values o (fun c h v => u (ix3 c h v)) k := by
  obtain ⟨g, v, rfl⟩ : ∃ (g : Fin 8) (v : Fin 64), k = ⟨64 * g.val + v.val, by omega⟩ :=
    ⟨⟨k.val / 64, by omega⟩, ⟨k.val % 64, by omega⟩, Fin.ext (by show k.val = 64 * (k.val / 64) + k.val % 64; omega)⟩
  unfold Rows.values
  rw [Rows.sum_blocks 8 128 rfl]
  simp only [diagonal_apply]
  rw [Finset.sum_comm]
  refine Finset.sum_congr rfl fun c _ => ?_
  simp only [← mul_assoc]
  rw [Rows.sum_diag g fun h => o ⟨128 * h.val + c.val, by omega⟩ * u (ix3 c h v)]
  have e1 : (⟨(64 * g.val + v.val) / 64, by omega⟩ : Fin 8) = g := Fin.ext (by show (64 * g.val + v.val) / 64 = g.val; omega)
  have e2 : (⟨(64 * g.val + v.val) % 64, by omega⟩ : Fin 64) = v := Fin.ext (by show (64 * g.val + v.val) % 64 = v.val; omega)
  have e3 : (⟨128 * ((64 * g.val + v.val) / 64) + c.val, by omega⟩ : Fin 1024) = ⟨128 * g.val + c.val, by omega⟩ :=
    Fin.ext (by show 128 * ((64 * g.val + v.val) / 64) + c.val = 128 * g.val + c.val; omega)
  show _ = u (ix3 c ⟨(64 * g.val + v.val) / 64, _⟩ ⟨(64 * g.val + v.val) % 64, _⟩) * o ⟨128 * ((64 * g.val + v.val) / 64) + c.val, _⟩
  rw [e1, e2, e3, mul_comm]

/-- The result array at an index is the merge of its row. -/
theorem arrAt_apply (r : Fin 512) (l : Fin 1024) :
    (dats m 0 c).arrAt 11 cfg0.N (ix2 r l) = Rows.merge (fun l => m ((c.tc : Thread nD τ).loc main_arg4) (ix3 ⟨r.val / 4, by omega⟩ ⟨r.val % 4, by omega⟩ l))
      (Rows.projA (fun h d => m ((c.tc : Thread nD τ).loc main_arg0) (ix3 h r ⟨d.val, by omega⟩)) (fun k l => m ((c.tc : Thread nD τ).loc main_arg8) (ix2 k l)))
      (Rows.projB (fun l => m ((c.tc : Thread nD τ).loc main_arg1) (ix2 r l)) (fun c' h v => m ((c.tc : Thread nD τ).loc main_arg7) (ix3 c' h v)) (fun k l => m ((c.tc : Thread nD τ).loc main_arg9) (ix2 k l)))
      (fun l => m ((c.tc : Thread nD τ).loc main_arg2) (ix2 r l)) (fun l => m ((c.tc : Thread nD τ).loc main_arg3) (ix2 r l)) (fun l => m ((c.tc : Thread nD τ).loc main_arg5) (ix2 ⟨r.val / 4, by omega⟩ l))
      (fun l => m ((c.tc : Thread nD τ).loc main_arg6) (ix1 l)) (fun j l => m ((c.tc : Thread nD τ).loc main_arg10) (ix2 j l)) l := by
  obtain ⟨i, s, rfl⟩ : ∃ (i : Fin 2) (s : Fin 256), r = ⟨256 * i.val + s.val, by omega⟩ :=
    ⟨⟨r.val / 256, by omega⟩, ⟨r.val % 256, by omega⟩, Fin.ext (by show r.val = 256 * (r.val / 256) + r.val % 256; omega)⟩
  have b := congrFun (Value.blocks11 m c (pt i) (flush0_11 _)) (ix2 s l)
  rw [Value.flushed11] at b
  refine Eq.trans ?_ (b.trans ?_)
  · show _ = (dats m 0 c).arrAt 11 cfg0.N (((cfg0.win 11).blk (pt i)).view.emb (ix2 s l))
    congr 1
    have e := (idx (pt i)).2.2.2.2.2.2.2.2.2.2.2
    have hp : (pt i).val = i.val := rfl
    blk_ext [e, hp]
  · refine (out_apply _ _ _ _ _ _ _ _ _ _ _ s l).trans ?_
    simp only [blk0 m c i, blk1 m c i, blk2 m c i, blk3 m c i, blk4 m c i, blk5 m c i, blk6 m c i, blk7 m c i, blk8 m c i, blk9 m c i, blk10 m c i]
    exact congrArg₂ (fun ya yb => Rows.merge _ ya yb _ _ _ _ _ l)
      (funext fun l => projA_eq (fun h d => m ((c.tc : Thread nD τ).loc main_arg0) (ix3 h ⟨256 * i.val + s.val, by omega⟩ d)) (m ((c.tc : Thread nD τ).loc main_arg8)) l)
      (funext fun l => Finset.sum_congr rfl fun k _ => congrArg₂ (· * ·)
        (values_eq (fun l => m ((c.tc : Thread nD τ).loc main_arg1) (ix2 ⟨256 * i.val + s.val, by omega⟩ l)) (m ((c.tc : Thread nD τ).loc main_arg7)) k) rfl)

end Cert.MergeSampleArray

end
-- ==== Proof.MergeSampleReference.lean ====
/- The merge the reference writes for the sample, step by step, each step read at an index over the extended reals. -/
module

public import proofs.«01_k».proof.Proof.Gen.MergeSampleRefIdeal.Run
public import proofs.«01_k».proof.Proof.Rows

@[expose] public section

set_option maxRecDepth 16384

noncomputable section

namespace Cert.MergeSampleReference

open Cert.MergeSampleRefIdeal Cert.MergeSampleRefIdeal.Gen
open Idealize.ShloMosaic Idealize.ShloMosaic.TcCoe Idealize.SL.Sem Idealize.ShloMosaic.Tactic Idealize.ShloMosaic.StableHlo

section
variable {F : FTy → Type} [FloatOps F]

/-- A branch's rows by batch and token. -/
def batched (x : FVec F S512x1024 .f32) : FVec F S128x4x1024 .f32 := shapeCast S128x4x1024 x shapeCasts_S512x1024_S128x4x1024

/-- A branch gated. -/
def gated (x y : FVec F S128x4x1024 .f32) : FVec F S128x4x1024 .f32 :=
  mulf (Host.divf (broadcastInDim S128x4x1024 ![] bcast_S_S128x4x1024 (constant S_ .f32 0x3F800000#32))
    (addf (broadcastInDim S128x4x1024 ![] bcast_S_S128x4x1024 (constant S_ .f32 0x3F800000#32)) (Host.exp (Host.negf x)))) y

/-- The first branch's heads side by side. -/
def heads (o : FVec F S8x512x128 .bf16) : FVec F S128x4x512 .f32 :=
  shapeCast S128x4x512 (extf .f32 (shapeCast S128x4x8x64 (transpose S512x8x64 [1, 0, 2]
    (extractStridedSlice S8x512x64 ![0, 0, 0] o slices_S8x512x128_S8x512x64_0_0_0) transposes_S8x512x64_S512x8x64_1_0_2) shapeCasts_S512x8x64_S128x4x8x64) bitsLt_bf16_f32) shapeCasts_S128x4x8x64_S128x4x512

/-- The second branch's heads. -/
def values (o : FVec F S512x1024 .bf16) (u : FVec F S128x8x64 .f32) : FVec F S128x4x512 .f32 :=
  shapeCast S128x4x512 (transpose S128x4x8x64 [2, 3, 0, 1] (Host.dotGeneral dot_S128x8x64_S128x4x8x128_S8x64x128x4_0_3_2_01_1_2 none u
    (extf .f32 (shapeCast S128x4x8x128 o shapeCasts_S512x1024_S128x4x8x128) bitsLt_bf16_f32)) transposes_S8x64x128x4_S128x4x8x64_2_3_0_1) shapeCasts_S128x4x8x64_S128x4x512

/-- A branch's projection. -/
def projected (o : FVec F S128x4x512 .f32) (w : FVec F S512x1024 .f32) : FVec F S128x4x1024 .f32 :=
  Host.dotGeneral dot_S128x4x512_S512x1024_S128x4x1024_2_0_01_1_n_n none o w

/-- The branches added and projected. -/
def mixed (x y : FVec F S128x4x1024 .f32) (w : FVec F S1024x1024 .f32) : FVec F S128x4x1024 .f32 :=
  Host.dotGeneral dot_S128x4x1024_S1024x1024_S128x4x1024_2_0_01_1_n_n none (addf x y) w

/-- The rows' root-mean-square normalisation. -/
def norm (x : FVec F S128x4x1024 .f32) (g : FVec F S1024 .f32) : FVec F S128x4x1024 .f32 :=
  mulf (mulf x (broadcastInDim S128x4x1024 ![0, 1, 2] bcast_S128x4x1_S128x4x1024_0_1_2 (Host.rsqrt (addf (Host.divf
      (broadcastInDim S128x4x1 ![0, 1] bcast_S128x4_S128x4x1_0_1 (Host.reduceAdd (mulf x x) (constant S_ .f32 0x00000000#32) reducesTo_S128x4x1024_S128x4_d2 h_S_))
      (broadcastInDim S128x4x1 ![] bcast_S_S128x4x1 (constant S_ .f32 0x44800000#32))) (broadcastInDim S128x4x1 ![] bcast_S_S128x4x1 (constant S_ .f32 0x358637BD#32))))))
    (broadcastInDim S128x4x1024 ![0, 1, 2] bcast_S1x1x1024_S128x4x1024_0_1_2 (broadcastInDim S1x1x1024 ![2] bcast_S1024_S1x1x1024_2 g))

/-- A batch's modulation, the same for each of its rows. -/
def each (s : FVec F S128x1x1024 .f32) : FVec F S128x4x1024 .f32 := broadcastInDim S128x4x1024 ![0, 1, 2] bcast_S128x1x1024_S128x4x1024_0_1_2 s

/-- A modulation with a place for the row. -/
def wide (s : FVec F S128x1024 .f32) : FVec F S128x1x1024 .f32 := broadcastInDim S128x1x1024 ![0, 2] bcast_S128x1024_S128x1x1024_0_2 s

/-- The gated residual. -/
def residual (x y : FVec F S128x4x1024 .f32) (gt : FVec F S128x1024 .f32) : FVec F S128x4x1024 .f32 :=
  addf x (mulf (each (wide gt)) y)

/-- All of it, of the arguments. -/
def all (a0 : FVec F S8x512x128 .bf16) (a1 : FVec F S512x1024 .bf16) (a2 a3 : FVec F S512x1024 .f32) (a4 : FVec F S128x4x1024 .f32) (a5 : FVec F S128x1024 .f32) (a6 : FVec F S1024 .f32)
    (a7 : FVec F S128x8x64 .f32) (a8 a9 : FVec F S512x1024 .f32) (a10 : FVec F S1024x1024 .f32) : FVec F S128x4x1024 .f32 :=
  residual a4 (norm (mixed (gated (batched a2) (projected (heads a0) a8)) (gated (batched a3) (projected (values a1 a7) a9)) a10) a6) a5

/-- The reference's result, step by step. -/
theorem res_eq (m : (ℓ : Loc nD τ sig) → Buf (Elt F) ℓ) (c : Dev nD) :
    Value.res_out0 m c = shapeCast S512x1024 (all (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))) shapeCasts_S128x4x1024_S512x1024 := rfl
end

theorem batched_apply (x : FVec Ideal S512x1024 .f32) (b : Fin 128) (s : Fin 4) (l : Fin 1024) : batched x (ix3 b s l) = x (ix2 ⟨4 * b.val + s.val, by omega⟩ l) := by
  pointwise [batched]
  refine congrArg (fun r => x (ix2 r l)) (Fin.ext ?_)
  show b.val * 4 + s.val = 4 * b.val + s.val
  omega

theorem gated_apply (x y : FVec Ideal S128x4x1024 .f32) (b : Fin 128) (s : Fin 4) (l : Fin 1024) :
    gated x y (ix3 b s l) = Ideal.logistic (x (ix3 b s l)) * y (ix3 b s l) := by
  pointwise [gated]
  rfl

theorem heads_apply (o : FVec Ideal S8x512x128 .bf16) (b : Fin 128) (s : Fin 4) (k : Fin 512) :
    heads o (ix3 b s k) = o (ix3 ⟨k.val / 64, by omega⟩ ⟨4 * b.val + s.val, by omega⟩ ⟨k.val % 64, by omega⟩) := by
  pointwise [heads]
  refine congrArg (fun r => o (ix3 _ r _)) (Fin.ext ?_)
  show b.val * 4 + s.val = 4 * b.val + s.val
  omega

theorem values_apply (o : FVec Ideal S512x1024 .bf16) (u : FVec Ideal S128x8x64 .f32) (b : Fin 128) (s : Fin 4) (k : Fin 512) :
    values o u (ix3 b s k) = Rows.values (fun l => o (ix2 ⟨4 * b.val + s.val, by omega⟩ l)) (fun c h v => u (ix3 c h v)) k := by
  pointwise [values]
  refine Finset.sum_congr rfl fun c _ => congrArg₂ (· * ·) rfl (congrArg₂ (fun x y => o (ix2 x y)) (Fin.ext ?_) (Fin.ext ?_))
  · show b.val * 4 + s.val = 4 * b.val + s.val
    omega
  · show k.val / 64 * 128 + c.val = 128 * (k.val / 64) + c.val
    omega

theorem projected_apply (o : FVec Ideal S128x4x512 .f32) (w : FVec Ideal S512x1024 .f32) (b : Fin 128) (s : Fin 4) (l : Fin 1024) :
    projected o w (ix3 b s l) = ∑ k, o (ix3 b s k) * w (ix2 k l) := by
  pointwise [projected]

theorem mixed_apply (x y : FVec Ideal S128x4x1024 .f32) (w : FVec Ideal S1024x1024 .f32) (b : Fin 128) (s : Fin 4) (l : Fin 1024) :
    mixed x y w (ix3 b s l) = ∑ j, (x (ix3 b s j) + y (ix3 b s j)) * w (ix2 j l) := by
  pointwise [mixed]

theorem norm_apply (x : FVec Ideal S128x4x1024 .f32) (g : FVec Ideal S1024 .f32) (b : Fin 128) (s : Fin 4) (l : Fin 1024) :
    norm x g (ix3 b s l) = Rows.norm Rows.model (fun l => x (ix3 b s l)) (fun l => g (ix1 l)) l := by
  pointwise [norm]
  rfl

theorem residual_apply (x y : FVec Ideal S128x4x1024 .f32) (gt : FVec Ideal S128x1024 .f32) (b : Fin 128) (s : Fin 4) (l : Fin 1024) :
    residual x y gt (ix3 b s l) = x (ix3 b s l) + gt (ix2 b l) * y (ix3 b s l) := by
  pointwise [residual, each, wide]

/-- The reference's result at an index is the row's merge. -/
theorem all_apply (a0 : FVec Ideal S8x512x128 .bf16) (a1 : FVec Ideal S512x1024 .bf16) (a2 a3 : FVec Ideal S512x1024 .f32) (a4 : FVec Ideal S128x4x1024 .f32)
    (a5 : FVec Ideal S128x1024 .f32) (a6 : FVec Ideal S1024 .f32) (a7 : FVec Ideal S128x8x64 .f32) (a8 a9 : FVec Ideal S512x1024 .f32) (a10 : FVec Ideal S1024x1024 .f32)
    (b : Fin 128) (s : Fin 4) (r : Fin 512) (e : r.val = 4 * b.val + s.val) (l : Fin 1024) :
    all a0 a1 a2 a3 a4 a5 a6 a7 a8 a9 a10 (ix3 b s l) = Rows.merge (fun l => a4 (ix3 b s l))
      (Rows.projA (fun h d => a0 (ix3 h r ⟨d.val, by omega⟩)) (fun k l => a8 (ix2 k l)))
      (Rows.projB (fun l => a1 (ix2 r l)) (fun c h v => a7 (ix3 c h v)) (fun k l => a9 (ix2 k l)))
      (fun l => a2 (ix2 r l)) (fun l => a3 (ix2 r l)) (fun l => a5 (ix2 b l)) (fun l => a6 (ix1 l)) (fun j l => a10 (ix2 j l)) l := by
  obtain ⟨r, hr⟩ := r
  obtain rfl : r = 4 * b.val + s.val := e
  unfold all
  simp only [residual_apply, norm_apply, mixed_apply, gated_apply, batched_apply, projected_apply, heads_apply, values_apply]
  rfl

/-- The batches' rows one after another. -/
theorem flat_apply (y : FVec Ideal S128x4x1024 .f32) (r : Fin 512) (l : Fin 1024) :
    shapeCast S512x1024 y shapeCasts_S128x4x1024_S512x1024 (ix2 r l) = y (ix3 ⟨r.val / 4, by omega⟩ ⟨r.val % 4, by omega⟩ l) := by
  pointwise []

end Cert.MergeSampleReference

end
-- ==== Proof.MergeSampleClaims.lean ====
/- The claims about the sample's merge call. -/
module

public import proofs.«01_k».proof.Defs
public import proofs.«01_k».proof.Proof.Gen.MergeSample.Frame
public import proofs.«01_k».proof.Proof.Gen.MergeSampleIdeal.Frame
public import proofs.«01_k».proof.Proof.Gen.MergeSampleIdeal.Value
public import proofs.«01_k».proof.Proof.Gen.MergeSampleRefIdeal.Run
public import proofs.«01_k».proof.Proof.MergeSampleArray
public import proofs.«01_k».proof.Proof.MergeSampleReference
public import Idealize.ShloMosaic.Lib.Quiescent

@[expose] public section

noncomputable section

namespace Cert.MergeSampleClaims

open Idealize.ShloMosaic Idealize.ShloMosaic.TcCoe Idealize.SL.Sem

/-- The kernel runs on the machine's numbers, leaving its arguments and every semaphore at rest. -/
theorem frame : Cert.quiescent_MergeSample := fun m ρ _ => Cert.MergeSample.Gen.frame m ρ

/-- So does the kernel over the extended reals. -/
theorem frameIdeal : Cert.quiescent_MergeSampleIdeal := fun m ρ _ => Cert.MergeSampleIdeal.Gen.frame m ρ

/-- The reference runs over the extended reals, leaving its arguments. -/
theorem frameRef : Cert.quiescent_MergeSampleRefIdeal := fun m ρ _ =>
  (θ_run Cert.MergeSampleRefIdeal.defs _ _).mono (fun r h => ⟨fun c => (h c).2, sem_eq_zero_of_no_sems (by decide) r.2⟩)
    (Cert.MergeSampleRefIdeal.Value.run (F := Ideal) m ρ)

/-- Nothing is rewritten. -/
theorem preserves : Cert.preserves_MergeSample_MergeSampleIdeal := trivial

/-- The kernel's result is the reference's, of all arguments. -/
theorem algebraic : Cert.algebraic_MergeSampleIdeal_MergeSampleRefIdeal := by
  intro m ρ m' ρ' hpre hagree
  refine ⟨_, Cert.MergeSampleIdeal.Value.run_blocks (F := Ideal) m ρ, ?_⟩
  refine (θ_run Cert.MergeSampleRefIdeal.defs _ _).mono (fun _ h c => ⟨(h c).1.trans ?_, (h c).2⟩)
    (Cert.MergeSampleRefIdeal.Value.run (F := Ideal) m' ρ')
  obtain ⟨e0, e1, e2, e3, e4, e5, e6, e7, e8, e9, e10⟩ := hagree c
  refine (Cert.MergeSampleReference.res_eq m' c).trans ?_
  rw [e0, e1, e2, e3, e4, e5, e6, e7, e8, e9, e10]
  funext j
  obtain ⟨r, l, rfl⟩ : ∃ (r : Fin 512) (l : Fin 1024), j = ix2 r l := ⟨j 0, j 1, by
    funext a
    match a with
    | ⟨0, _⟩ => rfl
    | ⟨1, _⟩ => rfl⟩
  exact ((Cert.MergeSampleReference.flat_apply _ r l).trans (Cert.MergeSampleReference.all_apply _ _ _ _ _ _ _ _ _ _ _ _ _ r (Nat.div_add_mod r.val 4).symm l)).trans (Cert.MergeSampleArray.arrAt_apply m c r l).symm

end Cert.MergeSampleClaims

end
-- ==== Proof.lean ====
/- The claims, assembled: each is proved in a module of its own under Proof/. -/
module

public import proofs.«01_k».proof.Defs
public import proofs.«01_k».proof.Proof.Gen.Mla
public import proofs.«01_k».proof.Proof.Gen.MlaIdeal
public import proofs.«01_k».proof.Proof.Gen.MlaRefIdeal
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.Proj
public import proofs.«01_k».proof.Proof.Gen.Proj.Frame
public import proofs.«01_k».proof.Proof.Gen.Proj.Skeleton
public import proofs.«01_k».proof.Proof.Gen.ProjIdeal
public import proofs.«01_k».proof.Proof.Gen.ProjIdeal.Frame
public import proofs.«01_k».proof.Proof.Gen.ProjIdeal.Skeleton
public import proofs.«01_k».proof.Proof.Gen.ProjRefIdeal
public import proofs.«01_k».proof.Proof.Gen.ProjRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MlpSample
public import proofs.«01_k».proof.Proof.Gen.MlpSample.Frame
public import proofs.«01_k».proof.Proof.Gen.MlpSampleIdeal
public import proofs.«01_k».proof.Proof.Gen.MlpSampleIdeal.Frame
public import proofs.«01_k».proof.Proof.Gen.MlpSampleIdeal.Value
public import proofs.«01_k».proof.Proof.Gen.MlpSampleRefIdeal
public import proofs.«01_k».proof.Proof.Gen.MlpSampleRefIdeal.Run
public import proofs.«01_k».proof.Proof.Gen.ProjSample
public import proofs.«01_k».proof.Proof.Gen.ProjSample.Frame
public import proofs.«01_k».proof.Proof.Gen.ProjSample.Skeleton
public import proofs.«01_k».proof.Proof.Gen.ProjSampleIdeal
public import proofs.«01_k».proof.Proof.Gen.ProjSampleIdeal.Frame
public import proofs.«01_k».proof.Proof.Gen.ProjSampleIdeal.Skeleton
public import proofs.«01_k».proof.Proof.Gen.ProjSampleIdeal.Value
public import proofs.«01_k».proof.Proof.Gen.ProjSampleRefIdeal
public import proofs.«01_k».proof.Proof.Gen.ProjSampleRefIdeal.Run
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.MergeSample
public import proofs.«01_k».proof.Proof.Gen.MergeSample.Frame
public import proofs.«01_k».proof.Proof.Gen.MergeSampleIdeal
public import proofs.«01_k».proof.Proof.Gen.MergeSampleIdeal.Frame
public import proofs.«01_k».proof.Proof.Gen.MergeSampleIdeal.Value
public import proofs.«01_k».proof.Proof.Gen.MergeSampleRefIdeal
public import proofs.«01_k».proof.Proof.Gen.MergeSampleRefIdeal.Run
public import proofs.«01_k».proof.Proof.MlaClaims
public import proofs.«01_k».proof.Proof.MlpClaims
public import proofs.«01_k».proof.Proof.ProjClaims
public import proofs.«01_k».proof.Proof.MergeClaims
public import proofs.«01_k».proof.Proof.MlpSampleClaims
public import proofs.«01_k».proof.Proof.ProjSampleClaims
public import proofs.«01_k».proof.Proof.ModClaims
public import proofs.«01_k».proof.Proof.MergeSampleClaims
public import Idealize.ShloMosaic.Adequacy
public import Idealize.ShloMosaic.Init

@[expose] public section

noncomputable section

namespace Cert.Proof

/-- Every claim of the certificate. -/
theorem claim : Cert.Claim :=
  ⟨Cert.Mla.Gen.facts, Cert.MlaIdeal.Gen.facts, Cert.MlaRefIdeal.Gen.facts,
    Cert.Mlp.Gen.facts, Cert.MlpIdeal.Gen.facts, Cert.MlpRefIdeal.Gen.facts,
    Cert.Proj.Gen.facts, Cert.ProjIdeal.Gen.facts, Cert.ProjRefIdeal.Gen.facts,
    Cert.Merge.Gen.facts, Cert.MergeIdeal.Gen.facts, Cert.MergeRefIdeal.Gen.facts,
    Cert.MlpSample.Gen.facts, Cert.MlpSampleIdeal.Gen.facts, Cert.MlpSampleRefIdeal.Gen.facts,
    Cert.ProjSample.Gen.facts, Cert.ProjSampleIdeal.Gen.facts, Cert.ProjSampleRefIdeal.Gen.facts,
    Cert.Mod.Gen.facts, Cert.ModIdeal.Gen.facts, Cert.ModRefIdeal.Gen.facts,
    Cert.MergeSample.Gen.facts, Cert.MergeSampleIdeal.Gen.facts, Cert.MergeSampleRefIdeal.Gen.facts,
    Cert.Pre_finite_args.facts,
    Cert.MlaClaims.frame, Cert.MlaClaims.frameIdeal, Cert.MlaClaims.frameIdealPre,
    Cert.MlaClaims.frameRef, Cert.MlaClaims.frameRefPre, Cert.MlpClaims.frame,
    Cert.MlpClaims.frameIdeal, Cert.MlpClaims.frameRef, Cert.ProjClaims.frame,
    Cert.ProjClaims.frameIdeal, Cert.ProjClaims.frameRef, Cert.MergeClaims.frame,
    Cert.MergeClaims.frameIdeal, Cert.MergeClaims.frameRef,
    Cert.MlpSampleClaims.frame, Cert.MlpSampleClaims.frameIdeal, Cert.MlpSampleClaims.frameRef,
    Cert.ProjSampleClaims.frame, Cert.ProjSampleClaims.frameIdeal, Cert.ProjSampleClaims.frameRef,
    Cert.ModClaims.frame, Cert.ModClaims.frameIdeal, Cert.ModClaims.frameRef,
    Cert.MergeSampleClaims.frame, Cert.MergeSampleClaims.frameIdeal, Cert.MergeSampleClaims.frameRef,
    Cert.MlaClaims.preserves, Cert.MlaClaims.algebraic, Cert.MlpClaims.preserves,
    Cert.MlpClaims.algebraic, Cert.ProjClaims.preserves, Cert.ProjClaims.algebraic,
    Cert.MergeClaims.preserves, Cert.MergeClaims.algebraic,
    Cert.MlpSampleClaims.preserves, Cert.MlpSampleClaims.algebraic,
    Cert.ProjSampleClaims.preserves, Cert.ProjSampleClaims.algebraic,
    Cert.ModClaims.preserves, Cert.ModClaims.algebraic,
    Cert.MergeSampleClaims.preserves, Cert.MergeSampleClaims.algebraic⟩

end Cert.Proof

end
